-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23)
      ∧ r.2.mem ((c.tc : Thread Cert.Kernel6.nD Cert.Kernel6.τ).loc Cert.Kernel6.main_arg24) = m ((c.tc : Thread Cert.Kernel6.nD Cert.Kernel6.τ).loc Cert.Kernel6.main_arg24)
      ∧ r.2.mem ((c.tc : Thread Cert.Kernel6.nD Cert.Kernel6.τ).loc Cert.Kernel6.main_arg25) = m ((c.tc : Thread Cert.Kernel6.nD Cert.Kernel6.τ).loc Cert.Kernel6.main_arg25)
      ∧ r.2.mem ((c.tc : Thread Cert.Kernel6.nD Cert.Kernel6.τ).loc Cert.Kernel6.main_arg26) = m ((c.tc : Thread Cert.Kernel6.nD Cert.Kernel6.τ).loc Cert.Kernel6.main_arg26)
      ∧ r.2.mem ((c.tc : Thread Cert.Kernel6.nD Cert.Kernel6.τ).loc Cert.Kernel6.main_arg27) = m ((c.tc : Thread Cert.Kernel6.nD Cert.Kernel6.τ).loc Cert.Kernel6.main_arg27)
      ∧ r.2.mem ((c.tc : Thread Cert.Kernel6.nD Cert.Kernel6.τ).loc Cert.Kernel6.main_arg28) = m ((c.tc : Thread Cert.Kernel6.nD Cert.Kernel6.τ).loc Cert.Kernel6.main_arg28)
      ∧ r.2.mem ((c.tc : Thread Cert.Kernel6.nD Cert.Kernel6.τ).loc Cert.Kernel6.main_arg29) = m ((c.tc : Thread Cert.Kernel6.nD Cert.Kernel6.τ).loc Cert.Kernel6.main_arg29)
      ∧ r.2.mem ((c.tc : Thread Cert.Kernel6.nD Cert.Kernel6.τ).loc Cert.Kernel6.main_arg30) = m ((c.tc : Thread Cert.Kernel6.nD Cert.Kernel6.τ).loc Cert.Kernel6.main_arg30)
      ∧ r.2.mem ((c.tc : Thread Cert.Kernel6.nD Cert.Kernel6.τ).loc Cert.Kernel6.main_arg31) = m ((c.tc : Thread Cert.Kernel6.nD Cert.Kernel6.τ).loc Cert.Kernel6.main_arg31)
      ∧ r.2.mem ((c.tc : Thread Cert.Kernel6.nD Cert.Kernel6.τ).loc Cert.Kernel6.main_arg32) = m ((c.tc : Thread Cert.Kernel6.nD Cert.Kernel6.τ).loc Cert.Kernel6.main_arg32)
      ∧ r.2.mem ((c.tc : Thread Cert.Kernel6.nD Cert.Kernel6.τ).loc Cert.Kernel6.main_arg33) = m ((c.tc : Thread Cert.Kernel6.nD Cert.Kernel6.τ).loc Cert.Kernel6.main_arg33)
      ∧ r.2.mem ((c.tc : Thread Cert.Kernel6.nD Cert.Kernel6.τ).loc Cert.Kernel6.main_arg34) = m ((c.tc : Thread Cert.Kernel6.nD Cert.Kernel6.τ).loc Cert.Kernel6.main_arg34)
      ∧ r.2.mem ((c.tc : Thread Cert.Kernel6.nD Cert.Kernel6.τ).loc Cert.Kernel6.main_arg35) = m ((c.tc : Thread Cert.Kernel6.nD Cert.Kernel6.τ).loc Cert.Kernel6.main_arg35)
      ∧ r.2.mem ((c.tc : Thread Cert.Kernel6.nD Cert.Kernel6.τ).loc Cert.Kernel6.main_arg36) = m ((c.tc : Thread Cert.Kernel6.nD Cert.Kernel6.τ).loc Cert.Kernel6.main_arg36)
      ∧ r.2.mem ((c.tc : Thread Cert.Kernel6.nD Cert.Kernel6.τ).loc Cert.Kernel6.main_arg37) = m ((c.tc : Thread Cert.Kernel6.nD Cert.Kernel6.τ).loc Cert.Kernel6.main_arg37)
      ∧ r.2.mem ((c.tc : Thread Cert.Kernel6.nD Cert.Kernel6.τ).loc Cert.Kernel6.main_arg38) = m ((c.tc : Thread Cert.Kernel6.nD Cert.Kernel6.τ).loc Cert.Kernel6.main_arg38)
      ∧ r.2.mem ((c.tc : Thread Cert.Kernel6.nD Cert.Kernel6.τ).loc Cert.Kernel6.main_arg39) = m ((c.tc : Thread Cert.Kernel6.nD Cert.Kernel6.τ).loc Cert.Kernel6.main_arg39))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
      ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
      ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
      ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
      ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
      ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
      ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
      ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
      ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
      ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
      ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
      ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
      ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
      ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
      ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
      ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
      ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23)
      ∧ r.2.mem ((c.tc : Thread Cert.Reference6Ideal.nD Cert.Reference6Ideal.τ).loc Cert.Reference6Ideal.main_arg24) = m ((c.tc : Thread Cert.Reference6Ideal.nD Cert.Reference6Ideal.τ).loc Cert.Reference6Ideal.main_arg24)
      ∧ r.2.mem ((c.tc : Thread Cert.Reference6Ideal.nD Cert.Reference6Ideal.τ).loc Cert.Reference6Ideal.main_arg25) = m ((c.tc : Thread Cert.Reference6Ideal.nD Cert.Reference6Ideal.τ).loc Cert.Reference6Ideal.main_arg25)
      ∧ r.2.mem ((c.tc : Thread Cert.Reference6Ideal.nD Cert.Reference6Ideal.τ).loc Cert.Reference6Ideal.main_arg26) = m ((c.tc : Thread Cert.Reference6Ideal.nD Cert.Reference6Ideal.τ).loc Cert.Reference6Ideal.main_arg26)
      ∧ r.2.mem ((c.tc : Thread Cert.Reference6Ideal.nD Cert.Reference6Ideal.τ).loc Cert.Reference6Ideal.main_arg27) = m ((c.tc : Thread Cert.Reference6Ideal.nD Cert.Reference6Ideal.τ).loc Cert.Reference6Ideal.main_arg27)
      ∧ r.2.mem ((c.tc : Thread Cert.Reference6Ideal.nD Cert.Reference6Ideal.τ).loc Cert.Reference6Ideal.main_arg28) = m ((c.tc : Thread Cert.Reference6Ideal.nD Cert.Reference6Ideal.τ).loc Cert.Reference6Ideal.main_arg28)
      ∧ r.2.mem ((c.tc : Thread Cert.Reference6Ideal.nD Cert.Reference6Ideal.τ).loc Cert.Reference6Ideal.main_arg29) = m ((c.tc : Thread Cert.Reference6Ideal.nD Cert.Reference6Ideal.τ).loc Cert.Reference6Ideal.main_arg29)
      ∧ r.2.mem ((c.tc : Thread Cert.Reference6Ideal.nD Cert.Reference6Ideal.τ).loc Cert.Reference6Ideal.main_arg30) = m ((c.tc : Thread Cert.Reference6Ideal.nD Cert.Reference6Ideal.τ).loc Cert.Reference6Ideal.main_arg30)
      ∧ r.2.mem ((c.tc : Thread Cert.Reference6Ideal.nD Cert.Reference6Ideal.τ).loc Cert.Reference6Ideal.main_arg31) = m ((c.tc : Thread Cert.Reference6Ideal.nD Cert.Reference6Ideal.τ).loc Cert.Reference6Ideal.main_arg31)
      ∧ r.2.mem ((c.tc : Thread Cert.Reference6Ideal.nD Cert.Reference6Ideal.τ).loc Cert.Reference6Ideal.main_arg32) = m ((c.tc : Thread Cert.Reference6Ideal.nD Cert.Reference6Ideal.τ).loc Cert.Reference6Ideal.main_arg32)
      ∧ r.2.mem ((c.tc : Thread Cert.Reference6Ideal.nD Cert.Reference6Ideal.τ).loc Cert.Reference6Ideal.main_arg33) = m ((c.tc : Thread Cert.Reference6Ideal.nD Cert.Reference6Ideal.τ).loc Cert.Reference6Ideal.main_arg33)
      ∧ r.2.mem ((c.tc : Thread Cert.Reference6Ideal.nD Cert.Reference6Ideal.τ).loc Cert.Reference6Ideal.main_arg34) = m ((c.tc : Thread Cert.Reference6Ideal.nD Cert.Reference6Ideal.τ).loc Cert.Reference6Ideal.main_arg34)
      ∧ r.2.mem ((c.tc : Thread Cert.Reference6Ideal.nD Cert.Reference6Ideal.τ).loc Cert.Reference6Ideal.main_arg35) = m ((c.tc : Thread Cert.Reference6Ideal.nD Cert.Reference6Ideal.τ).loc Cert.Reference6Ideal.main_arg35)
      ∧ r.2.mem ((c.tc : Thread Cert.Reference6Ideal.nD Cert.Reference6Ideal.τ).loc Cert.Reference6Ideal.main_arg36) = m ((c.tc : Thread Cert.Reference6Ideal.nD Cert.Reference6Ideal.τ).loc Cert.Reference6Ideal.main_arg36)
      ∧ r.2.mem ((c.tc : Thread Cert.Reference6Ideal.nD Cert.Reference6Ideal.τ).loc Cert.Reference6Ideal.main_arg37) = m ((c.tc : Thread Cert.Reference6Ideal.nD Cert.Reference6Ideal.τ).loc Cert.Reference6Ideal.main_arg37)
      ∧ r.2.mem ((c.tc : Thread Cert.Reference6Ideal.nD Cert.Reference6Ideal.τ).loc Cert.Reference6Ideal.main_arg38) = m ((c.tc : Thread Cert.Reference6Ideal.nD Cert.Reference6Ideal.τ).loc Cert.Reference6Ideal.main_arg38)
      ∧ r.2.mem ((c.tc : Thread Cert.Reference6Ideal.nD Cert.Reference6Ideal.τ).loc Cert.Reference6Ideal.main_arg39) = m ((c.tc : Thread Cert.Reference6Ideal.nD Cert.Reference6Ideal.τ).loc Cert.Reference6Ideal.main_arg39))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v5_1)) (v1 : (c : Dev Cert.Kernel2Ideal.nD) → Buf (Elt Ideal) ((c.tc : Thread Cert.Kernel2Ideal.nD Cert.Kernel2Ideal.τ).loc Cert.Kernel2Ideal.main_v5_2)) (v2 : (c : Dev Cert.Kernel2Ideal.nD) → Buf (Elt Ideal) ((c.tc : Thread Cert.Kernel2Ideal.nD Cert.Kernel2Ideal.τ).loc Cert.Kernel2Ideal.main_v8)) (v3 : (c : Dev Cert.Kernel2Ideal.nD) → Buf (Elt Ideal) ((c.tc : Thread Cert.Kernel2Ideal.nD Cert.Kernel2Ideal.τ).loc Cert.Kernel2Ideal.main_v9)) (v4 : (c : Dev Cert.Kernel2Ideal.nD) → Buf (Elt Ideal) ((c.tc : Thread Cert.Kernel2Ideal.nD Cert.Kernel2Ideal.τ).loc Cert.Kernel2Ideal.main_v14)) (v5 : (c : Dev Cert.Kernel2Ideal.nD) → Buf (Elt Ideal) ((c.tc : Thread Cert.Kernel2Ideal.nD Cert.Kernel2Ideal.τ).loc Cert.Kernel2Ideal.main_v12)) (v6 : (c : Dev Cert.Kernel2Ideal.nD) → Buf (Elt Ideal) ((c.tc : Thread Cert.Kernel2Ideal.nD Cert.Kernel2Ideal.τ).loc Cert.Kernel2Ideal.main_v13)) (v7 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_1) = v0 c
          ∧ r.2.mem ((c.tc : Thread Cert.Kernel2Ideal.nD Cert.Kernel2Ideal.τ).loc Cert.Kernel2Ideal.main_v5_2) = v1 c
          ∧ r.2.mem ((c.tc : Thread Cert.Kernel2Ideal.nD Cert.Kernel2Ideal.τ).loc Cert.Kernel2Ideal.main_v8) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_v14) = v4 c
          ∧ r.2.mem ((c.tc : Thread Cert.Kernel2Ideal.nD Cert.Kernel2Ideal.τ).loc Cert.Kernel2Ideal.main_v12) = v5 c
          ∧ r.2.mem ((c.tc : Thread Cert.Kernel2Ideal.nD Cert.Kernel2Ideal.τ).loc Cert.Kernel2Ideal.main_v13) = v6 c
          ∧ r.2.mem ((c.tc : Thread Cert.Kernel2Ideal.nD Cert.Kernel2Ideal.τ).loc Cert.Kernel2Ideal.main_v7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v50) = v3 c
          ∧ r.2.mem ((c.tc : Thread Cert.Reference2Ideal.nD Cert.Reference2Ideal.τ).loc Cert.Reference2Ideal.main_v74) = v4 c
          ∧ r.2.mem ((c.tc : Thread Cert.Reference2Ideal.nD Cert.Reference2Ideal.τ).loc Cert.Reference2Ideal.main_v77) = v5 c
          ∧ r.2.mem ((c.tc : Thread Cert.Reference2Ideal.nD Cert.Reference2Ideal.τ).loc Cert.Reference2Ideal.main_v80) = v6 c
          ∧ r.2.mem ((c.tc : Thread Cert.Reference2Ideal.nD Cert.Reference2Ideal.τ).loc Cert.Reference2Ideal.main_v81) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v8)) (v3 : (c : Dev Cert.Kernel3Ideal.nD) → Buf (Elt Ideal) ((c.tc : Thread Cert.Kernel3Ideal.nD Cert.Kernel3Ideal.τ).loc Cert.Kernel3Ideal.main_v10)) (v4 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v8) = v2 c
          ∧ r.2.mem ((c.tc : Thread Cert.Kernel3Ideal.nD Cert.Kernel3Ideal.τ).loc Cert.Kernel3Ideal.main_v10) = v3 c
          ∧ r.2.mem ((c.tc : Thread Cert.Kernel3Ideal.nD Cert.Kernel3Ideal.τ).loc Cert.Kernel3Ideal.main_v9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_v38) = v2 c
          ∧ r.2.mem ((c.tc : Thread Cert.Reference3Ideal.nD Cert.Reference3Ideal.τ).loc Cert.Reference3Ideal.main_v26) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_v17) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)
      ∧ m' ((c.tc : Thread Cert.Reference6Ideal.nD Cert.Reference6Ideal.τ).loc Cert.Reference6Ideal.main_arg24) = m ((c.tc : Thread Cert.Kernel6Ideal.nD Cert.Kernel6Ideal.τ).loc Cert.Kernel6Ideal.main_arg24)
      ∧ m' ((c.tc : Thread Cert.Reference6Ideal.nD Cert.Reference6Ideal.τ).loc Cert.Reference6Ideal.main_arg25) = m ((c.tc : Thread Cert.Kernel6Ideal.nD Cert.Kernel6Ideal.τ).loc Cert.Kernel6Ideal.main_arg25)
      ∧ m' ((c.tc : Thread Cert.Reference6Ideal.nD Cert.Reference6Ideal.τ).loc Cert.Reference6Ideal.main_arg26) = m ((c.tc : Thread Cert.Kernel6Ideal.nD Cert.Kernel6Ideal.τ).loc Cert.Kernel6Ideal.main_arg26)
      ∧ m' ((c.tc : Thread Cert.Reference6Ideal.nD Cert.Reference6Ideal.τ).loc Cert.Reference6Ideal.main_arg27) = m ((c.tc : Thread Cert.Kernel6Ideal.nD Cert.Kernel6Ideal.τ).loc Cert.Kernel6Ideal.main_arg27)
      ∧ m' ((c.tc : Thread Cert.Reference6Ideal.nD Cert.Reference6Ideal.τ).loc Cert.Reference6Ideal.main_arg28) = m ((c.tc : Thread Cert.Kernel6Ideal.nD Cert.Kernel6Ideal.τ).loc Cert.Kernel6Ideal.main_arg28)
      ∧ m' ((c.tc : Thread Cert.Reference6Ideal.nD Cert.Reference6Ideal.τ).loc Cert.Reference6Ideal.main_arg29) = m ((c.tc : Thread Cert.Kernel6Ideal.nD Cert.Kernel6Ideal.τ).loc Cert.Kernel6Ideal.main_arg29)
      ∧ m' ((c.tc : Thread Cert.Reference6Ideal.nD Cert.Reference6Ideal.τ).loc Cert.Reference6Ideal.main_arg30) = m ((c.tc : Thread Cert.Kernel6Ideal.nD Cert.Kernel6Ideal.τ).loc Cert.Kernel6Ideal.main_arg30)
      ∧ m' ((c.tc : Thread Cert.Reference6Ideal.nD Cert.Reference6Ideal.τ).loc Cert.Reference6Ideal.main_arg31) = m ((c.tc : Thread Cert.Kernel6Ideal.nD Cert.Kernel6Ideal.τ).loc Cert.Kernel6Ideal.main_arg31)
      ∧ m' ((c.tc : Thread Cert.Reference6Ideal.nD Cert.Reference6Ideal.τ).loc Cert.Reference6Ideal.main_arg32) = m ((c.tc : Thread Cert.Kernel6Ideal.nD Cert.Kernel6Ideal.τ).loc Cert.Kernel6Ideal.main_arg32)
      ∧ m' ((c.tc : Thread Cert.Reference6Ideal.nD Cert.Reference6Ideal.τ).loc Cert.Reference6Ideal.main_arg33) = m ((c.tc : Thread Cert.Kernel6Ideal.nD Cert.Kernel6Ideal.τ).loc Cert.Kernel6Ideal.main_arg33)
      ∧ m' ((c.tc : Thread Cert.Reference6Ideal.nD Cert.Reference6Ideal.τ).loc Cert.Reference6Ideal.main_arg34) = m ((c.tc : Thread Cert.Kernel6Ideal.nD Cert.Kernel6Ideal.τ).loc Cert.Kernel6Ideal.main_arg34)
      ∧ m' ((c.tc : Thread Cert.Reference6Ideal.nD Cert.Reference6Ideal.τ).loc Cert.Reference6Ideal.main_arg35) = m ((c.tc : Thread Cert.Kernel6Ideal.nD Cert.Kernel6Ideal.τ).loc Cert.Kernel6Ideal.main_arg35)
      ∧ m' ((c.tc : Thread Cert.Reference6Ideal.nD Cert.Reference6Ideal.τ).loc Cert.Reference6Ideal.main_arg36) = m ((c.tc : Thread Cert.Kernel6Ideal.nD Cert.Kernel6Ideal.τ).loc Cert.Kernel6Ideal.main_arg36)
      ∧ m' ((c.tc : Thread Cert.Reference6Ideal.nD Cert.Reference6Ideal.τ).loc Cert.Reference6Ideal.main_arg37) = m ((c.tc : Thread Cert.Kernel6Ideal.nD Cert.Kernel6Ideal.τ).loc Cert.Kernel6Ideal.main_arg37)
      ∧ m' ((c.tc : Thread Cert.Reference6Ideal.nD Cert.Reference6Ideal.τ).loc Cert.Reference6Ideal.main_arg38) = m ((c.tc : Thread Cert.Kernel6Ideal.nD Cert.Kernel6Ideal.τ).loc Cert.Kernel6Ideal.main_arg38)
      ∧ m' ((c.tc : Thread Cert.Reference6Ideal.nD Cert.Reference6Ideal.τ).loc Cert.Reference6Ideal.main_arg39) = m ((c.tc : Thread Cert.Kernel6Ideal.nD Cert.Kernel6Ideal.τ).loc Cert.Kernel6Ideal.main_arg39)) →
    ∃ (v0 : (c : Dev Cert.Kernel6Ideal.nD) → Buf (Elt Ideal) ((c.tc : Thread Cert.Kernel6Ideal.nD Cert.Kernel6Ideal.τ).loc Cert.Kernel6Ideal.main_v152)) (v1 : (c : Dev Cert.Kernel6Ideal.nD) → Buf (Elt Ideal) ((c.tc : Thread Cert.Kernel6Ideal.nD Cert.Kernel6Ideal.τ).loc Cert.Kernel6Ideal.main_v161)) (v2 : (c : Dev Cert.Kernel6Ideal.nD) → Buf (Elt Ideal) ((c.tc : Thread Cert.Kernel6Ideal.nD Cert.Kernel6Ideal.τ).loc Cert.Kernel6Ideal.main_v171)) (v3 : (c : Dev Cert.Kernel6Ideal.nD) → Buf (Elt Ideal) ((c.tc : Thread Cert.Kernel6Ideal.nD Cert.Kernel6Ideal.τ).loc Cert.Kernel6Ideal.main_v183)) (v4 : (c : Dev Cert.Kernel6Ideal.nD) → Buf (Elt Ideal) ((c.tc : Thread Cert.Kernel6Ideal.nD Cert.Kernel6Ideal.τ).loc Cert.Kernel6Ideal.main_v195)) (v5 : (c : Dev Cert.Kernel6Ideal.nD) → Buf (Elt Ideal) ((c.tc : Thread Cert.Kernel6Ideal.nD Cert.Kernel6Ideal.τ).loc Cert.Kernel6Ideal.main_v207)) (v6 : (c : Dev Cert.Kernel6Ideal.nD) → Buf (Elt Ideal) ((c.tc : Thread Cert.Kernel6Ideal.nD Cert.Kernel6Ideal.τ).loc Cert.Kernel6Ideal.main_v218)) (v7 : (c : Dev Cert.Kernel6Ideal.nD) → Buf (Elt Ideal) ((c.tc : Thread Cert.Kernel6Ideal.nD Cert.Kernel6Ideal.τ).loc Cert.Kernel6Ideal.main_v226)) (v8 : (c : Dev Cert.Kernel6Ideal.nD) → Buf (Elt Ideal) ((c.tc : Thread Cert.Kernel6Ideal.nD Cert.Kernel6Ideal.τ).loc Cert.Kernel6Ideal.main_v233)) (v9 : (c : Dev Cert.Kernel6Ideal.nD) → Buf (Elt Ideal) ((c.tc : Thread Cert.Kernel6Ideal.nD Cert.Kernel6Ideal.τ).loc Cert.Kernel6Ideal.main_v243)) (v10 : (c : Dev Cert.Kernel6Ideal.nD) → Buf (Elt Ideal) ((c.tc : Thread Cert.Kernel6Ideal.nD Cert.Kernel6Ideal.τ).loc Cert.Kernel6Ideal.main_v155)) (v11 : (c : Dev Cert.Kernel6Ideal.nD) → Buf (Elt Ideal) ((c.tc : Thread Cert.Kernel6Ideal.nD Cert.Kernel6Ideal.τ).loc Cert.Kernel6Ideal.main_v164)) (v12 : (c : Dev Cert.Kernel6Ideal.nD) → Buf (Elt Ideal) ((c.tc : Thread Cert.Kernel6Ideal.nD Cert.Kernel6Ideal.τ).loc Cert.Kernel6Ideal.main_v175)) (v13 : (c : Dev Cert.Kernel6Ideal.nD) → Buf (Elt Ideal) ((c.tc : Thread Cert.Kernel6Ideal.nD Cert.Kernel6Ideal.τ).loc Cert.Kernel6Ideal.main_v187)) (v14 : (c : Dev Cert.Kernel6Ideal.nD) → Buf (Elt Ideal) ((c.tc : Thread Cert.Kernel6Ideal.nD Cert.Kernel6Ideal.τ).loc Cert.Kernel6Ideal.main_v199)) (v15 : (c : Dev Cert.Kernel6Ideal.nD) → Buf (Elt Ideal) ((c.tc : Thread Cert.Kernel6Ideal.nD Cert.Kernel6Ideal.τ).loc Cert.Kernel6Ideal.main_v211)) (v16 : (c : Dev Cert.Kernel6Ideal.nD) → Buf (Elt Ideal) ((c.tc : Thread Cert.Kernel6Ideal.nD Cert.Kernel6Ideal.τ).loc Cert.Kernel6Ideal.main_v221)) (v17 : (c : Dev Cert.Kernel6Ideal.nD) → Buf (Elt Ideal) ((c.tc : Thread Cert.Kernel6Ideal.nD Cert.Kernel6Ideal.τ).loc Cert.Kernel6Ideal.main_v228)) (v18 : (c : Dev Cert.Kernel6Ideal.nD) → Buf (Elt Ideal) ((c.tc : Thread Cert.Kernel6Ideal.nD Cert.Kernel6Ideal.τ).loc Cert.Kernel6Ideal.main_v236)) (v19 : (c : Dev Cert.Kernel6Ideal.nD) → Buf (Elt Ideal) ((c.tc : Thread Cert.Kernel6Ideal.nD Cert.Kernel6Ideal.τ).loc Cert.Kernel6Ideal.main_v247)) (v20 : (c : Dev Cert.Kernel6Ideal.nD) → Buf (Elt Ideal) ((c.tc : Thread Cert.Kernel6Ideal.nD Cert.Kernel6Ideal.τ).loc Cert.Kernel6Ideal.main_v158)) (v21 : (c : Dev Cert.Kernel6Ideal.nD) → Buf (Elt Ideal) ((c.tc : Thread Cert.Kernel6Ideal.nD Cert.Kernel6Ideal.τ).loc Cert.Kernel6Ideal.main_v167)) (v22 : (c : Dev Cert.Kernel6Ideal.nD) → Buf (Elt Ideal) ((c.tc : Thread Cert.Kernel6Ideal.nD Cert.Kernel6Ideal.τ).loc Cert.Kernel6Ideal.main_v179)) (v23 : (c : Dev Cert.Kernel6Ideal.nD) → Buf (Elt Ideal) ((c.tc : Thread Cert.Kernel6Ideal.nD Cert.Kernel6Ideal.τ).loc Cert.Kernel6Ideal.main_v191)) (v24 : (c : Dev Cert.Kernel6Ideal.nD) → Buf (Elt Ideal) ((c.tc : Thread Cert.Kernel6Ideal.nD Cert.Kernel6Ideal.τ).loc Cert.Kernel6Ideal.main_v203)) (v25 : (c : Dev Cert.Kernel6Ideal.nD) → Buf (Elt Ideal) ((c.tc : Thread Cert.Kernel6Ideal.nD Cert.Kernel6Ideal.τ).loc Cert.Kernel6Ideal.main_v215)) (v26 : (c : Dev Cert.Kernel6Ideal.nD) → Buf (Elt Ideal) ((c.tc : Thread Cert.Kernel6Ideal.nD Cert.Kernel6Ideal.τ).loc Cert.Kernel6Ideal.main_v224)) (v27 : (c : Dev Cert.Kernel6Ideal.nD) → Buf (Elt Ideal) ((c.tc : Thread Cert.Kernel6Ideal.nD Cert.Kernel6Ideal.τ).loc Cert.Kernel6Ideal.main_v230)) (v28 : (c : Dev Cert.Kernel6Ideal.nD) → Buf (Elt Ideal) ((c.tc : Thread Cert.Kernel6Ideal.nD Cert.Kernel6Ideal.τ).loc Cert.Kernel6Ideal.main_v239)) (v29 : (c : Dev Cert.Kernel6Ideal.nD) → Buf (Elt Ideal) ((c.tc : Thread Cert.Kernel6Ideal.nD Cert.Kernel6Ideal.τ).loc Cert.Kernel6Ideal.main_v251)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v152) = v0 c
          ∧ r.2.mem ((c.tc : Thread Cert.Kernel6Ideal.nD Cert.Kernel6Ideal.τ).loc Cert.Kernel6Ideal.main_v161) = v1 c
          ∧ r.2.mem ((c.tc : Thread Cert.Kernel6Ideal.nD Cert.Kernel6Ideal.τ).loc Cert.Kernel6Ideal.main_v171) = v2 c
          ∧ r.2.mem ((c.tc : Thread Cert.Kernel6Ideal.nD Cert.Kernel6Ideal.τ).loc Cert.Kernel6Ideal.main_v183) = v3 c
          ∧ r.2.mem ((c.tc : Thread Cert.Kernel6Ideal.nD Cert.Kernel6Ideal.τ).loc Cert.Kernel6Ideal.main_v195) = v4 c
          ∧ r.2.mem ((c.tc : Thread Cert.Kernel6Ideal.nD Cert.Kernel6Ideal.τ).loc Cert.Kernel6Ideal.main_v207) = v5 c
          ∧ r.2.mem ((c.tc : Thread Cert.Kernel6Ideal.nD Cert.Kernel6Ideal.τ).loc Cert.Kernel6Ideal.main_v218) = v6 c
          ∧ r.2.mem ((c.tc : Thread Cert.Kernel6Ideal.nD Cert.Kernel6Ideal.τ).loc Cert.Kernel6Ideal.main_v226) = v7 c
          ∧ r.2.mem ((c.tc : Thread Cert.Kernel6Ideal.nD Cert.Kernel6Ideal.τ).loc Cert.Kernel6Ideal.main_v233) = v8 c
          ∧ r.2.mem ((c.tc : Thread Cert.Kernel6Ideal.nD Cert.Kernel6Ideal.τ).loc Cert.Kernel6Ideal.main_v243) = v9 c
          ∧ r.2.mem ((c.tc : Thread Cert.Kernel6Ideal.nD Cert.Kernel6Ideal.τ).loc Cert.Kernel6Ideal.main_v155) = v10 c
          ∧ r.2.mem ((c.tc : Thread Cert.Kernel6Ideal.nD Cert.Kernel6Ideal.τ).loc Cert.Kernel6Ideal.main_v164) = v11 c
          ∧ r.2.mem ((c.tc : Thread Cert.Kernel6Ideal.nD Cert.Kernel6Ideal.τ).loc Cert.Kernel6Ideal.main_v175) = v12 c
          ∧ r.2.mem ((c.tc : Thread Cert.Kernel6Ideal.nD Cert.Kernel6Ideal.τ).loc Cert.Kernel6Ideal.main_v187) = v13 c
          ∧ r.2.mem ((c.tc : Thread Cert.Kernel6Ideal.nD Cert.Kernel6Ideal.τ).loc Cert.Kernel6Ideal.main_v199) = v14 c
          ∧ r.2.mem ((c.tc : Thread Cert.Kernel6Ideal.nD Cert.Kernel6Ideal.τ).loc Cert.Kernel6Ideal.main_v211) = v15 c
          ∧ r.2.mem ((c.tc : Thread Cert.Kernel6Ideal.nD Cert.Kernel6Ideal.τ).loc Cert.Kernel6Ideal.main_v221) = v16 c
          ∧ r.2.mem ((c.tc : Thread Cert.Kernel6Ideal.nD Cert.Kernel6Ideal.τ).loc Cert.Kernel6Ideal.main_v228) = v17 c
          ∧ r.2.mem ((c.tc : Thread Cert.Kernel6Ideal.nD Cert.Kernel6Ideal.τ).loc Cert.Kernel6Ideal.main_v236) = v18 c
          ∧ r.2.mem ((c.tc : Thread Cert.Kernel6Ideal.nD Cert.Kernel6Ideal.τ).loc Cert.Kernel6Ideal.main_v247) = v19 c
          ∧ r.2.mem ((c.tc : Thread Cert.Kernel6Ideal.nD Cert.Kernel6Ideal.τ).loc Cert.Kernel6Ideal.main_v158) = v20 c
          ∧ r.2.mem ((c.tc : Thread Cert.Kernel6Ideal.nD Cert.Kernel6Ideal.τ).loc Cert.Kernel6Ideal.main_v167) = v21 c
          ∧ r.2.mem ((c.tc : Thread Cert.Kernel6Ideal.nD Cert.Kernel6Ideal.τ).loc Cert.Kernel6Ideal.main_v179) = v22 c
          ∧ r.2.mem ((c.tc : Thread Cert.Kernel6Ideal.nD Cert.Kernel6Ideal.τ).loc Cert.Kernel6Ideal.main_v191) = v23 c
          ∧ r.2.mem ((c.tc : Thread Cert.Kernel6Ideal.nD Cert.Kernel6Ideal.τ).loc Cert.Kernel6Ideal.main_v203) = v24 c
          ∧ r.2.mem ((c.tc : Thread Cert.Kernel6Ideal.nD Cert.Kernel6Ideal.τ).loc Cert.Kernel6Ideal.main_v215) = v25 c
          ∧ r.2.mem ((c.tc : Thread Cert.Kernel6Ideal.nD Cert.Kernel6Ideal.τ).loc Cert.Kernel6Ideal.main_v224) = v26 c
          ∧ r.2.mem ((c.tc : Thread Cert.Kernel6Ideal.nD Cert.Kernel6Ideal.τ).loc Cert.Kernel6Ideal.main_v230) = v27 c
          ∧ r.2.mem ((c.tc : Thread Cert.Kernel6Ideal.nD Cert.Kernel6Ideal.τ).loc Cert.Kernel6Ideal.main_v239) = v28 c
          ∧ r.2.mem ((c.tc : Thread Cert.Kernel6Ideal.nD Cert.Kernel6Ideal.τ).loc Cert.Kernel6Ideal.main_v251) = v29 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23)
          ∧ r.2.mem ((c.tc : Thread Cert.Kernel6Ideal.nD Cert.Kernel6Ideal.τ).loc Cert.Kernel6Ideal.main_arg24) = m ((c.tc : Thread Cert.Kernel6Ideal.nD Cert.Kernel6Ideal.τ).loc Cert.Kernel6Ideal.main_arg24)
          ∧ r.2.mem ((c.tc : Thread Cert.Kernel6Ideal.nD Cert.Kernel6Ideal.τ).loc Cert.Kernel6Ideal.main_arg25) = m ((c.tc : Thread Cert.Kernel6Ideal.nD Cert.Kernel6Ideal.τ).loc Cert.Kernel6Ideal.main_arg25)
          ∧ r.2.mem ((c.tc : Thread Cert.Kernel6Ideal.nD Cert.Kernel6Ideal.τ).loc Cert.Kernel6Ideal.main_arg26) = m ((c.tc : Thread Cert.Kernel6Ideal.nD Cert.Kernel6Ideal.τ).loc Cert.Kernel6Ideal.main_arg26)
          ∧ r.2.mem ((c.tc : Thread Cert.Kernel6Ideal.nD Cert.Kernel6Ideal.τ).loc Cert.Kernel6Ideal.main_arg27) = m ((c.tc : Thread Cert.Kernel6Ideal.nD Cert.Kernel6Ideal.τ).loc Cert.Kernel6Ideal.main_arg27)
          ∧ r.2.mem ((c.tc : Thread Cert.Kernel6Ideal.nD Cert.Kernel6Ideal.τ).loc Cert.Kernel6Ideal.main_arg28) = m ((c.tc : Thread Cert.Kernel6Ideal.nD Cert.Kernel6Ideal.τ).loc Cert.Kernel6Ideal.main_arg28)
          ∧ r.2.mem ((c.tc : Thread Cert.Kernel6Ideal.nD Cert.Kernel6Ideal.τ).loc Cert.Kernel6Ideal.main_arg29) = m ((c.tc : Thread Cert.Kernel6Ideal.nD Cert.Kernel6Ideal.τ).loc Cert.Kernel6Ideal.main_arg29)
          ∧ r.2.mem ((c.tc : Thread Cert.Kernel6Ideal.nD Cert.Kernel6Ideal.τ).loc Cert.Kernel6Ideal.main_arg30) = m ((c.tc : Thread Cert.Kernel6Ideal.nD Cert.Kernel6Ideal.τ).loc Cert.Kernel6Ideal.main_arg30)
          ∧ r.2.mem ((c.tc : Thread Cert.Kernel6Ideal.nD Cert.Kernel6Ideal.τ).loc Cert.Kernel6Ideal.main_arg31) = m ((c.tc : Thread Cert.Kernel6Ideal.nD Cert.Kernel6Ideal.τ).loc Cert.Kernel6Ideal.main_arg31)
          ∧ r.2.mem ((c.tc : Thread Cert.Kernel6Ideal.nD Cert.Kernel6Ideal.τ).loc Cert.Kernel6Ideal.main_arg32) = m ((c.tc : Thread Cert.Kernel6Ideal.nD Cert.Kernel6Ideal.τ).loc Cert.Kernel6Ideal.main_arg32)
          ∧ r.2.mem ((c.tc : Thread Cert.Kernel6Ideal.nD Cert.Kernel6Ideal.τ).loc Cert.Kernel6Ideal.main_arg33) = m ((c.tc : Thread Cert.Kernel6Ideal.nD Cert.Kernel6Ideal.τ).loc Cert.Kernel6Ideal.main_arg33)
          ∧ r.2.mem ((c.tc : Thread Cert.Kernel6Ideal.nD Cert.Kernel6Ideal.τ).loc Cert.Kernel6Ideal.main_arg34) = m ((c.tc : Thread Cert.Kernel6Ideal.nD Cert.Kernel6Ideal.τ).loc Cert.Kernel6Ideal.main_arg34)
          ∧ r.2.mem ((c.tc : Thread Cert.Kernel6Ideal.nD Cert.Kernel6Ideal.τ).loc Cert.Kernel6Ideal.main_arg35) = m ((c.tc : Thread Cert.Kernel6Ideal.nD Cert.Kernel6Ideal.τ).loc Cert.Kernel6Ideal.main_arg35)
          ∧ r.2.mem ((c.tc : Thread Cert.Kernel6Ideal.nD Cert.Kernel6Ideal.τ).loc Cert.Kernel6Ideal.main_arg36) = m ((c.tc : Thread Cert.Kernel6Ideal.nD Cert.Kernel6Ideal.τ).loc Cert.Kernel6Ideal.main_arg36)
          ∧ r.2.mem ((c.tc : Thread Cert.Kernel6Ideal.nD Cert.Kernel6Ideal.τ).loc Cert.Kernel6Ideal.main_arg37) = m ((c.tc : Thread Cert.Kernel6Ideal.nD Cert.Kernel6Ideal.τ).loc Cert.Kernel6Ideal.main_arg37)
          ∧ r.2.mem ((c.tc : Thread Cert.Kernel6Ideal.nD Cert.Kernel6Ideal.τ).loc Cert.Kernel6Ideal.main_arg38) = m ((c.tc : Thread Cert.Kernel6Ideal.nD Cert.Kernel6Ideal.τ).loc Cert.Kernel6Ideal.main_arg38)
          ∧ r.2.mem ((c.tc : Thread Cert.Kernel6Ideal.nD Cert.Kernel6Ideal.τ).loc Cert.Kernel6Ideal.main_arg39) = m ((c.tc : Thread Cert.Kernel6Ideal.nD Cert.Kernel6Ideal.τ).loc Cert.Kernel6Ideal.main_arg39))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v71) = v2 c
          ∧ r.2.mem ((c.tc : Thread Cert.Reference6Ideal.nD Cert.Reference6Ideal.τ).loc Cert.Reference6Ideal.main_v95) = v3 c
          ∧ r.2.mem ((c.tc : Thread Cert.Reference6Ideal.nD Cert.Reference6Ideal.τ).loc Cert.Reference6Ideal.main_v119) = v4 c
          ∧ r.2.mem ((c.tc : Thread Cert.Reference6Ideal.nD Cert.Reference6Ideal.τ).loc Cert.Reference6Ideal.main_v143) = v5 c
          ∧ r.2.mem ((c.tc : Thread Cert.Reference6Ideal.nD Cert.Reference6Ideal.τ).loc Cert.Reference6Ideal.main_v167) = v6 c
          ∧ r.2.mem ((c.tc : Thread Cert.Reference6Ideal.nD Cert.Reference6Ideal.τ).loc Cert.Reference6Ideal.main_v191) = v7 c
          ∧ r.2.mem ((c.tc : Thread Cert.Reference6Ideal.nD Cert.Reference6Ideal.τ).loc Cert.Reference6Ideal.main_v215) = v8 c
          ∧ r.2.mem ((c.tc : Thread Cert.Reference6Ideal.nD Cert.Reference6Ideal.τ).loc Cert.Reference6Ideal.main_v239) = v9 c
          ∧ r.2.mem ((c.tc : Thread Cert.Reference6Ideal.nD Cert.Reference6Ideal.τ).loc Cert.Reference6Ideal.main_v4) = v10 c
          ∧ r.2.mem ((c.tc : Thread Cert.Reference6Ideal.nD Cert.Reference6Ideal.τ).loc Cert.Reference6Ideal.main_v28) = v11 c
          ∧ r.2.mem ((c.tc : Thread Cert.Reference6Ideal.nD Cert.Reference6Ideal.τ).loc Cert.Reference6Ideal.main_v52) = v12 c
          ∧ r.2.mem ((c.tc : Thread Cert.Reference6Ideal.nD Cert.Reference6Ideal.τ).loc Cert.Reference6Ideal.main_v76) = v13 c
          ∧ r.2.mem ((c.tc : Thread Cert.Reference6Ideal.nD Cert.Reference6Ideal.τ).loc Cert.Reference6Ideal.main_v100) = v14 c
          ∧ r.2.mem ((c.tc : Thread Cert.Reference6Ideal.nD Cert.Reference6Ideal.τ).loc Cert.Reference6Ideal.main_v124) = v15 c
          ∧ r.2.mem ((c.tc : Thread Cert.Reference6Ideal.nD Cert.Reference6Ideal.τ).loc Cert.Reference6Ideal.main_v148) = v16 c
          ∧ r.2.mem ((c.tc : Thread Cert.Reference6Ideal.nD Cert.Reference6Ideal.τ).loc Cert.Reference6Ideal.main_v172) = v17 c
          ∧ r.2.mem ((c.tc : Thread Cert.Reference6Ideal.nD Cert.Reference6Ideal.τ).loc Cert.Reference6Ideal.main_v196) = v18 c
          ∧ r.2.mem ((c.tc : Thread Cert.Reference6Ideal.nD Cert.Reference6Ideal.τ).loc Cert.Reference6Ideal.main_v220) = v19 c
          ∧ r.2.mem ((c.tc : Thread Cert.Reference6Ideal.nD Cert.Reference6Ideal.τ).loc Cert.Reference6Ideal.main_v10) = v20 c
          ∧ r.2.mem ((c.tc : Thread Cert.Reference6Ideal.nD Cert.Reference6Ideal.τ).loc Cert.Reference6Ideal.main_v34) = v21 c
          ∧ r.2.mem ((c.tc : Thread Cert.Reference6Ideal.nD Cert.Reference6Ideal.τ).loc Cert.Reference6Ideal.main_v58) = v22 c
          ∧ r.2.mem ((c.tc : Thread Cert.Reference6Ideal.nD Cert.Reference6Ideal.τ).loc Cert.Reference6Ideal.main_v82) = v23 c
          ∧ r.2.mem ((c.tc : Thread Cert.Reference6Ideal.nD Cert.Reference6Ideal.τ).loc Cert.Reference6Ideal.main_v106) = v24 c
          ∧ r.2.mem ((c.tc : Thread Cert.Reference6Ideal.nD Cert.Reference6Ideal.τ).loc Cert.Reference6Ideal.main_v130) = v25 c
          ∧ r.2.mem ((c.tc : Thread Cert.Reference6Ideal.nD Cert.Reference6Ideal.τ).loc Cert.Reference6Ideal.main_v154) = v26 c
          ∧ r.2.mem ((c.tc : Thread Cert.Reference6Ideal.nD Cert.Reference6Ideal.τ).loc Cert.Reference6Ideal.main_v178) = v27 c
          ∧ r.2.mem ((c.tc : Thread Cert.Reference6Ideal.nD Cert.Reference6Ideal.τ).loc Cert.Reference6Ideal.main_v202) = v28 c
          ∧ r.2.mem ((c.tc : Thread Cert.Reference6Ideal.nD Cert.Reference6Ideal.τ).loc Cert.Reference6Ideal.main_v226) = v29 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23)
          ∧ r.2.mem ((c.tc : Thread Cert.Reference6Ideal.nD Cert.Reference6Ideal.τ).loc Cert.Reference6Ideal.main_arg24) = m' ((c.tc : Thread Cert.Reference6Ideal.nD Cert.Reference6Ideal.τ).loc Cert.Reference6Ideal.main_arg24)
          ∧ r.2.mem ((c.tc : Thread Cert.Reference6Ideal.nD Cert.Reference6Ideal.τ).loc Cert.Reference6Ideal.main_arg25) = m' ((c.tc : Thread Cert.Reference6Ideal.nD Cert.Reference6Ideal.τ).loc Cert.Reference6Ideal.main_arg25)
          ∧ r.2.mem ((c.tc : Thread Cert.Reference6Ideal.nD Cert.Reference6Ideal.τ).loc Cert.Reference6Ideal.main_arg26) = m' ((c.tc : Thread Cert.Reference6Ideal.nD Cert.Reference6Ideal.τ).loc Cert.Reference6Ideal.main_arg26)
          ∧ r.2.mem ((c.tc : Thread Cert.Reference6Ideal.nD Cert.Reference6Ideal.τ).loc Cert.Reference6Ideal.main_arg27) = m' ((c.tc : Thread Cert.Reference6Ideal.nD Cert.Reference6Ideal.τ).loc Cert.Reference6Ideal.main_arg27)
          ∧ r.2.mem ((c.tc : Thread Cert.Reference6Ideal.nD Cert.Reference6Ideal.τ).loc Cert.Reference6Ideal.main_arg28) = m' ((c.tc : Thread Cert.Reference6Ideal.nD Cert.Reference6Ideal.τ).loc Cert.Reference6Ideal.main_arg28)
          ∧ r.2.mem ((c.tc : Thread Cert.Reference6Ideal.nD Cert.Reference6Ideal.τ).loc Cert.Reference6Ideal.main_arg29) = m' ((c.tc : Thread Cert.Reference6Ideal.nD Cert.Reference6Ideal.τ).loc Cert.Reference6Ideal.main_arg29)
          ∧ r.2.mem ((c.tc : Thread Cert.Reference6Ideal.nD Cert.Reference6Ideal.τ).loc Cert.Reference6Ideal.main_arg30) = m' ((c.tc : Thread Cert.Reference6Ideal.nD Cert.Reference6Ideal.τ).loc Cert.Reference6Ideal.main_arg30)
          ∧ r.2.mem ((c.tc : Thread Cert.Reference6Ideal.nD Cert.Reference6Ideal.τ).loc Cert.Reference6Ideal.main_arg31) = m' ((c.tc : Thread Cert.Reference6Ideal.nD Cert.Reference6Ideal.τ).loc Cert.Reference6Ideal.main_arg31)
          ∧ r.2.mem ((c.tc : Thread Cert.Reference6Ideal.nD Cert.Reference6Ideal.τ).loc Cert.Reference6Ideal.main_arg32) = m' ((c.tc : Thread Cert.Reference6Ideal.nD Cert.Reference6Ideal.τ).loc Cert.Reference6Ideal.main_arg32)
          ∧ r.2.mem ((c.tc : Thread Cert.Reference6Ideal.nD Cert.Reference6Ideal.τ).loc Cert.Reference6Ideal.main_arg33) = m' ((c.tc : Thread Cert.Reference6Ideal.nD Cert.Reference6Ideal.τ).loc Cert.Reference6Ideal.main_arg33)
          ∧ r.2.mem ((c.tc : Thread Cert.Reference6Ideal.nD Cert.Reference6Ideal.τ).loc Cert.Reference6Ideal.main_arg34) = m' ((c.tc : Thread Cert.Reference6Ideal.nD Cert.Reference6Ideal.τ).loc Cert.Reference6Ideal.main_arg34)
          ∧ r.2.mem ((c.tc : Thread Cert.Reference6Ideal.nD Cert.Reference6Ideal.τ).loc Cert.Reference6Ideal.main_arg35) = m' ((c.tc : Thread Cert.Reference6Ideal.nD Cert.Reference6Ideal.τ).loc Cert.Reference6Ideal.main_arg35)
          ∧ r.2.mem ((c.tc : Thread Cert.Reference6Ideal.nD Cert.Reference6Ideal.τ).loc Cert.Reference6Ideal.main_arg36) = m' ((c.tc : Thread Cert.Reference6Ideal.nD Cert.Reference6Ideal.τ).loc Cert.Reference6Ideal.main_arg36)
          ∧ r.2.mem ((c.tc : Thread Cert.Reference6Ideal.nD Cert.Reference6Ideal.τ).loc Cert.Reference6Ideal.main_arg37) = m' ((c.tc : Thread Cert.Reference6Ideal.nD Cert.Reference6Ideal.τ).loc Cert.Reference6Ideal.main_arg37)
          ∧ r.2.mem ((c.tc : Thread Cert.Reference6Ideal.nD Cert.Reference6Ideal.τ).loc Cert.Reference6Ideal.main_arg38) = m' ((c.tc : Thread Cert.Reference6Ideal.nD Cert.Reference6Ideal.τ).loc Cert.Reference6Ideal.main_arg38)
          ∧ r.2.mem ((c.tc : Thread Cert.Reference6Ideal.nD Cert.Reference6Ideal.τ).loc Cert.Reference6Ideal.main_arg39) = m' ((c.tc : Thread Cert.Reference6Ideal.nD Cert.Reference6Ideal.τ).loc Cert.Reference6Ideal.main_arg39))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)) (v1 : (c : Dev Cert.Kernel7Ideal.nD) → Buf (Elt Ideal) ((c.tc : Thread Cert.Kernel7Ideal.nD Cert.Kernel7Ideal.τ).loc Cert.Kernel7Ideal.main_v5)) (v2 : (c : Dev Cert.Kernel7Ideal.nD) → Buf (Elt Ideal) ((c.tc : Thread Cert.Kernel7Ideal.nD Cert.Kernel7Ideal.τ).loc Cert.Kernel7Ideal.main_v6)) (v3 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_v5) = v1 c
          ∧ r.2.mem ((c.tc : Thread Cert.Kernel7Ideal.nD Cert.Kernel7Ideal.τ).loc Cert.Kernel7Ideal.main_v6) = v2 c
          ∧ r.2.mem ((c.tc : Thread Cert.Kernel7Ideal.nD Cert.Kernel7Ideal.τ).loc Cert.Kernel7Ideal.main_v7) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v16) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v16) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v16) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_v29) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_v16) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x2048 : Shape := ⟨2, ![8192, 2048]⟩
abbrev S8x2048x1408 : Shape := ⟨3, ![8, 2048, 1408]⟩
abbrev S5632x2048 : Shape := ⟨2, ![5632, 2048]⟩
abbrev S2048x11264 : Shape := ⟨2, ![2048, 11264]⟩
abbrev S8x256x1408 : Shape := ⟨3, ![8, 256, 1408]⟩
abbrev S256x11264 : Shape := ⟨2, ![256, 11264]⟩
abbrev S1x256x512 : Shape := ⟨3, ![1, 256, 512]⟩
abbrev S256x512 : Shape := ⟨2, ![256, 512]⟩
abbrev S1x256x384 : Shape := ⟨3, ![1, 256, 384]⟩
abbrev S256x384 : Shape := ⟨2, ![256, 384]⟩
abbrev S1x256x128 : Shape := ⟨3, ![1, 256, 128]⟩
abbrev S256x128 : Shape := ⟨2, ![256, 128]⟩
abbrev S1x256x256 : Shape := ⟨3, ![1, 256, 256]⟩
abbrev S256x256 : Shape := ⟨2, ![256, 256]⟩
abbrev S8192x11264 : Shape := ⟨2, ![8192, 11264]⟩
abbrev S8192x5632 : Shape := ⟨2, ![8192, 5632]⟩
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S512x2048 : Shape := ⟨2, ![512, 2048]⟩
abbrev S8192x512 : Shape := ⟨2, ![8192, 512]⟩
abbrev S512x512 : Shape := ⟨2, ![512, 512]⟩
abbrev S512x11264 : Shape := ⟨2, ![512, 11264]⟩
abbrev S512x256 : Shape := ⟨2, ![512, 256]⟩

abbrev nBuf : Space → Nat
  | .hbm => 12
  | .vmem => 42
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S5632x2048, .bf16⟩
  | .hbm, ⟨3, _⟩ => ⟨S8192x2048, .bf16⟩
  | .hbm, ⟨4, _⟩ => ⟨S2048x11264, .bf16⟩
  | .hbm, ⟨5, _⟩ => ⟨S8192x11264, .f32⟩
  | .hbm, ⟨6, _⟩ => ⟨S8192x5632, .bf16⟩
  | .hbm, ⟨7, _⟩ => ⟨S8192x11264, .bf16⟩
  | .hbm, ⟨8, _⟩ => ⟨S5632x2048, .bf16⟩
  | .hbm, ⟨9, _⟩ => ⟨S8192x2048, .f32⟩
  | .hbm, ⟨10, _⟩ => ⟨S2048x11264, .bf16⟩
  | .hbm, ⟨11, _⟩ => ⟨S8x2048x1408, .bf16⟩
  | .local _ .vmem, ⟨0, _⟩ => ⟨S8x256x1408, .bf16⟩
  | .local _ .vmem, ⟨1, _⟩ => ⟨S8x256x1408, .bf16⟩
  | .local _ .vmem, ⟨2, _⟩ => ⟨S256x11264, .bf16⟩
  | .local _ .vmem, ⟨3, _⟩ => ⟨S256x11264, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x512, .bf16⟩
  | .local _ .vmem, ⟨11, _⟩ => ⟨S1024x512, .bf16⟩
  | .local _ .vmem, ⟨12, _⟩ => ⟨S1024x2048, .bf16⟩
  | .local _ .vmem, ⟨13, _⟩ => ⟨S1024x2048, .bf16⟩
  | .local _ .vmem, ⟨14, _⟩ => ⟨S512x2048, .bf16⟩
  | .local _ .vmem, ⟨15, _⟩ => ⟨S512x2048, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .bf16⟩
  | .local _ .vmem, ⟨20, _⟩ => ⟨S8192x512, .bf16⟩
  | .local _ .vmem, ⟨21, _⟩ => ⟨S8192x512, .bf16⟩
  | .local _ .vmem, ⟨22, _⟩ => ⟨S8192x512, .bf16⟩
  | .local _ .vmem, ⟨23, _⟩ => ⟨S8192x512, .bf16⟩
  | .local _ .vmem, ⟨24, _⟩ => ⟨S512x512, .bf16⟩
  | .local _ .vmem, ⟨25, _⟩ => ⟨S512x512, .bf16⟩
  | .local _ .vmem, ⟨26, _⟩ => ⟨S512x11264, .bf16⟩
  | .local _ .vmem, ⟨27, _⟩ => ⟨S512x11264, .bf16⟩
  | .local _ .vmem, ⟨28, _⟩ => ⟨S256x11264, .bf16⟩
  | .local _ .vmem, ⟨29, _⟩ => ⟨S256x11264, .bf16⟩
  | .local _ .vmem, ⟨30, _⟩ => ⟨S512x256, .f32⟩
  | .local _ .vmem, ⟨31, _⟩ => ⟨S512x256, .f32⟩
  | .local _ .vmem, ⟨32, _⟩ => ⟨S8192x512, .bf16⟩
  | .local _ .vmem, ⟨33, _⟩ => ⟨S8192x512, .bf16⟩
  | .local _ .vmem, ⟨34, _⟩ => ⟨S8192x512, .bf16⟩
  | .local _ .vmem, ⟨35, _⟩ => ⟨S8192x512, .bf16⟩
  | .local _ .vmem, ⟨36, _⟩ => ⟨S512x512, .bf16⟩
  | .local _ .vmem, ⟨37, _⟩ => ⟨S512x512, .bf16⟩
  | .local _ .vmem, ⟨38, _⟩ => ⟨S256x11264, .bf16⟩
  | .local _ .vmem, ⟨39, _⟩ => ⟨S256x11264, .bf16⟩
  | .local _ .vmem, ⟨40, _⟩ => ⟨S8x256x1408, .bf16⟩
  | .local _ .vmem, ⟨41, _⟩ => ⟨S8x256x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![11, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![11, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![4, 11, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S8192x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S8192x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![16, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S512x11264 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S256x11264 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S512x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![22, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S8192x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S8192x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage6_0 : Fin 2 → Memref sig .tc .vmem S256x11264 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8x256x1408 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]
-- ==== ReferenceIdeal.lean ====
abbrev S8192x2048 : Shape := ⟨2, ![8192, 2048]⟩
abbrev S8x2048x1408 : Shape := ⟨3, ![8, 2048, 1408]⟩
abbrev S5632x2048 : Shape := ⟨2, ![5632, 2048]⟩
abbrev S2048x8x1408 : Shape := ⟨3, ![2048, 8, 1408]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S2048x5632 : Shape := ⟨2, ![2048, 5632]⟩
abbrev S11264x2048 : Shape := ⟨2, ![11264, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x2048x1408, .bf16⟩
  | .hbm, ⟨2, _⟩ => ⟨S5632x2048, .bf16⟩
  | .hbm, ⟨3, _⟩ => ⟨S8192x2048, .bf16⟩
  | .hbm, ⟨4, _⟩ => ⟨S8192x2048, .f32⟩
  | .hbm, ⟨5, _⟩ => ⟨S8x2048x1408, .f32⟩
  | .hbm, ⟨6, _⟩ => ⟨S5632x2048, .f32⟩
  | .hbm, ⟨7, _⟩ => ⟨S8192x2048, .f32⟩
  | .hbm, ⟨8, _⟩ => ⟨S2048x8x1408, .f32⟩
  | .hbm, ⟨9, _⟩ => ⟨S2048x11264, .f32⟩
  | .hbm, ⟨10, _⟩ => ⟨S8192x11264, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x2048, .f32⟩
  | .hbm, ⟨28, _⟩ => ⟨S2048x5632, .f32⟩
  | .hbm, ⟨29, _⟩ => ⟨S5632x2048, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x11264, .f32⟩
  | .hbm, ⟨38, _⟩ => ⟨S11264x2048, .f32⟩
  | .hbm, ⟨39, _⟩ => ⟨S2048x11264, .f32⟩
  | .hbm, ⟨40, _⟩ => ⟨S8192x2048, .f32⟩
  | .hbm, ⟨41, _⟩ => ⟨S2048x8x1408, .f32⟩
  | .hbm, ⟨42, _⟩ => ⟨S8x2048x1408, .f32⟩
  | .hbm, ⟨43, _⟩ => ⟨S8x2048x1408, .bf16⟩
  | .hbm, ⟨44, _⟩ => ⟨S5632x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v9_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v9_1 : Ref sig .tc := ⟨.hbm, 24, rfl⟩
abbrev main_v9_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel2.lean ====
abbrev S8704x12288 : Shape := ⟨2, ![8704, 12288]⟩
abbrev S8704x1024 : Shape := ⟨2, ![8704, 1024]⟩
abbrev S8x1024x256 : Shape := ⟨3, ![8, 1024, 256]⟩
abbrev S8x256x2048 : Shape := ⟨3, ![8, 256, 2048]⟩
abbrev S8192x2048 : Shape := ⟨2, ![8192, 2048]⟩
abbrev S1x2048 : Shape := ⟨2, ![1, 2048]⟩
abbrev S1024x2048 : Shape := ⟨2, ![1024, 2048]⟩
abbrev S8x256x256 : Shape := ⟨3, ![8, 256, 256]⟩
abbrev S256x2048 : Shape := ⟨2, ![256, 2048]⟩
abbrev S1x256x256 : Shape := ⟨3, ![1, 256, 256]⟩
abbrev S256x256 : Shape := ⟨2, ![256, 256]⟩
abbrev S2048x2048 : Shape := ⟨2, ![2048, 2048]⟩
abbrev S512x1024 : Shape := ⟨2, ![512, 1024]⟩
abbrev S512x2048 : Shape := ⟨2, ![512, 2048]⟩
abbrev S256x4096 : Shape := ⟨2, ![256, 4096]⟩
abbrev S256 : Shape := ⟨1, ![256]⟩
abbrev S256x1 : Shape := ⟨2, ![256, 1]⟩
abbrev S8704x2048 : Shape := ⟨2, ![8704, 2048]⟩
abbrev S8192x512 : Shape := ⟨2, ![8192, 512]⟩
abbrev S512x512 : Shape := ⟨2, ![512, 512]⟩
abbrev S1088x2048 : Shape := ⟨2, ![1088, 2048]⟩
abbrev S1088x1024 : Shape := ⟨2, ![1088, 1024]⟩
abbrev S8704x512 : Shape := ⟨2, ![8704, 512]⟩
abbrev S8704x4096 : Shape := ⟨2, ![8704, 4096]⟩

abbrev nBuf : Space → Nat
  | .hbm => 28
  | .vmem => 85
  | .smem => 0
  | _ => 0

abbrev bufTy : (tb : Table) → Fin (tcTables nBuf tb) → BufTy
  | .hbm, ⟨0, _⟩ => ⟨S8704x12288, .f32⟩
  | .hbm, ⟨1, _⟩ => ⟨S8704x1024, .bf16⟩
  | .hbm, ⟨2, _⟩ => ⟨S8704x1024, .bf16⟩
  | .hbm, ⟨3, _⟩ => ⟨S8x1024x256, .bf16⟩
  | .hbm, ⟨4, _⟩ => ⟨S8x1024x256, .bf16⟩
  | .hbm, ⟨5, _⟩ => ⟨S8x256x2048, .bf16⟩
  | .hbm, ⟨6, _⟩ => ⟨S8192x2048, .f32⟩
  | .hbm, ⟨7, _⟩ => ⟨S1x2048, .f32⟩
  | .hbm, ⟨8, _⟩ => ⟨S8192x2048, .bf16⟩
  | .hbm, ⟨9, _⟩ => ⟨S1024x2048, .bf16⟩
  | .hbm, ⟨10, _⟩ => ⟨S1024x2048, .bf16⟩
  | .hbm, ⟨11, _⟩ => ⟨S2048x2048, .bf16⟩
  | .hbm, ⟨12, _⟩ => ⟨S8192x2048, .f32⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S8192x2048, .bf16⟩
  | .hbm, ⟨17, _⟩ => ⟨S8704x12288, .bf16⟩
  | .hbm, ⟨18, _⟩ => ⟨S8704x2048, .bf16⟩
  | .hbm, ⟨19, _⟩ => ⟨S8704x2048, .bf16⟩
  | .hbm, ⟨20, _⟩ => ⟨S2048x2048, .bf16⟩
  | .hbm, ⟨21, _⟩ => ⟨S8704x1024, .f32⟩
  | .hbm, ⟨22, _⟩ => ⟨S8704x1024, .f32⟩
  | .hbm, ⟨23, _⟩ => ⟨S1024x2048, .bf16⟩
  | .hbm, ⟨24, _⟩ => ⟨S1024x2048, .bf16⟩
  | .hbm, ⟨25, _⟩ => ⟨S8x1024x256, .bf16⟩
  | .hbm, ⟨26, _⟩ => ⟨S8x1024x256, .bf16⟩
  | .hbm, ⟨27, _⟩ => ⟨S8704x4096, .bf16⟩
  | .local _ .vmem, ⟨0, _⟩ => ⟨S8x256x256, .bf16⟩
  | .local _ .vmem, ⟨1, _⟩ => ⟨S8x256x256, .bf16⟩
  | .local _ .vmem, ⟨2, _⟩ => ⟨S256x2048, .bf16⟩
  | .local _ .vmem, ⟨3, _⟩ => ⟨S256x2048, .bf16⟩
  | .local _ .vmem, ⟨4, _⟩ => ⟨S8x256x256, .bf16⟩
  | .local _ .vmem, ⟨5, _⟩ => ⟨S8x256x256, .bf16⟩
  | .local _ .vmem, ⟨6, _⟩ => ⟨S256x2048, .bf16⟩
  | .local _ .vmem, ⟨7, _⟩ => ⟨S256x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x2048, .bf16⟩
  | .local _ .vmem, ⟨11, _⟩ => ⟨S512x2048, .f32⟩
  | .local _ .vmem, ⟨12, _⟩ => ⟨S512x2048, .f32⟩
  | .local _ .vmem, ⟨13, _⟩ => ⟨S512x1024, .bf16⟩
  | .local _ .vmem, ⟨14, _⟩ => ⟨S512x1024, .bf16⟩
  | .local _ .vmem, ⟨15, _⟩ => ⟨S1024x2048, .bf16⟩
  | .local _ .vmem, ⟨16, _⟩ => ⟨S512x2048, .f32⟩
  | .local _ .vmem, ⟨17, _⟩ => ⟨S512x2048, .f32⟩
  | .local _ .vmem, ⟨18, _⟩ => ⟨S256x4096, .f32⟩
  | .local _ .vmem, ⟨19, _⟩ => ⟨S256x4096, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S2048x2048, .bf16⟩
  | .local _ .vmem, ⟨25, _⟩ => ⟨S256x2048, .f32⟩
  | .local _ .vmem, ⟨26, _⟩ => ⟨S256x2048, .f32⟩
  | .local _ .vmem, ⟨27, _⟩ => ⟨S1x2048, .f32⟩
  | .local _ .vmem, ⟨28, _⟩ => ⟨S256x2048, .bf16⟩
  | .local _ .vmem, ⟨29, _⟩ => ⟨S256x2048, .bf16⟩
  | .local _ .vmem, ⟨30, _⟩ => ⟨S256x2048, .f32⟩
  | .local _ .vmem, ⟨31, _⟩ => ⟨S256x2048, .f32⟩
  | .local _ .vmem, ⟨32, _⟩ => ⟨S256x2048, .bf16⟩
  | .local _ .vmem, ⟨33, _⟩ => ⟨S256x2048, .bf16⟩
  | .local _ .vmem, ⟨34, _⟩ => ⟨S256x2048, .bf16⟩
  | .local _ .vmem, ⟨35, _⟩ => ⟨S256x2048, .bf16⟩
  | .local _ .vmem, ⟨36, _⟩ => ⟨S2048x2048, .bf16⟩
  | .local _ .vmem, ⟨37, _⟩ => ⟨S256x4096, .f32⟩
  | .local _ .vmem, ⟨38, _⟩ => ⟨S256x4096, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S256x4096, .bf16⟩
  | .local _ .vmem, ⟨44, _⟩ => ⟨S256x4096, .bf16⟩
  | .local _ .vmem, ⟨45, _⟩ => ⟨S256x2048, .bf16⟩
  | .local _ .vmem, ⟨46, _⟩ => ⟨S256x2048, .bf16⟩
  | .local _ .vmem, ⟨47, _⟩ => ⟨S256x2048, .bf16⟩
  | .local _ .vmem, ⟨48, _⟩ => ⟨S256x2048, .bf16⟩
  | .local _ .vmem, ⟨49, _⟩ => ⟨S8192x512, .bf16⟩
  | .local _ .vmem, ⟨50, _⟩ => ⟨S8192x512, .bf16⟩
  | .local _ .vmem, ⟨51, _⟩ => ⟨S8192x512, .bf16⟩
  | .local _ .vmem, ⟨52, _⟩ => ⟨S8192x512, .bf16⟩
  | .local _ .vmem, ⟨53, _⟩ => ⟨S512x512, .bf16⟩
  | .local _ .vmem, ⟨54, _⟩ => ⟨S512x512, .bf16⟩
  | .local _ .vmem, ⟨55, _⟩ => ⟨S1088x2048, .bf16⟩
  | .local _ .vmem, ⟨56, _⟩ => ⟨S1088x2048, .bf16⟩
  | .local _ .vmem, ⟨57, _⟩ => ⟨S1024x2048, .bf16⟩
  | .local _ .vmem, ⟨58, _⟩ => ⟨S1088x1024, .f32⟩
  | .local _ .vmem, ⟨59, _⟩ => ⟨S1088x1024, .f32⟩
  | .local _ .vmem, ⟨60, _⟩ => ⟨S1088x2048, .bf16⟩
  | .local _ .vmem, ⟨61, _⟩ => ⟨S1088x2048, .bf16⟩
  | .local _ .vmem, ⟨62, _⟩ => ⟨S1024x2048, .bf16⟩
  | .local _ .vmem, ⟨63, _⟩ => ⟨S1088x1024, .f32⟩
  | .local _ .vmem, ⟨64, _⟩ => ⟨S1088x1024, .f32⟩
  | .local _ .vmem, ⟨65, _⟩ => ⟨S8704x512, .bf16⟩
  | .local _ .vmem, ⟨66, _⟩ => ⟨S8704x512, .bf16⟩
  | .local _ .vmem, ⟨67, _⟩ => ⟨S8704x512, .bf16⟩
  | .local _ .vmem, ⟨68, _⟩ => ⟨S8704x512, .bf16⟩
  | .local _ .vmem, ⟨69, _⟩ => ⟨S512x512, .bf16⟩
  | .local _ .vmem, ⟨70, _⟩ => ⟨S512x512, .bf16⟩
  | .local _ .vmem, ⟨71, _⟩ => ⟨S8704x512, .bf16⟩
  | .local _ .vmem, ⟨72, _⟩ => ⟨S8704x512, .bf16⟩
  | .local _ .vmem, ⟨73, _⟩ => ⟨S8704x512, .bf16⟩
  | .local _ .vmem, ⟨74, _⟩ => ⟨S8704x512, .bf16⟩
  | .local _ .vmem, ⟨75, _⟩ => ⟨S512x512, .bf16⟩
  | .local _ .vmem, ⟨76, _⟩ => ⟨S512x512, .bf16⟩
  | .local _ .vmem, ⟨77, _⟩ => ⟨S256x2048, .bf16⟩
  | .local _ .vmem, ⟨78, _⟩ => ⟨S256x2048, .bf16⟩
  | .local _ .vmem, ⟨79, _⟩ => ⟨S8x256x256, .bf16⟩
  | .local _ .vmem, ⟨80, _⟩ => ⟨S8x256x256, .bf16⟩
  | .local _ .vmem, ⟨81, _⟩ => ⟨S256x2048, .bf16⟩
  | .local _ .vmem, ⟨82, _⟩ => ⟨S256x2048, .bf16⟩
  | .local _ .vmem, ⟨83, _⟩ => ⟨S8x256x256, .bf16⟩
  | .local _ .vmem, ⟨84, _⟩ => ⟨S8x256x256, .bf16⟩
  | _, _ => ⟨S8704x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc3_stg0_0 : Ref sig .tc := ⟨.vmem, 13, rfl⟩
abbrev cc3_stg0_1 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg4_1 : Ref sig .tc := ⟨.vmem, 26, rfl⟩
abbrev cc4_stg5_0 : Ref sig .tc := ⟨.vmem, 27, rfl⟩
abbrev cc4_stg6_0 : Ref sig .tc := ⟨.vmem, 28, rfl⟩
abbrev cc4_stg6_1 : Ref sig .tc := ⟨.vmem, 29, rfl⟩
abbrev cc4_stg7_0 : Ref sig .tc := ⟨.vmem, 30, rfl⟩
abbrev cc4_stg7_1 : Ref sig .tc := ⟨.vmem, 31, rfl⟩
abbrev cc4_stg8_0 : Ref sig .tc := ⟨.vmem, 32, rfl⟩
abbrev cc4_stg8_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg3_1 : Ref sig .tc := ⟨.vmem, 40, rfl⟩
abbrev cc5_stg4_0 : Ref sig .tc := ⟨.vmem, 41, rfl⟩
abbrev cc5_stg4_1 : Ref sig .tc := ⟨.vmem, 42, rfl⟩
abbrev cc5_stg5_0 : Ref sig .tc := ⟨.vmem, 43, rfl⟩
abbrev cc5_stg5_1 : Ref sig .tc := ⟨.vmem, 44, rfl⟩
abbrev cc5_stg6_0 : Ref sig .tc := ⟨.vmem, 45, rfl⟩
abbrev cc5_stg6_1 : Ref sig .tc := ⟨.vmem, 46, rfl⟩
abbrev cc5_stg7_0 : Ref sig .tc := ⟨.vmem, 47, rfl⟩
abbrev cc5_stg7_1 : Ref sig .tc := ⟨.vmem, 48, rfl⟩
abbrev cc6_stg0_0 : Ref sig .tc := ⟨.vmem, 49, rfl⟩
abbrev cc6_stg0_1 : Ref sig .tc := ⟨.vmem, 50, rfl⟩
abbrev cc6_stg1_0 : Ref sig .tc := ⟨.vmem, 51, rfl⟩
abbrev cc6_stg1_1 : Ref sig .tc := ⟨.vmem, 52, rfl⟩
abbrev cc6_stg2_0 : Ref sig .tc := ⟨.vmem, 53, rfl⟩
abbrev cc6_stg2_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg2_1 : Ref sig .tc := ⟨.vmem, 59, rfl⟩
abbrev cc8_stg0_0 : Ref sig .tc := ⟨.vmem, 60, rfl⟩
abbrev cc8_stg0_1 : Ref sig .tc := ⟨.vmem, 61, rfl⟩
abbrev cc8_stg1_0 : Ref sig .tc := ⟨.vmem, 62, rfl⟩
abbrev cc8_stg2_0 : Ref sig .tc := ⟨.vmem, 63, rfl⟩
abbrev cc8_stg2_1 : Ref sig .tc := ⟨.vmem, 64, rfl⟩
abbrev cc9_stg0_0 : Ref sig .tc := ⟨.vmem, 65, rfl⟩
abbrev cc9_stg0_1 : Ref sig .tc := ⟨.vmem, 66, rfl⟩
abbrev cc9_stg1_0 : Ref sig .tc := ⟨.vmem, 67, rfl⟩
abbrev cc9_stg1_1 : Ref sig .tc := ⟨.vmem, 68, rfl⟩
abbrev cc9_stg2_0 : Ref sig .tc := ⟨.vmem, 69, rfl⟩
abbrev cc9_stg2_1 : Ref sig .tc := ⟨.vmem, 70, rfl⟩
abbrev cc10_stg0_0 : Ref sig .tc := ⟨.vmem, 71, rfl⟩
abbrev cc10_stg0_1 : Ref sig .tc := ⟨.vmem, 72, rfl⟩
abbrev cc10_stg1_0 : Ref sig .tc := ⟨.vmem, 73, rfl⟩
abbrev cc10_stg1_1 : Ref sig .tc := ⟨.vmem, 74, rfl⟩
abbrev cc10_stg2_0 : Ref sig .tc := ⟨.vmem, 75, rfl⟩
abbrev cc10_stg2_1 : Ref sig .tc := ⟨.vmem, 76, rfl⟩
abbrev cc11_stg0_0 : Ref sig .tc := ⟨.vmem, 77, rfl⟩
abbrev cc11_stg0_1 : Ref sig .tc := ⟨.vmem, 78, rfl⟩
abbrev cc11_stg1_0 : Ref sig .tc := ⟨.vmem, 79, rfl⟩
abbrev cc11_stg1_1 : Ref sig .tc := ⟨.vmem, 80, rfl⟩
abbrev cc12_stg0_0 : Ref sig .tc := ⟨.vmem, 81, rfl⟩
abbrev cc12_stg0_1 : Ref sig .tc := ⟨.vmem, 82, rfl⟩
abbrev cc12_stg1_0 : Ref sig .tc := ⟨.vmem, 83, rfl⟩
abbrev cc12_stg1_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc3_sem0_0 : DmaSem sig := 13
abbrev cc3_sem0_1 : DmaSem sig := 14
abbrev cc3_sem1_0 : DmaSem sig := 15
abbrev cc3_sem2_0 : DmaSem sig := 16
abbrev cc3_sem2_1 : DmaSem sig := 17
abbrev cc4_sem0_0 : DmaSem sig := 18
abbrev cc4_sem0_1 : DmaSem sig := 19
abbrev cc4_sem1_0 : DmaSem sig := 20
abbrev cc4_sem1_1 : DmaSem sig := 21
abbrev cc4_sem2_0 : DmaSem sig := 22
abbrev cc4_sem2_1 : DmaSem sig := 23
abbrev cc4_sem3_0 : DmaSem sig := 24
abbrev cc4_sem4_0 : DmaSem sig := 25
abbrev cc4_sem4_1 : DmaSem sig := 26
abbrev cc4_sem5_0 : DmaSem sig := 27
abbrev cc4_sem6_0 : DmaSem sig := 28
abbrev cc4_sem6_1 : DmaSem sig := 29
abbrev cc4_sem7_0 : DmaSem sig := 30
abbrev cc4_sem7_1 : DmaSem sig := 31
abbrev cc4_sem8_0 : DmaSem sig := 32
abbrev cc4_sem8_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc5_sem3_0 : DmaSem sig := 39
abbrev cc5_sem3_1 : DmaSem sig := 40
abbrev cc5_sem4_0 : DmaSem sig := 41
abbrev cc5_sem4_1 : DmaSem sig := 42
abbrev cc5_sem5_0 : DmaSem sig := 43
abbrev cc5_sem5_1 : DmaSem sig := 44
abbrev cc5_sem6_0 : DmaSem sig := 45
abbrev cc5_sem6_1 : DmaSem sig := 46
abbrev cc5_sem7_0 : DmaSem sig := 47
abbrev cc5_sem7_1 : DmaSem sig := 48
abbrev cc6_sem0_0 : DmaSem sig := 49
abbrev cc6_sem0_1 : DmaSem sig := 50
abbrev cc6_sem1_0 : DmaSem sig := 51
abbrev cc6_sem1_1 : DmaSem sig := 52
abbrev cc6_sem2_0 : DmaSem sig := 53
abbrev cc6_sem2_1 : DmaSem sig := 54
abbrev cc7_sem0_0 : DmaSem sig := 55
abbrev cc7_sem0_1 : DmaSem sig := 56
abbrev cc7_sem1_0 : DmaSem sig := 57
abbrev cc7_sem2_0 : DmaSem sig := 58
abbrev cc7_sem2_1 : DmaSem sig := 59
abbrev cc8_sem0_0 : DmaSem sig := 60
abbrev cc8_sem0_1 : DmaSem sig := 61
abbrev cc8_sem1_0 : DmaSem sig := 62
abbrev cc8_sem2_0 : DmaSem sig := 63
abbrev cc8_sem2_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem2_1 : DmaSem sig := 70
abbrev cc10_sem0_0 : DmaSem sig := 71
abbrev cc10_sem0_1 : DmaSem sig := 72
abbrev cc10_sem1_0 : DmaSem sig := 73
abbrev cc10_sem1_1 : DmaSem sig := 74
abbrev cc10_sem2_0 : DmaSem sig := 75
abbrev cc10_sem2_1 : DmaSem sig := 76
abbrev cc11_sem0_0 : DmaSem sig := 77
abbrev cc11_sem0_1 : DmaSem sig := 78
abbrev cc11_sem1_0 : DmaSem sig := 79
abbrev cc11_sem1_1 : DmaSem sig := 80
abbrev cc12_sem0_0 : DmaSem sig := 81
abbrev cc12_sem0_1 : DmaSem sig := 82
abbrev cc12_sem1_0 : DmaSem sig := 83
abbrev cc12_sem1_1 : DmaSem sig := 84

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![1, 16, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 16, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S1024x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S512x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c2_i32 : BitVec 32 := 2#32
  let v0 : BitVec 32 := Scalar.addi arg0 c2_i32
  let c2_i32_0 : BitVec 32 := 2#32
  let c0_i32 : BitVec 32 := 0#32
  ![v0.toNat, c2_i32_0.toNat]

def cc4_transform_1 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_2 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_7 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc4_transform_8 (i : grid4.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S2048x2048 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S256x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x2048 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S256x2048 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S256x2048 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![34], ![false]⟩

def k5_cond1 (i : grid5.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k5_cond2 (i : grid5.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc5_transform_0 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c2_i32 : BitVec 32 := 2#32
  let v0 : BitVec 32 := Scalar.maxsi arg0 c2_i32
  let c2_i32_0 : BitVec 32 := 2#32
  let c0_i32 : BitVec 32 := 0#32
  ![v0.toNat, c2_i32_0.toNat]

def cc5_transform_3 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc5_transform_4 (i : grid5.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc5_transform_5 (i : grid5.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc5_transform_6 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc5_transform_7 (i : grid5.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x2048 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x4096 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x2048 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x2048 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨3, ![4, 4, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage6_0 : Fin 2 → Memref sig .tc .vmem S8192x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S8192x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 8, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S1088x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 1 → Memref sig .tc .vmem S1024x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false, true]

abbrev stage7_2 : Fin 2 → Memref sig .tc .vmem S1088x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![1, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage8_0 : Fin 2 → Memref sig .tc .vmem S1088x2048 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true, true]

abbrev stage8_1 : Fin 1 → Memref sig .tc .vmem S1024x2048 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false, true]

abbrev stage8_2 : Fin 2 → Memref sig .tc .vmem S1088x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨3, ![4, 2, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage9_0 : Fin 2 → Memref sig .tc .vmem S8704x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true, true]

abbrev stage9_1 : Fin 2 → Memref sig .tc .vmem S8704x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false, true]

abbrev stage9_2 : Fin 2 → Memref sig .tc .vmem S512x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨3, ![4, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage10_0 : Fin 2 → Memref sig .tc .vmem S8704x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![false, true, true]

abbrev stage10_1 : Fin 2 → Memref sig .tc .vmem S8704x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false, true]

abbrev stage10_2 : Fin 2 → Memref sig .tc .vmem S512x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage11_0 : Fin 2 → Memref sig .tc .vmem S256x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S8x256x256 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage12_0 : Fin 2 → Memref sig .tc .vmem S256x2048 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8x256x256 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]
-- ==== Reference2Ideal.lean ====
abbrev S8704x12288 : Shape := ⟨2, ![8704, 12288]⟩
abbrev S8704x1024 : Shape := ⟨2, ![8704, 1024]⟩
abbrev S8x1024x256 : Shape := ⟨3, ![8, 1024, 256]⟩
abbrev S8x256x2048 : Shape := ⟨3, ![8, 256, 2048]⟩
abbrev S8192x2048 : Shape := ⟨2, ![8192, 2048]⟩
abbrev S1x2048 : Shape := ⟨2, ![1, 2048]⟩
abbrev S8704x4096 : Shape := ⟨2, ![8704, 4096]⟩
abbrev S1024x8x256 : Shape := ⟨3, ![1024, 8, 256]⟩
abbrev S1024x2048 : Shape := ⟨2, ![1024, 2048]⟩
abbrev S2048x2048 : Shape := ⟨2, ![2048, 2048]⟩
abbrev S8192x4096 : Shape := ⟨2, ![8192, 4096]⟩
abbrev S_ : Shape := ⟨0, ![]⟩
abbrev S8192x1024 : Shape := ⟨2, ![8192, 1024]⟩
abbrev S2048x1024 : Shape := ⟨2, ![2048, 1024]⟩
abbrev S8192 : Shape := ⟨1, ![8192]⟩
abbrev S8192x1 : Shape := ⟨2, ![8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S8704x12288, .f32⟩
  | .hbm, ⟨1, _⟩ => ⟨S8704x1024, .bf16⟩
  | .hbm, ⟨2, _⟩ => ⟨S8704x1024, .bf16⟩
  | .hbm, ⟨3, _⟩ => ⟨S8x1024x256, .bf16⟩
  | .hbm, ⟨4, _⟩ => ⟨S8x1024x256, .bf16⟩
  | .hbm, ⟨5, _⟩ => ⟨S8x256x2048, .bf16⟩
  | .hbm, ⟨6, _⟩ => ⟨S8192x2048, .f32⟩
  | .hbm, ⟨7, _⟩ => ⟨S1x2048, .f32⟩
  | .hbm, ⟨8, _⟩ => ⟨S8192x2048, .bf16⟩
  | .hbm, ⟨9, _⟩ => ⟨S8704x1024, .f32⟩
  | .hbm, ⟨10, _⟩ => ⟨S8704x1024, .f32⟩
  | .hbm, ⟨11, _⟩ => ⟨S8704x4096, .f32⟩
  | .hbm, ⟨12, _⟩ => ⟨S1024x8x256, .bf16⟩
  | .hbm, ⟨13, _⟩ => ⟨S1024x2048, .bf16⟩
  | .hbm, ⟨14, _⟩ => ⟨S1024x2048, .f32⟩
  | .hbm, ⟨15, _⟩ => ⟨S1024x8x256, .bf16⟩
  | .hbm, ⟨16, _⟩ => ⟨S1024x2048, .bf16⟩
  | .hbm, ⟨17, _⟩ => ⟨S1024x2048, .f32⟩
  | .hbm, ⟨18, _⟩ => ⟨S2048x2048, .bf16⟩
  | .hbm, ⟨19, _⟩ => ⟨S2048x2048, .f32⟩
  | .hbm, ⟨20, _⟩ => ⟨S8192x4096, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x1024, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x1024, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S2048x2048, .f32⟩
  | .hbm, ⟨58, _⟩ => ⟨S2048x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S2048x1024, .f32⟩
  | .hbm, ⟨63, _⟩ => ⟨S1024x2048, .f32⟩
  | .hbm, ⟨64, _⟩ => ⟨S8192x1024, .f32⟩
  | .hbm, ⟨65, _⟩ => ⟨S_, .f32⟩
  | .hbm, ⟨66, _⟩ => ⟨S8704x1024, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S2048x1024, .f32⟩
  | .hbm, ⟨71, _⟩ => ⟨S1024x2048, .f32⟩
  | .hbm, ⟨72, _⟩ => ⟨S8192x1024, .f32⟩
  | .hbm, ⟨73, _⟩ => ⟨S_, .f32⟩
  | .hbm, ⟨74, _⟩ => ⟨S8704x1024, .f32⟩
  | .hbm, ⟨75, _⟩ => ⟨S8192x2048, .f32⟩
  | .hbm, ⟨76, _⟩ => ⟨S8192x4096, .f32⟩
  | .hbm, ⟨77, _⟩ => ⟨S_, .f32⟩
  | .hbm, ⟨78, _⟩ => ⟨S8704x4096, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .bf16⟩
  | .hbm, ⟨95, _⟩ => ⟨S8704x4096, .bf16⟩
  | .hbm, ⟨96, _⟩ => ⟨S1024x8x256, .f32⟩
  | .hbm, ⟨97, _⟩ => ⟨S8x1024x256, .f32⟩
  | .hbm, ⟨98, _⟩ => ⟨S8x1024x256, .bf16⟩
  | .hbm, ⟨99, _⟩ => ⟨S1024x8x256, .f32⟩
  | .hbm, ⟨100, _⟩ => ⟨S8x1024x256, .f32⟩
  | .hbm, ⟨101, _⟩ => ⟨S8x1024x256, .bf16⟩
  | .hbm, ⟨102, _⟩ => ⟨S2048x2048, .bf16⟩
  | _, _ => ⟨S8704x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_6 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩

abbrev nD : Nat := 1
abbrev τ : Topo := Topo.v7x

variable {F : FTy → Type} [FloatOps F]
-- ==== Kernel3.lean ====
abbrev S8192x2048 : Shape := ⟨2, ![8192, 2048]⟩
abbrev S16x2048 : Shape := ⟨2, ![16, 2048]⟩
abbrev S1x2048 : Shape := ⟨2, ![1, 2048]⟩
abbrev S8x2048x1538 : Shape := ⟨3, ![8, 2048, 1538]⟩
abbrev S8704x12288 : Shape := ⟨2, ![8704, 12288]⟩
abbrev S8704x128 : Shape := ⟨2, ![8704, 128]⟩
abbrev S2048x12288 : Shape := ⟨2, ![2048, 12288]⟩
abbrev S2048x128 : Shape := ⟨2, ![2048, 128]⟩
abbrev S8x256x1538 : Shape := ⟨3, ![8, 256, 1538]⟩
abbrev S256x12288 : Shape := ⟨2, ![256, 12288]⟩
abbrev S256x128 : Shape := ⟨2, ![256, 128]⟩
abbrev S1x256x1538 : Shape := ⟨3, ![1, 256, 1538]⟩
abbrev S256x1538 : Shape := ⟨2, ![256, 1538]⟩
abbrev S1x256x502 : Shape := ⟨3, ![1, 256, 502]⟩
abbrev S256x502 : Shape := ⟨2, ![256, 502]⟩
abbrev S1x256x16 : Shape := ⟨3, ![1, 256, 16]⟩
abbrev S256x16 : Shape := ⟨2, ![256, 16]⟩
abbrev S1x256x1020 : Shape := ⟨3, ![1, 256, 1020]⟩
abbrev S256x1020 : Shape := ⟨2, ![256, 1020]⟩
abbrev S_ : Shape := ⟨0, ![]⟩
abbrev S496x2048 : Shape := ⟨2, ![496, 2048]⟩
abbrev S512x2048 : Shape := ⟨2, ![512, 2048]⟩
abbrev S8704x2048 : Shape := ⟨2, ![8704, 2048]⟩
abbrev S256x2048 : Shape := ⟨2, ![256, 2048]⟩
abbrev S256 : Shape := ⟨1, ![256]⟩
abbrev S256x1 : Shape := ⟨2, ![256, 1]⟩
abbrev S1088x2048 : Shape := ⟨2, ![1088, 2048]⟩
abbrev S2048x1024 : Shape := ⟨2, ![2048, 1024]⟩
abbrev S1088x1024 : Shape := ⟨2, ![1088, 1024]⟩
abbrev S512x128 : Shape := ⟨2, ![512, 128]⟩
abbrev S12288x2048 : Shape := ⟨2, ![12288, 2048]⟩
abbrev S8704x512 : Shape := ⟨2, ![8704, 512]⟩
abbrev S512x512 : Shape := ⟨2, ![512, 512]⟩
abbrev S128x2048 : Shape := ⟨2, ![128, 2048]⟩
abbrev S128x512 : Shape := ⟨2, ![128, 512]⟩
abbrev S8x1538x2048 : Shape := ⟨3, ![8, 1538, 2048]⟩
abbrev S12288x256 : Shape := ⟨2, ![12288, 256]⟩
abbrev S128x256 : Shape := ⟨2, ![128, 256]⟩
abbrev S8x1538x256 : Shape := ⟨3, ![8, 1538, 256]⟩
abbrev S1538x256 : Shape := ⟨2, ![1538, 256]⟩
abbrev S1x1538x256 : Shape := ⟨3, ![1, 1538, 256]⟩
abbrev S502x256 : Shape := ⟨2, ![502, 256]⟩
abbrev S1x502x256 : Shape := ⟨3, ![1, 502, 256]⟩
abbrev S16x256 : Shape := ⟨2, ![16, 256]⟩
abbrev S1x16x256 : Shape := ⟨3, ![1, 16, 256]⟩
abbrev S1020x256 : Shape := ⟨2, ![1020, 256]⟩
abbrev S1x1020x256 : Shape := ⟨3, ![1, 1020, 256]⟩
abbrev S1024x128 : Shape := ⟨2, ![1024, 128]⟩
abbrev S512x1024 : Shape := ⟨2, ![512, 1024]⟩
abbrev S512x12288 : Shape := ⟨2, ![512, 12288]⟩
abbrev S512x256 : Shape := ⟨2, ![512, 256]⟩

abbrev nBuf : Space → Nat
  | .hbm => 19
  | .vmem => 53
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S8x2048x1538, .bf16⟩
  | .hbm, ⟨4, _⟩ => ⟨S8704x12288, .bf16⟩
  | .hbm, ⟨5, _⟩ => ⟨S8704x128, .bf16⟩
  | .hbm, ⟨6, _⟩ => ⟨S2048x12288, .bf16⟩
  | .hbm, ⟨7, _⟩ => ⟨S2048x128, .bf16⟩
  | .hbm, ⟨8, _⟩ => ⟨S_, .f32⟩
  | .hbm, ⟨9, _⟩ => ⟨S496x2048, .f32⟩
  | .hbm, ⟨10, _⟩ => ⟨S512x2048, .f32⟩
  | .hbm, ⟨11, _⟩ => ⟨S8704x2048, .bf16⟩
  | .hbm, ⟨12, _⟩ => ⟨S8704x12288, .f32⟩
  | .hbm, ⟨13, _⟩ => ⟨S8704x128, .f32⟩
  | .hbm, ⟨14, _⟩ => ⟨S12288x2048, .bf16⟩
  | .hbm, ⟨15, _⟩ => ⟨S128x2048, .bf16⟩
  | .hbm, ⟨16, _⟩ => ⟨S8x1538x2048, .bf16⟩
  | .hbm, ⟨17, _⟩ => ⟨S8704x2048, .f32⟩
  | .hbm, ⟨18, _⟩ => ⟨S8704x2048, .f32⟩
  | .local _ .vmem, ⟨0, _⟩ => ⟨S8x256x1538, .bf16⟩
  | .local _ .vmem, ⟨1, _⟩ => ⟨S8x256x1538, .bf16⟩
  | .local _ .vmem, ⟨2, _⟩ => ⟨S256x12288, .bf16⟩
  | .local _ .vmem, ⟨3, _⟩ => ⟨S256x12288, .bf16⟩
  | .local _ .vmem, ⟨4, _⟩ => ⟨S256x128, .bf16⟩
  | .local _ .vmem, ⟨5, _⟩ => ⟨S256x128, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S1088x2048, .bf16⟩
  | .local _ .vmem, ⟨14, _⟩ => ⟨S1088x2048, .bf16⟩
  | .local _ .vmem, ⟨15, _⟩ => ⟨S2048x1024, .bf16⟩
  | .local _ .vmem, ⟨16, _⟩ => ⟨S2048x1024, .bf16⟩
  | .local _ .vmem, ⟨17, _⟩ => ⟨S1088x1024, .f32⟩
  | .local _ .vmem, ⟨18, _⟩ => ⟨S1088x1024, .f32⟩
  | .local _ .vmem, ⟨19, _⟩ => ⟨S512x2048, .bf16⟩
  | .local _ .vmem, ⟨20, _⟩ => ⟨S512x2048, .bf16⟩
  | .local _ .vmem, ⟨21, _⟩ => ⟨S2048x128, .bf16⟩
  | .local _ .vmem, ⟨22, _⟩ => ⟨S512x128, .f32⟩
  | .local _ .vmem, ⟨23, _⟩ => ⟨S512x128, .f32⟩
  | .local _ .vmem, ⟨24, _⟩ => ⟨S8704x512, .bf16⟩
  | .local _ .vmem, ⟨25, _⟩ => ⟨S8704x512, .bf16⟩
  | .local _ .vmem, ⟨26, _⟩ => ⟨S8704x512, .bf16⟩
  | .local _ .vmem, ⟨27, _⟩ => ⟨S8704x512, .bf16⟩
  | .local _ .vmem, ⟨28, _⟩ => ⟨S512x512, .bf16⟩
  | .local _ .vmem, ⟨29, _⟩ => ⟨S512x512, .bf16⟩
  | .local _ .vmem, ⟨30, _⟩ => ⟨S8704x128, .bf16⟩
  | .local _ .vmem, ⟨31, _⟩ => ⟨S8704x512, .bf16⟩
  | .local _ .vmem, ⟨32, _⟩ => ⟨S8704x512, .bf16⟩
  | .local _ .vmem, ⟨33, _⟩ => ⟨S128x512, .bf16⟩
  | .local _ .vmem, ⟨34, _⟩ => ⟨S128x512, .bf16⟩
  | .local _ .vmem, ⟨35, _⟩ => ⟨S12288x256, .bf16⟩
  | .local _ .vmem, ⟨36, _⟩ => ⟨S12288x256, .bf16⟩
  | .local _ .vmem, ⟨37, _⟩ => ⟨S128x256, .bf16⟩
  | .local _ .vmem, ⟨38, _⟩ => ⟨S128x256, .bf16⟩
  | .local _ .vmem, ⟨39, _⟩ => ⟨S8x1538x256, .bf16⟩
  | .local _ .vmem, ⟨40, _⟩ => ⟨S8x1538x256, .bf16⟩
  | .local _ .vmem, ⟨41, _⟩ => ⟨S512x128, .bf16⟩
  | .local _ .vmem, ⟨42, _⟩ => ⟨S512x128, .bf16⟩
  | .local _ .vmem, ⟨43, _⟩ => ⟨S1024x128, .bf16⟩
  | .local _ .vmem, ⟨44, _⟩ => ⟨S1024x128, .bf16⟩
  | .local _ .vmem, ⟨45, _⟩ => ⟨S512x1024, .f32⟩
  | .local _ .vmem, ⟨46, _⟩ => ⟨S512x1024, .f32⟩
  | .local _ .vmem, ⟨47, _⟩ => ⟨S512x12288, .bf16⟩
  | .local _ .vmem, ⟨48, _⟩ => ⟨S512x12288, .bf16⟩
  | .local _ .vmem, ⟨49, _⟩ => ⟨S256x12288, .bf16⟩
  | .local _ .vmem, ⟨50, _⟩ => ⟨S256x12288, .bf16⟩
  | .local _ .vmem, ⟨51, _⟩ => ⟨S512x256, .f32⟩
  | .local _ .vmem, ⟨52, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg1_1 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg2_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg1_1 : Ref sig .tc := ⟨.vmem, 50, rfl⟩
abbrev cc8_stg2_0 : Ref sig .tc := ⟨.vmem, 51, rfl⟩
abbrev cc8_stg2_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem2_1 : DmaSem sig := 46
abbrev cc8_sem0_0 : DmaSem sig := 47
abbrev cc8_sem0_1 : DmaSem sig := 48
abbrev cc8_sem1_0 : DmaSem sig := 49
abbrev cc8_sem1_1 : DmaSem sig := 50
abbrev cc8_sem2_0 : DmaSem sig := 51
abbrev cc8_sem2_1 : DmaSem sig := 52

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1538 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x12288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![34], ![false]⟩

def cc1_transform_0 (i : grid1.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![12, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1088x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1088x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 17, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S2048x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 24, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S8704x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S8704x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg0 c0_i32_0
  let c0_i32_1 : BitVec 32 := 0#32
  ![v0.toNat, v1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 1 → Memref sig .tc .vmem S8704x128 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, true, true]

abbrev stage5_1 : Fin 2 → Memref sig .tc .vmem S8704x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S128x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let c0_i32 : BitVec 32 := 0#32
  let c0_i32_0 : BitVec 32 := 0#32
  ![c0_i32.toNat, arg0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage6_0 : Fin 2 → Memref sig .tc .vmem S12288x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S128x256 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8x1538x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨3, ![2, 17, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage7_0 : Fin 2 → Memref sig .tc .vmem S512x128 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true, true]

abbrev stage7_1 : Fin 2 → Memref sig .tc .vmem S1024x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S512x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![17, 8, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg2 c0_i32_0
  let c0_i32_1 : BitVec 32 := 0#32
  ![v0.toNat, v1.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S512x12288 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S256x12288 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S512x256 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]
-- ==== Reference3Ideal.lean ====
abbrev S8192x2048 : Shape := ⟨2, ![8192, 2048]⟩
abbrev S16x2048 : Shape := ⟨2, ![16, 2048]⟩
abbrev S1x2048 : Shape := ⟨2, ![1, 2048]⟩
abbrev S8x2048x1538 : Shape := ⟨3, ![8, 2048, 1538]⟩
abbrev S8704x12288 : Shape := ⟨2, ![8704, 12288]⟩
abbrev S8704x128 : Shape := ⟨2, ![8704, 128]⟩
abbrev S8208x2048 : Shape := ⟨2, ![8208, 2048]⟩
abbrev S_ : Shape := ⟨0, ![]⟩
abbrev S8208 : Shape := ⟨1, ![8208]⟩
abbrev S8208x1 : Shape := ⟨2, ![8208, 1]⟩
abbrev S8704x2048 : Shape := ⟨2, ![8704, 2048]⟩
abbrev S2048x8x1538 : Shape := ⟨3, ![2048, 8, 1538]⟩
abbrev S2048x12304 : Shape := ⟨2, ![2048, 12304]⟩
abbrev S2048x8192 : Shape := ⟨2, ![2048, 8192]⟩
abbrev S2048x4096 : Shape := ⟨2, ![2048, 4096]⟩
abbrev S2048x12288 : Shape := ⟨2, ![2048, 12288]⟩
abbrev S2048x16 : Shape := ⟨2, ![2048, 16]⟩
abbrev S8704x16 : Shape := ⟨2, ![8704, 16]⟩
abbrev S12288x2048 : Shape := ⟨2, ![12288, 2048]⟩
abbrev S12304x2048 : Shape := ⟨2, ![12304, 2048]⟩
abbrev S8x1538x2048 : Shape := ⟨3, ![8, 1538, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S1x2048, .f32⟩
  | .hbm, ⟨3, _⟩ => ⟨S8x2048x1538, .bf16⟩
  | .hbm, ⟨4, _⟩ => ⟨S8704x12288, .bf16⟩
  | .hbm, ⟨5, _⟩ => ⟨S8704x128, .bf16⟩
  | .hbm, ⟨6, _⟩ => ⟨S8208x2048, .f32⟩
  | .hbm, ⟨7, _⟩ => ⟨S8208x2048, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x2048, .f32⟩
  | .hbm, ⟨19, _⟩ => ⟨S8208x2048, .f32⟩
  | .hbm, ⟨20, _⟩ => ⟨S8208x2048, .f32⟩
  | .hbm, ⟨21, _⟩ => ⟨S8208x2048, .f32⟩
  | .hbm, ⟨22, _⟩ => ⟨S_, .i32⟩
  | .hbm, ⟨23, _⟩ => ⟨S_, .f32⟩
  | .hbm, ⟨24, _⟩ => ⟨S8704x2048, .f32⟩
  | .hbm, ⟨25, _⟩ => ⟨S2048x8x1538, .bf16⟩
  | .hbm, ⟨26, _⟩ => ⟨S2048x12304, .bf16⟩
  | .hbm, ⟨27, _⟩ => ⟨S2048x12304, .f32⟩
  | .hbm, ⟨28, _⟩ => ⟨S2048x8192, .f32⟩
  | .hbm, ⟨29, _⟩ => ⟨S2048x4096, .f32⟩
  | .hbm, ⟨30, _⟩ => ⟨S2048x12288, .f32⟩
  | .hbm, ⟨31, _⟩ => ⟨S8704x12288, .f32⟩
  | .hbm, ⟨32, _⟩ => ⟨S2048x16, .f32⟩
  | .hbm, ⟨33, _⟩ => ⟨S8704x16, .f32⟩
  | .hbm, ⟨34, _⟩ => ⟨S8704x12288, .f32⟩
  | .hbm, ⟨35, _⟩ => ⟨S12288x2048, .f32⟩
  | .hbm, ⟨36, _⟩ => ⟨S2048x12288, .f32⟩
  | .hbm, ⟨37, _⟩ => ⟨S8704x2048, .f32⟩
  | .hbm, ⟨38, _⟩ => ⟨S8704x128, .f32⟩
  | .hbm, ⟨39, _⟩ => ⟨S8704x16, .f32⟩
  | .hbm, ⟨40, _⟩ => ⟨S16x2048, .f32⟩
  | .hbm, ⟨41, _⟩ => ⟨S2048x16, .f32⟩
  | .hbm, ⟨42, _⟩ => ⟨S8704x2048, .f32⟩
  | .hbm, ⟨43, _⟩ => ⟨S2048x8192, .f32⟩
  | .hbm, ⟨44, _⟩ => ⟨S2048x4096, .f32⟩
  | .hbm, ⟨45, _⟩ => ⟨S2048x12304, .f32⟩
  | .hbm, ⟨46, _⟩ => ⟨S_, .i32⟩
  | .hbm, ⟨47, _⟩ => ⟨S_, .f32⟩
  | .hbm, ⟨48, _⟩ => ⟨S8704x128, .f32⟩
  | .hbm, ⟨49, _⟩ => ⟨S12304x2048, .f32⟩
  | .hbm, ⟨50, _⟩ => ⟨S8x1538x2048, .f32⟩
  | .hbm, ⟨51, _⟩ => ⟨S8x1538x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_call1_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S1x128, .f32⟩
  | .hbm, ⟨6, _⟩ => ⟨S8192x2048, .f32⟩
  | .hbm, ⟨7, _⟩ => ⟨S8192x2048, .bf16⟩
  | .hbm, ⟨8, _⟩ => ⟨S1x2048, .f32⟩
  | .hbm, ⟨9, _⟩ => ⟨S1x1, .f32⟩
  | .hbm, ⟨10, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x128, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v75 : BitVec 1 := Scalar.cmpi .eq arg0 c0_i32
  let v76 : BitVec 32 := Scalar.extui v75
  let c0_i32_27 : BitVec 32 := 0#32
  let v77 : BitVec 1 := Scalar.cmpi .ne v76 c0_i32_27
  v77

def k0_cond2 (i : grid0.Coords) : BitVec 1 :=
  let arg0 : BitVec 32 := BitVec.ofNat 32 (i 0).val
  let c0_i32_28 : BitVec 32 := 0#32
  let v78 : BitVec 1 := Scalar.cmpi .sgt arg0 c0_i32_28
  let v79 : BitVec 32 := Scalar.extui v78
  let c0_i32_29 : BitVec 32 := 0#32
  let v80 : BitVec 1 := Scalar.cmpi .ne v79 c0_i32_29
  v80

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference4Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S2048, .f32⟩
  | .hbm, ⟨56, _⟩ => ⟨S8192x2048, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x2048, .f32⟩
  | .hbm, ⟨61, _⟩ => ⟨S8192x2048, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .bf16⟩
  | .hbm, ⟨74, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_cst_8 : Ref sig .tc := ⟨.hbm, 39, rfl⟩
abbrev main_cst_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_11 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Kernel5.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32_19 : BitVec 32 := 0#32
  let v44 : BitVec 1 := Scalar.cmpi .sgt arg0 c0_i32_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel6.lean ====
abbrev S2x1024 : Shape := ⟨2, ![2, 1024]⟩
abbrev S1x2048 : Shape := ⟨2, ![1, 2048]⟩
abbrev S1x128 : Shape := ⟨2, ![1, 128]⟩
abbrev S1x8 : Shape := ⟨2, ![1, 8]⟩
abbrev S2048 : Shape := ⟨1, ![2048]⟩
abbrev S16x256 : Shape := ⟨2, ![16, 256]⟩
abbrev S1x4x384 : Shape := ⟨3, ![1, 4, 384]⟩
abbrev S_ : Shape := ⟨0, ![]⟩
abbrev S16x128 : Shape := ⟨2, ![16, 128]⟩
abbrev S128 : Shape := ⟨1, ![128]⟩
abbrev S1024 : Shape := ⟨1, ![1024]⟩
abbrev S8x128 : Shape := ⟨2, ![8, 128]⟩
abbrev S8 : Shape := ⟨1, ![8]⟩
abbrev S4096 : Shape := ⟨1, ![4096]⟩
abbrev S32x128 : Shape := ⟨2, ![32, 128]⟩
abbrev S1536 : Shape := ⟨1, ![1536]⟩
abbrev S144x128 : Shape := ⟨2, ![144, 128]⟩

abbrev nBuf : Space → Nat
  | .hbm => 394
  | .vmem => 7
  | .smem => 0
  | _ => 0

abbrev hbmTy0_0 (i : Nat) : BufTy := match i % 128 with
  | 0 => ⟨S2x1024, .f32⟩
  | 1 => ⟨S1x2048, .f32⟩
  | 2 => ⟨S1x128, .f32⟩
  | 3 => ⟨S1x8, .f32⟩
  | 4 => ⟨S1x8, .f32⟩
  | 5 => ⟨S1x128, .f32⟩
  | 6 => ⟨S1x2048, .f32⟩
  | 7 => ⟨S2048, .f32⟩
  | 8 => ⟨S16x256, .f32⟩
  | 9 => ⟨S1x4x384, .f32⟩
  | 10 => ⟨S2x1024, .f32⟩
  | 11 => ⟨S1x2048, .f32⟩
  | 12 => ⟨S1x128, .f32⟩
  | 13 => ⟨S1x8, .f32⟩
  | 14 => ⟨S1x8, .f32⟩
  | 15 => ⟨S1x128, .f32⟩
  | 16 => ⟨S1x2048, .f32⟩
  | 17 => ⟨S2048, .f32⟩
  | 18 => ⟨S16x256, .f32⟩
  | 19 => ⟨S1x4x384, .f32⟩
  | 20 => ⟨S2x1024, .f32⟩
  | 21 => ⟨S1x2048, .f32⟩
  | 22 => ⟨S1x128, .f32⟩
  | 23 => ⟨S1x8, .f32⟩
  | 24 => ⟨S1x8, .f32⟩
  | 25 => ⟨S1x128, .f32⟩
  | 26 => ⟨S1x2048, .f32⟩
  | 27 => ⟨S2048, .f32⟩
  | 28 => ⟨S16x256, .f32⟩
  | 29 => ⟨S1x4x384, .f32⟩
  | 30 => ⟨S2x1024, .f32⟩
  | 31 => ⟨S1x2048, .f32⟩
  | 32 => ⟨S1x128, .f32⟩
  | 33 => ⟨S1x8, .f32⟩
  | 34 => ⟨S1x8, .f32⟩
  | 35 => ⟨S1x128, .f32⟩
  | 36 => ⟨S1x2048, .f32⟩
  | 37 => ⟨S2048, .f32⟩
  | 38 => ⟨S16x256, .f32⟩
  | 39 => ⟨S1x4x384, .f32⟩
  | 40 => ⟨S2048, .f32⟩
  | 41 => ⟨S_, .i32⟩
  | 42 => ⟨S_, .f32⟩
  | 43 => ⟨S2048, .f32⟩
  | 44 => ⟨S16x128, .f32⟩
  | 45 => ⟨S2048, .f32⟩
  | 46 => ⟨S_, .i32⟩
  | 47 => ⟨S_, .f32⟩
  | 48 => ⟨S2048, .f32⟩
  | 49 => ⟨S16x128, .f32⟩
  | 50 => ⟨S128, .f32⟩
  | 51 => ⟨S_, .i32⟩
  | 52 => ⟨S_, .f32⟩
  | 53 => ⟨S1024, .f32⟩
  | 54 => ⟨S8x128, .f32⟩
  | 55 => ⟨S8, .f32⟩
  | 56 => ⟨S_, .i32⟩
  | 57 => ⟨S_, .f32⟩
  | 58 => ⟨S1024, .f32⟩
  | 59 => ⟨S8x128, .f32⟩
  | 60 => ⟨S8, .f32⟩
  | 61 => ⟨S_, .i32⟩
  | 62 => ⟨S_, .f32⟩
  | 63 => ⟨S1024, .f32⟩
  | 64 => ⟨S8x128, .f32⟩
  | 65 => ⟨S128, .f32⟩
  | 66 => ⟨S_, .i32⟩
  | 67 => ⟨S_, .f32⟩
  | 68 => ⟨S1024, .f32⟩
  | 69 => ⟨S8x128, .f32⟩
  | 70 => ⟨S2048, .f32⟩
  | 71 => ⟨S_, .i32⟩
  | 72 => ⟨S_, .f32⟩
  | 73 => ⟨S2048, .f32⟩
  | 74 => ⟨S16x128, .f32⟩
  | 75 => ⟨S_, .i32⟩
  | 76 => ⟨S_, .f32⟩
  | 77 => ⟨S2048, .f32⟩
  | 78 => ⟨S16x128, .f32⟩
  | 79 => ⟨S4096, .f32⟩
  | 80 => ⟨S_, .i32⟩
  | 81 => ⟨S_, .f32⟩
  | 82 => ⟨S4096, .f32⟩
  | 83 => ⟨S32x128, .f32⟩
  | 84 => ⟨S1536, .f32⟩
  | 85 => ⟨S_, .i32⟩
  | 86 => ⟨S_, .f32⟩
  | 87 => ⟨S2048, .f32⟩
  | 88 => ⟨S16x128, .f32⟩
  | 89 => ⟨S2048, .f32⟩
  | 90 => ⟨S_, .i32⟩
  | 91 => ⟨S_, .f32⟩
  | 92 => ⟨S2048, .f32⟩
  | 93 => ⟨S16x128, .f32⟩
  | 94 => ⟨S2048, .f32⟩
  | 95 => ⟨S_, .i32⟩
  | 96 => ⟨S_, .f32⟩
  | 97 => ⟨S2048, .f32⟩
  | 98 => ⟨S16x128, .f32⟩
  | 99 => ⟨S128, .f32⟩
  | 100 => ⟨S_, .i32⟩
  | 101 => ⟨S_, .f32⟩
  | 102 => ⟨S1024, .f32⟩
  | 103 => ⟨S8x128, .f32⟩
  | 104 => ⟨S8, .f32⟩
  | 105 => ⟨S_, .i32⟩
  | 106 => ⟨S_, .f32⟩
  | 107 => ⟨S1024, .f32⟩
  | 108 => ⟨S8x128, .f32⟩
  | 109 => ⟨S8, .f32⟩
  | 110 => ⟨S_, .i32⟩
  | 111 => ⟨S_, .f32⟩
  | 112 => ⟨S1024, .f32⟩
  | 113 => ⟨S8x128, .f32⟩
  | 114 => ⟨S128, .f32⟩
  | 115 => ⟨S_, .i32⟩
  | 116 => ⟨S_, .f32⟩
  | 117 => ⟨S1024, .f32⟩
  | 118 => ⟨S8x128, .f32⟩
  | 119 => ⟨S2048, .f32⟩
  | 120 => ⟨S_, .i32⟩
  | 121 => ⟨S_, .f32⟩
  | 122 => ⟨S2048, .f32⟩
  | 123 => ⟨S16x128, .f32⟩
  | 124 => ⟨S_, .i32⟩
  | 125 => ⟨S_, .f32⟩
  | 126 => ⟨S2048, .f32⟩
  | 127 => ⟨S16x128, .f32⟩
  | _ => ⟨S2x1024, .f32⟩

abbrev hbmTy0_1 (i : Nat) : BufTy := match i % 128 with
  | 0 => ⟨S4096, .f32⟩
  | 1 => ⟨S_, .i32⟩
  | 2 => ⟨S_, .f32⟩
  | 3 => ⟨S4096, .f32⟩
  | 4 => ⟨S32x128, .f32⟩
  | 5 => ⟨S1536, .f32⟩
  | 6 => ⟨S_, .i32⟩
  | 7 => ⟨S_, .f32⟩
  | 8 => ⟨S2048, .f32⟩
  | 9 => ⟨S16x128, .f32⟩
  | 10 => ⟨S144x128, .f32⟩
  | 11 => ⟨S2048, .f32⟩
  | 12 => ⟨S_, .i32⟩
  | 13 => ⟨S_, .f32⟩
  | 14 => ⟨S2048, .f32⟩
  | 15 => ⟨S16x128, .f32⟩
  | 16 => ⟨S2048, .f32⟩
  | 17 => ⟨S_, .i32⟩
  | 18 => ⟨S_, .f32⟩
  | 19 => ⟨S2048, .f32⟩
  | 20 => ⟨S16x128, .f32⟩
  | 21 => ⟨S128, .f32⟩
  | 22 => ⟨S_, .i32⟩
  | 23 => ⟨S_, .f32⟩
  | 24 => ⟨S1024, .f32⟩
  | 25 => ⟨S8x128, .f32⟩
  | 26 => ⟨S8, .f32⟩
  | 27 => ⟨S_, .i32⟩
  | 28 => ⟨S_, .f32⟩
  | 29 => ⟨S1024, .f32⟩
  | 30 => ⟨S8x128, .f32⟩
  | 31 => ⟨S8, .f32⟩
  | 32 => ⟨S_, .i32⟩
  | 33 => ⟨S_, .f32⟩
  | 34 => ⟨S1024, .f32⟩
  | 35 => ⟨S8x128, .f32⟩
  | 36 => ⟨S128, .f32⟩
  | 37 => ⟨S_, .i32⟩
  | 38 => ⟨S_, .f32⟩
  | 39 => ⟨S1024, .f32⟩
  | 40 => ⟨S8x128, .f32⟩
  | 41 => ⟨S2048, .f32⟩
  | 42 => ⟨S_, .i32⟩
  | 43 => ⟨S_, .f32⟩
  | 44 => ⟨S2048, .f32⟩
  | 45 => ⟨S16x128, .f32⟩
  | 46 => ⟨S_, .i32⟩
  | 47 => ⟨S_, .f32⟩
  | 48 => ⟨S2048, .f32⟩
  | 49 => ⟨S16x128, .f32⟩
  | 50 => ⟨S4096, .f32⟩
  | 51 => ⟨S_, .i32⟩
  | 52 => ⟨S_, .f32⟩
  | 53 => ⟨S4096, .f32⟩
  | 54 => ⟨S32x128, .f32⟩
  | 55 => ⟨S1536, .f32⟩
  | 56 => ⟨S_, .i32⟩
  | 57 => ⟨S_, .f32⟩
  | 58 => ⟨S2048, .f32⟩
  | 59 => ⟨S16x128, .f32⟩
  | 60 => ⟨S144x128, .f32⟩
  | 61 => ⟨S2048, .f32⟩
  | 62 => ⟨S_, .i32⟩
  | 63 => ⟨S_, .f32⟩
  | 64 => ⟨S2048, .f32⟩
  | 65 => ⟨S16x128, .f32⟩
  | 66 => ⟨S2048, .f32⟩
  | 67 => ⟨S_, .i32⟩
  | 68 => ⟨S_, .f32⟩
  | 69 => ⟨S2048, .f32⟩
  | 70 => ⟨S16x128, .f32⟩
  | 71 => ⟨S128, .f32⟩
  | 72 => ⟨S_, .i32⟩
  | 73 => ⟨S_, .f32⟩
  | 74 => ⟨S1024, .f32⟩
  | 75 => ⟨S8x128, .f32⟩
  | 76 => ⟨S8, .f32⟩
  | 77 => ⟨S_, .i32⟩
  | 78 => ⟨S_, .f32⟩
  | 79 => ⟨S1024, .f32⟩
  | 80 => ⟨S8x128, .f32⟩
  | 81 => ⟨S8, .f32⟩
  | 82 => ⟨S_, .i32⟩
  | 83 => ⟨S_, .f32⟩
  | 84 => ⟨S1024, .f32⟩
  | 85 => ⟨S8x128, .f32⟩
  | 86 => ⟨S128, .f32⟩
  | 87 => ⟨S_, .i32⟩
  | 88 => ⟨S_, .f32⟩
  | 89 => ⟨S1024, .f32⟩
  | 90 => ⟨S8x128, .f32⟩
  | 91 => ⟨S2048, .f32⟩
  | 92 => ⟨S_, .i32⟩
  | 93 => ⟨S_, .f32⟩
  | 94 => ⟨S2048, .f32⟩
  | 95 => ⟨S16x128, .f32⟩
  | 96 => ⟨S_, .i32⟩
  | 97 => ⟨S_, .f32⟩
  | 98 => ⟨S2048, .f32⟩
  | 99 => ⟨S16x128, .f32⟩
  | 100 => ⟨S4096, .f32⟩
  | 101 => ⟨S_, .i32⟩
  | 102 => ⟨S_, .f32⟩
  | 103 => ⟨S4096, .f32⟩
  | 104 => ⟨S32x128, .f32⟩
  | 105 => ⟨S1536, .f32⟩
  | 106 => ⟨S_, .i32⟩
  | 107 => ⟨S_, .f32⟩
  | 108 => ⟨S2048, .f32⟩
  | 109 => ⟨S16x128, .f32⟩
  | 110 => ⟨S144x128, .f32⟩
  | 111 => ⟨S2048, .f32⟩
  | 112 => ⟨S_, .i32⟩
  | 113 => ⟨S_, .f32⟩
  | 114 => ⟨S2048, .f32⟩
  | 115 => ⟨S16x128, .f32⟩
  | 116 => ⟨S2048, .f32⟩
  | 117 => ⟨S_, .i32⟩
  | 118 => ⟨S_, .f32⟩
  | 119 => ⟨S2048, .f32⟩
  | 120 => ⟨S16x128, .f32⟩
  | 121 => ⟨S128, .f32⟩
  | 122 => ⟨S_, .i32⟩
  | 123 => ⟨S_, .f32⟩
  | 124 => ⟨S1024, .f32⟩
  | 125 => ⟨S8x128, .f32⟩
  | 126 => ⟨S8, .f32⟩
  | 127 => ⟨S_, .i32⟩
  | _ => ⟨S2x1024, .f32⟩

abbrev hbmTy0_2 (i : Nat) : BufTy := match i % 128 with
  | 0 => ⟨S_, .f32⟩
  | 1 => ⟨S1024, .f32⟩
  | 2 => ⟨S8x128, .f32⟩
  | 3 => ⟨S8, .f32⟩
  | 4 => ⟨S_, .i32⟩
  | 5 => ⟨S_, .f32⟩
  | 6 => ⟨S1024, .f32⟩
  | 7 => ⟨S8x128, .f32⟩
  | 8 => ⟨S128, .f32⟩
  | 9 => ⟨S_, .i32⟩
  | 10 => ⟨S_, .f32⟩
  | 11 => ⟨S1024, .f32⟩
  | 12 => ⟨S8x128, .f32⟩
  | 13 => ⟨S2048, .f32⟩
  | 14 => ⟨S_, .i32⟩
  | 15 => ⟨S_, .f32⟩
  | 16 => ⟨S2048, .f32⟩
  | 17 => ⟨S16x128, .f32⟩
  | 18 => ⟨S_, .i32⟩
  | 19 => ⟨S_, .f32⟩
  | 20 => ⟨S2048, .f32⟩
  | 21 => ⟨S16x128, .f32⟩
  | 22 => ⟨S4096, .f32⟩
  | 23 => ⟨S_, .i32⟩
  | 24 => ⟨S_, .f32⟩
  | 25 => ⟨S4096, .f32⟩
  | 26 => ⟨S32x128, .f32⟩
  | 27 => ⟨S1536, .f32⟩
  | 28 => ⟨S_, .i32⟩
  | 29 => ⟨S_, .f32⟩
  | 30 => ⟨S2048, .f32⟩
  | 31 => ⟨S16x128, .f32⟩
  | 32 => ⟨S144x128, .f32⟩
  | 33 => ⟨S144x128, .f32⟩
  | 34 => ⟨S144x128, .f32⟩
  | 35 => ⟨S144x128, .f32⟩
  | 36 => ⟨S16x128, .f32⟩
  | 37 => ⟨S2048, .f32⟩
  | 38 => ⟨S2x1024, .f32⟩
  | 39 => ⟨S16x128, .f32⟩
  | 40 => ⟨S2048, .f32⟩
  | 41 => ⟨S2x1024, .f32⟩
  | 42 => ⟨S16x128, .f32⟩
  | 43 => ⟨S2048, .f32⟩
  | 44 => ⟨S2x1024, .f32⟩
  | 45 => ⟨S16x128, .f32⟩
  | 46 => ⟨S2048, .f32⟩
  | 47 => ⟨S1x2048, .f32⟩
  | 48 => ⟨S16x128, .f32⟩
  | 49 => ⟨S2048, .f32⟩
  | 50 => ⟨S1x2048, .f32⟩
  | 51 => ⟨S16x128, .f32⟩
  | 52 => ⟨S2048, .f32⟩
  | 53 => ⟨S1x2048, .f32⟩
  | 54 => ⟨S8x128, .f32⟩
  | 55 => ⟨S1024, .f32⟩
  | 56 => ⟨S128, .f32⟩
  | 57 => ⟨S1x128, .f32⟩
  | 58 => ⟨S8x128, .f32⟩
  | 59 => ⟨S1024, .f32⟩
  | 60 => ⟨S128, .f32⟩
  | 61 => ⟨S1x128, .f32⟩
  | 62 => ⟨S8x128, .f32⟩
  | 63 => ⟨S1024, .f32⟩
  | 64 => ⟨S128, .f32⟩
  | 65 => ⟨S1x128, .f32⟩
  | 66 => ⟨S8x128, .f32⟩
  | 67 => ⟨S1024, .f32⟩
  | 68 => ⟨S8, .f32⟩
  | 69 => ⟨S1x8, .f32⟩
  | 70 => ⟨S8x128, .f32⟩
  | 71 => ⟨S1024, .f32⟩
  | 72 => ⟨S8, .f32⟩
  | 73 => ⟨S1x8, .f32⟩
  | 74 => ⟨S8x128, .f32⟩
  | 75 => ⟨S1024, .f32⟩
  | 76 => ⟨S8, .f32⟩
  | 77 => ⟨S1x8, .f32⟩
  | 78 => ⟨S8x128, .f32⟩
  | 79 => ⟨S1024, .f32⟩
  | 80 => ⟨S8, .f32⟩
  | 81 => ⟨S1x8, .f32⟩
  | 82 => ⟨S8x128, .f32⟩
  | 83 => ⟨S1024, .f32⟩
  | 84 => ⟨S8, .f32⟩
  | 85 => ⟨S1x8, .f32⟩
  | 86 => ⟨S8x128, .f32⟩
  | 87 => ⟨S1024, .f32⟩
  | 88 => ⟨S8, .f32⟩
  | 89 => ⟨S1x8, .f32⟩
  | 90 => ⟨S8x128, .f32⟩
  | 91 => ⟨S1024, .f32⟩
  | 92 => ⟨S128, .f32⟩
  | 93 => ⟨S1x128, .f32⟩
  | 94 => ⟨S8x128, .f32⟩
  | 95 => ⟨S1024, .f32⟩
  | 96 => ⟨S128, .f32⟩
  | 97 => ⟨S1x128, .f32⟩
  | 98 => ⟨S8x128, .f32⟩
  | 99 => ⟨S1024, .f32⟩
  | 100 => ⟨S128, .f32⟩
  | 101 => ⟨S1x128, .f32⟩
  | 102 => ⟨S16x128, .f32⟩
  | 103 => ⟨S2048, .f32⟩
  | 104 => ⟨S1x2048, .f32⟩
  | 105 => ⟨S16x128, .f32⟩
  | 106 => ⟨S2048, .f32⟩
  | 107 => ⟨S1x2048, .f32⟩
  | 108 => ⟨S16x128, .f32⟩
  | 109 => ⟨S2048, .f32⟩
  | 110 => ⟨S1x2048, .f32⟩
  | 111 => ⟨S16x128, .f32⟩
  | 112 => ⟨S2048, .f32⟩
  | 113 => ⟨S16x128, .f32⟩
  | 114 => ⟨S2048, .f32⟩
  | 115 => ⟨S16x128, .f32⟩
  | 116 => ⟨S2048, .f32⟩
  | 117 => ⟨S32x128, .f32⟩
  | 118 => ⟨S4096, .f32⟩
  | 119 => ⟨S16x256, .f32⟩
  | 120 => ⟨S32x128, .f32⟩
  | 121 => ⟨S4096, .f32⟩
  | 122 => ⟨S16x256, .f32⟩
  | 123 => ⟨S32x128, .f32⟩
  | 124 => ⟨S4096, .f32⟩
  | 125 => ⟨S16x256, .f32⟩
  | 126 => ⟨S16x128, .f32⟩
  | 127 => ⟨S2048, .f32⟩
  | _ => ⟨S2x1024, .f32⟩

abbrev hbmTy0_3 (i : Nat) : BufTy := match i % 128 with
  | 0 => ⟨S1536, .f32⟩
  | 1 => ⟨S1x4x384, .f32⟩
  | 2 => ⟨S16x128, .f32⟩
  | 3 => ⟨S2048, .f32⟩
  | 4 => ⟨S1536, .f32⟩
  | 5 => ⟨S1x4x384, .f32⟩
  | 6 => ⟨S16x128, .f32⟩
  | 7 => ⟨S2048, .f32⟩
  | 8 => ⟨S1536, .f32⟩
  | 9 => ⟨S1x4x384, .f32⟩
  | _ => ⟨S2x1024, .f32⟩

abbrev hbmTy (i : Nat) : BufTy := match i / 128 with
  | 0 => hbmTy0_0 i
  | 1 => hbmTy0_1 i
  | 2 => hbmTy0_2 i
  | 3 => hbmTy0_3 i
  | _ => ⟨S2x1024, .f32⟩

abbrev bufTy : (tb : Table) → Fin (tcTables nBuf tb) → BufTy
  | .hbm, ⟨i, _⟩ => hbmTy i
  | .local _ .vmem, ⟨0, _⟩ => ⟨S144x128, .f32⟩
  | .local _ .vmem, ⟨1, _⟩ => ⟨S144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_c : Ref sig .tc := ⟨.hbm, 41, rfl⟩
abbrev main_call0_v0 : Ref sig .tc := ⟨.hbm, 42, rfl⟩
abbrev main_v1 : Ref sig .tc := ⟨.hbm, 43, rfl⟩
abbrev main_v2 : Ref sig .tc := ⟨.hbm, 44, rfl⟩
abbrev main_v3 : Ref sig .tc := ⟨.hbm, 45, rfl⟩
abbrev main_c_0 : Ref sig .tc := ⟨.hbm, 46, rfl⟩
abbrev main_call1_v0 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_c_1 : Ref sig .tc := ⟨.hbm, 51, rfl⟩
abbrev main_call2_v0 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_c_2 : Ref sig .tc := ⟨.hbm, 56, rfl⟩
abbrev main_call3_v0 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_c_3 : Ref sig .tc := ⟨.hbm, 61, rfl⟩
abbrev main_call4_v0 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_c_4 : Ref sig .tc := ⟨.hbm, 66, rfl⟩
abbrev main_call5_v0 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_c_5 : Ref sig .tc := ⟨.hbm, 71, rfl⟩
abbrev main_call6_v0 : Ref sig .tc := ⟨.hbm, 72, rfl⟩
abbrev main_v19 : Ref sig .tc := ⟨.hbm, 73, rfl⟩
abbrev main_v20 : Ref sig .tc := ⟨.hbm, 74, rfl⟩
abbrev main_c_6 : Ref sig .tc := ⟨.hbm, 75, rfl⟩
abbrev main_call7_v0 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_c_7 : Ref sig .tc := ⟨.hbm, 80, rfl⟩
abbrev main_call8_v0 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_c_8 : Ref sig .tc := ⟨.hbm, 85, rfl⟩
abbrev main_call9_v0 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_c_9 : Ref sig .tc := ⟨.hbm, 90, rfl⟩
abbrev main_call10_v0 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_c_10 : Ref sig .tc := ⟨.hbm, 95, rfl⟩
abbrev main_call11_v0 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_c_11 : Ref sig .tc := ⟨.hbm, 100, rfl⟩
abbrev main_call12_v0 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_c_12 : Ref sig .tc := ⟨.hbm, 105, rfl⟩
abbrev main_call13_v0 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_c_13 : Ref sig .tc := ⟨.hbm, 110, rfl⟩
abbrev main_call14_v0 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_c_14 : Ref sig .tc := ⟨.hbm, 115, rfl⟩
abbrev main_call15_v0 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_c_15 : Ref sig .tc := ⟨.hbm, 120, rfl⟩
abbrev main_call16_v0 : Ref sig .tc := ⟨.hbm, 121, rfl⟩
abbrev main_v48 : Ref sig .tc := ⟨.hbm, 122, rfl⟩
abbrev main_v49 : Ref sig .tc := ⟨.hbm, 123, rfl⟩
abbrev main_c_16 : Ref sig .tc := ⟨.hbm, 124, rfl⟩
abbrev main_call17_v0 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_c_17 : Ref sig .tc := ⟨.hbm, 129, rfl⟩
abbrev main_call18_v0 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_c_18 : Ref sig .tc := ⟨.hbm, 134, rfl⟩
abbrev main_call19_v0 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_c_19 : Ref sig .tc := ⟨.hbm, 140, rfl⟩
abbrev main_call20_v0 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_c_20 : Ref sig .tc := ⟨.hbm, 145, rfl⟩
abbrev main_call21_v0 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_c_21 : Ref sig .tc := ⟨.hbm, 150, rfl⟩
abbrev main_call22_v0 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_c_22 : Ref sig .tc := ⟨.hbm, 155, rfl⟩
abbrev main_call23_v0 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_c_23 : Ref sig .tc := ⟨.hbm, 160, rfl⟩
abbrev main_call24_v0 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_c_24 : Ref sig .tc := ⟨.hbm, 165, rfl⟩
abbrev main_call25_v0 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_c_25 : Ref sig .tc := ⟨.hbm, 170, rfl⟩
abbrev main_call26_v0 : Ref sig .tc := ⟨.hbm, 171, rfl⟩
abbrev main_v78 : Ref sig .tc := ⟨.hbm, 172, rfl⟩
abbrev main_v79 : Ref sig .tc := ⟨.hbm, 173, rfl⟩
abbrev main_c_26 : Ref sig .tc := ⟨.hbm, 174, rfl⟩
abbrev main_call27_v0 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_c_27 : Ref sig .tc := ⟨.hbm, 179, rfl⟩
abbrev main_call28_v0 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_c_28 : Ref sig .tc := ⟨.hbm, 184, rfl⟩
abbrev main_call29_v0 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_c_29 : Ref sig .tc := ⟨.hbm, 190, rfl⟩
abbrev main_call30_v0 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_c_30 : Ref sig .tc := ⟨.hbm, 195, rfl⟩
abbrev main_call31_v0 : Ref sig .tc := ⟨.hbm, 196, rfl⟩
abbrev main_v93 : Ref sig .tc := ⟨.hbm, 197, rfl⟩
abbrev main_v94 : Ref sig .tc := ⟨.hbm, 198, rfl⟩
abbrev main_v95 : Ref sig .tc := ⟨.hbm, 199, rfl⟩
abbrev main_c_31 : Ref sig .tc := ⟨.hbm, 200, rfl⟩
abbrev main_call32_v0 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_c_32 : Ref sig .tc := ⟨.hbm, 205, rfl⟩
abbrev main_call33_v0 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_c_33 : Ref sig .tc := ⟨.hbm, 210, rfl⟩
abbrev main_call34_v0 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_c_34 : Ref sig .tc := ⟨.hbm, 215, rfl⟩
abbrev main_call35_v0 : Ref sig .tc := ⟨.hbm, 216, rfl⟩
abbrev main_v105 : Ref sig .tc := ⟨.hbm, 217, rfl⟩
abbrev main_v106 : Ref sig .tc := ⟨.hbm, 218, rfl⟩
abbrev main_v107 : Ref sig .tc := ⟨.hbm, 219, rfl⟩
abbrev main_c_35 : Ref sig .tc := ⟨.hbm, 220, rfl⟩
abbrev main_call36_v0 : Ref sig .tc := ⟨.hbm, 221, rfl⟩
abbrev main_v108 : Ref sig .tc := ⟨.hbm, 222, rfl⟩
abbrev main_v109 : Ref sig .tc := ⟨.hbm, 223, rfl⟩
abbrev main_c_36 : Ref sig .tc := ⟨.hbm, 224, rfl⟩
abbrev main_call37_v0 : Ref sig .tc := ⟨.hbm, 225, rfl⟩
abbrev main_v110 : Ref sig .tc := ⟨.hbm, 226, rfl⟩
abbrev main_v111 : Ref sig .tc := ⟨.hbm, 227, rfl⟩
abbrev main_v112 : Ref sig .tc := ⟨.hbm, 228, rfl⟩
abbrev main_c_37 : Ref sig .tc := ⟨.hbm, 229, rfl⟩
abbrev main_call38_v0 : Ref sig .tc := ⟨.hbm, 230, rfl⟩
abbrev main_v113 : Ref sig .tc := ⟨.hbm, 231, rfl⟩
abbrev main_v114 : Ref sig .tc := ⟨.hbm, 232, rfl⟩
abbrev main_v115 : Ref sig .tc := ⟨.hbm, 233, rfl⟩
abbrev main_c_38 : Ref sig .tc := ⟨.hbm, 234, rfl⟩
abbrev main_call39_v0 : Ref sig .tc := ⟨.hbm, 235, rfl⟩
abbrev main_v116 : Ref sig .tc := ⟨.hbm, 236, rfl⟩
abbrev main_v117 : Ref sig .tc := ⟨.hbm, 237, rfl⟩
abbrev main_v118 : Ref sig .tc := ⟨.hbm, 238, rfl⟩
abbrev main_v119 : Ref sig .tc := ⟨.hbm, 239, rfl⟩
abbrev main_c_39 : Ref sig .tc := ⟨.hbm, 240, rfl⟩
abbrev main_call40_v0 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_c_40 : Ref sig .tc := ⟨.hbm, 245, rfl⟩
abbrev main_call41_v0 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_c_41 : Ref sig .tc := ⟨.hbm, 250, rfl⟩
abbrev main_call42_v0 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_c_42 : Ref sig .tc := ⟨.hbm, 255, rfl⟩
abbrev main_call43_v0 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_c_43 : Ref sig .tc := ⟨.hbm, 260, rfl⟩
abbrev main_call44_v0 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_c_44 : Ref sig .tc := ⟨.hbm, 265, rfl⟩
abbrev main_call45_v0 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_c_45 : Ref sig .tc := ⟨.hbm, 270, rfl⟩
abbrev main_call46_v0 : Ref sig .tc := ⟨.hbm, 271, rfl⟩
abbrev main_v138 : Ref sig .tc := ⟨.hbm, 272, rfl⟩
abbrev main_v139 : Ref sig .tc := ⟨.hbm, 273, rfl⟩
abbrev main_c_46 : Ref sig .tc := ⟨.hbm, 274, rfl⟩
abbrev main_call47_v0 : Ref sig .tc := ⟨.hbm, 275, rfl⟩
abbrev main_v140 : Ref sig .tc := ⟨.hbm, 276, rfl⟩
abbrev main_v141 : Ref sig .tc := ⟨.hbm, 277, rfl⟩
abbrev main_v142 : Ref sig .tc := ⟨.hbm, 278, rfl⟩
abbrev main_c_47 : Ref sig .tc := ⟨.hbm, 279, rfl⟩
abbrev main_call48_v0 : Ref sig .tc := ⟨.hbm, 280, rfl⟩
abbrev main_v143 : Ref sig .tc := ⟨.hbm, 281, rfl⟩
abbrev main_v144 : Ref sig .tc := ⟨.hbm, 282, rfl⟩
abbrev main_v145 : Ref sig .tc := ⟨.hbm, 283, rfl⟩
abbrev main_c_48 : Ref sig .tc := ⟨.hbm, 284, rfl⟩
abbrev main_call49_v0 : Ref sig .tc := ⟨.hbm, 285, rfl⟩
abbrev main_v146 : Ref sig .tc := ⟨.hbm, 286, rfl⟩
abbrev main_v147 : Ref sig .tc := ⟨.hbm, 287, rfl⟩
abbrev main_v148 : Ref sig .tc := ⟨.hbm, 288, rfl⟩
abbrev main_v149_0 : Ref sig .tc := ⟨.hbm, 289, rfl⟩
abbrev main_v149_1 : Ref sig .tc := ⟨.hbm, 290, rfl⟩
abbrev main_v149_2 : Ref sig .tc := ⟨.hbm, 291, rfl⟩
abbrev main_v150 : Ref sig .tc := ⟨.hbm, 292, rfl⟩
abbrev main_v151 : Ref sig .tc := ⟨.hbm, 293, rfl⟩
abbrev main_v152 : Ref sig .tc := ⟨.hbm, 294, rfl⟩
abbrev main_v153 : Ref sig .tc := ⟨.hbm, 295, rfl⟩
abbrev main_v154 : Ref sig .tc := ⟨.hbm, 296, rfl⟩
abbrev main_v155 : Ref sig .tc := ⟨.hbm, 297, rfl⟩
abbrev main_v156 : Ref sig .tc := ⟨.hbm, 298, rfl⟩
abbrev main_v157 : Ref sig .tc := ⟨.hbm, 299, rfl⟩
abbrev main_v158 : Ref sig .tc := ⟨.hbm, 300, rfl⟩
abbrev main_v159 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_v183 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_v187 : Ref sig .tc := ⟨.hbm, 329, rfl⟩
abbrev main_v188 : Ref sig .tc := ⟨.hbm, 330, rfl⟩
abbrev main_v189 : Ref sig .tc := ⟨.hbm, 331, rfl⟩
abbrev main_v190 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_v202 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_v216 : Ref sig .tc := ⟨.hbm, 358, rfl⟩
abbrev main_v217 : Ref sig .tc := ⟨.hbm, 359, rfl⟩
abbrev main_v218 : Ref sig .tc := ⟨.hbm, 360, rfl⟩
abbrev main_v219 : Ref sig .tc := ⟨.hbm, 361, rfl⟩
abbrev main_v220 : Ref sig .tc := ⟨.hbm, 362, rfl⟩
abbrev main_v221 : Ref sig .tc := ⟨.hbm, 363, rfl⟩
abbrev main_v222 : Ref sig .tc := ⟨.hbm, 364, rfl⟩
abbrev main_v223 : Ref sig .tc := ⟨.hbm, 365, rfl⟩
abbrev main_v224 : Ref sig .tc := ⟨.hbm, 366, rfl⟩
abbrev main_v225 : Ref sig .tc := ⟨.hbm, 367, rfl⟩
abbrev main_v226 : Ref sig .tc := ⟨.hbm, 368, rfl⟩
abbrev main_v227 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_v233 : Ref sig .tc := ⟨.hbm, 375, rfl⟩
abbrev main_v234 : Ref sig .tc := ⟨.hbm, 376, rfl⟩
abbrev main_v235 : Ref sig .tc := ⟨.hbm, 377, rfl⟩
abbrev main_v236 : Ref sig .tc := ⟨.hbm, 378, rfl⟩
abbrev main_v237 : Ref sig .tc := ⟨.hbm, 379, rfl⟩
abbrev main_v238 : Ref sig .tc := ⟨.hbm, 380, rfl⟩
abbrev main_v239 : Ref sig .tc := ⟨.hbm, 381, rfl⟩
abbrev main_v240 : Ref sig .tc := ⟨.hbm, 382, rfl⟩
abbrev main_v241 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_v246 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference6Ideal.lean ====
abbrev S2x1024 : Shape := ⟨2, ![2, 1024]⟩
abbrev S1x2048 : Shape := ⟨2, ![1, 2048]⟩
abbrev S1x128 : Shape := ⟨2, ![1, 128]⟩
abbrev S1x8 : Shape := ⟨2, ![1, 8]⟩
abbrev S2048 : Shape := ⟨1, ![2048]⟩
abbrev S16x256 : Shape := ⟨2, ![16, 256]⟩
abbrev S1x4x384 : Shape := ⟨3, ![1, 4, 384]⟩
abbrev S_ : Shape := ⟨0, ![]⟩

abbrev nBuf : Space → Nat
  | .hbm => 370
  | .vmem => 0
  | .smem => 0
  | _ => 0

abbrev hbmTy0_0 (i : Nat) : BufTy := match i % 128 with
  | 0 => ⟨S2x1024, .f32⟩
  | 1 => ⟨S1x2048, .f32⟩
  | 2 => ⟨S1x128, .f32⟩
  | 3 => ⟨S1x8, .f32⟩
  | 4 => ⟨S1x8, .f32⟩
  | 5 => ⟨S1x128, .f32⟩
  | 6 => ⟨S1x2048, .f32⟩
  | 7 => ⟨S2048, .f32⟩
  | 8 => ⟨S16x256, .f32⟩
  | 9 => ⟨S1x4x384, .f32⟩
  | 10 => ⟨S2x1024, .f32⟩
  | 11 => ⟨S1x2048, .f32⟩
  | 12 => ⟨S1x128, .f32⟩
  | 13 => ⟨S1x8, .f32⟩
  | 14 => ⟨S1x8, .f32⟩
  | 15 => ⟨S1x128, .f32⟩
  | 16 => ⟨S1x2048, .f32⟩
  | 17 => ⟨S2048, .f32⟩
  | 18 => ⟨S16x256, .f32⟩
  | 19 => ⟨S1x4x384, .f32⟩
  | 20 => ⟨S2x1024, .f32⟩
  | 21 => ⟨S1x2048, .f32⟩
  | 22 => ⟨S1x128, .f32⟩
  | 23 => ⟨S1x8, .f32⟩
  | 24 => ⟨S1x8, .f32⟩
  | 25 => ⟨S1x128, .f32⟩
  | 26 => ⟨S1x2048, .f32⟩
  | 27 => ⟨S2048, .f32⟩
  | 28 => ⟨S16x256, .f32⟩
  | 29 => ⟨S1x4x384, .f32⟩
  | 30 => ⟨S2x1024, .f32⟩
  | 31 => ⟨S1x2048, .f32⟩
  | 32 => ⟨S1x128, .f32⟩
  | 33 => ⟨S1x8, .f32⟩
  | 34 => ⟨S1x8, .f32⟩
  | 35 => ⟨S1x128, .f32⟩
  | 36 => ⟨S1x2048, .f32⟩
  | 37 => ⟨S2048, .f32⟩
  | 38 => ⟨S16x256, .f32⟩
  | 39 => ⟨S1x4x384, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S_, .f32⟩
  | 52 => ⟨S2x1024, .f32⟩
  | 53 => ⟨S2x1024, .f32⟩
  | 54 => ⟨S2x1024, .f32⟩
  | 55 => ⟨S_, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S2x1024, .f32⟩
  | 62 => ⟨S_, .f32⟩
  | 63 => ⟨S2x1024, .f32⟩
  | 64 => ⟨S2x1024, .f32⟩
  | 65 => ⟨S2x1024, .f32⟩
  | 66 => ⟨S_, .f32⟩
  | 67 => ⟨S2x1024, .f32⟩
  | 68 => ⟨S2x1024, .f32⟩
  | 69 => ⟨S2x1024, .f32⟩
  | 70 => ⟨S_, .f32⟩
  | 71 => ⟨S2x1024, .f32⟩
  | 72 => ⟨S2x1024, .f32⟩
  | 73 => ⟨S_, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S1x2048, .f32⟩
  | 84 => ⟨S_, .f32⟩
  | 85 => ⟨S1x2048, .f32⟩
  | 86 => ⟨S1x2048, .f32⟩
  | 87 => ⟨S1x2048, .f32⟩
  | 88 => ⟨S_, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S1x2048, .f32⟩
  | 99 => ⟨S_, .f32⟩
  | 100 => ⟨S1x2048, .f32⟩
  | 101 => ⟨S1x2048, .f32⟩
  | 102 => ⟨S1x2048, .f32⟩
  | 103 => ⟨S_, .f32⟩
  | 104 => ⟨S1x2048, .f32⟩
  | 105 => ⟨S1x2048, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S1x128, .f32⟩
  | _ => ⟨S2x1024, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S_, .f32⟩
  | 12 => ⟨S1x8, .f32⟩
  | 13 => ⟨S1x8, .f32⟩
  | 14 => ⟨S_, .f32⟩
  | 15 => ⟨S1x8, .f32⟩
  | 16 => ⟨S1x8, .f32⟩
  | 17 => ⟨S1x8, .f32⟩
  | 18 => ⟨S_, .f32⟩
  | 19 => ⟨S1x8, .f32⟩
  | 20 => ⟨S1x8, .f32⟩
  | 21 => ⟨S1x8, .f32⟩
  | 22 => ⟨S_, .f32⟩
  | 23 => ⟨S1x8, .f32⟩
  | 24 => ⟨S1x8, .f32⟩
  | 25 => ⟨S1x8, .f32⟩
  | 26 => ⟨S_, .f32⟩
  | 27 => ⟨S1x8, .f32⟩
  | 28 => ⟨S1x8, .f32⟩
  | 29 => ⟨S_, .f32⟩
  | 30 => ⟨S1x8, .f32⟩
  | 31 => ⟨S1x8, .f32⟩
  | 32 => ⟨S1x8, .f32⟩
  | 33 => ⟨S_, .f32⟩
  | 34 => ⟨S1x8, .f32⟩
  | 35 => ⟨S1x8, .f32⟩
  | 36 => ⟨S1x8, .f32⟩
  | 37 => ⟨S_, .f32⟩
  | 38 => ⟨S1x8, .f32⟩
  | 39 => ⟨S1x8, .f32⟩
  | 40 => ⟨S1x8, .f32⟩
  | 41 => ⟨S_, .f32⟩
  | 42 => ⟨S1x8, .f32⟩
  | 43 => ⟨S1x8, .f32⟩
  | 44 => ⟨S_, .f32⟩
  | 45 => ⟨S1x8, .f32⟩
  | 46 => ⟨S1x8, .f32⟩
  | 47 => ⟨S_, .f32⟩
  | 48 => ⟨S1x8, .f32⟩
  | 49 => ⟨S1x8, .f32⟩
  | 50 => ⟨S1x8, .f32⟩
  | 51 => ⟨S_, .f32⟩
  | 52 => ⟨S1x8, .f32⟩
  | 53 => ⟨S1x8, .f32⟩
  | 54 => ⟨S1x8, .f32⟩
  | 55 => ⟨S_, .f32⟩
  | 56 => ⟨S1x8, .f32⟩
  | 57 => ⟨S1x8, .f32⟩
  | 58 => ⟨S1x8, .f32⟩
  | 59 => ⟨S_, .f32⟩
  | 60 => ⟨S1x8, .f32⟩
  | 61 => ⟨S1x8, .f32⟩
  | 62 => ⟨S_, .f32⟩
  | 63 => ⟨S1x8, .f32⟩
  | 64 => ⟨S1x8, .f32⟩
  | 65 => ⟨S1x8, .f32⟩
  | 66 => ⟨S_, .f32⟩
  | 67 => ⟨S1x8, .f32⟩
  | 68 => ⟨S1x8, .f32⟩
  | 69 => ⟨S1x8, .f32⟩
  | 70 => ⟨S_, .f32⟩
  | 71 => ⟨S1x8, .f32⟩
  | 72 => ⟨S1x8, .f32⟩
  | 73 => ⟨S1x8, .f32⟩
  | 74 => ⟨S_, .f32⟩
  | 75 => ⟨S1x8, .f32⟩
  | 76 => ⟨S1x8, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S_, .f32⟩
  | 96 => ⟨S1x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S_, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S2x1024, .f32⟩

abbrev hbmTy0_2 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S2048, .f32⟩
  | 26 => ⟨S_, .f32⟩
  | 27 => ⟨S2048, .f32⟩
  | 28 => ⟨S2048, .f32⟩
  | 29 => ⟨S2048, .f32⟩
  | 30 => ⟨S_, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | 40 => ⟨S2048, .f32⟩
  | 41 => ⟨S_, .f32⟩
  | 42 => ⟨S2048, .f32⟩
  | 43 => ⟨S2048, .f32⟩
  | 44 => ⟨S2048, .f32⟩
  | 45 => ⟨S_, .f32⟩
  | 46 => ⟨S2048, .f32⟩
  | 47 => ⟨S2048, .f32⟩
  | 48 => ⟨S_, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S_, .f32⟩
  | 56 => ⟨S16x256, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S_, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S_, .f32⟩
  | 79 => ⟨S16x256, .f32⟩
  | 80 => ⟨S16x256, .f32⟩
  | 81 => ⟨S_, .f32⟩
  | 82 => ⟨S1x4x384, .f32⟩
  | 83 => ⟨S1x4x384, .f32⟩
  | 84 => ⟨S_, .f32⟩
  | 85 => ⟨S1x4x384, .f32⟩
  | 86 => ⟨S1x4x384, .f32⟩
  | 87 => ⟨S1x4x384, .f32⟩
  | 88 => ⟨S_, .f32⟩
  | 89 => ⟨S1x4x384, .f32⟩
  | 90 => ⟨S1x4x384, .f32⟩
  | 91 => ⟨S1x4x384, .f32⟩
  | 92 => ⟨S_, .f32⟩
  | 93 => ⟨S1x4x384, .f32⟩
  | 94 => ⟨S1x4x384, .f32⟩
  | 95 => ⟨S1x4x384, .f32⟩
  | 96 => ⟨S_, .f32⟩
  | 97 => ⟨S1x4x384, .f32⟩
  | 98 => ⟨S1x4x384, .f32⟩
  | 99 => ⟨S_, .f32⟩
  | 100 => ⟨S1x4x384, .f32⟩
  | 101 => ⟨S1x4x384, .f32⟩
  | 102 => ⟨S1x4x384, .f32⟩
  | 103 => ⟨S_, .f32⟩
  | 104 => ⟨S1x4x384, .f32⟩
  | 105 => ⟨S1x4x384, .f32⟩
  | 106 => ⟨S1x4x384, .f32⟩
  | 107 => ⟨S_, .f32⟩
  | 108 => ⟨S1x4x384, .f32⟩
  | 109 => ⟨S1x4x384, .f32⟩
  | 110 => ⟨S1x4x384, .f32⟩
  | 111 => ⟨S_, .f32⟩
  | 112 => ⟨S1x4x384, .f32⟩
  | 113 => ⟨S1x4x384, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩

abbrev nD : Nat := 1
abbrev τ : Topo := Topo.v7x

variable {F : FTy → Type} [FloatOps F]
-- ==== Kernel7.lean ====
abbrev S2048x1538 : Shape := ⟨2, ![2048, 1538]⟩
abbrev S4x1538x2048 : Shape := ⟨3, ![4, 1538, 2048]⟩
abbrev S3x1538x2048 : Shape := ⟨3, ![3, 1538, 2048]⟩
abbrev S1538x2048 : Shape := ⟨2, ![1538, 2048]⟩
abbrev S1538x256 : Shape := ⟨2, ![1538, 256]⟩
abbrev S1x1538x256 : Shape := ⟨3, ![1, 1538, 256]⟩

abbrev nBuf : Space → Nat
  | .hbm => 16
  | .vmem => 22
  | .smem => 0
  | _ => 0

abbrev bufTy : (tb : Table) → Fin (tcTables nBuf tb) → BufTy
  | .hbm, ⟨0, _⟩ => ⟨S2048x1538, .f32⟩
  | .hbm, ⟨1, _⟩ => ⟨S2048x1538, .f32⟩
  | .hbm, ⟨2, _⟩ => ⟨S2048x1538, .f32⟩
  | .hbm, ⟨3, _⟩ => ⟨S4x1538x2048, .bf16⟩
  | .hbm, ⟨4, _⟩ => ⟨S3x1538x2048, .bf16⟩
  | .hbm, ⟨5, _⟩ => ⟨S1538x2048, .f32⟩
  | .hbm, ⟨6, _⟩ => ⟨S1538x2048, .f32⟩
  | .hbm, ⟨7, _⟩ => ⟨S1538x2048, .f32⟩
  | .hbm, ⟨8, _⟩ => ⟨S1538x2048, .f32⟩
  | .hbm, ⟨9, _⟩ => ⟨S1538x2048, .f32⟩
  | .hbm, ⟨10, _⟩ => ⟨S1538x2048, .f32⟩
  | .hbm, ⟨11, _⟩ => ⟨S1538x2048, .f32⟩
  | .hbm, ⟨12, _⟩ => ⟨S2048x1538, .f32⟩
  | .hbm, ⟨13, _⟩ => ⟨S2048x1538, .f32⟩
  | .hbm, ⟨14, _⟩ => ⟨S2048x1538, .f32⟩
  | .hbm, ⟨15, _⟩ => ⟨S2048x1538, .f32⟩
  | .local _ .vmem, ⟨0, _⟩ => ⟨S1538x256, .f32⟩
  | .local _ .vmem, ⟨1, _⟩ => ⟨S1538x256, .f32⟩
  | .local _ .vmem, ⟨2, _⟩ => ⟨S1538x256, .f32⟩
  | .local _ .vmem, ⟨3, _⟩ => ⟨S1538x256, .f32⟩
  | .local _ .vmem, ⟨4, _⟩ => ⟨S1538x256, .f32⟩
  | .local _ .vmem, ⟨5, _⟩ => ⟨S1538x256, .f32⟩
  | .local _ .vmem, ⟨6, _⟩ => ⟨S1x1538x256, .bf16⟩
  | .local _ .vmem, ⟨7, _⟩ => ⟨S1x1538x256, .bf16⟩
  | .local _ .vmem, ⟨8, _⟩ => ⟨S1x1538x256, .bf16⟩
  | .local _ .vmem, ⟨9, _⟩ => ⟨S1x1538x256, .bf16⟩
  | .local _ .vmem, ⟨10, _⟩ => ⟨S1x1538x256, .bf16⟩
  | .local _ .vmem, ⟨11, _⟩ => ⟨S1x1538x256, .bf16⟩
  | .local _ .vmem, ⟨12, _⟩ => ⟨S1x1538x256, .bf16⟩
  | .local _ .vmem, ⟨13, _⟩ => ⟨S1x1538x256, .bf16⟩
  | .local _ .vmem, ⟨14, _⟩ => ⟨S1538x256, .f32⟩
  | .local _ .vmem, ⟨15, _⟩ => ⟨S1538x256, .f32⟩
  | .local _ .vmem, ⟨16, _⟩ => ⟨S1538x256, .f32⟩
  | .local _ .vmem, ⟨17, _⟩ => ⟨S1538x256, .f32⟩
  | .local _ .vmem, ⟨18, _⟩ => ⟨S1538x256, .f32⟩
  | .local _ .vmem, ⟨19, _⟩ => ⟨S1538x256, .f32⟩
  | .local _ .vmem, ⟨20, _⟩ => ⟨S1538x256, .f32⟩
  | .local _ .vmem, ⟨21, _⟩ => ⟨S1538x256, .f32⟩
  | _, _ => ⟨S2048x1538, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1538x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1538x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1538x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1538x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1538x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1538x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1538x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1538x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1538x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1538x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1538x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S2048x1538 : Shape := ⟨2, ![2048, 1538]⟩
abbrev S4x1538x2048 : Shape := ⟨3, ![4, 1538, 2048]⟩
abbrev S3x1538x2048 : Shape := ⟨3, ![3, 1538, 2048]⟩
abbrev S1x1538x2048 : Shape := ⟨3, ![1, 1538, 2048]⟩
abbrev S1538x2048 : Shape := ⟨2, ![1538, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1538, .f32⟩
  | .hbm, ⟨1, _⟩ => ⟨S2048x1538, .f32⟩
  | .hbm, ⟨2, _⟩ => ⟨S2048x1538, .f32⟩
  | .hbm, ⟨3, _⟩ => ⟨S4x1538x2048, .bf16⟩
  | .hbm, ⟨4, _⟩ => ⟨S3x1538x2048, .bf16⟩
  | .hbm, ⟨5, _⟩ => ⟨S1x1538x2048, .bf16⟩
  | .hbm, ⟨6, _⟩ => ⟨S1538x2048, .bf16⟩
  | .hbm, ⟨7, _⟩ => ⟨S1538x2048, .f32⟩
  | .hbm, ⟨8, _⟩ => ⟨S3x1538x2048, .f32⟩
  | .hbm, ⟨9, _⟩ => ⟨S_, .f32⟩
  | .hbm, ⟨10, _⟩ => ⟨S1538x2048, .f32⟩
  | .hbm, ⟨11, _⟩ => ⟨S1538x2048, .f32⟩
  | .hbm, ⟨12, _⟩ => ⟨S2048x1538, .f32⟩
  | .hbm, ⟨13, _⟩ => ⟨S_, .f32⟩
  | .hbm, ⟨14, _⟩ => ⟨S2048x1538, .f32⟩
  | .hbm, ⟨15, _⟩ => ⟨S2048x1538, .f32⟩
  | .hbm, ⟨16, _⟩ => ⟨S_, .f32⟩
  | .hbm, ⟨17, _⟩ => ⟨S2048x1538, .f32⟩
  | .hbm, ⟨18, _⟩ => ⟨S2048x1538, .f32⟩
  | .hbm, ⟨19, _⟩ => ⟨S2048x1538, .f32⟩
  | .hbm, ⟨20, _⟩ => ⟨S_, .f32⟩
  | .hbm, ⟨21, _⟩ => ⟨S2048x1538, .f32⟩
  | .hbm, ⟨22, _⟩ => ⟨S2048x1538, .f32⟩
  | .hbm, ⟨23, _⟩ => ⟨S2048x1538, .f32⟩
  | .hbm, ⟨24, _⟩ => ⟨S_, .f32⟩
  | .hbm, ⟨25, _⟩ => ⟨S2048x1538, .f32⟩
  | .hbm, ⟨26, _⟩ => ⟨S2048x1538, .f32⟩
  | .hbm, ⟨27, _⟩ => ⟨S2048x1538, .f32⟩
  | .hbm, ⟨28, _⟩ => ⟨S_, .f32⟩
  | .hbm, ⟨29, _⟩ => ⟨S2048x1538, .f32⟩
  | .hbm, ⟨30, _⟩ => ⟨S2048x1538, .f32⟩
  | .hbm, ⟨31, _⟩ => ⟨S_, .f32⟩
  | .hbm, ⟨32, _⟩ => ⟨S2048x1538, .f32⟩
  | .hbm, ⟨33, _⟩ => ⟨S2048x1538, .f32⟩
  | .hbm, ⟨34, _⟩ => ⟨S2048x1538, .f32⟩
  | .hbm, ⟨35, _⟩ => ⟨S_, .f32⟩
  | .hbm, ⟨36, _⟩ => ⟨S2048x1538, .f32⟩
  | .hbm, ⟨37, _⟩ => ⟨S2048x1538, .f32⟩
  | .hbm, ⟨38, _⟩ => ⟨S2048x1538, .f32⟩
  | .hbm, ⟨39, _⟩ => ⟨S_, .f32⟩
  | .hbm, ⟨40, _⟩ => ⟨S2048x1538, .f32⟩
  | .hbm, ⟨41, _⟩ => ⟨S2048x1538, .f32⟩
  | .hbm, ⟨42, _⟩ => ⟨S2048x1538, .f32⟩
  | .hbm, ⟨43, _⟩ => ⟨S_, .f32⟩
  | .hbm, ⟨44, _⟩ => ⟨S2048x1538, .f32⟩
  | .hbm, ⟨45, _⟩ => ⟨S2048x1538, .f32⟩
  | _, _ => ⟨S2048x1538, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel8.lean ====
abbrev S1024x256 : Shape := ⟨2, ![1024, 256]⟩
abbrev S4x1024x256 : Shape := ⟨3, ![4, 1024, 256]⟩
abbrev S3x1024x256 : Shape := ⟨3, ![3, 1024, 256]⟩
abbrev S256x256 : Shape := ⟨2, ![256, 256]⟩
abbrev S1x256x256 : Shape := ⟨3, ![1, 256, 256]⟩

abbrev nBuf : Space → Nat
  | .hbm => 9
  | .vmem => 22
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S3x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S1024x256 : Shape := ⟨2, ![1024, 256]⟩
abbrev S4x1024x256 : Shape := ⟨3, ![4, 1024, 256]⟩
abbrev S3x1024x256 : Shape := ⟨3, ![3, 1024, 256]⟩
abbrev S1x1024x256 : Shape := ⟨3, ![1, 1024, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S3x1024x256, .bf16⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S3x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel9.lean ====
abbrev S1024x256 : Shape := ⟨2, ![1024, 256]⟩
abbrev S4x1024x256 : Shape := ⟨3, ![4, 1024, 256]⟩
abbrev S3x1024x256 : Shape := ⟨3, ![3, 1024, 256]⟩
abbrev S256x256 : Shape := ⟨2, ![256, 256]⟩
abbrev S1x256x256 : Shape := ⟨3, ![1, 256, 256]⟩

abbrev nBuf : Space → Nat
  | .hbm => 9
  | .vmem => 22
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S3x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference9Ideal.lean ====
abbrev S1024x256 : Shape := ⟨2, ![1024, 256]⟩
abbrev S4x1024x256 : Shape := ⟨3, ![4, 1024, 256]⟩
abbrev S3x1024x256 : Shape := ⟨3, ![3, 1024, 256]⟩
abbrev S1x1024x256 : Shape := ⟨3, ![1, 1024, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x256, .f32⟩
  | .hbm, ⟨3, _⟩ => ⟨S4x1024x256, .bf16⟩
  | .hbm, ⟨4, _⟩ => ⟨S3x1024x256, .bf16⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S3x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel10.lean ====
abbrev S256x2048 : Shape := ⟨2, ![256, 2048]⟩
abbrev S4x256x2048 : Shape := ⟨3, ![4, 256, 2048]⟩
abbrev S3x256x2048 : Shape := ⟨3, ![3, 256, 2048]⟩
abbrev S64x2048 : Shape := ⟨2, ![64, 2048]⟩
abbrev S1x64x2048 : Shape := ⟨3, ![1, 64, 2048]⟩

abbrev nBuf : Space → Nat
  | .hbm => 9
  | .vmem => 22
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S3x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x64x2048, .bf16⟩
  | .local _ .vmem, ⟨7, _⟩ => ⟨S1x64x2048, .bf16⟩
  | .local _ .vmem, ⟨8, _⟩ => ⟨S1x64x2048, .bf16⟩
  | .local _ .vmem, ⟨9, _⟩ => ⟨S1x64x2048, .bf16⟩
  | .local _ .vmem, ⟨10, _⟩ => ⟨S1x64x2048, .bf16⟩
  | .local _ .vmem, ⟨11, _⟩ => ⟨S1x64x2048, .bf16⟩
  | .local _ .vmem, ⟨12, _⟩ => ⟨S1x64x2048, .bf16⟩
  | .local _ .vmem, ⟨13, _⟩ => ⟨S1x64x2048, .bf16⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | .local _ .vmem, ⟨21, _⟩ => ⟨S64x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference10Ideal.lean ====
abbrev S256x2048 : Shape := ⟨2, ![256, 2048]⟩
abbrev S4x256x2048 : Shape := ⟨3, ![4, 256, 2048]⟩
abbrev S3x256x2048 : Shape := ⟨3, ![3, 256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S4x256x2048, .bf16⟩
  | .hbm, ⟨4, _⟩ => ⟨S3x256x2048, .bf16⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel11.lean ====
abbrev S2048x1408 : Shape := ⟨2, ![2048, 1408]⟩
abbrev S4x2048x1408 : Shape := ⟨3, ![4, 2048, 1408]⟩
abbrev S3x2048x1408 : Shape := ⟨3, ![3, 2048, 1408]⟩
abbrev S256x1408 : Shape := ⟨2, ![256, 1408]⟩
abbrev S1x256x1408 : Shape := ⟨3, ![1, 256, 1408]⟩

abbrev nBuf : Space → Nat
  | .hbm => 9
  | .vmem => 22
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S3x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S1x256x1408, .bf16⟩
  | .local _ .vmem, ⟨7, _⟩ => ⟨S1x256x1408, .bf16⟩
  | .local _ .vmem, ⟨8, _⟩ => ⟨S1x256x1408, .bf16⟩
  | .local _ .vmem, ⟨9, _⟩ => ⟨S1x256x1408, .bf16⟩
  | .local _ .vmem, ⟨10, _⟩ => ⟨S1x256x1408, .bf16⟩
  | .local _ .vmem, ⟨11, _⟩ => ⟨S1x256x1408, .bf16⟩
  | .local _ .vmem, ⟨12, _⟩ => ⟨S1x256x1408, .bf16⟩
  | .local _ .vmem, ⟨13, _⟩ => ⟨S1x256x1408, .bf16⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .vmem, ⟨18, _⟩ => ⟨S256x1408, .f32⟩
  | .local _ .vmem, ⟨19, _⟩ => ⟨S256x1408, .f32⟩
  | .local _ .vmem, ⟨20, _⟩ => ⟨S256x1408, .f32⟩
  | .local _ .vmem, ⟨21, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference11Ideal.lean ====
abbrev S2048x1408 : Shape := ⟨2, ![2048, 1408]⟩
abbrev S4x2048x1408 : Shape := ⟨3, ![4, 2048, 1408]⟩
abbrev S3x2048x1408 : Shape := ⟨3, ![3, 2048, 1408]⟩
abbrev S1x2048x1408 : Shape := ⟨3, ![1, 2048, 1408]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S4x2048x1408, .bf16⟩
  | .hbm, ⟨4, _⟩ => ⟨S3x2048x1408, .bf16⟩
  | .hbm, ⟨5, _⟩ => ⟨S1x2048x1408, .bf16⟩
  | .hbm, ⟨6, _⟩ => ⟨S2048x1408, .bf16⟩
  | .hbm, ⟨7, _⟩ => ⟨S2048x1408, .f32⟩
  | .hbm, ⟨8, _⟩ => ⟨S3x2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | .hbm, ⟨37, _⟩ => ⟨S2048x1408, .f32⟩
  | .hbm, ⟨38, _⟩ => ⟨S_, .f32⟩
  | .hbm, ⟨39, _⟩ => ⟨S2048x1408, .f32⟩
  | .hbm, ⟨40, _⟩ => ⟨S2048x1408, .f32⟩
  | .hbm, ⟨41, _⟩ => ⟨S2048x1408, .f32⟩
  | .hbm, ⟨42, _⟩ => ⟨S_, .f32⟩
  | .hbm, ⟨43, _⟩ => ⟨S2048x1408, .f32⟩
  | .hbm, ⟨44, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel12.lean ====
abbrev S704x2048 : Shape := ⟨2, ![704, 2048]⟩
abbrev S4x704x2048 : Shape := ⟨3, ![4, 704, 2048]⟩
abbrev S3x704x2048 : Shape := ⟨3, ![3, 704, 2048]⟩
abbrev S176x2048 : Shape := ⟨2, ![176, 2048]⟩
abbrev S1x176x2048 : Shape := ⟨3, ![1, 176, 2048]⟩

abbrev nBuf : Space → Nat
  | .hbm => 9
  | .vmem => 22
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S3x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S1x176x2048, .bf16⟩
  | .local _ .vmem, ⟨7, _⟩ => ⟨S1x176x2048, .bf16⟩
  | .local _ .vmem, ⟨8, _⟩ => ⟨S1x176x2048, .bf16⟩
  | .local _ .vmem, ⟨9, _⟩ => ⟨S1x176x2048, .bf16⟩
  | .local _ .vmem, ⟨10, _⟩ => ⟨S1x176x2048, .bf16⟩
  | .local _ .vmem, ⟨11, _⟩ => ⟨S1x176x2048, .bf16⟩
  | .local _ .vmem, ⟨12, _⟩ => ⟨S1x176x2048, .bf16⟩
  | .local _ .vmem, ⟨13, _⟩ => ⟨S1x176x2048, .bf16⟩
  | .local _ .vmem, ⟨14, _⟩ => ⟨S176x2048, .f32⟩
  | .local _ .vmem, ⟨15, _⟩ => ⟨S176x2048, .f32⟩
  | .local _ .vmem, ⟨16, _⟩ => ⟨S176x2048, .f32⟩
  | .local _ .vmem, ⟨17, _⟩ => ⟨S176x2048, .f32⟩
  | .local _ .vmem, ⟨18, _⟩ => ⟨S176x2048, .f32⟩
  | .local _ .vmem, ⟨19, _⟩ => ⟨S176x2048, .f32⟩
  | .local _ .vmem, ⟨20, _⟩ => ⟨S176x2048, .f32⟩
  | .local _ .vmem, ⟨21, _⟩ => ⟨S176x2048, .f32⟩
  | _, _ => ⟨S704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S176x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S704x2048 : Shape := ⟨2, ![704, 2048]⟩
abbrev S4x704x2048 : Shape := ⟨3, ![4, 704, 2048]⟩
abbrev S3x704x2048 : Shape := ⟨3, ![3, 704, 2048]⟩
abbrev S1x704x2048 : Shape := ⟨3, ![1, 704, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S704x2048, .f32⟩
  | .hbm, ⟨1, _⟩ => ⟨S704x2048, .f32⟩
  | .hbm, ⟨2, _⟩ => ⟨S704x2048, .f32⟩
  | .hbm, ⟨3, _⟩ => ⟨S4x704x2048, .bf16⟩
  | .hbm, ⟨4, _⟩ => ⟨S3x704x2048, .bf16⟩
  | .hbm, ⟨5, _⟩ => ⟨S1x704x2048, .bf16⟩
  | .hbm, ⟨6, _⟩ => ⟨S704x2048, .bf16⟩
  | .hbm, ⟨7, _⟩ => ⟨S704x2048, .f32⟩
  | .hbm, ⟨8, _⟩ => ⟨S3x704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S_, .f32⟩
  | .hbm, ⟨16, _⟩ => ⟨S704x2048, .f32⟩
  | .hbm, ⟨17, _⟩ => ⟨S704x2048, .f32⟩
  | .hbm, ⟨18, _⟩ => ⟨S704x2048, .f32⟩
  | .hbm, ⟨19, _⟩ => ⟨S_, .f32⟩
  | .hbm, ⟨20, _⟩ => ⟨S704x2048, .f32⟩
  | .hbm, ⟨21, _⟩ => ⟨S704x2048, .f32⟩
  | .hbm, ⟨22, _⟩ => ⟨S704x2048, .f32⟩
  | .hbm, ⟨23, _⟩ => ⟨S_, .f32⟩
  | .hbm, ⟨24, _⟩ => ⟨S704x2048, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S_, .f32⟩
  | .hbm, ⟨31, _⟩ => ⟨S704x2048, .f32⟩
  | .hbm, ⟨32, _⟩ => ⟨S704x2048, .f32⟩
  | .hbm, ⟨33, _⟩ => ⟨S704x2048, .f32⟩
  | .hbm, ⟨34, _⟩ => ⟨S_, .f32⟩
  | .hbm, ⟨35, _⟩ => ⟨S704x2048, .f32⟩
  | .hbm, ⟨36, _⟩ => ⟨S704x2048, .f32⟩
  | .hbm, ⟨37, _⟩ => ⟨S704x2048, .f32⟩
  | .hbm, ⟨38, _⟩ => ⟨S_, .f32⟩
  | .hbm, ⟨39, _⟩ => ⟨S704x2048, .f32⟩
  | .hbm, ⟨40, _⟩ => ⟨S704x2048, .f32⟩
  | .hbm, ⟨41, _⟩ => ⟨S704x2048, .f32⟩
  | .hbm, ⟨42, _⟩ => ⟨S_, .f32⟩
  | .hbm, ⟨43, _⟩ => ⟨S704x2048, .f32⟩
  | .hbm, ⟨44, _⟩ => ⟨S704x2048, .f32⟩
  | _, _ => ⟨S704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.Regions.lean ====
/- What each of the seven calls of the feed-forward block leaves in its result arrays, as a function of the arrays it
   is launched on: the blocks of a call's grid tile the result, and each block is read at coordinates. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.FFN

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- `xᵀ y`, contracted over the 8192 tokens, into the gradient of the outgoing weight. -/
def gradOut (x : FVec Ideal S8192x5632 .bf16) (y : FVec Ideal S8192x2048 .bf16) : FVec Ideal S5632x2048 .bf16 :=
  fun i => ∑ k : Fin 8192, x (ix2 k (i 0)) * y (ix2 k (i 1))

theorem idx3 : ∀ t : Fin cfg3.N, win3_0.index t = ![0, t.val % 11] ∧ win3_1.index t = ![0, t.val / 11]
    ∧ win3_2.index t = ![t.val % 11, t.val / 11] :=
  (by decide +kernel : ∀ t : Fin grid3.N, _)

theorem pay3_apply (x y : FVec Ideal S8192x512 .bf16) (r s : Fin 512) :
    k3_pay1 (F := Ideal) x y (ix2 r s) = ∑ k : Fin 8192, x (ix2 k r) * y (ix2 k s) := by
  pointwise [k3_pay1]

theorem final3 (c : Dev nD) :
    (dat3 V c).arrAt 2 cfg3.N = gradOut (V c main_v1_1) (V c main_arg3) := by
  refine (dat3 V c).arrAt_eq_of_covers 2 _ (by decide +kernel) fun t hf y => ?_
  blk_simp
  rw [after3_2]; frame_out
  rw [show (y : S512x512.Idx) = ix2 (y 0) (y 1) from eq_ix2 y]
  refine (pay3_apply _ _ _ _).trans ?_
  unfold gradOut
  refine Finset.sum_congr rfl fun k _ => Ideal.mul_congr ?_ ?_
  · blk_simp [iblk3]
    refine congrArg _ ?_
    blk_ext [(idx3 t).1, (idx3 t).2.2]
  · blk_simp [iblk3]
    refine congrArg _ ?_
    blk_ext [(idx3 t).2.1, (idx3 t).2.2]

/-- `xᵀ y`, contracted over the 8192 tokens, into the gradient of the incoming weights, gate and up interleaved. -/
def gradIn (x : FVec Ideal S8192x2048 .bf16) (y : FVec Ideal S8192x11264 .bf16) : FVec Ideal S2048x11264 .bf16 :=
  fun i => ∑ k : Fin 8192, x (ix2 k (i 0)) * y (ix2 k (i 1))

theorem idx5 : ∀ t : Fin cfg5.N, win5_0.index t = ![0, t.val % 4] ∧ win5_1.index t = ![0, t.val / 4]
    ∧ win5_2.index t = ![t.val % 4, t.val / 4] :=
  (by decide +kernel : ∀ t : Fin grid5.N, _)

theorem pay5_apply (x y : FVec Ideal S8192x512 .bf16) (r s : Fin 512) :
    k5_pay1 (F := Ideal) x y (ix2 r s) = ∑ k : Fin 8192, x (ix2 k r) * y (ix2 k s) := by
  pointwise [k5_pay1]

theorem final5 (c : Dev nD) :
    (dat5 V c).arrAt 2 cfg5.N = gradIn (V c main_arg0) (V c main_v2) := by
  refine (dat5 V c).arrAt_eq_of_covers 2 _ (by decide +kernel) fun t hf y => ?_
  blk_simp
  rw [after5_2]; frame_out
  rw [show (y : S512x512.Idx) = ix2 (y 0) (y 1) from eq_ix2 y]
  refine (pay5_apply _ _ _ _).trans ?_
  unfold gradIn
  refine Finset.sum_congr rfl fun k _ => Ideal.mul_congr ?_ ?_
  · blk_simp [iblk5]
    refine congrArg _ ?_
    blk_ext [(idx5 t).1, (idx5 t).2.2]
  · blk_simp [iblk5]
    refine congrArg _ ?_
    blk_ext [(idx5 t).2.1, (idx5 t).2.2]

/-- `y wᵀ`, contracted over the 11264 interleaved columns: the gradient of the block's input. -/
def gradX (y : FVec Ideal S8192x11264 .bf16) (w : FVec Ideal S2048x11264 .bf16) : FVec Ideal S8192x2048 .f32 :=
  fun i => ∑ k : Fin 11264, y (ix2 (i 0) k) * w (ix2 (i 1) k)

theorem idx4 : ∀ t : Fin cfg4.N, win4_0.index t = ![t.val / 8, 0] ∧ win4_1.index t = ![t.val % 8, 0]
    ∧ win4_2.index t = ![t.val / 8, t.val % 8] :=
  (by decide +kernel : ∀ t : Fin grid4.N, _)

theorem pay4_apply (x : FVec Ideal S512x11264 .bf16) (y : FVec Ideal S256x11264 .bf16) (r : Fin 512) (s : Fin 256) :
    k4_pay1 (F := Ideal) x y (ix2 r s) = ∑ k : Fin 11264, x (ix2 r k) * y (ix2 s k) := by
  pointwise [k4_pay1]

theorem final4 (c : Dev nD) :
    (dat4 V c).arrAt 2 cfg4.N = gradX (V c main_v2) (V c main_v0) := by
  refine (dat4 V c).arrAt_eq_of_covers 2 _ (by decide +kernel) fun t hf y => ?_
  blk_simp
  rw [after4_2]; frame_out
  rw [show (y : S512x256.Idx) = ix2 (y 0) (y 1) from eq_ix2 y]
  refine (pay4_apply _ _ _ _).trans ?_
  unfold gradX
  refine Finset.sum_congr rfl fun k _ => Ideal.mul_congr ?_ ?_
  · blk_simp [iblk4]
    refine congrArg _ ?_
    blk_ext [(idx4 t).1, (idx4 t).2.2]
  · blk_simp [iblk4]
    refine congrArg _ ?_
    blk_ext [(idx4 t).2.1, (idx4 t).2.2]

/-- `x w`, contracted over the model's 2048 channels: the interleaved gate and up columns before the activation. -/
def preAct (x : FVec Ideal S8192x2048 .bf16) (w : FVec Ideal S2048x11264 .bf16) : FVec Ideal S8192x11264 .f32 :=
  fun i => ∑ k : Fin 2048, x (ix2 (i 0) k) * w (ix2 k (i 1))

/-- The column of the interleaved array that holds the gate of hidden unit `h`: blocks of 512 gates, each followed by its 512 ups. -/
def gateCol (h : Fin 5632) : Fin 11264 := ⟨h.val / 512 * 1024 + h.val % 512, by omega⟩
/-- … and the up of hidden unit `h`. -/
def upCol (h : Fin 5632) : Fin 11264 := ⟨h.val / 512 * 1024 + 512 + h.val % 512, by omega⟩

/-- The activation `silu(gate) · up` of a hidden unit. -/
def actOf (g u : EReal) : EReal := g * Ideal.logistic g * u

/-- The hidden activations, from the interleaved gate and up columns. -/
def hidden (z : FVec Ideal S8192x11264 .f32) : FVec Ideal S8192x5632 .bf16 :=
  fun i => actOf (z (ix2 (i 0) (gateCol (i 1)))) (z (ix2 (i 0) (upCol (i 1))))

theorem idx1 : ∀ t : Fin cfg1.N, win1_0.index t = ![t.val % 8, 0] ∧ win1_1.index t = ![0, t.val / 8]
    ∧ win1_2.index t = ![t.val % 8, t.val / 8] ∧ win1_3.index t = ![t.val % 8, t.val / 8] :=
  (by decide +kernel : ∀ t : Fin grid1.N, _)

theorem pay1_apply (x : FVec Ideal S1024x2048 .bf16) (y : FVec Ideal S2048x1024 .bf16) (r s : Fin 1024) :
    k1_pay1 (F := Ideal) x y (ix2 r s) = ∑ k : Fin 2048, x (ix2 r k) * y (ix2 k s) := by
  pointwise [k1_pay1]

theorem pay1b_apply (x : FVec Ideal S1024x2048 .bf16) (y : FVec Ideal S2048x1024 .bf16) (r : Fin 1024) (s : Fin 512) :
    k1_pay2 (F := Ideal) x y (ix2 r s)
      = actOf (∑ k : Fin 2048, x (ix2 r k) * y (ix2 k ⟨s.val, by omega⟩)) (∑ k : Fin 2048, x (ix2 r k) * y (ix2 k ⟨512 + s.val, by omega⟩)) := by
  unfold actOf
  pointwise [k1_pay2, k1_pay1]

theorem final1_2 (c : Dev nD) :
    (dat1 V c).arrAt 2 cfg1.N = preAct (V c main_arg0) (V c main_v0) := by
  refine (dat1 V c).arrAt_eq_of_covers 2 _ (by decide +kernel) fun t hf y => ?_
  blk_simp
  rw [after1_2]; frame_out
  rw [show (y : S1024x1024.Idx) = ix2 (y 0) (y 1) from eq_ix2 y]
  refine (pay1_apply _ _ _ _).trans ?_
  unfold preAct
  refine Finset.sum_congr rfl fun k _ => Ideal.mul_congr ?_ ?_
  · blk_simp [iblk1]
    refine congrArg _ ?_
    blk_ext [(idx1 t).1, (idx1 t).2.2.1]
  · blk_simp [iblk1]
    refine congrArg _ ?_
    blk_ext [(idx1 t).2.1, (idx1 t).2.2.1]

theorem final1_3 (c : Dev nD) :
    (dat1 V c).arrAt 3 cfg1.N = hidden (preAct (V c main_arg0) (V c main_v0)) := by
  refine (dat1 V c).arrAt_eq_of_covers 3 _ (by decide +kernel) fun t hf y => ?_
  blk_simp
  rw [after1_3]; frame_out
  rw [show (y : S1024x512.Idx) = ix2 (y 0) (y 1) from eq_ix2 y]
  refine (pay1b_apply _ _ _ _).trans ?_
  unfold hidden preAct
  refine congrArg₂ actOf ?_ ?_ <;> refine Finset.sum_congr rfl fun k _ => Ideal.mul_congr ?_ ?_
  · blk_simp [iblk1]
    refine congrArg _ ?_
    blk_ext [(idx1 t).1, (idx1 t).2.2.2]
  · blk_simp [iblk1]
    refine congrArg _ ?_
    blk_ext [(idx1 t).2.1, (idx1 t).2.2.2, gateCol]
  · blk_simp [iblk1]
    refine congrArg _ ?_
    blk_ext [(idx1 t).1, (idx1 t).2.2.2]
  · blk_simp [iblk1]
    refine congrArg _ ?_
    blk_ext [(idx1 t).2.1, (idx1 t).2.2.2, upCol]

/-- The gradient to the up of a hidden unit, from its gate, its up and the gradient to its activation. -/
def dUpOf (g a : EReal) : EReal := g * Ideal.logistic g * a
/-- … and to its gate. -/
def dGateOf (g u a : EReal) : EReal :=
  a * u * Ideal.logistic g + g * (a * u) * (Ideal.logistic g * (1 - Ideal.logistic g))

/-- The gradient to the hidden activations: `ct w_outᵀ`. -/
def dHidden (ct : FVec Ideal S8192x2048 .bf16) (w : FVec Ideal S5632x2048 .bf16) (l : Fin 8192) (h : Fin 5632) : EReal :=
  ∑ k : Fin 2048, ct (ix2 l k) * w (ix2 h k)

/-- The hidden unit an interleaved column belongs to. -/
def unitOf (j : Fin 11264) : Fin 5632 := ⟨j.val / 1024 * 512 + j.val % 512, by omega⟩

/-- The gradient to the interleaved gate and up columns. -/
def dPreAct (ct : FVec Ideal S8192x2048 .bf16) (w : FVec Ideal S5632x2048 .bf16) (z : FVec Ideal S8192x11264 .f32) : FVec Ideal S8192x11264 .bf16 :=
  fun i => if (i 1).val % 1024 < 512
    then dGateOf (z (ix2 (i 0) (gateCol (unitOf (i 1))))) (z (ix2 (i 0) (upCol (unitOf (i 1))))) (dHidden ct w (i 0) (unitOf (i 1)))
    else dUpOf (z (ix2 (i 0) (gateCol (unitOf (i 1))))) (dHidden ct w (i 0) (unitOf (i 1)))

theorem idx2 : ∀ t : Fin cfg2.N, win2_0.index t = ![t.val % 8, 0] ∧ win2_1.index t = ![t.val / 8, 0]
    ∧ win2_2.index t = ![t.val % 8, t.val / 8] ∧ win2_3.index t = ![t.val % 8, t.val / 8] :=
  (by decide +kernel : ∀ t : Fin grid2.N, _)

theorem pay2_apply (x : FVec Ideal S1024x2048 .bf16) (y : FVec Ideal S512x2048 .bf16) (z : FVec Ideal S1024x1024 .f32) (r s : Fin 1024) :
    k2_pay1 (F := Ideal) x y z (ix2 r s)
      = if s.val < 512
        then dGateOf (z (ix2 r ⟨s.val % 512, by omega⟩)) (z (ix2 r ⟨512 + s.val % 512, by omega⟩)) (∑ k : Fin 2048, x (ix2 r k) * y (ix2 ⟨s.val % 512, by omega⟩ k))
        else dUpOf (z (ix2 r ⟨s.val % 512, by omega⟩)) (∑ k : Fin 2048, x (ix2 r k) * y (ix2 ⟨s.val % 512, by omega⟩ k)) := by
  unfold dGateOf dUpOf
  pointwise [k2_pay1]
  by_cases h : s.val < 512
  · simp only [h, if_true, dif_pos, zero_add, add_zero, Nat.mod_eq_of_lt]
  · have e : s.val % 512 = s.val - 512 := by omega
    simp only [h, if_false, dif_neg, not_false_eq_true, zero_add, add_zero, e]

end Cert.KernelIdeal.FFN

end
-- ==== Proof.RegionAct.lean ====
/- What the call that brings the gradient through the activation leaves in its result array. -/
module

public import proofs.«01_k».proof.Proof.Regions
public import Idealize.ShloMosaic.Lib.Pipeline.ValueKit
public import Idealize.ShloMosaic.Lib.Pointwise

@[expose] public section

set_option maxRecDepth 16384

noncomputable section

namespace Cert.KernelIdeal.FFN

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

theorem final2 (c : Dev nD) :
    (dat2 V c).arrAt 3 cfg2.N = dPreAct (V c main_arg3) (V c main_arg2) (V c main_v1_0) := by
  refine (dat2 V c).arrAt_eq_of_covers 3 _ (by decide +kernel) fun t hf y => ?_
  blk_simp
  rw [after2_3]; frame_out
  rw [show (y : S1024x1024.Idx) = ix2 (y 0) (y 1) from eq_ix2 y]
  refine (pay2_apply _ _ _ _ _).trans ?_
  unfold dPreAct dHidden
  have he : ∀ (z : S1024x1024.Idx), ((((View.whole main_v2).slice (win2_3.rect t)).emb z 1).val) = t.val / 8 * 1024 + (z 1).val := fun z => by
    blk_simp [(idx2 t).2.2.2]
  by_cases h : (y 1).val < 512
  · refine (if_pos h).trans (Eq.trans ?_ (if_pos ((congrArg (fun n => n % 1024 < 512) (he _)).mpr (by show (t.val / 8 * 1024 + (y 1).val) % 1024 < 512; omega))).symm)
    refine congr (congrArg₂ dGateOf ?_ ?_) (Finset.sum_congr rfl fun k _ => Ideal.mul_congr ?_ ?_)
    · blk_simp [iblk2]
      refine congrArg _ ?_
      blk_ext [(idx2 t).2.2.1, (idx2 t).2.2.2, gateCol, unitOf]
    · blk_simp [iblk2]
      refine congrArg _ ?_
      blk_ext [(idx2 t).2.2.1, (idx2 t).2.2.2, upCol, unitOf]
    · blk_simp [iblk2]
      refine congrArg _ ?_
      blk_ext [(idx2 t).1, (idx2 t).2.2.2]
    · blk_simp [iblk2]
      refine congrArg _ ?_
      blk_ext [(idx2 t).2.1, (idx2 t).2.2.2, unitOf]
  · refine (if_neg h).trans (Eq.trans ?_ (if_neg ((congrArg (fun n => ¬ n % 1024 < 512) (he _)).mpr (by show ¬ (t.val / 8 * 1024 + (y 1).val) % 1024 < 512; have := (y 1).isLt; change (y 1).val < 1024 at this; omega))).symm)
    refine congrArg₂ dUpOf ?_ (Finset.sum_congr rfl fun k _ => Ideal.mul_congr ?_ ?_)
    · blk_simp [iblk2]
      refine congrArg _ ?_
      blk_ext [(idx2 t).2.2.1, (idx2 t).2.2.2, gateCol, unitOf]
    · blk_simp [iblk2]
      refine congrArg _ ?_
      blk_ext [(idx2 t).1, (idx2 t).2.2.2]
    · blk_simp [iblk2]
      refine congrArg _ ?_
      blk_ext [(idx2 t).2.1, (idx2 t).2.2.2, unitOf]

end Cert.KernelIdeal.FFN

end
-- ==== Proof.Pack.lean ====
/- What the calls that lay out the incoming weight, and its gradient, leave in their result arrays. -/
module

public import proofs.«01_k».proof.Proof.Regions
public import Idealize.ShloMosaic.Lib.Pipeline.ValueKit
public import Idealize.ShloMosaic.Lib.Pointwise

@[expose] public section

set_option maxRecDepth 16384

noncomputable section

namespace Cert.KernelIdeal.FFN

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- The column of the weight, gates first and ups after them, that stands at an interleaved column. -/
def wcol (j : Fin 11264) : Fin 11264 := ⟨j.val % 1024 / 512 * 5632 + j.val / 1024 * 512 + j.val % 512, by omega⟩

/-- The weight with interleaved columns, from the eight shards of it that the devices hold: a shard is 1408 columns of
    the weight with its gates first and its ups after them. -/
def interleave (g : FVec Ideal S8x2048x1408 .bf16) : FVec Ideal S2048x11264 .bf16 :=
  fun i => g (ix3 ⟨(wcol (i 1)).val / 1408, by have := (wcol (i 1)).isLt; omega⟩ (i 0) ⟨(wcol (i 1)).val % 1408, by omega⟩)

theorem idx0 : ∀ t : Fin cfg0.N, win0_0.index t = ![0, t.val, 0] ∧ win0_1.index t = ![t.val, 0] :=
  (by decide +kernel : ∀ t : Fin grid0.N, _)

set_option maxHeartbeats 4000000 in
theorem final0 (c : Dev nD) :
    (dat0 V c).arrAt 1 cfg0.N = interleave (V c main_arg1) := by
  refine (dat0 V c).arrAt_eq_of_covers 1 _ (by decide +kernel) fun t hf y => ?_
  blk_simp
  rw [after0_1]; unfold outsAt0; frame_out
  canon_tiles x h using (View.cover_of_tiledBy _ ![256, 128] (by sl_kernel_rfl) y)
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
    unfold interleave
    blk_simp [iblk0]
    refine congrArg _ ?_
    blk_ext [(idx0 t).1, (idx0 t).2, wcol]

end Cert.KernelIdeal.FFN

end
-- ==== Proof.Unpack.lean ====
/- What the calls that lay out the incoming weight, and its gradient, leave in their result arrays. -/
module

public import proofs.«01_k».proof.Proof.Regions
public import Idealize.ShloMosaic.Lib.Pipeline.ValueKit
public import Idealize.ShloMosaic.Lib.Pointwise

@[expose] public section

set_option maxRecDepth 16384

noncomputable section

namespace Cert.KernelIdeal.FFN

open Idealize.ShloMosaic Idealize.ShloMosaic.TcCoe Idealize.SL Idealize.SL.Sem
open Cert.KernelIdeal Cert.KernelIdeal.Gen

variable (V : (c : Dev nD) → (b : Ref sig .tc) → Buf (Elt Ideal) ((c : Thread nD τ).loc b))

/-- The interleaved column at which a column of the weight stands. -/
def icol (o : Fin 11264) : Fin 11264 := ⟨o.val % 5632 / 512 * 1024 + o.val / 5632 * 512 + o.val % 512, by omega⟩

/-- The eight shards of an array with interleaved columns. -/
def shards (y : FVec Ideal S2048x11264 .bf16) : FVec Ideal S8x2048x1408 .bf16 :=
  fun i => y (ix2 (i 1) (icol ⟨(i 0).val * 1408 + (i 2).val, by
    have h0 : (i 0).val < 8 := (i 0).isLt
    have h2 : (i 2).val < 1408 := (i 2).isLt
    omega⟩))

theorem idx6 : ∀ t : Fin cfg6.N, win6_0.index t = ![t.val, 0] ∧ win6_1.index t = ![0, t.val, 0] :=
  (by decide +kernel : ∀ t : Fin grid6.N, _)

set_option maxHeartbeats 4000000 in
theorem final6 (c : Dev nD) :
    (dat6 V c).arrAt 1 cfg6.N = shards (V c main_v5) := by
  refine (dat6 V c).arrAt_eq_of_covers 1 _ (by decide +kernel) fun t hf y => ?_
  blk_simp
  rw [after6_1]; unfold outsAt6; frame_out
  canon_tiles x h using (View.cover_of_tiledBy _ ![1, 256, 128] (by sl_kernel_rfl) y)
  all_goals
    pointwise [k6_pay1, k6_pay2, k6_pay3, k6_pay4, k6_pay5, k6_pay6, k6_pay7, k6_pay8, k6_pay9, k6_pay10, k6_pay11, k6_pay12, k6_pay13, k6_pay14, k6_pay15, k6_pay16, k6_pay17, k6_pay18, k6_pay19, k6_pay20, k6_pay21, k6_pay22, k6_pay23, k6_pay24, k6_pay25, k6_pay26, k6_pay27, k6_pay28, k6_pay29, k6_pay30, k6_pay31]
    unfold shards
    blk_simp [iblk6]
    refine congrArg _ ?_
    blk_ext [(idx6 t).1, (idx6 t).2, icol]

end Cert.KernelIdeal.FFN

end
-- ==== Proof.KRun.lean ====
/- The seven calls one after another: where the three results stand at the end of the run, as a function of the arguments. -/
module

public import proofs.«01_k».proof.Proof.RegionAct
public import proofs.«01_k».proof.Proof.Pack
public import proofs.«01_k».proof.Proof.Unpack
public import Idealize.ShloMosaic.Adequacy
public import Idealize.ShloMosaic.Init

@[expose] public section

set_option maxRecDepth 16384

noncomputable section

namespace Cert.KernelIdeal.FFN

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution of the seven calls ends, and every buffer that outlives them ends as the calls' write-backs leave it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  (θ_run defs _ _).mono (fun _ h => h)
  (Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c => h c))
end

variable (m : (ℓ : Loc nD τ sig) → Buf (Elt Ideal) ℓ) (ρ : Dev nD → PrngReg)

/-- The weight with interleaved columns. -/
abbrev wI (c : Dev nD) : FVec Ideal S2048x11264 .bf16 := interleave (m ((c : Thread nD τ).loc main_arg1))
/-- The interleaved columns before the activation. -/
abbrev zI (c : Dev nD) : FVec Ideal S8192x11264 .f32 := preAct (m ((c : Thread nD τ).loc main_arg0)) (wI m c)
/-- The gradient to them. -/
abbrev dzI (c : Dev nD) : FVec Ideal S8192x11264 .bf16 :=
  dPreAct (m ((c : Thread nD τ).loc main_arg3)) (m ((c : Thread nD τ).loc main_arg2)) (zI m c)

theorem arg_at (c : Dev nD) : V1 m ρ c main_arg0 = m ((c : Thread nD τ).loc main_arg0)
    ∧ V2 m ρ c main_arg3 = m ((c : Thread nD τ).loc main_arg3) ∧ V2 m ρ c main_arg2 = m ((c : Thread nD τ).loc main_arg2)
    ∧ V3 m ρ c main_arg3 = m ((c : Thread nD τ).loc main_arg3) ∧ V5 m ρ c main_arg0 = m ((c : Thread nD τ).loc main_arg0) :=
  ⟨W1_args m ρ c main_arg0 (by decide), W2_args m ρ c main_arg3 (by decide), W2_args m ρ c main_arg2 (by decide),
   W3_args m ρ c main_arg3 (by decide), W5_args m ρ c main_arg0 (by decide)⟩

theorem v0_at1 (c : Dev nD) : V1 m ρ c main_v0 = wI m c := (W1_arr m ρ c 1).trans (final0 (V0 m ρ) c)
theorem z_at2 (c : Dev nD) : V2 m ρ c main_v1_0 = zI m c :=
  (W2_arr m ρ c 2).trans ((final1_2 (V1 m ρ) c).trans (by rw [(arg_at m ρ c).1, v0_at1]))
theorem h_at2 (c : Dev nD) : V2 m ρ c main_v1_1 = hidden (zI m c) :=
  (W2_arr m ρ c 3).trans ((final1_3 (V1 m ρ) c).trans (by rw [(arg_at m ρ c).1, v0_at1]))
theorem dz_at3 (c : Dev nD) : V3 m ρ c main_v2 = dzI m c :=
  (W3_arr m ρ c 3).trans ((final2 (V2 m ρ) c).trans (by rw [(arg_at m ρ c).2.1, (arg_at m ρ c).2.2.1, z_at2]))
theorem h_at3 (c : Dev nD) : V3 m ρ c main_v1_1 = hidden (zI m c) :=
  (W3_of m ρ c main_v1_1 (by decide +kernel)).trans (h_at2 m ρ c)
theorem out2_at4 (c : Dev nD) : V4 m ρ c main_v3 = gradOut (hidden (zI m c)) (m ((c : Thread nD τ).loc main_arg3)) :=
  (W4_arr m ρ c 2).trans ((final3 (V3 m ρ) c).trans (by rw [(arg_at m ρ c).2.2.2.1, h_at3]))
theorem dz_at4 (c : Dev nD) : V4 m ρ c main_v2 = dzI m c :=
  (W4_of m ρ c main_v2 (by decide +kernel)).trans (dz_at3 m ρ c)
theorem v0_at4 (c : Dev nD) : V4 m ρ c main_v0 = wI m c :=
  (W4_of m ρ c main_v0 (by decide +kernel)).trans ((W3_of m ρ c main_v0 (by decide +kernel)).trans
    ((W2_of m ρ c main_v0 (by decide +kernel)).trans (v0_at1 m ρ c)))
theorem out0_at5 (c : Dev nD) : V5 m ρ c main_v4 = gradX (dzI m c) (wI m c) :=
  (W5_arr m ρ c 2).trans ((final4 (V4 m ρ) c).trans (by rw [dz_at4, v0_at4]))
theorem dz_at5 (c : Dev nD) : V5 m ρ c main_v2 = dzI m c :=
  (W5_of m ρ c main_v2 (by decide +kernel)).trans (dz_at4 m ρ c)
theorem dw_at6 (c : Dev nD) : V6 m ρ c main_v5 = gradIn (m ((c : Thread nD τ).loc main_arg0)) (dzI m c) :=
  (W6_arr m ρ c 2).trans ((final5 (V5 m ρ) c).trans (by rw [(arg_at m ρ c).2.2.2.2, dz_at5]))

/-- The gradient of the block's input at the end of the run. -/
theorem out0 (c : Dev nD) : W7 m ρ c (Proc.devRef .tc main_v4) = gradX (dzI m c) (wI m c) :=
  (W7_of m ρ c main_v4 (by decide +kernel)).trans ((W6_of m ρ c main_v4 (by decide +kernel)).trans (out0_at5 m ρ c))
/-- The shards of the incoming weight's gradient at the end of the run. -/
theorem out1 (c : Dev nD) : W7 m ρ c (Proc.devRef .tc main_v6) = shards (gradIn (m ((c : Thread nD τ).loc main_arg0)) (dzI m c)) :=
  (W7_arr m ρ c 1).trans ((final6 (V6 m ρ) c).trans (by rw [dw_at6]))
/-- The gradient of the outgoing weight at the end of the run. -/
theorem out2 (c : Dev nD) : W7 m ρ c (Proc.devRef .tc main_v3) = gradOut (hidden (zI m c)) (m ((c : Thread nD τ).loc main_arg3)) :=
  (W7_of m ρ c main_v3 (by decide +kernel)).trans ((W6_of m ρ c main_v3 (by decide +kernel)).trans
    ((W5_of m ρ c main_v3 (by decide +kernel)).trans (out2_at4 m ρ c)))

/-- The run with its results: the three gradients as functions of the arguments, the arguments as launched. -/
theorem run : θ_run defs (onTc (τ := τ) (main (F := Ideal))) ⟨m, fun _ => 0, ρ⟩ (fun r => ∀ c : Dev nD,
      r.2.mem ((c.tc : Thread nD τ).loc main_v4) = gradX (dzI m c) (wI m c)
      ∧ r.2.mem ((c.tc : Thread nD τ).loc main_v6) = shards (gradIn (m ((c : Thread nD τ).loc main_arg0)) (dzI m c))
      ∧ r.2.mem ((c.tc : Thread nD τ).loc main_v3) = gradOut (hidden (zI m c)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (out0 m ρ c),
     (h c _ (mem_uc main_v6 (by decide))).trans (out1 m ρ c),
     (h c _ (mem_uc main_v3 (by decide))).trans (out2 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_all m ρ)

end Cert.KernelIdeal.FFN

end
-- ==== Proof.Ref.lean ====
/- The feed-forward block's gradients as the plain program computes them, read at an index, against the seven calls' results:
   the calls keep the weight's columns interleaved, and a sum over the columns does not see their order. -/
module

public import proofs.«01_k».proof.Proof.KRun
public import proofs.«01_k».proof.Proof.Gen.ReferenceIdeal.Run

@[expose] public section

set_option maxRecDepth 16384

noncomputable section

namespace Cert.ReferenceIdeal.FFN

open Idealize.ShloMosaic Idealize.ShloMosaic.TcCoe Idealize.SL.Sem
open Cert.ReferenceIdeal Cert.ReferenceIdeal.Gen
open Cert.KernelIdeal.FFN (dGateOf dUpOf actOf dHidden)

variable (x : FVec Ideal S8192x2048 .bf16) (g : FVec Ideal S8x2048x1408 .bf16) (w : FVec Ideal S5632x2048 .bf16) (ct : FVec Ideal S8192x2048 .bf16)

/-- The incoming weight, whole: the shards side by side. -/
def wR : FVec Ideal S2048x11264 .f32 :=
  shapeCast _ (transpose S2048x8x1408 [1, 0, 2] (extf .f32 g bitsLt_bf16_f32) transposes_S8x2048x1408_S2048x8x1408_1_0_2) shapeCasts_S2048x8x1408_S2048x11264
/-- Gates and ups before the activation. -/
def zR : FVec Ideal S8192x11264 .f32 :=
  Host.dotGeneral dot_S8192x2048_S2048x11264_S8192x11264_1_0_0_1_n_n none (extf .f32 x bitsLt_bf16_f32) (wR g)
def gateR (z : FVec Ideal S8192x11264 .f32) : FVec Ideal S8192x5632 .f32 := extractStridedSlice S8192x5632 ![0, 0] z slices_S8192x11264_S8192x5632_0_0
def upR (z : FVec Ideal S8192x11264 .f32) : FVec Ideal S8192x5632 .f32 := extractStridedSlice S8192x5632 ![0, 5632] z slices_S8192x11264_S8192x5632_0_5632
def oneR : FVec Ideal S8192x5632 .f32 := broadcastInDim S8192x5632 ![] bcast_S_S8192x5632 (constant S_ .f32 0x3F800000#32)
def sigR (z : FVec Ideal S8192x11264 .f32) : FVec Ideal S8192x5632 .f32 := Host.divf oneR (addf oneR (Host.exp (Host.negf (gateR z))))
def hidR (z : FVec Ideal S8192x11264 .f32) : FVec Ideal S8192x5632 .f32 := mulf (mulf (gateR z) (sigR z)) (upR z)
def daR : FVec Ideal S8192x5632 .f32 :=
  Host.dotGeneral dot_S8192x2048_S5632x2048_S8192x5632_1_1_0_0_n_n none (extf .f32 ct bitsLt_bf16_f32) (extf .f32 w bitsLt_bf16_f32)
def dGateR (z : FVec Ideal S8192x11264 .f32) (a : FVec Ideal S8192x5632 .f32) : FVec Ideal S8192x5632 .f32 :=
  addf (mulf (mulf a (upR z)) (sigR z)) (mulf (mulf (gateR z) (mulf a (upR z))) (mulf (sigR z) (subf oneR (sigR z))))
def dUpR (z : FVec Ideal S8192x11264 .f32) (a : FVec Ideal S8192x5632 .f32) : FVec Ideal S8192x5632 .f32 := mulf (mulf (gateR z) (sigR z)) a
/-- The gradient to gates and ups. -/
def dzR (z : FVec Ideal S8192x11264 .f32) (a : FVec Ideal S8192x5632 .f32) : FVec Ideal S8192x11264 .f32 :=
  concatenate S8192x11264 1 [⟨S8192x5632, dGateR z a⟩, ⟨S8192x5632, dUpR z a⟩] concatenates_S8192x5632_S8192x5632_S8192x11264_d1
def dxR (dz : FVec Ideal S8192x11264 .f32) (W : FVec Ideal S2048x11264 .f32) : FVec Ideal S8192x2048 .f32 :=
  Host.dotGeneral dot_S8192x11264_S2048x11264_S8192x2048_1_1_0_0_n_n none dz W
def dwinR (dz : FVec Ideal S8192x11264 .f32) : FVec Ideal S8x2048x1408 .bf16 :=
  truncf .bf16 (transpose S8x2048x1408 [1, 0, 2] (shapeCast _ (transpose S2048x11264 [1, 0] (Host.dotGeneral dot_S8192x11264_S8192x2048_S11264x2048_0_0_1_1_n_n none dz (extf .f32 x bitsLt_bf16_f32)) transposes_S11264x2048_S2048x11264_1_0) shapeCasts_S2048x11264_S2048x8x1408) transposes_S2048x8x1408_S8x2048x1408_1_0_2) bitsLt_bf16_f32
def dwoutR (h : FVec Ideal S8192x5632 .f32) : FVec Ideal S5632x2048 .bf16 :=
  truncf .bf16 (transpose S5632x2048 [1, 0] (Host.dotGeneral dot_S8192x2048_S8192x5632_S2048x5632_0_0_1_1_n_n none (extf .f32 ct bitsLt_bf16_f32) h) transposes_S2048x5632_S5632x2048_1_0) bitsLt_bf16_f32

theorem wR_apply (k : Fin 2048) (j : Fin 11264) :
    wR g (ix2 k j) = g (ix3 ⟨j.val / 1408, by omega⟩ k ⟨j.val % 1408, by omega⟩) := by
  pointwise [wR]
theorem zR_apply (l : Fin 8192) (j : Fin 11264) : zR x g (ix2 l j) = ∑ k : Fin 2048, x (ix2 l k) * wR g (ix2 k j) := by
  pointwise [zR]
theorem oneR_apply (l : Fin 8192) (h : Fin 5632) : oneR (ix2 l h) = (1 : EReal) := by
  pointwise [oneR]
theorem sigR_apply (z : FVec Ideal S8192x11264 .f32) (l : Fin 8192) (h : Fin 5632) :
    sigR z (ix2 l h) = Ideal.logistic (z (ix2 l ⟨h.val, by omega⟩)) := by
  pointwise [sigR, oneR, gateR]
  rfl
theorem hidR_apply (z : FVec Ideal S8192x11264 .f32) (l : Fin 8192) (h : Fin 5632) :
    hidR z (ix2 l h) = actOf (z (ix2 l ⟨h.val, by omega⟩)) (z (ix2 l ⟨5632 + h.val, by omega⟩)) := by
  unfold actOf
  pointwise [hidR, gateR, upR, sigR_apply]
theorem daR_apply (l : Fin 8192) (h : Fin 5632) : daR w ct (ix2 l h) = dHidden ct w l h := by
  unfold dHidden
  pointwise [daR]
theorem dGateR_apply (z : FVec Ideal S8192x11264 .f32) (a : FVec Ideal S8192x5632 .f32) (l : Fin 8192) (h : Fin 5632) :
    dGateR z a (ix2 l h) = dGateOf (z (ix2 l ⟨h.val, by omega⟩)) (z (ix2 l ⟨5632 + h.val, by omega⟩)) (a (ix2 l h)) := by
  unfold dGateOf
  pointwise [dGateR, gateR, upR, sigR_apply, oneR]
theorem dUpR_apply (z : FVec Ideal S8192x11264 .f32) (a : FVec Ideal S8192x5632 .f32) (l : Fin 8192) (h : Fin 5632) :
    dUpR z a (ix2 l h) = dUpOf (z (ix2 l ⟨h.val, by omega⟩)) (a (ix2 l h)) := by
  unfold dUpOf
  pointwise [dUpR, gateR, sigR_apply]
theorem dzR_apply (z : FVec Ideal S8192x11264 .f32) (a : FVec Ideal S8192x5632 .f32) (l : Fin 8192) (j : Fin 11264) :
    dzR z a (ix2 l j) = if h : j.val < 5632 then dGateR z a (ix2 l ⟨j.val, h⟩) else dUpR z a (ix2 l ⟨j.val - 5632, by omega⟩) := by
  pointwise [dzR]
theorem dxR_apply (dz : FVec Ideal S8192x11264 .f32) (W : FVec Ideal S2048x11264 .f32) (l : Fin 8192) (k : Fin 2048) :
    dxR dz W (ix2 l k) = ∑ j : Fin 11264, dz (ix2 l j) * W (ix2 k j) := by
  pointwise [dxR]
theorem dwinR_apply (dz : FVec Ideal S8192x11264 .f32) (d : Fin 8) (k : Fin 2048) (s : Fin 1408) :
    dwinR x dz (ix3 d k s) = ∑ l : Fin 8192, dz (ix2 l ⟨d.val * 1408 + s.val, by omega⟩) * x (ix2 l k) := by
  pointwise [dwinR]
theorem dwoutR_apply (h : FVec Ideal S8192x5632 .f32) (r : Fin 5632) (k : Fin 2048) :
    dwoutR ct h (ix2 r k) = ∑ l : Fin 8192, ct (ix2 l k) * h (ix2 l r) := by
  pointwise [dwoutR]

/-! ## The interleaved columns are the columns -/

open Cert.KernelIdeal.FFN (wcol icol interleave shards preAct dPreAct hidden gradX gradIn gradOut gateCol upCol unitOf)

theorem wcol_icol (o : Fin 11264) : wcol (icol o) = o := by
  ext; simp only [wcol, icol]; omega
theorem icol_wcol (j : Fin 11264) : icol (wcol j) = j := by
  ext; simp only [wcol, icol]; omega
/-- The interleaving as a bijection. -/
def colEquiv : Fin 11264 ≃ Fin 11264 := ⟨wcol, icol, icol_wcol, wcol_icol⟩

theorem interleave_apply (k : Fin 2048) (j : Fin 11264) : interleave g (ix2 k j) = wR g (ix2 k (wcol j)) :=
  (wR_apply g k (wcol j)).symm

/-- Column `j` of the calls' interleaved array before the activation is column `wcol j` of the plain one. -/
theorem z_apply (l : Fin 8192) (j : Fin 11264) : preAct x (interleave g) (ix2 l j) = zR x g (ix2 l (wcol j)) := by
  rw [zR_apply]
  exact Finset.sum_congr rfl fun k _ => Ideal.mul_congr rfl (interleave_apply g k j)

theorem wcol_gate (h : Fin 5632) : wcol (gateCol h) = ⟨h.val, by omega⟩ := by
  ext; simp only [wcol, gateCol]; omega
theorem wcol_up (h : Fin 5632) : wcol (upCol h) = ⟨5632 + h.val, by omega⟩ := by
  ext; simp only [wcol, upCol]; omega

theorem hid_apply (l : Fin 8192) (h : Fin 5632) : hidden (preAct x (interleave g)) (ix2 l h) = hidR (zR x g) (ix2 l h) := by
  rw [hidR_apply]
  refine congrArg₂ actOf ?_ ?_
  · exact (z_apply x g l (gateCol h)).trans (by rw [wcol_gate])
  · exact (z_apply x g l (upCol h)).trans (by rw [wcol_up])

theorem dz_apply (l : Fin 8192) (j : Fin 11264) :
    dPreAct ct w (preAct x (interleave g)) (ix2 l j) = dzR (zR x g) (daR w ct) (ix2 l (wcol j)) := by
  rw [dzR_apply]
  have hz : ∀ j, preAct x (interleave g) (ix2 l j) = zR x g (ix2 l (wcol j)) := z_apply x g l
  show (if j.val % 1024 < 512 then dGateOf (preAct x (interleave g) (ix2 l (gateCol (unitOf j)))) (preAct x (interleave g) (ix2 l (upCol (unitOf j)))) (dHidden ct w l (unitOf j))
    else dUpOf (preAct x (interleave g) (ix2 l (gateCol (unitOf j)))) (dHidden ct w l (unitOf j))) = _
  rw [hz, hz, wcol_gate, wcol_up]
  by_cases hj : j.val % 1024 < 512
  · have h1 : (wcol j).val < 5632 := by simp only [wcol]; omega
    have h2 : (⟨(wcol j).val, h1⟩ : Fin 5632) = unitOf j := by ext; simp only [wcol, unitOf]; omega
    rw [if_pos hj, dif_pos h1, dGateR_apply, daR_apply, h2]
  · have h1 : ¬ (wcol j).val < 5632 := by simp only [wcol]; omega
    have h2 : (⟨(wcol j).val - 5632, by omega⟩ : Fin 5632) = unitOf j := by ext; simp only [wcol, unitOf]; omega
    rw [if_neg hj, dif_neg h1, dUpR_apply, daR_apply, h2]

/-- The gradient of the block's input. -/
theorem dx_eq : gradX (dPreAct ct w (preAct x (interleave g))) (interleave g) = dxR (dzR (zR x g) (daR w ct)) (wR g) := by
  funext i
  obtain ⟨l, k, rfl⟩ : ∃ (l : Fin 8192) (k : Fin 2048), i = ix2 l k := ⟨i 0, i 1, eq_ix2 i⟩
  rw [dxR_apply]
  exact (Finset.sum_congr rfl fun j _ => Ideal.mul_congr (dz_apply x g w ct l j) (interleave_apply g k j)).trans
    (colEquiv.sum_comp fun j => dzR (zR x g) (daR w ct) (ix2 l j) * wR g (ix2 k j))

/-- The gradient of the incoming weight, in shards. -/
theorem dwin_eq : shards (gradIn x (dPreAct ct w (preAct x (interleave g)))) = dwinR x (dzR (zR x g) (daR w ct)) := by
  funext i
  obtain ⟨d, k, s, rfl⟩ : ∃ (d : Fin 8) (k : Fin 2048) (s : Fin 1408), i = ix3 d k s := ⟨i 0, i 1, i 2, eq_ix3 i⟩
  rw [dwinR_apply]
  show ∑ l : Fin 8192, x (ix2 l k) * dPreAct ct w (preAct x (interleave g)) (ix2 l (icol ⟨d.val * 1408 + s.val, by omega⟩)) = _
  refine Finset.sum_congr rfl fun l _ => (mul_comm _ _).trans (Ideal.mul_congr ?_ rfl)
  exact (dz_apply x g w ct l _).trans (by rw [wcol_icol])

/-- The gradient of the outgoing weight. -/
theorem dwout_eq : gradOut (hidden (preAct x (interleave g))) ct = dwoutR ct (hidR (zR x g)) := by
  funext i
  obtain ⟨r, k, rfl⟩ : ∃ (r : Fin 5632) (k : Fin 2048), i = ix2 r k := ⟨i 0, i 1, eq_ix2 i⟩
  rw [dwoutR_apply]
  exact Finset.sum_congr rfl fun l _ => (mul_comm _ _).trans (Ideal.mul_congr rfl (hid_apply x g l r))

end Cert.ReferenceIdeal.FFN

end
-- ==== Proof.Mg.Products.lean ====
/- What the seven matrix products around the gate merge leave in their result arrays, as functions of the arrays they are launched on. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Merge

open Idealize.ShloMosaic Idealize.ShloMosaic.TcCoe Idealize.SL Idealize.SL.Sem
open Cert.Kernel2Ideal Cert.Kernel2Ideal.Gen

variable (V : (c : Dev nD) → (b : Ref sig .tc) → Buf (Elt Ideal) ((c : Thread nD τ).loc b))

/-- A mixer's output of the 8192 tokens (the 512 rows before them left out) through its branch weight. -/
def branchA (x : FVec Ideal S8704x1024 .bf16) (y : FVec Ideal S1024x2048 .bf16) : FVec Ideal S8192x2048 .f32 :=
  fun i => ∑ k : Fin 1024, x (ix2 ⟨512 + (i 0).val, by have h : (i 0).val < 8192 := (i 0).isLt; omega⟩ k) * y (ix2 k (i 1))

theorem idx2 : ∀ t : Fin cfg2.N, win2_0.index t = ![t.val + 1, 0] ∧ win2_1.index t = ![0, 0]
    ∧ win2_2.index t = ![t.val, 0] :=
  (by decide +kernel : ∀ t : Fin grid2.N, _)

theorem pay2_apply (x : FVec Ideal S512x1024 .bf16) (y : FVec Ideal S1024x2048 .bf16) (r : Fin 512) (s : Fin 2048) :
    k2_pay1 (F := Ideal) x y (ix2 r s) = ∑ k : Fin 1024, x (ix2 r k) * y (ix2 k s) := by
  pointwise [k2_pay1]

theorem final2 (c : Dev nD) :
    (dat2 V c).arrAt 2 cfg2.N = branchA (V c main_arg1) (V c main_v0) := by
  refine (dat2 V c).arrAt_eq_of_covers 2 _ (by decide +kernel) fun t hf y => ?_
  blk_simp
  rw [after2_2]; frame_out
  rw [show (y : S512x2048.Idx) = ix2 (y 0) (y 1) from eq_ix2 y]
  refine (pay2_apply _ _ _ _).trans ?_
  unfold branchA
  refine Finset.sum_congr rfl fun k _ => Ideal.mul_congr ?_ ?_
  · blk_simp [iblk2]
    refine congrArg _ ?_
    blk_ext [(idx2 t).1, (idx2 t).2.2]
  · blk_simp [iblk2]
    refine congrArg _ ?_
    blk_ext [(idx2 t).2.1, (idx2 t).2.2]

/-- The same of the other mixer. -/
def branchB (x : FVec Ideal S8704x1024 .bf16) (y : FVec Ideal S1024x2048 .bf16) : FVec Ideal S8192x2048 .f32 :=
  fun i => ∑ k : Fin 1024, x (ix2 ⟨512 + (i 0).val, by have h : (i 0).val < 8192 := (i 0).isLt; omega⟩ k) * y (ix2 k (i 1))

theorem idx3 : ∀ t : Fin cfg3.N, win3_0.index t = ![t.val + 1, 0] ∧ win3_1.index t = ![0, 0]
    ∧ win3_2.index t = ![t.val, 0] :=
  (by decide +kernel : ∀ t : Fin grid3.N, _)

theorem pay3_apply (x : FVec Ideal S512x1024 .bf16) (y : FVec Ideal S1024x2048 .bf16) (r : Fin 512) (s : Fin 2048) :
    k3_pay1 (F := Ideal) x y (ix2 r s) = ∑ k : Fin 1024, x (ix2 r k) * y (ix2 k s) := by
  pointwise [k3_pay1]

theorem final3 (c : Dev nD) :
    (dat3 V c).arrAt 2 cfg3.N = branchB (V c main_arg2) (V c main_v1) := by
  refine (dat3 V c).arrAt_eq_of_covers 2 _ (by decide +kernel) fun t hf y => ?_
  blk_simp
  rw [after3_2]; frame_out
  rw [show (y : S512x2048.Idx) = ix2 (y 0) (y 1) from eq_ix2 y]
  refine (pay3_apply _ _ _ _).trans ?_
  unfold branchB
  refine Finset.sum_congr rfl fun k _ => Ideal.mul_congr ?_ ?_
  · blk_simp [iblk3]
    refine congrArg _ ?_
    blk_ext [(idx3 t).1, (idx3 t).2.2]
  · blk_simp [iblk3]
    refine congrArg _ ?_
    blk_ext [(idx3 t).2.1, (idx3 t).2.2]

/-- The gradient of the outgoing weight, contracted over the tokens. -/
def gradOut (x : FVec Ideal S8192x2048 .bf16) (y : FVec Ideal S8192x2048 .bf16) : FVec Ideal S2048x2048 .bf16 :=
  fun i => ∑ k : Fin 8192, x (ix2 k (i 0)) * y (ix2 k (i 1))

theorem idx6 : ∀ t : Fin cfg6.N, win6_0.index t = ![0, t.val % 4] ∧ win6_1.index t = ![0, t.val / 4]
    ∧ win6_2.index t = ![t.val % 4, t.val / 4] :=
  (by decide +kernel : ∀ t : Fin grid6.N, _)

theorem pay6_apply (x : FVec Ideal S8192x512 .bf16) (y : FVec Ideal S8192x512 .bf16) (r : Fin 512) (s : Fin 512) :
    k6_pay1 (F := Ideal) x y (ix2 r s) = ∑ k : Fin 8192, x (ix2 k r) * y (ix2 k s) := by
  pointwise [k6_pay1]

theorem final6 (c : Dev nD) :
    (dat6 V c).arrAt 2 cfg6.N = gradOut (V c main_v5_0) (V c main_arg8) := by
  refine (dat6 V c).arrAt_eq_of_covers 2 _ (by decide +kernel) fun t hf y => ?_
  blk_simp
  rw [after6_2]; frame_out
  rw [show (y : S512x512.Idx) = ix2 (y 0) (y 1) from eq_ix2 y]
  refine (pay6_apply _ _ _ _).trans ?_
  unfold gradOut
  refine Finset.sum_congr rfl fun k _ => Ideal.mul_congr ?_ ?_
  · blk_simp [iblk6]
    refine congrArg _ ?_
    blk_ext [(idx6 t).1, (idx6 t).2.2]
  · blk_simp [iblk6]
    refine congrArg _ ?_
    blk_ext [(idx6 t).2.1, (idx6 t).2.2]

/-- The gradient of a mixer's output. -/
def gradOa (x : FVec Ideal S8704x2048 .bf16) (y : FVec Ideal S1024x2048 .bf16) : FVec Ideal S8704x1024 .f32 :=
  fun i => ∑ k : Fin 2048, x (ix2 (i 0) k) * y (ix2 (i 1) k)

theorem idx7 : ∀ t : Fin cfg7.N, win7_0.index t = ![t.val, 0] ∧ win7_1.index t = ![0, 0]
    ∧ win7_2.index t = ![t.val, 0] :=
  (by decide +kernel : ∀ t : Fin grid7.N, _)

theorem pay7_apply (x : FVec Ideal S1088x2048 .bf16) (y : FVec Ideal S1024x2048 .bf16) (r : Fin 1088) (s : Fin 1024) :
    k7_pay1 (F := Ideal) x y (ix2 r s) = ∑ k : Fin 2048, x (ix2 r k) * y (ix2 s k) := by
  pointwise [k7_pay1]

theorem final7 (c : Dev nD) :
    (dat7 V c).arrAt 2 cfg7.N = gradOa (V c main_v6_1) (V c main_v0) := by
  refine (dat7 V c).arrAt_eq_of_covers 2 _ (by decide +kernel) fun t hf y => ?_
  blk_simp
  rw [after7_2]; frame_out
  rw [show (y : S1088x1024.Idx) = ix2 (y 0) (y 1) from eq_ix2 y]
  refine (pay7_apply _ _ _ _).trans ?_
  unfold gradOa
  refine Finset.sum_congr rfl fun k _ => Ideal.mul_congr ?_ ?_
  · blk_simp [iblk7]
    refine congrArg _ ?_
    blk_ext [(idx7 t).1, (idx7 t).2.2]
  · blk_simp [iblk7]
    refine congrArg _ ?_
    blk_ext [(idx7 t).2.1, (idx7 t).2.2]

/-- The gradient of a mixer's output. -/
def gradOb (x : FVec Ideal S8704x2048 .bf16) (y : FVec Ideal S1024x2048 .bf16) : FVec Ideal S8704x1024 .f32 :=
  fun i => ∑ k : Fin 2048, x (ix2 (i 0) k) * y (ix2 (i 1) k)

theorem idx8 : ∀ t : Fin cfg8.N, win8_0.index t = ![t.val, 0] ∧ win8_1.index t = ![0, 0]
    ∧ win8_2.index t = ![t.val, 0] :=
  (by decide +kernel : ∀ t : Fin grid8.N, _)

theorem pay8_apply (x : FVec Ideal S1088x2048 .bf16) (y : FVec Ideal S1024x2048 .bf16) (r : Fin 1088) (s : Fin 1024) :
    k8_pay1 (F := Ideal) x y (ix2 r s) = ∑ k : Fin 2048, x (ix2 r k) * y (ix2 s k) := by
  pointwise [k8_pay1]

theorem final8 (c : Dev nD) :
    (dat8 V c).arrAt 2 cfg8.N = gradOb (V c main_v6_2) (V c main_v1) := by
  refine (dat8 V c).arrAt_eq_of_covers 2 _ (by decide +kernel) fun t hf y => ?_
  blk_simp
  rw [after8_2]; frame_out
  rw [show (y : S1088x1024.Idx) = ix2 (y 0) (y 1) from eq_ix2 y]
  refine (pay8_apply _ _ _ _).trans ?_
  unfold gradOb
  refine Finset.sum_congr rfl fun k _ => Ideal.mul_congr ?_ ?_
  · blk_simp [iblk8]
    refine congrArg _ ?_
    blk_ext [(idx8 t).1, (idx8 t).2.2]
  · blk_simp [iblk8]
    refine congrArg _ ?_
    blk_ext [(idx8 t).2.1, (idx8 t).2.2]

/-- The gradient of a branch weight, contracted over all rows. -/
def gradWa (x : FVec Ideal S8704x1024 .bf16) (y : FVec Ideal S8704x2048 .bf16) : FVec Ideal S1024x2048 .bf16 :=
  fun i => ∑ k : Fin 8704, x (ix2 k (i 0)) * y (ix2 k (i 1))

theorem idx9 : ∀ t : Fin cfg9.N, win9_0.index t = ![0, t.val % 2] ∧ win9_1.index t = ![0, t.val / 2]
    ∧ win9_2.index t = ![t.val % 2, t.val / 2] :=
  (by decide +kernel : ∀ t : Fin grid9.N, _)

theorem pay9_apply (x : FVec Ideal S8704x512 .bf16) (y : FVec Ideal S8704x512 .bf16) (r : Fin 512) (s : Fin 512) :
    k9_pay1 (F := Ideal) x y (ix2 r s) = ∑ k : Fin 8704, x (ix2 k r) * y (ix2 k s) := by
  pointwise [k9_pay1]

theorem final9 (c : Dev nD) :
    (dat9 V c).arrAt 2 cfg9.N = gradWa (V c main_arg1) (V c main_v6_1) := by
  refine (dat9 V c).arrAt_eq_of_covers 2 _ (by decide +kernel) fun t hf y => ?_
  blk_simp
  rw [after9_2]; frame_out
  rw [show (y : S512x512.Idx) = ix2 (y 0) (y 1) from eq_ix2 y]
  refine (pay9_apply _ _ _ _).trans ?_
  unfold gradWa
  refine Finset.sum_congr rfl fun k _ => Ideal.mul_congr ?_ ?_
  · blk_simp [iblk9]
    refine congrArg _ ?_
    blk_ext [(idx9 t).1, (idx9 t).2.2]
  · blk_simp [iblk9]
    refine congrArg _ ?_
    blk_ext [(idx9 t).2.1, (idx9 t).2.2]

/-- The gradient of a branch weight, contracted over all rows. -/
def gradWb (x : FVec Ideal S8704x1024 .bf16) (y : FVec Ideal S8704x2048 .bf16) : FVec Ideal S1024x2048 .bf16 :=
  fun i => ∑ k : Fin 8704, x (ix2 k (i 0)) * y (ix2 k (i 1))

theorem idx10 : ∀ t : Fin cfg10.N, win10_0.index t = ![0, t.val % 2] ∧ win10_1.index t = ![0, t.val / 2]
    ∧ win10_2.index t = ![t.val % 2, t.val / 2] :=
  (by decide +kernel : ∀ t : Fin grid10.N, _)

theorem pay10_apply (x : FVec Ideal S8704x512 .bf16) (y : FVec Ideal S8704x512 .bf16) (r : Fin 512) (s : Fin 512) :
    k10_pay1 (F := Ideal) x y (ix2 r s) = ∑ k : Fin 8704, x (ix2 k r) * y (ix2 k s) := by
  pointwise [k10_pay1]

theorem final10 (c : Dev nD) :
    (dat10 V c).arrAt 2 cfg10.N = gradWb (V c main_arg2) (V c main_v6_2) := by
  refine (dat10 V c).arrAt_eq_of_covers 2 _ (by decide +kernel) fun t hf y => ?_
  blk_simp
  rw [after10_2]; frame_out
  rw [show (y : S512x512.Idx) = ix2 (y 0) (y 1) from eq_ix2 y]
  refine (pay10_apply _ _ _ _).trans ?_
  unfold gradWb
  refine Finset.sum_congr rfl fun k _ => Ideal.mul_congr ?_ ?_
  · blk_simp [iblk10]
    refine congrArg _ ?_
    blk_ext [(idx10 t).1, (idx10 t).2.2]
  · blk_simp [iblk10]
    refine congrArg _ ?_
    blk_ext [(idx10 t).2.1, (idx10 t).2.2]

end Cert.Kernel2Ideal.Merge

end
-- ==== Proof.Mg.Layout.lean ====
/- What the calls that lay out the branch weights, and those that lay out their gradients in shards, leave in their result arrays. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Merge

open Idealize.ShloMosaic Idealize.ShloMosaic.TcCoe Idealize.SL Idealize.SL.Sem
open Cert.Kernel2Ideal Cert.Kernel2Ideal.Gen

variable (V : (c : Dev nD) → (b : Ref sig .tc) → Buf (Elt Ideal) ((c : Thread nD τ).loc b))

/-- A branch weight from the eight shards of 256 columns that the devices hold. -/
def wCols (g : FVec Ideal S8x1024x256 .bf16) : FVec Ideal S1024x2048 .bf16 :=
  fun i => g (ix3 ⟨(i 1).val / 256, by have h : (i 1).val < 2048 := (i 1).isLt; omega⟩ (i 0) ⟨(i 1).val % 256, by omega⟩)

/-- A branch weight's gradient in eight shards of 256 columns. -/
def wShards (y : FVec Ideal S1024x2048 .bf16) : FVec Ideal S8x1024x256 .bf16 :=
  fun i => y (ix2 (i 1) ⟨(i 0).val * 256 + (i 2).val, by
    have h : (i 0).val < 8 := (i 0).isLt
    have h' : (i 2).val < 256 := (i 2).isLt
    omega⟩)

theorem idx0 : ∀ t : Fin cfg0.N, win0_0.index t = ![0, t.val, 0] ∧ win0_1.index t = ![t.val, 0] :=
  (by decide +kernel : ∀ t : Fin grid0.N, _)

set_option maxHeartbeats 4000000 in
theorem final0 (c : Dev nD) :
    (dat0 V c).arrAt 1 cfg0.N = wCols (V c main_arg3) := by
  refine (dat0 V c).arrAt_eq_of_covers 1 _ (by decide +kernel) fun t hf y => ?_
  blk_simp
  rw [after0_1]; frame_out
  canon_tiles x h using (View.cover_of_tiledBy _ ![256, 256] (by sl_kernel_rfl) y)
  all_goals
    pointwise [k0_pay1, k0_pay2, k0_pay3, k0_pay4, k0_pay5, k0_pay6, k0_pay7, k0_pay8]
    unfold wCols
    blk_simp [iblk0]
    refine congrArg _ ?_
    blk_ext [(idx0 t).1, (idx0 t).2]

theorem idx1 : ∀ t : Fin cfg1.N, win1_0.index t = ![0, t.val, 0] ∧ win1_1.index t = ![t.val, 0] :=
  (by decide +kernel : ∀ t : Fin grid1.N, _)

set_option maxHeartbeats 4000000 in
theorem final1 (c : Dev nD) :
    (dat1 V c).arrAt 1 cfg1.N = wCols (V c main_arg4) := by
  refine (dat1 V c).arrAt_eq_of_covers 1 _ (by decide +kernel) fun t hf y => ?_
  blk_simp
  rw [after1_1]; frame_out
  canon_tiles x h using (View.cover_of_tiledBy _ ![256, 256] (by sl_kernel_rfl) y)
  all_goals
    pointwise [k1_pay1, k1_pay2, k1_pay3, k1_pay4, k1_pay5, k1_pay6, k1_pay7, k1_pay8]
    unfold wCols
    blk_simp [iblk1]
    refine congrArg _ ?_
    blk_ext [(idx1 t).1, (idx1 t).2]

theorem idx11 : ∀ t : Fin cfg11.N, win11_0.index t = ![t.val, 0] ∧ win11_1.index t = ![0, t.val, 0] :=
  (by decide +kernel : ∀ t : Fin grid11.N, _)

set_option maxHeartbeats 4000000 in
theorem final11 (c : Dev nD) :
    (dat11 V c).arrAt 1 cfg11.N = wShards (V c main_v10) := by
  refine (dat11 V c).arrAt_eq_of_covers 1 _ (by decide +kernel) fun t hf y => ?_
  blk_simp
  rw [after11_1]; frame_out
  canon_tiles x h using (View.cover_of_tiledBy _ ![1, 256, 256] (by sl_kernel_rfl) y)
  all_goals
    pointwise [k11_pay1, k11_pay2, k11_pay3, k11_pay4, k11_pay5, k11_pay6, k11_pay7, k11_pay8, k11_pay9]
    unfold wShards
    blk_simp [iblk11]
    refine congrArg _ ?_
    blk_ext [(idx11 t).1, (idx11 t).2]

theorem idx12 : ∀ t : Fin cfg12.N, win12_0.index t = ![t.val, 0] ∧ win12_1.index t = ![0, t.val, 0] :=
  (by decide +kernel : ∀ t : Fin grid12.N, _)

set_option maxHeartbeats 4000000 in
theorem final12 (c : Dev nD) :
    (dat12 V c).arrAt 1 cfg12.N = wShards (V c main_v11) := by
  refine (dat12 V c).arrAt_eq_of_covers 1 _ (by decide +kernel) fun t hf y => ?_
  blk_simp
  rw [after12_1]; frame_out
  canon_tiles x h using (View.cover_of_tiledBy _ ![1, 256, 256] (by sl_kernel_rfl) y)
  all_goals
    pointwise [k12_pay1, k12_pay2, k12_pay3, k12_pay4, k12_pay5, k12_pay6, k12_pay7, k12_pay8, k12_pay9]
    unfold wShards
    blk_simp [iblk12]
    refine congrArg _ ?_
    blk_ext [(idx12 t).1, (idx12 t).2]

end Cert.Kernel2Ideal.Merge

end
-- ==== Proof.Mg.Mix.lean ====
/- What the call that merges the two branches and adds the result to the residual stream leaves in its result arrays. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Merge

open Idealize.ShloMosaic Idealize.ShloMosaic.TcCoe Idealize.SL Idealize.SL.Sem
open Cert.Kernel2Ideal Cert.Kernel2Ideal.Gen

variable (V : (c : Dev nD) → (b : Ref sig .tc) → Buf (Elt Ideal) ((c : Thread nD τ).loc b))

/-- A row over the root of its mean square, times a weight. -/
def normRow (x : Fin 2048 → EReal) (w : EReal) (k : Fin 2048) : EReal :=
  x k * Ideal.rsqrt (Ideal.div (∑ j : Fin 2048, x j * x j) (Ideal.ofBits .f32 0x45000000#32) + Ideal.ofBits .f32 0x358637BD#32) * w

theorem normRow_congr {x y : Fin 2048 → EReal} (h : ∀ k, x k = y k) {v w : EReal} (hw : v = w) {s s' : Fin 2048} (hs : s = s') :
    normRow x v s = normRow y w s' := by
  rw [funext h, hw, hs]

/-- The two branches, each under its gate, added. -/
def mixOf (u a v b : EReal) : EReal := Ideal.logistic u * a + Ideal.logistic v * b

/-- … at a token: its gates stand in the last 4096 columns of the projection, whose first 512 rows are before the tokens. -/
def mixed (p : FVec Ideal S8704x12288 .f32) (a b : FVec Ideal S8192x2048 .f32) : FVec Ideal S8192x2048 .bf16 :=
  fun i =>
    have h0 : (i 0).val < 8192 := (i 0).isLt
    have h1 : (i 1).val < 2048 := (i 1).isLt
    mixOf (p (ix2 ⟨512 + (i 0).val, by omega⟩ ⟨8192 + (i 1).val, by omega⟩)) (a (ix2 (i 0) (i 1)))
      (p (ix2 ⟨512 + (i 0).val, by omega⟩ ⟨10240 + (i 1).val, by omega⟩)) (b (ix2 (i 0) (i 1)))

/-- The residual stream after the mixers. -/
def stream (x : FVec Ideal S8192x2048 .f32) (y : FVec Ideal S8192x2048 .bf16) (w : FVec Ideal S2048x2048 .bf16) : FVec Ideal S8192x2048 .f32 :=
  fun i => x (ix2 (i 0) (i 1)) + ∑ k : Fin 2048, y (ix2 (i 0) k) * w (ix2 k (i 1))

/-- … normalised. -/
def normed (x : FVec Ideal S8192x2048 .f32) (w : FVec Ideal S1x2048 .f32) : FVec Ideal S8192x2048 .bf16 :=
  fun i => normRow (fun k => x (ix2 (i 0) k)) (w (ix2 0 (i 1))) (i 1)

theorem pay4_1 (p : FVec Ideal S256x4096 .f32) (a b : FVec Ideal S256x2048 .f32) (r : Fin 256) (s : Fin 2048) :
    k4_pay1 (F := Ideal) p a b (ix2 r s)
      = mixOf (p (ix2 r ⟨s.val, by omega⟩)) (a (ix2 r s)) (p (ix2 r ⟨2048 + s.val, by omega⟩)) (b (ix2 r s)) := by
  unfold mixOf
  pointwise [k4_pay1]
  all_goals rfl

theorem pay4_2 (p : FVec Ideal S256x4096 .f32) (a b x : FVec Ideal S256x2048 .f32) (w : FVec Ideal S2048x2048 .bf16) (r : Fin 256) (s : Fin 2048) :
    k4_pay2 (F := Ideal) p a b x w (ix2 r s) = x (ix2 r s) + ∑ k : Fin 2048, k4_pay1 (F := Ideal) p a b (ix2 r k) * w (ix2 k s) := by
  pointwise [k4_pay2]

theorem pay4_3 (p : FVec Ideal S256x4096 .f32) (a b x : FVec Ideal S256x2048 .f32) (w : FVec Ideal S2048x2048 .bf16) (n : FVec Ideal S1x2048 .f32) (r : Fin 256) (s : Fin 2048) :
    k4_pay3 (F := Ideal) p a b x w n (ix2 r s) = normRow (fun k => k4_pay2 (F := Ideal) p a b x w (ix2 r k)) (n (ix2 0 s)) s := by
  unfold normRow
  pointwise [k4_pay3]

theorem idx4 : ∀ t : Fin cfg4.N, win4_0.index t = ![t.val + 2, 2] ∧ win4_1.index t = ![t.val, 0] ∧ win4_2.index t = ![t.val, 0]
    ∧ win4_3.index t = ![0, 0] ∧ win4_4.index t = ![t.val, 0] ∧ win4_5.index t = ![0, 0]
    ∧ win4_6.index t = ![t.val, 0] ∧ win4_7.index t = ![t.val, 0] ∧ win4_8.index t = ![t.val, 0] :=
  (by decide +kernel : ∀ t : Fin grid4.N, _)

theorem row4 (t : Fin cfg4.N) (r : Fin 256) : t.val * 256 + r.val < 8192 := by
  have h : t.val < 32 := t.isLt
  omega

theorem mix_at (c : Dev nD) (t : Fin cfg4.N) (r : Fin 256) (s : Fin 2048) :
    k4_pay1 (F := Ideal) (iblk4 V c 0 t) (iblk4 V c 1 t) (iblk4 V c 2 t) (ix2 r s)
      = mixed (V c main_arg0) (V c main_v3) (V c main_v4) (ix2 ⟨t.val * 256 + r.val, row4 t r⟩ s) := by
  refine (pay4_1 _ _ _ _ _).trans ?_
  unfold mixed
  refine congr (congr (congr (congrArg mixOf ?_) ?_) ?_) ?_
  · blk_simp [iblk4]
    refine congrArg _ ?_
    blk_ext [(idx4 t).1]
  · blk_simp [iblk4]
    refine congrArg _ ?_
    blk_ext [(idx4 t).2.1]
  · blk_simp [iblk4]
    refine congrArg _ ?_
    blk_ext [(idx4 t).1]
  · blk_simp [iblk4]
    refine congrArg _ ?_
    blk_ext [(idx4 t).2.2.1]

theorem stream_at (c : Dev nD) (t : Fin cfg4.N) (r : Fin 256) (s : Fin 2048) :
    k4_pay2 (F := Ideal) (iblk4 V c 0 t) (iblk4 V c 1 t) (iblk4 V c 2 t) (iblk4 V c 4 t) (iblk4 V c 3 t) (ix2 r s)
      = stream (V c main_arg6) (mixed (V c main_arg0) (V c main_v3) (V c main_v4)) (V c main_v2) (ix2 ⟨t.val * 256 + r.val, row4 t r⟩ s) := by
  refine (pay4_2 _ _ _ _ _ _ _).trans ?_
  unfold stream
  refine congrArg₂ (· + ·) ?_ (Finset.sum_congr rfl fun k _ => Ideal.mul_congr (mix_at V c t r k) ?_)
  · blk_simp [iblk4]
    refine congrArg _ ?_
    blk_ext [(idx4 t).2.2.2.2.1]
  · blk_simp [iblk4]
    refine congrArg _ ?_
    blk_ext [(idx4 t).2.2.2.1]

theorem final4_6 (c : Dev nD) :
    (dat4 V c).arrAt 6 cfg4.N = mixed (V c main_arg0) (V c main_v3) (V c main_v4) := by
  refine (dat4 V c).arrAt_eq_of_covers 6 _ (by decide +kernel) fun t hf y => ?_
  blk_simp
  rw [after4_6]; frame_out
  rw [show (y : S256x2048.Idx) = ix2 (y 0) (y 1) from eq_ix2 y]
  refine (mix_at V c t _ _).trans (congrArg (mixed _ _ _) ?_)
  blk_ext [(idx4 t).2.2.2.2.2.2.1]

theorem final4_7 (c : Dev nD) :
    (dat4 V c).arrAt 7 cfg4.N = stream (V c main_arg6) (mixed (V c main_arg0) (V c main_v3) (V c main_v4)) (V c main_v2) := by
  refine (dat4 V c).arrAt_eq_of_covers 7 _ (by decide +kernel) fun t hf y => ?_
  blk_simp
  rw [after4_7]; frame_out
  rw [show (y : S256x2048.Idx) = ix2 (y 0) (y 1) from eq_ix2 y]
  refine (stream_at V c t _ _).trans (congrArg (stream _ _ _) ?_)
  blk_ext [(idx4 t).2.2.2.2.2.2.2.1]

theorem final4_8 (c : Dev nD) :
    (dat4 V c).arrAt 8 cfg4.N
      = normed (stream (V c main_arg6) (mixed (V c main_arg0) (V c main_v3) (V c main_v4)) (V c main_v2)) (V c main_arg7) := by
  refine (dat4 V c).arrAt_eq_of_covers 8 _ (by decide +kernel) fun t hf y => ?_
  blk_simp
  rw [after4_8]; frame_out
  rw [show (y : S256x2048.Idx) = ix2 (y 0) (y 1) from eq_ix2 y]
  refine (pay4_3 _ _ _ _ _ _ _ _).trans ?_
  unfold normed
  refine normRow_congr (fun k => (stream_at V c t _ k).trans (congrArg (stream _ _ _) ?_)) ?_ ?_
  · blk_ext [(idx4 t).2.2.2.2.2.2.2.2]
  · blk_simp [iblk4]
    refine congrArg _ ?_
    blk_ext [(idx4 t).2.2.2.2.2.1, (idx4 t).2.2.2.2.2.2.2.2]
  · exact Fin.ext (by blk_simp [(idx4 t).2.2.2.2.2.2.2.2])

end Cert.Kernel2Ideal.Merge

end
-- ==== Proof.Mg.Back.lean ====
/- What the call that brings the gradient back through the merge leaves in its result arrays. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Kernel2Ideal.Merge

open Idealize.ShloMosaic Idealize.ShloMosaic.TcCoe Idealize.SL Idealize.SL.Sem
open Cert.Kernel2Ideal Cert.Kernel2Ideal.Gen

variable (V : (c : Dev nD) → (b : Ref sig .tc) → Buf (Elt Ideal) ((c : Thread nD τ).loc b))

/-- The gradient at the merged branches: the stream's gradient through the outgoing weight, transposed. -/
def dMixed (d : FVec Ideal S8192x2048 .bf16) (w : FVec Ideal S2048x2048 .bf16) : FVec Ideal S8192x2048 .f32 :=
  fun i => ∑ k : Fin 2048, d (ix2 (i 0) k) * w (ix2 (i 1) k)

/-- A branch's gradient, from its gate's column and the merged gradient. -/
def dBranchOf (u d : EReal) : EReal := Ideal.logistic u * d
/-- A gate's gradient, from the merged gradient, the branch and the gate's column. -/
def dGateOf (d a u : EReal) : EReal := d * a * (Ideal.logistic u * (Ideal.ofBits .f32 0x3F800000#32 - Ideal.logistic u))

/-- The gradient of branch a, zero at the 512 rows before the tokens. -/
def dBranchA (p : FVec Ideal S8704x12288 .f32) (d : FVec Ideal S8192x2048 .f32) : FVec Ideal S8704x2048 .bf16 :=
  fun i =>
    have h0 : (i 0).val < 8704 := (i 0).isLt
    have h1 : (i 1).val < 2048 := (i 1).isLt
    if h : (i 0).val < 512 then (0 : EReal)
    else dBranchOf (p (ix2 (i 0) ⟨8192 + (i 1).val, by omega⟩)) (d (ix2 ⟨(i 0).val - 512, by omega⟩ (i 1)))

/-- The gradient of branch b. -/
def dBranchB (p : FVec Ideal S8704x12288 .f32) (d : FVec Ideal S8192x2048 .f32) : FVec Ideal S8704x2048 .bf16 :=
  fun i =>
    have h0 : (i 0).val < 8704 := (i 0).isLt
    have h1 : (i 1).val < 2048 := (i 1).isLt
    if h : (i 0).val < 512 then (0 : EReal)
    else dBranchOf (p (ix2 (i 0) ⟨10240 + (i 1).val, by omega⟩)) (d (ix2 ⟨(i 0).val - 512, by omega⟩ (i 1)))

/-- The gradient at the gates' columns of the projection, at row `l` and gate column `j`. -/
def dGateAt (p : FVec Ideal S8704x12288 .f32) (a b d : FVec Ideal S8192x2048 .f32) (l : Fin 8704) (j : Fin 4096) : EReal :=
  if h : l.val < 512 then (0 : EReal)
  else if h' : j.val < 2048 then
    dGateOf (d (ix2 ⟨l.val - 512, by omega⟩ ⟨j.val, h'⟩)) (a (ix2 ⟨l.val - 512, by omega⟩ ⟨j.val, h'⟩)) (p (ix2 l ⟨8192 + j.val, by omega⟩))
  else
    dGateOf (d (ix2 ⟨l.val - 512, by omega⟩ ⟨j.val - 2048, by omega⟩)) (b (ix2 ⟨l.val - 512, by omega⟩ ⟨j.val - 2048, by omega⟩)) (p (ix2 l ⟨8192 + j.val, by omega⟩))

/-- … the call's whole result, of which it writes these columns only. -/
def dGates (p : FVec Ideal S8704x12288 .f32) (a b d : FVec Ideal S8192x2048 .f32) (z : FVec Ideal S8704x12288 .bf16) : FVec Ideal S8704x12288 .bf16 :=
  fun i => if h : 8192 ≤ (i 1).val then dGateAt p a b d (i 0) ⟨(i 1).val - 8192, by have h1 : (i 1).val < 12288 := (i 1).isLt; omega⟩ else z i

theorem dGates_of (p : FVec Ideal S8704x12288 .f32) (a b d : FVec Ideal S8192x2048 .f32) (z : FVec Ideal S8704x12288 .bf16)
    (j : S8704x12288.Idx) (h : 8192 ≤ (j 1).val) :
    dGates p a b d z j = dGateAt p a b d (j 0) ⟨(j 1).val - 8192, by have h1 : (j 1).val < 12288 := (j 1).isLt; omega⟩ := by
  unfold dGates
  exact dif_pos h

theorem dGates_off (p : FVec Ideal S8704x12288 .f32) (a b d : FVec Ideal S8192x2048 .f32) (z : FVec Ideal S8704x12288 .bf16)
    (j : S8704x12288.Idx) (h : ¬ 8192 ≤ (j 1).val) : dGates p a b d z j = z j := by
  unfold dGates
  exact dif_neg h

theorem pay5_4 (d : FVec Ideal S256x2048 .bf16) (w : FVec Ideal S2048x2048 .bf16) (r : Fin 256) (s : Fin 2048) :
    k5_pay4 (F := Ideal) d w (ix2 r s) = ∑ k : Fin 2048, d (ix2 r k) * w (ix2 s k) := by
  pointwise [k5_pay4]

theorem pay5_5 (p : FVec Ideal S256x4096 .f32) (r : Fin 256) (s : Fin 2048) :
    k5_pay5 (F := Ideal) p (ix2 r s) = Ideal.logistic (p (ix2 r ⟨s.val, by omega⟩)) := by
  pointwise [k5_pay5]
  all_goals rfl

theorem pay5_6 (p : FVec Ideal S256x4096 .f32) (r : Fin 256) (s : Fin 2048) :
    k5_pay6 (F := Ideal) p (ix2 r s) = Ideal.logistic (p (ix2 r ⟨2048 + s.val, by omega⟩)) := by
  pointwise [k5_pay6]
  all_goals rfl

theorem pay5_8 (d : FVec Ideal S256x2048 .bf16) (w : FVec Ideal S2048x2048 .bf16) (p : FVec Ideal S256x4096 .f32) (r : Fin 256) (s : Fin 2048) :
    k5_pay8 (F := Ideal) d w p (ix2 r s) = dBranchOf (p (ix2 r ⟨s.val, by omega⟩)) (k5_pay4 (F := Ideal) d w (ix2 r s)) := by
  unfold dBranchOf
  rw [← pay5_5]
  pointwise [k5_pay8]

theorem pay5_9 (d : FVec Ideal S256x2048 .bf16) (w : FVec Ideal S2048x2048 .bf16) (p : FVec Ideal S256x4096 .f32) (r : Fin 256) (s : Fin 2048) :
    k5_pay9 (F := Ideal) d w p (ix2 r s) = dBranchOf (p (ix2 r ⟨2048 + s.val, by omega⟩)) (k5_pay4 (F := Ideal) d w (ix2 r s)) := by
  unfold dBranchOf
  rw [← pay5_6]
  pointwise [k5_pay9]

theorem pay5_7 (d : FVec Ideal S256x2048 .bf16) (w : FVec Ideal S2048x2048 .bf16) (p : FVec Ideal S256x4096 .f32) (a b : FVec Ideal S256x2048 .f32) (r : Fin 256) (s : Fin 4096) :
    k5_pay7 (F := Ideal) d w p a b (ix2 r s)
      = if h : s.val < 2048 then dGateOf (k5_pay4 (F := Ideal) d w (ix2 r ⟨s.val, h⟩)) (a (ix2 r ⟨s.val, h⟩)) (p (ix2 r s))
        else dGateOf (k5_pay4 (F := Ideal) d w (ix2 r ⟨s.val - 2048, by omega⟩)) (b (ix2 r ⟨s.val - 2048, by omega⟩)) (p (ix2 r s)) := by
  have hl : ∀ h : s.val < 2048, Ideal.logistic (p (ix2 r s)) = k5_pay5 (F := Ideal) p (ix2 r ⟨s.val, h⟩) := fun h => (pay5_5 p r ⟨s.val, h⟩).symm
  have hr : ∀ h : ¬ s.val < 2048, Ideal.logistic (p (ix2 r s)) = k5_pay6 (F := Ideal) p (ix2 r ⟨s.val - 2048, by omega⟩) := fun h =>
    (congrArg (fun o => Ideal.logistic (p (ix2 r o))) (Fin.ext (by show s.val = 2048 + (s.val - 2048); omega))).trans (pay5_6 p r ⟨s.val - 2048, by omega⟩).symm
  unfold dGateOf
  by_cases h : s.val < 2048
  · rw [dif_pos h, hl h]
    pointwise [k5_pay7, h]
  · rw [dif_neg h, hr h]
    pointwise [k5_pay7, h]

theorem zero5_1 (i : S256x4096.Idx) : k5_pay1 (F := Ideal) i = (0 : EReal) := by
  pointwise [k5_pay1]
theorem zero5_2 (i : S256x2048.Idx) : k5_pay2 (F := Ideal) i = (0 : EReal) := by
  pointwise [k5_pay2]
theorem zero5_3 (i : S256x2048.Idx) : k5_pay3 (F := Ideal) i = (0 : EReal) := by
  pointwise [k5_pay3]

theorem idx5 : ∀ t : Fin cfg5.N, win5_0.index t = ![t.val - 2, 0] ∧ win5_1.index t = ![0, 0] ∧ win5_2.index t = ![max t.val 2, 2]
    ∧ win5_3.index t = ![t.val - 2, 0] ∧ win5_4.index t = ![t.val - 2, 0]
    ∧ win5_5.index t = ![t.val, 2] ∧ win5_6.index t = ![t.val, 0] ∧ win5_7.index t = ![t.val, 0] :=
  (by decide +kernel : ∀ t : Fin grid5.N, _)

theorem row5 (t : Fin cfg5.N) (h : 2 ≤ t.val) (r : Fin 256) : (t.val - 2) * 256 + r.val < 8192 := by
  have h : t.val < 34 := t.isLt
  omega

theorem dMixed_at (c : Dev nD) (t : Fin cfg5.N) (h : 2 ≤ t.val) (r : Fin 256) (s : Fin 2048) :
    k5_pay4 (F := Ideal) (iblk5 V c 0 t) (iblk5 V c 1 t) (ix2 r s)
      = dMixed (V c main_arg8) (V c main_v2) (ix2 ⟨(t.val - 2) * 256 + r.val, row5 t h r⟩ s) := by
  refine (pay5_4 _ _ _ _).trans ?_
  unfold dMixed
  refine Finset.sum_congr rfl fun k _ => Ideal.mul_congr ?_ ?_
  · blk_simp [iblk5]
    refine congrArg _ ?_
    blk_ext [(idx5 t).1]
  · blk_simp [iblk5]
    refine congrArg _ ?_
    blk_ext [(idx5 t).2.1]

set_option maxHeartbeats 4000000 in
theorem final5_6 (c : Dev nD) :
    (dat5 V c).arrAt 6 cfg5.N = dBranchA (V c main_arg0) (dMixed (V c main_arg8) (V c main_v2)) := by
  refine (dat5 V c).arrAt_eq_of_covers 6 _ (by decide +kernel) fun t hf y => ?_
  blk_simp
  rw [after5_6]
  have hy : (y 0).val < 256 := (y 0).isLt
  unfold dBranchA
  by_cases h : t.val < 2
  · rw [outsAt5_A V c t h (by omega)]; frame_out
    refine (zero5_2 _).trans (Eq.symm ?_)
    exact dif_pos (by blk_simp [(idx5 t).2.2.2.2.2.2.1]; omega)
  · rw [outsAt5_B V c t h (by omega)]; frame_out
    rw [show (y : S256x2048.Idx) = ix2 (y 0) (y 1) from eq_ix2 y]
    refine (pay5_8 _ _ _ _ _).trans (Eq.trans ?_ (dif_neg (by blk_simp [(idx5 t).2.2.2.2.2.2.1]; omega)).symm)
    refine congrArg₂ dBranchOf ?_ ((dMixed_at V c t (by omega) _ _).trans (congrArg (dMixed _ _) ?_))
    · blk_simp [iblk5]
      refine congrArg _ ?_
      blk_ext [(idx5 t).2.2.1, (idx5 t).2.2.2.2.2.2.1]
    · blk_ext [(idx5 t).2.2.2.2.2.2.1]

set_option maxHeartbeats 4000000 in
theorem final5_7 (c : Dev nD) :
    (dat5 V c).arrAt 7 cfg5.N = dBranchB (V c main_arg0) (dMixed (V c main_arg8) (V c main_v2)) := by
  refine (dat5 V c).arrAt_eq_of_covers 7 _ (by decide +kernel) fun t hf y => ?_
  blk_simp
  rw [after5_7]
  have hy : (y 0).val < 256 := (y 0).isLt
  unfold dBranchB
  by_cases h : t.val < 2
  · rw [outsAt5_A V c t h (by omega)]; frame_out
    refine (zero5_3 _).trans (Eq.symm ?_)
    exact dif_pos (by blk_simp [(idx5 t).2.2.2.2.2.2.2]; omega)
  · rw [outsAt5_B V c t h (by omega)]; frame_out
    rw [show (y : S256x2048.Idx) = ix2 (y 0) (y 1) from eq_ix2 y]
    refine (pay5_9 _ _ _ _ _).trans (Eq.trans ?_ (dif_neg (by blk_simp [(idx5 t).2.2.2.2.2.2.2]; omega)).symm)
    refine congrArg₂ dBranchOf ?_ ((dMixed_at V c t (by omega) _ _).trans (congrArg (dMixed _ _) ?_))
    · blk_simp [iblk5]
      refine congrArg _ ?_
      blk_ext [(idx5 t).2.2.1, (idx5 t).2.2.2.2.2.2.2]
    · blk_ext [(idx5 t).2.2.2.2.2.2.2]

set_option maxHeartbeats 4000000 in
theorem final5_5 (c : Dev nD) :
    (dat5 V c).arrAt 5 cfg5.N = dGates (V c main_arg0) (V c main_v3) (V c main_v4) (dMixed (V c main_arg8) (V c main_v2)) (V c main_v6_0) := by
  refine ((dat5 V c).arrAt_eq_of_coversWhere 5 (fun i => dGateAt (V c main_arg0) (V c main_v3) (V c main_v4) (dMixed (V c main_arg8) (V c main_v2)) (i 0)
      ⟨(i 1).val - 8192, by have h1 : (i 1).val < 12288 := (i 1).isLt; omega⟩) (P := fun i => 8192 ≤ (i 1).val) (fun β => 2 ≤ β 1) (by decide +kernel) (fun t hf y => ?_) (fun j => by blk_simp [Pipeline.Window.cell_apply]; omega)).trans (funext fun j => ?_)
  · blk_simp
    rw [after5_5]
    have hy : (y 0).val < 256 := (y 0).isLt
    have hz : (y 1).val < 4096 := (y 1).isLt
    unfold dGateAt
    by_cases h : t.val < 2
    · rw [outsAt5_A V c t h (by omega)]; frame_out
      refine (zero5_1 _).trans (Eq.symm ?_)
      exact dif_pos (by blk_simp [(idx5 t).2.2.2.2.2.1]; omega)
    · rw [outsAt5_B V c t h (by omega)]; frame_out
      rw [show (y : S256x4096.Idx) = ix2 (y 0) (y 1) from eq_ix2 y]
      refine (pay5_7 _ _ _ _ _ _ _).trans (Eq.trans ?_ (dif_neg (by blk_simp [(idx5 t).2.2.2.2.2.1]; omega)).symm)
      by_cases h' : (y 1).val < 2048
      · refine (dif_pos h').trans (Eq.trans ?_ (dif_pos (by blk_simp [(idx5 t).2.2.2.2.2.1]; omega)).symm)
        refine congr (congr (congrArg dGateOf ((dMixed_at V c t (by omega) _ _).trans (congrArg (dMixed _ _) ?_))) ?_) ?_
        · blk_ext [(idx5 t).2.2.2.2.2.1]
        · blk_simp [iblk5]
          refine congrArg _ ?_
          blk_ext [(idx5 t).2.2.2.1, (idx5 t).2.2.2.2.2.1]
        · blk_simp [iblk5]
          refine congrArg _ ?_
          blk_ext [(idx5 t).2.2.1, (idx5 t).2.2.2.2.2.1]
      · refine (dif_neg h').trans (Eq.trans ?_ (dif_neg (by blk_simp [(idx5 t).2.2.2.2.2.1]; omega)).symm)
        refine congr (congr (congrArg dGateOf ((dMixed_at V c t (by omega) _ _).trans (congrArg (dMixed _ _) ?_))) ?_) ?_
        · blk_ext [(idx5 t).2.2.2.2.2.1]
        · blk_simp [iblk5]
          refine congrArg _ ?_
          blk_ext [(idx5 t).2.2.2.2.1, (idx5 t).2.2.2.2.2.1]
        · blk_simp [iblk5]
          refine congrArg _ ?_
          blk_ext [(idx5 t).2.2.1, (idx5 t).2.2.2.2.2.1]
  · by_cases h : 8192 ≤ (j 1).val
    · exact (if_pos h).trans (dGates_of _ _ _ _ _ j h).symm
    · exact (if_neg h).trans (dGates_off _ _ _ _ (V c main_v6_0) j h).symm

end Cert.Kernel2Ideal.Merge

end
-- ==== Proof.Mg.Run.lean ====
/- The calls around the gate merge one after another: where the eight results stand at the end of the run, as functions of the arguments. -/
module

public import proofs.«01_k».proof.Proof.Mg.Products
public import proofs.«01_k».proof.Proof.Mg.Layout
public import proofs.«01_k».proof.Proof.Mg.Mix
public import proofs.«01_k».proof.Proof.Mg.Back
public import Idealize.ShloMosaic.Adequacy
public import Idealize.ShloMosaic.Init

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution of the calls ends, and every buffer that outlives them ends as the calls' write-backs leave it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  (θ_run defs _ _).mono (fun _ h => h)
  (Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => fun c => h c))
end

variable (m : (ℓ : Loc nD τ sig) → Buf (Elt Ideal) ℓ) (ρ : Dev nD → PrngReg)

/-- The branch weights and the outgoing weight. -/
abbrev waI (c : Dev nD) : FVec Ideal S1024x2048 .bf16 := wCols (m ((c : Thread nD τ).loc main_arg3))
abbrev wbI (c : Dev nD) : FVec Ideal S1024x2048 .bf16 := wCols (m ((c : Thread nD τ).loc main_arg4))
abbrev woI (c : Dev nD) : FVec Ideal S2048x2048 .bf16 := shapeCast S2048x2048 (m ((c : Thread nD τ).loc main_arg5)) shapeCasts_S8x256x2048_S2048x2048
/-- The two branches. -/
abbrev baI (c : Dev nD) : FVec Ideal S8192x2048 .f32 := branchA (m ((c : Thread nD τ).loc main_arg1)) (waI m c)
abbrev bbI (c : Dev nD) : FVec Ideal S8192x2048 .f32 := branchB (m ((c : Thread nD τ).loc main_arg2)) (wbI m c)
/-- The merged branches and the residual stream after them. -/
abbrev mixI (c : Dev nD) : FVec Ideal S8192x2048 .bf16 := mixed (m ((c : Thread nD τ).loc main_arg0)) (baI m c) (bbI m c)
abbrev streamI (c : Dev nD) : FVec Ideal S8192x2048 .f32 := stream (m ((c : Thread nD τ).loc main_arg6)) (mixI m c) (woI m c)
/-- The gradients at the merged branches and at each branch. -/
abbrev dmI (c : Dev nD) : FVec Ideal S8192x2048 .f32 := dMixed (m ((c : Thread nD τ).loc main_arg8)) (woI m c)
abbrev daI (c : Dev nD) : FVec Ideal S8704x2048 .bf16 := dBranchA (m ((c : Thread nD τ).loc main_arg0)) (dmI m c)
abbrev dbI (c : Dev nD) : FVec Ideal S8704x2048 .bf16 := dBranchB (m ((c : Thread nD τ).loc main_arg0)) (dmI m c)

theorem wa_at1 (c : Dev nD) : V1 m ρ c main_v0 = waI m c :=
  (W1_arr m ρ c 1).trans ((final0 (V0 m ρ) c).trans (by rw [show V0 m ρ c main_arg3 = m ((c : Thread nD τ).loc main_arg3) from W0_args m ρ c main_arg3 (by decide)]))
theorem wb_at2 (c : Dev nD) : V2 m ρ c main_v1 = wbI m c :=
  (W2_arr m ρ c 1).trans ((final1 (V1 m ρ) c).trans (by rw [show V1 m ρ c main_arg4 = m ((c : Thread nD τ).loc main_arg4) from W1_args m ρ c main_arg4 (by decide)]))
theorem wo_at3 (c : Dev nD) : V3 m ρ c main_v2 = woI m c := by
  have h : W2 m ρ c (Proc.devRef .tc main_arg5) = m ((c : Thread nD τ).loc main_arg5) := W2_args m ρ c main_arg5 (by decide)
  show StableHlo.after hostOps2 (W2 m ρ c) (Proc.devRef .tc main_v2) = _
  unfold woI
  rw [← h]
  simp only [hostOps2, StableHlo.reshape]
  after_results_simp <;> rfl
theorem wa_at3 (c : Dev nD) : V3 m ρ c main_v0 = waI m c :=
  (W3_of m ρ c main_v0 (by decide)).trans ((W2_of m ρ c main_v0 (by decide +kernel)).trans (wa_at1 m ρ c))
theorem ba_at4 (c : Dev nD) : V4 m ρ c main_v3 = baI m c :=
  (W4_arr m ρ c 2).trans ((final2 (V3 m ρ) c).trans (by rw [show V3 m ρ c main_arg1 = m ((c : Thread nD τ).loc main_arg1) from W3_args m ρ c main_arg1 (by decide), wa_at3]))
theorem wb_at4 (c : Dev nD) : V4 m ρ c main_v1 = wbI m c :=
  (W4_of m ρ c main_v1 (by decide +kernel)).trans ((W3_of m ρ c main_v1 (by decide)).trans (wb_at2 m ρ c))
theorem bb_at5 (c : Dev nD) : V5 m ρ c main_v4 = bbI m c :=
  (W5_arr m ρ c 2).trans ((final3 (V4 m ρ) c).trans (by rw [show V4 m ρ c main_arg2 = m ((c : Thread nD τ).loc main_arg2) from W4_args m ρ c main_arg2 (by decide), wb_at4]))
theorem ba_at5 (c : Dev nD) : V5 m ρ c main_v3 = baI m c :=
  (W5_of m ρ c main_v3 (by decide +kernel)).trans (ba_at4 m ρ c)
theorem wo_at5 (c : Dev nD) : V5 m ρ c main_v2 = woI m c :=
  (W5_of m ρ c main_v2 (by decide +kernel)).trans ((W4_of m ρ c main_v2 (by decide +kernel)).trans (wo_at3 m ρ c))
theorem mix_at6 (c : Dev nD) : V6 m ρ c main_v5_0 = mixI m c :=
  (W6_arr m ρ c 6).trans ((final4_6 (V5 m ρ) c).trans (by rw [show V5 m ρ c main_arg0 = m ((c : Thread nD τ).loc main_arg0) from W5_args m ρ c main_arg0 (by decide), ba_at5, bb_at5]))
theorem h1_at6 (c : Dev nD) : V6 m ρ c main_v5_1 = streamI m c :=
  (W6_arr m ρ c 7).trans ((final4_7 (V5 m ρ) c).trans (by rw [show V5 m ρ c main_arg0 = m ((c : Thread nD τ).loc main_arg0) from W5_args m ρ c main_arg0 (by decide), ba_at5, bb_at5, wo_at5, show V5 m ρ c main_arg6 = m ((c : Thread nD τ).loc main_arg6) from W5_args m ρ c main_arg6 (by decide)]))
theorem xn_at6 (c : Dev nD) : V6 m ρ c main_v5_2 = normed (streamI m c) (m ((c : Thread nD τ).loc main_arg7)) :=
  (W6_arr m ρ c 8).trans ((final4_8 (V5 m ρ) c).trans (by rw [show V5 m ρ c main_arg0 = m ((c : Thread nD τ).loc main_arg0) from W5_args m ρ c main_arg0 (by decide), ba_at5, bb_at5, wo_at5, show V5 m ρ c main_arg6 = m ((c : Thread nD τ).loc main_arg6) from W5_args m ρ c main_arg6 (by decide), show V5 m ρ c main_arg7 = m ((c : Thread nD τ).loc main_arg7) from W5_args m ρ c main_arg7 (by decide)]))
theorem ba_at6 (c : Dev nD) : V6 m ρ c main_v3 = baI m c :=
  (W6_of m ρ c main_v3 (by decide +kernel)).trans (ba_at5 m ρ c)
theorem bb_at6 (c : Dev nD) : V6 m ρ c main_v4 = bbI m c :=
  (W6_of m ρ c main_v4 (by decide +kernel)).trans (bb_at5 m ρ c)
theorem wo_at6 (c : Dev nD) : V6 m ρ c main_v2 = woI m c :=
  (W6_of m ρ c main_v2 (by decide +kernel)).trans (wo_at5 m ρ c)
theorem dg_at7 (c : Dev nD) : V7 m ρ c main_v6_0 = dGates (m ((c : Thread nD τ).loc main_arg0)) (baI m c) (bbI m c) (dmI m c) (V6 m ρ c main_v6_0) :=
  (W7_arr m ρ c 5).trans ((final5_5 (V6 m ρ) c).trans (by rw [show V6 m ρ c main_arg0 = m ((c : Thread nD τ).loc main_arg0) from W6_args m ρ c main_arg0 (by decide), ba_at6, bb_at6, wo_at6, show V6 m ρ c main_arg8 = m ((c : Thread nD τ).loc main_arg8) from W6_args m ρ c main_arg8 (by decide)]))
theorem da_at7 (c : Dev nD) : V7 m ρ c main_v6_1 = daI m c :=
  (W7_arr m ρ c 6).trans ((final5_6 (V6 m ρ) c).trans (by rw [show V6 m ρ c main_arg0 = m ((c : Thread nD τ).loc main_arg0) from W6_args m ρ c main_arg0 (by decide), wo_at6, show V6 m ρ c main_arg8 = m ((c : Thread nD τ).loc main_arg8) from W6_args m ρ c main_arg8 (by decide)]))
theorem db_at7 (c : Dev nD) : V7 m ρ c main_v6_2 = dbI m c :=
  (W7_arr m ρ c 7).trans ((final5_7 (V6 m ρ) c).trans (by rw [show V6 m ρ c main_arg0 = m ((c : Thread nD τ).loc main_arg0) from W6_args m ρ c main_arg0 (by decide), wo_at6, show V6 m ρ c main_arg8 = m ((c : Thread nD τ).loc main_arg8) from W6_args m ρ c main_arg8 (by decide)]))
theorem mix_at7 (c : Dev nD) : V7 m ρ c main_v5_0 = mixI m c :=
  (W7_of m ρ c main_v5_0 (by decide +kernel)).trans (mix_at6 m ρ c)
theorem dwo_at8 (c : Dev nD) : V8 m ρ c main_v7 = gradOut (mixI m c) (m ((c : Thread nD τ).loc main_arg8)) :=
  (W8_arr m ρ c 2).trans ((final6 (V7 m ρ) c).trans (by rw [mix_at7, show V7 m ρ c main_arg8 = m ((c : Thread nD τ).loc main_arg8) from W7_args m ρ c main_arg8 (by decide)]))
theorem da_at8 (c : Dev nD) : V8 m ρ c main_v6_1 = daI m c :=
  (W8_of m ρ c main_v6_1 (by decide +kernel)).trans (da_at7 m ρ c)
theorem wa_at8 (c : Dev nD) : V8 m ρ c main_v0 = waI m c :=
  (W8_of m ρ c main_v0 (by decide +kernel)).trans ((W7_of m ρ c main_v0 (by decide +kernel)).trans ((W6_of m ρ c main_v0 (by decide +kernel)).trans ((W5_of m ρ c main_v0 (by decide +kernel)).trans ((W4_of m ρ c main_v0 (by decide +kernel)).trans (wa_at3 m ρ c)))))
theorem doa_at9 (c : Dev nD) : V9 m ρ c main_v8 = gradOa (daI m c) (waI m c) :=
  (W9_arr m ρ c 2).trans ((final7 (V8 m ρ) c).trans (by rw [da_at8, wa_at8]))
theorem db_at9 (c : Dev nD) : V9 m ρ c main_v6_2 = dbI m c :=
  (W9_of m ρ c main_v6_2 (by decide +kernel)).trans ((W8_of m ρ c main_v6_2 (by decide +kernel)).trans (db_at7 m ρ c))
theorem wb_at9 (c : Dev nD) : V9 m ρ c main_v1 = wbI m c :=
  (W9_of m ρ c main_v1 (by decide +kernel)).trans ((W8_of m ρ c main_v1 (by decide +kernel)).trans ((W7_of m ρ c main_v1 (by decide +kernel)).trans ((W6_of m ρ c main_v1 (by decide +kernel)).trans ((W5_of m ρ c main_v1 (by decide +kernel)).trans (wb_at4 m ρ c)))))
theorem dob_at10 (c : Dev nD) : V10 m ρ c main_v9 = gradOb (dbI m c) (wbI m c) :=
  (W10_arr m ρ c 2).trans ((final8 (V9 m ρ) c).trans (by rw [db_at9, wb_at9]))
theorem da_at10 (c : Dev nD) : V10 m ρ c main_v6_1 = daI m c :=
  (W10_of m ρ c main_v6_1 (by decide +kernel)).trans ((W9_of m ρ c main_v6_1 (by decide +kernel)).trans (da_at8 m ρ c))
theorem dwa_at11 (c : Dev nD) : V11 m ρ c main_v10 = gradWa (m ((c : Thread nD τ).loc main_arg1)) (daI m c) :=
  (W11_arr m ρ c 2).trans ((final9 (V10 m ρ) c).trans (by rw [show V10 m ρ c main_arg1 = m ((c : Thread nD τ).loc main_arg1) from W10_args m ρ c main_arg1 (by decide), da_at10]))
theorem db_at11 (c : Dev nD) : V11 m ρ c main_v6_2 = dbI m c :=
  (W11_of m ρ c main_v6_2 (by decide +kernel)).trans ((W10_of m ρ c main_v6_2 (by decide +kernel)).trans (db_at9 m ρ c))
theorem dwb_at12 (c : Dev nD) : V12 m ρ c main_v11 = gradWb (m ((c : Thread nD τ).loc main_arg2)) (dbI m c) :=
  (W12_arr m ρ c 2).trans ((final10 (V11 m ρ) c).trans (by rw [show V11 m ρ c main_arg2 = m ((c : Thread nD τ).loc main_arg2) from W11_args m ρ c main_arg2 (by decide), db_at11]))
theorem dwa_at12 (c : Dev nD) : V12 m ρ c main_v10 = gradWa (m ((c : Thread nD τ).loc main_arg1)) (daI m c) :=
  (W12_of m ρ c main_v10 (by decide +kernel)).trans (dwa_at11 m ρ c)
theorem sa_at13 (c : Dev nD) : V13 m ρ c main_v12 = wShards (gradWa (m ((c : Thread nD τ).loc main_arg1)) (daI m c)) :=
  (W13_arr m ρ c 1).trans ((final11 (V12 m ρ) c).trans (by rw [dwa_at12]))
theorem dwb_at13 (c : Dev nD) : V13 m ρ c main_v11 = gradWb (m ((c : Thread nD τ).loc main_arg2)) (dbI m c) :=
  (W13_of m ρ c main_v11 (by decide +kernel)).trans (dwb_at12 m ρ c)
theorem sb_at14 (c : Dev nD) : V14 m ρ c main_v13 = wShards (gradWb (m ((c : Thread nD τ).loc main_arg2)) (dbI m c)) :=
  (W14_arr m ρ c 1).trans ((final12 (V13 m ρ) c).trans (by rw [dwb_at13]))

/-! ## At the end of the run -/

theorem h1_end (c : Dev nD) : W15 m ρ c (Proc.devRef .tc main_v5_1) = streamI m c :=
  (W15_of m ρ c main_v5_1 (by decide)).trans ((W14_of m ρ c main_v5_1 (by decide +kernel)).trans ((W13_of m ρ c main_v5_1 (by decide +kernel)).trans ((W12_of m ρ c main_v5_1 (by decide +kernel)).trans ((W11_of m ρ c main_v5_1 (by decide +kernel)).trans ((W10_of m ρ c main_v5_1 (by decide +kernel)).trans ((W9_of m ρ c main_v5_1 (by decide +kernel)).trans ((W8_of m ρ c main_v5_1 (by decide +kernel)).trans ((W7_of m ρ c main_v5_1 (by decide +kernel)).trans (h1_at6 m ρ c)))))))))
theorem xn_end (c : Dev nD) : W15 m ρ c (Proc.devRef .tc main_v5_2) = normed (streamI m c) (m ((c : Thread nD τ).loc main_arg7)) :=
  (W15_of m ρ c main_v5_2 (by decide)).trans ((W14_of m ρ c main_v5_2 (by decide +kernel)).trans ((W13_of m ρ c main_v5_2 (by decide +kernel)).trans ((W12_of m ρ c main_v5_2 (by decide +kernel)).trans ((W11_of m ρ c main_v5_2 (by decide +kernel)).trans ((W10_of m ρ c main_v5_2 (by decide +kernel)).trans ((W9_of m ρ c main_v5_2 (by decide +kernel)).trans ((W8_of m ρ c main_v5_2 (by decide +kernel)).trans ((W7_of m ρ c main_v5_2 (by decide +kernel)).trans (xn_at6 m ρ c)))))))))
theorem doa_end (c : Dev nD) : W15 m ρ c (Proc.devRef .tc main_v8) = gradOa (daI m c) (waI m c) :=
  (W15_of m ρ c main_v8 (by decide)).trans ((W14_of m ρ c main_v8 (by decide +kernel)).trans ((W13_of m ρ c main_v8 (by decide +kernel)).trans ((W12_of m ρ c main_v8 (by decide +kernel)).trans ((W11_of m ρ c main_v8 (by decide +kernel)).trans ((W10_of m ρ c main_v8 (by decide +kernel)).trans (doa_at9 m ρ c))))))
theorem dob_end (c : Dev nD) : W15 m ρ c (Proc.devRef .tc main_v9) = gradOb (dbI m c) (wbI m c) :=
  (W15_of m ρ c main_v9 (by decide)).trans ((W14_of m ρ c main_v9 (by decide +kernel)).trans ((W13_of m ρ c main_v9 (by decide +kernel)).trans ((W12_of m ρ c main_v9 (by decide +kernel)).trans ((W11_of m ρ c main_v9 (by decide +kernel)).trans (dob_at10 m ρ c)))))
theorem dg_end (c : Dev nD) : W15 m ρ c (Proc.devRef .tc main_v14) = (extractStridedSlice S8704x4096 ![0, 8192] (dGates (m ((c : Thread nD τ).loc main_arg0)) (baI m c) (bbI m c) (dmI m c) (V6 m ρ c main_v6_0)) slices_S8704x12288_S8704x4096_0_8192 : FVec Ideal S8704x4096 .bf16) := by
  have h : W14 m ρ c (Proc.devRef .tc main_v6_0) = dGates (m ((c : Thread nD τ).loc main_arg0)) (baI m c) (bbI m c) (dmI m c) (V6 m ρ c main_v6_0) :=
    (W14_of m ρ c main_v6_0 (by decide +kernel)).trans ((W13_of m ρ c main_v6_0 (by decide +kernel)).trans ((W12_of m ρ c main_v6_0 (by decide +kernel)).trans ((W11_of m ρ c main_v6_0 (by decide +kernel)).trans ((W10_of m ρ c main_v6_0 (by decide +kernel)).trans ((W9_of m ρ c main_v6_0 (by decide +kernel)).trans ((W8_of m ρ c main_v6_0 (by decide +kernel)).trans (dg_at7 m ρ c)))))))
  show StableHlo.after hostOps13 (W14 m ρ c) (Proc.devRef .tc main_v14) = _
  rw [← h]
  simp only [hostOps13]
  after_results_simp <;> rfl
theorem sa_end (c : Dev nD) : W15 m ρ c (Proc.devRef .tc main_v12) = wShards (gradWa (m ((c : Thread nD τ).loc main_arg1)) (daI m c)) :=
  (W15_of m ρ c main_v12 (by decide)).trans ((W14_of m ρ c main_v12 (by decide +kernel)).trans (sa_at13 m ρ c))
theorem sb_end (c : Dev nD) : W15 m ρ c (Proc.devRef .tc main_v13) = wShards (gradWb (m ((c : Thread nD τ).loc main_arg2)) (dbI m c)) :=
  (W15_of m ρ c main_v13 (by decide)).trans (sb_at14 m ρ c)
theorem dwo_end (c : Dev nD) : W15 m ρ c (Proc.devRef .tc main_v7) = gradOut (mixI m c) (m ((c : Thread nD τ).loc main_arg8)) :=
  (W15_of m ρ c main_v7 (by decide)).trans ((W14_of m ρ c main_v7 (by decide +kernel)).trans ((W13_of m ρ c main_v7 (by decide +kernel)).trans ((W12_of m ρ c main_v7 (by decide +kernel)).trans ((W11_of m ρ c main_v7 (by decide +kernel)).trans ((W10_of m ρ c main_v7 (by decide +kernel)).trans ((W9_of m ρ c main_v7 (by decide +kernel)).trans (dwo_at8 m ρ c)))))))

/-- The run with its results, the arguments as launched. -/
theorem run : θ_run defs (onTc (τ := τ) (main (F := Ideal))) ⟨m, fun _ => 0, ρ⟩ (fun r => ∀ c : Dev nD,
      r.2.mem ((c.tc : Thread nD τ).loc main_v5_1) = streamI m c
      ∧ r.2.mem ((c.tc : Thread nD τ).loc main_v5_2) = normed (streamI m c) (m ((c : Thread nD τ).loc main_arg7))
      ∧ r.2.mem ((c.tc : Thread nD τ).loc main_v8) = gradOa (daI m c) (waI m c)
      ∧ r.2.mem ((c.tc : Thread nD τ).loc main_v9) = gradOb (dbI m c) (wbI m c)
      ∧ r.2.mem ((c.tc : Thread nD τ).loc main_v14) = extractStridedSlice S8704x4096 ![0, 8192] (dGates (m ((c : Thread nD τ).loc main_arg0)) (baI m c) (bbI m c) (dmI m c) (V6 m ρ c main_v6_0)) slices_S8704x12288_S8704x4096_0_8192
      ∧ r.2.mem ((c.tc : Thread nD τ).loc main_v12) = wShards (gradWa (m ((c : Thread nD τ).loc main_arg1)) (daI m c))
      ∧ r.2.mem ((c.tc : Thread nD τ).loc main_v13) = wShards (gradWb (m ((c : Thread nD τ).loc main_arg2)) (dbI m c))
      ∧ r.2.mem ((c.tc : Thread nD τ).loc main_v7) = gradOut (mixI m c) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_v5_1 (by decide))).trans (h1_end m ρ c),
     (h c _ (mem_uc main_v5_2 (by decide))).trans (xn_end m ρ c),
     (h c _ (mem_uc main_v8 (by decide))).trans (doa_end m ρ c),
     (h c _ (mem_uc main_v9 (by decide))).trans (dob_end m ρ c),
     (h c _ (mem_uc main_v14 (by decide))).trans (dg_end m ρ c),
     (h c _ (mem_uc main_v12 (by decide))).trans (sa_end m ρ c),
     (h c _ (mem_uc main_v13 (by decide))).trans (sb_end m ρ c),
     (h c _ (mem_uc main_v7 (by decide))).trans (dwo_end m ρ c),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c),
     (h c _ (mem_uc main_arg5 (by decide))).trans (W15_main_arg5 m ρ c),
     (h c _ (mem_uc main_arg6 (by decide))).trans (W15_main_arg6 m ρ c),
     (h c _ (mem_uc main_arg7 (by decide))).trans (W15_main_arg7 m ρ c),
     (h c _ (mem_uc main_arg8 (by decide))).trans (W15_main_arg8 m ρ c)⟩) (run_all m ρ)

end Cert.Kernel2Ideal.Merge

end
-- ==== Proof.Mg.Ref.lean ====
/- The gate merge and its gradients as the plain program computes them, read at an index, against the calls' results. -/
module

public import proofs.«01_k».proof.Proof.Mg.Run
public import proofs.«01_k».proof.Proof.Gen.Reference2Ideal.Run

@[expose] public section

set_option maxRecDepth 16384

noncomputable section

namespace Cert.Reference2Ideal.Merge

open Idealize.ShloMosaic Idealize.ShloMosaic.TcCoe Idealize.SL.Sem
open Cert.Reference2Ideal Cert.Reference2Ideal.Gen
open Cert.Kernel2Ideal.Merge (normRow normRow_congr mixOf dBranchOf dGateOf)

variable (p : FVec Ideal S8704x12288 .f32) (oa ob : FVec Ideal S8704x1024 .bf16) (ga gb : FVec Ideal S8x1024x256 .bf16)
  (go : FVec Ideal S8x256x2048 .bf16) (x : FVec Ideal S8192x2048 .f32) (nw : FVec Ideal S1x2048 .f32) (dh : FVec Ideal S8192x2048 .bf16)

/-- A sum over rows as the sum over the first of them and the sum over the others. -/
theorem sum_split {n a b : ℕ} (h : n = a + b) (f : Fin n → EReal) :
    ∑ l, f l = (∑ l : Fin a, f ⟨l.val, by omega⟩) + ∑ l : Fin b, f ⟨a + l.val, by omega⟩ := by
  subst h
  exact Fin.sum_univ_add f

def oneR : FVec Ideal S8192x2048 .f32 := broadcastInDim S8192x2048 ![] bcast_S_S8192x2048 (constant S_ .f32 0x3F800000#32)
/-- The gates' columns of the projection, at the tokens' rows. -/
def gatesR : FVec Ideal S8192x4096 .f32 :=
  extractStridedSlice S8192x4096 ![512, 0] (extractStridedSlice S8704x4096 ![0, 8192] p slices_S8704x12288_S8704x4096_0_8192) slices_S8704x4096_S8192x4096_512_0
def gateA : FVec Ideal S8192x2048 .f32 := extractStridedSlice S8192x2048 ![0, 0] (gatesR p) slices_S8192x4096_S8192x2048_0_0
def gateB : FVec Ideal S8192x2048 .f32 := extractStridedSlice S8192x2048 ![0, 2048] (gatesR p) slices_S8192x4096_S8192x2048_0_2048
def sigR (u : FVec Ideal S8192x2048 .f32) : FVec Ideal S8192x2048 .f32 := Host.divf oneR (addf oneR (Host.exp (Host.negf u)))
/-- A branch's weight and the outgoing weight. -/
def wR (g : FVec Ideal S8x1024x256 .bf16) : FVec Ideal S1024x2048 .f32 :=
  extf .f32 (shapeCast _ (transpose S1024x8x256 [1, 0, 2] g transposes_S8x1024x256_S1024x8x256_1_0_2) shapeCasts_S1024x8x256_S1024x2048) bitsLt_bf16_f32
def woR : FVec Ideal S2048x2048 .f32 := extf .f32 (shapeCast _ go shapeCasts_S8x256x2048_S2048x2048) bitsLt_bf16_f32
/-- A mixer's output at the tokens' rows, and the branch it makes. -/
def tokR (o : FVec Ideal S8704x1024 .bf16) : FVec Ideal S8192x1024 .f32 :=
  extractStridedSlice S8192x1024 ![512, 0] (extf .f32 o bitsLt_bf16_f32) slices_S8704x1024_S8192x1024_512_0
def brR (X : FVec Ideal S8192x1024 .f32) (W : FVec Ideal S1024x2048 .f32) : FVec Ideal S8192x2048 .f32 :=
  Host.dotGeneral dot_S8192x1024_S1024x2048_S8192x2048_1_0_0_1_n_n none X W
def mixR (u v a b : FVec Ideal S8192x2048 .f32) : FVec Ideal S8192x2048 .f32 := addf (mulf (sigR u) a) (mulf (sigR v) b)
def streamR (M : FVec Ideal S8192x2048 .f32) (W : FVec Ideal S2048x2048 .f32) : FVec Ideal S8192x2048 .f32 :=
  addf x (Host.dotGeneral dot_S8192x2048_S2048x2048_S8192x2048_1_0_0_1_n_n none M W)
def normR (H : FVec Ideal S8192x2048 .f32) : FVec Ideal S8192x2048 .bf16 :=
  truncf .bf16 (mulf (mulf H (broadcastInDim S8192x2048 ![0, 1] bcast_S8192x1_S8192x2048_0_1 (Host.rsqrt (addf (Host.divf (broadcastInDim S8192x1 ![0] bcast_S8192_S8192x1_0 (Host.reduceAdd (mulf H H) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 nw)) bitsLt_bf16_f32
/-- The gradient at the merged branches, at a branch, and at a mixer's output. -/
def dmR (W : FVec Ideal S2048x2048 .f32) : FVec Ideal S8192x2048 .f32 :=
  Host.dotGeneral dot_S8192x2048_S2048x2048_S8192x2048_1_1_0_0_n_n none (extf .f32 dh bitsLt_bf16_f32) W
def dbrR (u d : FVec Ideal S8192x2048 .f32) : FVec Ideal S8192x2048 .f32 := mulf (sigR u) d
def doR (d : FVec Ideal S8192x2048 .f32) (W : FVec Ideal S1024x2048 .f32) : FVec Ideal S8704x1024 .f32 :=
  pad S8704x1024 ![512, 0] ![0, 0] ![0, 0] (Host.dotGeneral dot_S8192x2048_S1024x2048_S8192x1024_1_1_0_0_n_n none d W) (constant S_ .f32 0x00000000#32) pads_S8192x1024_S8704x1024_51200_000 h_S_
/-- The gradient at a gate, and the gradients at all the gates' columns. -/
def dgR (u d a : FVec Ideal S8192x2048 .f32) : FVec Ideal S8192x2048 .f32 := mulf (mulf d a) (mulf (sigR u) (subf oneR (sigR u)))
def dgatesR (a b : FVec Ideal S8192x2048 .f32) : FVec Ideal S8704x4096 .bf16 :=
  truncf .bf16 (pad S8704x4096 ![512, 0] ![0, 0] ![0, 0] (concatenate S8192x4096 1 [⟨S8192x2048, a⟩, ⟨S8192x2048, b⟩] concatenates_S8192x2048_S8192x2048_S8192x4096_d1) (constant S_ .f32 0x00000000#32) pads_S8192x4096_S8704x4096_51200_000 h_S_) bitsLt_bf16_f32
/-- The gradients of a branch's weight and of the outgoing weight. -/
def dwR (d : FVec Ideal S8192x2048 .f32) (X : FVec Ideal S8192x1024 .f32) : FVec Ideal S8x1024x256 .bf16 :=
  truncf .bf16 (transpose S8x1024x256 [1, 0, 2] (shapeCast _ (transpose S1024x2048 [1, 0] (Host.dotGeneral dot_S8192x2048_S8192x1024_S2048x1024_0_0_1_1_n_n none d X) transposes_S2048x1024_S1024x2048_1_0) shapeCasts_S1024x2048_S1024x8x256) transposes_S1024x8x256_S8x1024x256_1_0_2) bitsLt_bf16_f32
def dwoR (M : FVec Ideal S8192x2048 .f32) : FVec Ideal S2048x2048 .bf16 :=
  truncf .bf16 (transpose S2048x2048 [1, 0] (Host.dotGeneral dot_S8192x2048_S8192x2048_S2048x2048_0_0_1_1_n_n none (extf .f32 dh bitsLt_bf16_f32) M) transposes_S2048x2048_S2048x2048_1_0) bitsLt_bf16_f32

theorem gateA_apply (l : Fin 8192) (j : Fin 2048) : gateA p (ix2 l j) = p (ix2 ⟨512 + l.val, by omega⟩ ⟨8192 + j.val, by omega⟩) := by
  pointwise [gateA, gatesR]
theorem gateB_apply (l : Fin 8192) (j : Fin 2048) : gateB p (ix2 l j) = p (ix2 ⟨512 + l.val, by omega⟩ ⟨10240 + j.val, by omega⟩) := by
  pointwise [gateB, gatesR]
  all_goals exact congrArg (fun o => p (ix2 _ o)) (Fin.ext (by show 8192 + (2048 + j.val) = 10240 + j.val; omega))
theorem sigR_apply (u : FVec Ideal S8192x2048 .f32) (l : Fin 8192) (j : Fin 2048) : sigR u (ix2 l j) = Ideal.logistic (u (ix2 l j)) := by
  pointwise [sigR, oneR]
  rfl
theorem wR_apply (g : FVec Ideal S8x1024x256 .bf16) (k : Fin 1024) (j : Fin 2048) :
    wR g (ix2 k j) = g (ix3 ⟨j.val / 256, by omega⟩ k ⟨j.val % 256, by omega⟩) := by
  pointwise [wR]
theorem tokR_apply (o : FVec Ideal S8704x1024 .bf16) (l : Fin 8192) (k : Fin 1024) : tokR o (ix2 l k) = o (ix2 ⟨512 + l.val, by omega⟩ k) := by
  pointwise [tokR]
theorem brR_apply (X : FVec Ideal S8192x1024 .f32) (W : FVec Ideal S1024x2048 .f32) (l : Fin 8192) (j : Fin 2048) :
    brR X W (ix2 l j) = ∑ k : Fin 1024, X (ix2 l k) * W (ix2 k j) := by
  pointwise [brR]
theorem mixR_apply (u v a b : FVec Ideal S8192x2048 .f32) (l : Fin 8192) (j : Fin 2048) :
    mixR u v a b (ix2 l j) = mixOf (u (ix2 l j)) (a (ix2 l j)) (v (ix2 l j)) (b (ix2 l j)) := by
  unfold mixOf
  pointwise [mixR, sigR_apply]
theorem streamR_apply (M : FVec Ideal S8192x2048 .f32) (W : FVec Ideal S2048x2048 .f32) (l : Fin 8192) (j : Fin 2048) :
    streamR x M W (ix2 l j) = x (ix2 l j) + ∑ k : Fin 2048, M (ix2 l k) * W (ix2 k j) := by
  pointwise [streamR]
theorem normR_apply (H : FVec Ideal S8192x2048 .f32) (l : Fin 8192) (j : Fin 2048) :
    normR nw H (ix2 l j) = normRow (fun k => H (ix2 l k)) (nw (ix2 0 j)) j := by
  unfold normRow
  pointwise [normR]
theorem dmR_apply (W : FVec Ideal S2048x2048 .f32) (l : Fin 8192) (j : Fin 2048) :
    dmR dh W (ix2 l j) = ∑ k : Fin 2048, dh (ix2 l k) * W (ix2 j k) := by
  pointwise [dmR]
theorem dbrR_apply (u d : FVec Ideal S8192x2048 .f32) (l : Fin 8192) (j : Fin 2048) :
    dbrR u d (ix2 l j) = dBranchOf (u (ix2 l j)) (d (ix2 l j)) := by
  unfold dBranchOf
  pointwise [dbrR, sigR_apply]
theorem doR_apply (d : FVec Ideal S8192x2048 .f32) (W : FVec Ideal S1024x2048 .f32) (l : Fin 8704) (k : Fin 1024) :
    doR d W (ix2 l k) = if h : l.val < 512 then (0 : EReal) else ∑ j : Fin 2048, d (ix2 ⟨l.val - 512, by omega⟩ j) * W (ix2 k j) := by
  pointwise [doR]
  by_cases h : l.val < 512
  · rw [dif_pos h, dif_neg (by omega)]
  · rw [dif_neg h, dif_pos (by omega)]
theorem dgR_apply (u d a : FVec Ideal S8192x2048 .f32) (l : Fin 8192) (j : Fin 2048) :
    dgR u d a (ix2 l j) = dGateOf (d (ix2 l j)) (a (ix2 l j)) (u (ix2 l j)) := by
  unfold dGateOf
  pointwise [dgR, sigR_apply, oneR]
theorem dgatesR_apply (a b : FVec Ideal S8192x2048 .f32) (l : Fin 8704) (j : Fin 4096) :
    dgatesR a b (ix2 l j) = if h : l.val < 512 then (0 : EReal)
      else if h' : j.val < 2048 then a (ix2 ⟨l.val - 512, by omega⟩ ⟨j.val, h'⟩) else b (ix2 ⟨l.val - 512, by omega⟩ ⟨j.val - 2048, by omega⟩) := by
  pointwise [dgatesR]
  by_cases h : l.val < 512
  · rw [dif_pos h, dif_neg (by omega)]
  · rw [dif_neg h, dif_pos (by omega)]
theorem dwR_apply (d : FVec Ideal S8192x2048 .f32) (X : FVec Ideal S8192x1024 .f32) (e : Fin 8) (k : Fin 1024) (s : Fin 256) :
    dwR d X (ix3 e k s) = ∑ l : Fin 8192, d (ix2 l ⟨e.val * 256 + s.val, by omega⟩) * X (ix2 l k) := by
  pointwise [dwR]
theorem dwoR_apply (M : FVec Ideal S8192x2048 .f32) (r k : Fin 2048) :
    dwoR dh M (ix2 r k) = ∑ l : Fin 8192, dh (ix2 l k) * M (ix2 l r) := by
  pointwise [dwoR]

/-! ## The calls' results are these -/

open Cert.Kernel2Ideal.Merge (branchA branchB wCols wShards mixed stream normed dMixed dBranchA dBranchB dGateAt dGates dGates_of gradOa gradOb gradWa gradWb gradOut)

/-- The outgoing weight as the kernel's host reshape leaves it. -/
abbrev woK : FVec Ideal S2048x2048 .bf16 := shapeCast S2048x2048 go Cert.Kernel2Ideal.Gen.shapeCasts_S8x256x2048_S2048x2048

theorem woK_apply (k j : Fin 2048) : woK go (ix2 k j) = woR go (ix2 k j) := rfl

theorem ba_eq : branchA oa (wCols ga) = brR (tokR oa) (wR ga) := by
  funext i
  obtain ⟨l, j, rfl⟩ : ∃ (l : Fin 8192) (j : Fin 2048), i = ix2 l j := ⟨i 0, i 1, eq_ix2 i⟩
  rw [brR_apply]
  exact Finset.sum_congr rfl fun k _ => Ideal.mul_congr (tokR_apply oa l k).symm (wR_apply ga k j).symm
theorem bb_eq : branchB ob (wCols gb) = brR (tokR ob) (wR gb) := by
  funext i
  obtain ⟨l, j, rfl⟩ : ∃ (l : Fin 8192) (j : Fin 2048), i = ix2 l j := ⟨i 0, i 1, eq_ix2 i⟩
  rw [brR_apply]
  exact Finset.sum_congr rfl fun k _ => Ideal.mul_congr (tokR_apply ob l k).symm (wR_apply gb k j).symm
theorem dm_eq : dMixed dh (woK go) = dmR dh (woR go) := by
  funext i
  obtain ⟨l, j, rfl⟩ : ∃ (l : Fin 8192) (j : Fin 2048), i = ix2 l j := ⟨i 0, i 1, eq_ix2 i⟩
  rw [dmR_apply]
  exact Finset.sum_congr rfl fun k _ => Ideal.mul_congr rfl (woK_apply go j k)

variable (a b d : FVec Ideal S8192x2048 .f32)

theorem mix_apply (l : Fin 8192) (j : Fin 2048) : mixed p a b (ix2 l j) = mixR (gateA p) (gateB p) a b (ix2 l j) := by
  rw [mixR_apply, gateA_apply, gateB_apply]
  rfl
theorem stream_eq : stream x (mixed p a b) (woK go) = streamR x (mixR (gateA p) (gateB p) a b) (woR go) := by
  funext i
  obtain ⟨l, j, rfl⟩ : ∃ (l : Fin 8192) (j : Fin 2048), i = ix2 l j := ⟨i 0, i 1, eq_ix2 i⟩
  rw [streamR_apply]
  exact congrArg (x (ix2 l j) + ·) (Finset.sum_congr rfl fun k _ => Ideal.mul_congr (mix_apply p a b l k) (woK_apply go k j))
theorem normed_eq (H : FVec Ideal S8192x2048 .f32) : normed H nw = normR nw H := by
  funext i
  obtain ⟨l, j, rfl⟩ : ∃ (l : Fin 8192) (j : Fin 2048), i = ix2 l j := ⟨i 0, i 1, eq_ix2 i⟩
  rw [normR_apply]
  rfl

theorem da_pre (l : Fin 8704) (j : Fin 2048) (h : l.val < 512) : dBranchA p d (ix2 l j) = (0 : EReal) := dif_pos h
theorem da_tok (l : Fin 8704) (j : Fin 2048) (h : ¬ l.val < 512) :
    dBranchA p d (ix2 l j) = dbrR (gateA p) d (ix2 ⟨l.val - 512, by omega⟩ j) := by
  rw [dbrR_apply, gateA_apply]
  refine (dif_neg h).trans ?_
  exact congrArg (fun o => dBranchOf (p (ix2 o _)) _) (Fin.ext (by show l.val = 512 + (l.val - 512); omega))
theorem db_pre (l : Fin 8704) (j : Fin 2048) (h : l.val < 512) : dBranchB p d (ix2 l j) = (0 : EReal) := dif_pos h
theorem db_tok (l : Fin 8704) (j : Fin 2048) (h : ¬ l.val < 512) :
    dBranchB p d (ix2 l j) = dbrR (gateB p) d (ix2 ⟨l.val - 512, by omega⟩ j) := by
  rw [dbrR_apply, gateB_apply]
  refine (dif_neg h).trans ?_
  exact congrArg (fun o => dBranchOf (p (ix2 o _)) _) (Fin.ext (by show l.val = 512 + (l.val - 512); omega))

theorem dgates_eq (z : FVec Ideal S8704x12288 .bf16) :
    (extractStridedSlice S8704x4096 ![0, 8192] (dGates p a b d z) Cert.Kernel2Ideal.Gen.slices_S8704x12288_S8704x4096_0_8192 : FVec Ideal S8704x4096 .bf16)
      = dgatesR (dgR (gateA p) d a) (dgR (gateB p) d b) := by
  funext i
  obtain ⟨l, j, rfl⟩ : ∃ (l : Fin 8704) (j : Fin 4096), i = ix2 l j := ⟨i 0, i 1, eq_ix2 i⟩
  rw [dgatesR_apply]
  have e : (extractStridedSlice S8704x4096 ![0, 8192] (dGates p a b d z) Cert.Kernel2Ideal.Gen.slices_S8704x12288_S8704x4096_0_8192 : FVec Ideal S8704x4096 .bf16) (ix2 l j)
      = dGates p a b d z (ix2 l ⟨8192 + j.val, by omega⟩) := by
    pointwise
  rw [e, dGates_of p a b d z (ix2 l ⟨8192 + j.val, by omega⟩) (Nat.le_add_right _ _)]
  have e' : (⟨8192 + j.val - 8192, by omega⟩ : Fin 4096) = j := Fin.ext (by show 8192 + j.val - 8192 = j.val; omega)
  refine (congrArg (dGateAt p a b d l) e').trans ?_
  unfold dGateAt
  refine dite_congr rfl (fun _ => rfl) fun h => dite_congr rfl (fun h' => ?_) fun h' => ?_
  · rw [dgR_apply, gateA_apply]
    exact congrArg (fun o => dGateOf _ _ (p (ix2 o _))) (Fin.ext (by show l.val = 512 + (l.val - 512); omega))
  · rw [dgR_apply, gateB_apply]
    exact congrArg₂ (fun o s => dGateOf _ _ (p (ix2 o s))) (Fin.ext (by show l.val = 512 + (l.val - 512); omega))
      (Fin.ext (by show 8192 + j.val = 10240 + (j.val - 2048); omega))

theorem doa_eq (g : FVec Ideal S8x1024x256 .bf16) : gradOa (dBranchA p d) (wCols g) = doR (dbrR (gateA p) d) (wR g) := by
  funext i
  obtain ⟨l, k, rfl⟩ : ∃ (l : Fin 8704) (k : Fin 1024), i = ix2 l k := ⟨i 0, i 1, eq_ix2 i⟩
  rw [doR_apply]
  by_cases h : l.val < 512
  · rw [dif_pos h]
    exact Finset.sum_eq_zero fun j _ => (Ideal.mul_congr (da_pre p d l j h) rfl).trans (zero_mul _)
  · rw [dif_neg h]
    exact Finset.sum_congr rfl fun j _ => Ideal.mul_congr (da_tok p d l j h) (wR_apply g k j).symm
theorem dwa_eq (o : FVec Ideal S8704x1024 .bf16) : wShards (gradWa o (dBranchA p d)) = dwR (dbrR (gateA p) d) (tokR o) := by
  funext i
  obtain ⟨e, k, s, rfl⟩ : ∃ (e : Fin 8) (k : Fin 1024) (s : Fin 256), i = ix3 e k s := ⟨i 0, i 1, i 2, eq_ix3 i⟩
  rw [dwR_apply]
  refine (sum_split (n := 8704) (a := 512) (b := 8192) (by norm_num) fun l : Fin 8704 => o (ix2 l k) * dBranchA p d (ix2 l ⟨e.val * 256 + s.val, by omega⟩)).trans ?_
  refine (congrArg₂ (· + ·) (Finset.sum_eq_zero fun l _ => ?_) (Finset.sum_congr rfl fun l _ => ?_)).trans (zero_add _)
  · exact (Ideal.mul_congr rfl (da_pre p d _ _ l.isLt)).trans (mul_zero _)
  · refine (mul_comm _ _).trans (Ideal.mul_congr ?_ (tokR_apply o l k).symm)
    refine (da_tok p d _ _ (by show ¬ 512 + l.val < 512; omega)).trans ?_
    exact congrArg (fun r => dbrR (gateA p) d (ix2 r _)) (Fin.ext (by show 512 + l.val - 512 = l.val; omega))

theorem dob_eq (g : FVec Ideal S8x1024x256 .bf16) : gradOb (dBranchB p d) (wCols g) = doR (dbrR (gateB p) d) (wR g) := by
  funext i
  obtain ⟨l, k, rfl⟩ : ∃ (l : Fin 8704) (k : Fin 1024), i = ix2 l k := ⟨i 0, i 1, eq_ix2 i⟩
  rw [doR_apply]
  by_cases h : l.val < 512
  · rw [dif_pos h]
    exact Finset.sum_eq_zero fun j _ => (Ideal.mul_congr (db_pre p d l j h) rfl).trans (zero_mul _)
  · rw [dif_neg h]
    exact Finset.sum_congr rfl fun j _ => Ideal.mul_congr (db_tok p d l j h) (wR_apply g k j).symm
theorem dwb_eq (o : FVec Ideal S8704x1024 .bf16) : wShards (gradWb o (dBranchB p d)) = dwR (dbrR (gateB p) d) (tokR o) := by
  funext i
  obtain ⟨e, k, s, rfl⟩ : ∃ (e : Fin 8) (k : Fin 1024) (s : Fin 256), i = ix3 e k s := ⟨i 0, i 1, i 2, eq_ix3 i⟩
  rw [dwR_apply]
  refine (sum_split (n := 8704) (a := 512) (b := 8192) (by norm_num) fun l : Fin 8704 => o (ix2 l k) * dBranchB p d (ix2 l ⟨e.val * 256 + s.val, by omega⟩)).trans ?_
  refine (congrArg₂ (· + ·) (Finset.sum_eq_zero fun l _ => ?_) (Finset.sum_congr rfl fun l _ => ?_)).trans (zero_add _)
  · exact (Ideal.mul_congr rfl (db_pre p d _ _ l.isLt)).trans (mul_zero _)
  · refine (mul_comm _ _).trans (Ideal.mul_congr ?_ (tokR_apply o l k).symm)
    refine (db_tok p d _ _ (by show ¬ 512 + l.val < 512; omega)).trans ?_
    exact congrArg (fun r => dbrR (gateB p) d (ix2 r _)) (Fin.ext (by show 512 + l.val - 512 = l.val; omega))

theorem dwo_eq : gradOut (mixed p a b) dh = dwoR dh (mixR (gateA p) (gateB p) a b) := by
  funext i
  obtain ⟨r, k, rfl⟩ : ∃ (r k : Fin 2048), i = ix2 r k := ⟨i 0, i 1, eq_ix2 i⟩
  rw [dwoR_apply]
  exact Finset.sum_congr rfl fun l _ => (mul_comm _ _).trans (Ideal.mul_congr rfl (mix_apply p a b l r))

/-! ## … with the branches' own products put in -/

theorem h1_eq : stream x (mixed p (branchA oa (wCols ga)) (branchB ob (wCols gb))) (woK go)
    = streamR x (mixR (gateA p) (gateB p) (brR (tokR oa) (wR ga)) (brR (tokR ob) (wR gb))) (woR go) := by
  rw [ba_eq, bb_eq]
  exact stream_eq p go x _ _
theorem xn2_eq : normed (stream x (mixed p (branchA oa (wCols ga)) (branchB ob (wCols gb))) (woK go)) nw
    = normR nw (streamR x (mixR (gateA p) (gateB p) (brR (tokR oa) (wR ga)) (brR (tokR ob) (wR gb))) (woR go)) := by
  rw [h1_eq]
  exact normed_eq nw _
theorem doa_full : gradOa (dBranchA p (dMixed dh (woK go))) (wCols ga) = doR (dbrR (gateA p) (dmR dh (woR go))) (wR ga) := by
  rw [dm_eq]
  exact doa_eq p _ ga
theorem dob_full : gradOb (dBranchB p (dMixed dh (woK go))) (wCols gb) = doR (dbrR (gateB p) (dmR dh (woR go))) (wR gb) := by
  rw [dm_eq]
  exact dob_eq p _ gb
theorem dg_full (z : FVec Ideal S8704x12288 .bf16) :
    (extractStridedSlice S8704x4096 ![0, 8192] (dGates p (branchA oa (wCols ga)) (branchB ob (wCols gb)) (dMixed dh (woK go)) z) Cert.Kernel2Ideal.Gen.slices_S8704x12288_S8704x4096_0_8192 : FVec Ideal S8704x4096 .bf16)
      = dgatesR (dgR (gateA p) (dmR dh (woR go)) (brR (tokR oa) (wR ga))) (dgR (gateB p) (dmR dh (woR go)) (brR (tokR ob) (wR gb))) := by
  rw [dm_eq, ba_eq, bb_eq]
  exact dgates_eq p _ _ _ z
theorem dwa_full : wShards (gradWa oa (dBranchA p (dMixed dh (woK go)))) = dwR (dbrR (gateA p) (dmR dh (woR go))) (tokR oa) := by
  rw [dm_eq]
  exact dwa_eq p _ oa
theorem dwb_full : wShards (gradWb ob (dBranchB p (dMixed dh (woK go)))) = dwR (dbrR (gateB p) (dmR dh (woR go))) (tokR ob) := by
  rw [dm_eq]
  exact dwb_eq p _ ob
theorem dwo_full : gradOut (mixed p (branchA oa (wCols ga)) (branchB ob (wCols gb))) dh
    = dwoR dh (mixR (gateA p) (gateB p) (brR (tokR oa) (wR ga)) (brR (tokR ob) (wR gb))) := by
  rw [ba_eq, bb_eq]
  exact dwo_eq p dh _ _

end Cert.Reference2Ideal.Merge

end
-- ==== Proof.Mg.Claim.lean ====
/- The calls around the gate merge give the results of the plain program. -/
module

public import proofs.«01_k».proof.Defs
public import proofs.«01_k».proof.Proof.Mg.Ref
public import Idealize.ShloMosaic.Adequacy
public import Idealize.ShloMosaic.Init

@[expose] public section

set_option maxRecDepth 16384

noncomputable section

namespace Cert.Reference2Ideal.Merge

open Idealize.ShloMosaic Idealize.SL.Sem

/-- The plain program declares no counter. -/
theorem no_counter : ∀ _ : SemLoc Cert.Reference2Ideal.sig, False := by decide

/-- The plain program ends with its arguments as launched, and it has no counter. -/
theorem quiescent : Cert.quiescent_Reference2Ideal (hReference2Ideal := Cert.Reference2Ideal.Gen.facts) :=
  fun m ρ _ => (θ_run _ _ _).mono (fun _ h => ⟨fun c => (h c).2.2.2.2.2.2.2.2, funext fun g => (no_counter g.2).elim⟩) (Cert.Reference2Ideal.Value.run m ρ)

set_option maxHeartbeats 8000000 in
/-- The calls and the plain program give the same results. -/
theorem algebraic : Cert.algebraic_Kernel2Ideal_Reference2Ideal (hKernel2Ideal := Cert.Kernel2Ideal.Gen.facts) (hReference2Ideal := Cert.Reference2Ideal.Gen.facts) := by
  intro m ρ m' ρ' _ hag
  refine ⟨_, _, _, _, _, _, _, _, Cert.Kernel2Ideal.Merge.run m ρ, (θ_run _ _ _).mono (fun r h c => ?_) (Cert.Reference2Ideal.Value.run m' ρ')⟩
  obtain ⟨h0, h1, h2, h3, h4, h5, h6, h7, hargs⟩ := h c
  obtain ⟨a0, a1, a2, a3, a4, a5, a6, a7, a8⟩ := hag c
  refine ⟨h0.trans ?_, h1.trans ?_, h2.trans ?_, h3.trans ?_, h4.trans ?_, h5.trans ?_, h6.trans ?_, h7.trans ?_, hargs⟩
  · refine Eq.trans ?_ (h1_eq _ _ _ _ _ _ _).symm
    rw [a0, a1, a2, a3, a4, a5, a6]; rfl
  · refine Eq.trans ?_ (xn2_eq _ _ _ _ _ _ _ _).symm
    unfold Cert.Reference2Ideal.Value.res_main_v73
    rw [a0, a1, a2, a3, a4, a5, a6, a7]; rfl
  · refine Eq.trans ?_ (doa_full _ _ _ _).symm
    rw [a0, a3, a5, a8]; rfl
  · refine Eq.trans ?_ (dob_full _ _ _ _).symm
    rw [a0, a4, a5, a8]; rfl
  · refine Eq.trans ?_ (dg_full _ _ _ _ _ _ _ _).symm
    rw [a0, a1, a2, a3, a4, a5, a8]; rfl
  · refine Eq.trans ?_ (dwa_full _ _ _ _).symm
    rw [a0, a1, a5, a8]; rfl
  · refine Eq.trans ?_ (dwb_full _ _ _ _).symm
    rw [a0, a2, a5, a8]; rfl
  · refine Eq.trans ?_ (dwo_full _ _ _ _ _ _).symm
    rw [a0, a1, a2, a3, a4, a8]; rfl

end Cert.Reference2Ideal.Merge

end
-- ==== Proof.In.Products.lean ====
/- What the six matrix products of the incoming projection leave in their result arrays, as functions of the arrays they are launched on. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.InProj

open Idealize.ShloMosaic Idealize.ShloMosaic.TcCoe Idealize.SL Idealize.SL.Sem
open Cert.Kernel3Ideal Cert.Kernel3Ideal.Gen

variable (V : (c : Dev nD) → (b : Ref sig .tc) → Buf (Elt Ideal) ((c : Thread nD τ).loc b))

/-- The projected columns: `x w`, contracted over the 2048 channels. -/
def projMain (x : FVec Ideal S8704x2048 .bf16) (y : FVec Ideal S2048x12288 .bf16) : FVec Ideal S8704x12288 .f32 :=
  fun i => ∑ k : Fin 2048, x (ix2 (i 0) k) * y (ix2 k (i 1))

theorem idx2 : ∀ t : Fin cfg2.N, win2_0.index t = ![t.val % 8, 0] ∧ win2_1.index t = ![0, t.val / 8]
    ∧ win2_2.index t = ![t.val % 8, t.val / 8] :=
  (by decide +kernel : ∀ t : Fin grid2.N, _)

theorem pay2_apply (x : FVec Ideal S1088x2048 .bf16) (y : FVec Ideal S2048x1024 .bf16) (r : Fin 1088) (s : Fin 1024) :
    k2_pay1 (F := Ideal) x y (ix2 r s) = ∑ k : Fin 2048, x (ix2 r k) * y (ix2 k s) := by
  pointwise [k2_pay1]

theorem final2 (c : Dev nD) :
    (dat2 V c).arrAt 2 cfg2.N = projMain (V c main_v3) (V c main_v0_0) := by
  refine (dat2 V c).arrAt_eq_of_covers 2 _ (by decide +kernel) fun t hf y => ?_
  blk_simp
  rw [after2_2]; frame_out
  rw [show (y : S1088x1024.Idx) = ix2 (y 0) (y 1) from eq_ix2 y]
  refine (pay2_apply _ _ _ _).trans ?_
  unfold projMain
  refine Finset.sum_congr rfl fun k _ => Ideal.mul_congr ?_ ?_
  · blk_simp [iblk2]
    refine congrArg _ ?_
    blk_ext [(idx2 t).1, (idx2 t).2.2]
  · blk_simp [iblk2]
    refine congrArg _ ?_
    blk_ext [(idx2 t).2.1, (idx2 t).2.2]

/-- The projected columns of the two small gates. -/
def projAb (x : FVec Ideal S8704x2048 .bf16) (y : FVec Ideal S2048x128 .bf16) : FVec Ideal S8704x128 .f32 :=
  fun i => ∑ k : Fin 2048, x (ix2 (i 0) k) * y (ix2 k (i 1))

theorem idx3 : ∀ t : Fin cfg3.N, win3_0.index t = ![t.val, 0] ∧ win3_1.index t = ![0, 0]
    ∧ win3_2.index t = ![t.val, 0] :=
  (by decide +kernel : ∀ t : Fin grid3.N, _)

theorem pay3_apply (x : FVec Ideal S512x2048 .bf16) (y : FVec Ideal S2048x128 .bf16) (r : Fin 512) (s : Fin 128) :
    k3_pay1 (F := Ideal) x y (ix2 r s) = ∑ k : Fin 2048, x (ix2 r k) * y (ix2 k s) := by
  pointwise [k3_pay1]

theorem final3 (c : Dev nD) :
    (dat3 V c).arrAt 2 cfg3.N = projAb (V c main_v3) (V c main_v0_1) := by
  refine (dat3 V c).arrAt_eq_of_covers 2 _ (by decide +kernel) fun t hf y => ?_
  blk_simp
  rw [after3_2]; frame_out
  rw [show (y : S512x128.Idx) = ix2 (y 0) (y 1) from eq_ix2 y]
  refine (pay3_apply _ _ _ _).trans ?_
  unfold projAb
  refine Finset.sum_congr rfl fun k _ => Ideal.mul_congr ?_ ?_
  · blk_simp [iblk3]
    refine congrArg _ ?_
    blk_ext [(idx3 t).1, (idx3 t).2.2]
  · blk_simp [iblk3]
    refine congrArg _ ?_
    blk_ext [(idx3 t).2.1, (idx3 t).2.2]

/-- The gradient of the weight, transposed: `ctᵀ x`, contracted over the 8704 rows. -/
def gradMain (x : FVec Ideal S8704x12288 .bf16) (y : FVec Ideal S8704x2048 .bf16) : FVec Ideal S12288x2048 .bf16 :=
  fun i => ∑ k : Fin 8704, x (ix2 k (i 0)) * y (ix2 k (i 1))

theorem idx4 : ∀ t : Fin cfg4.N, win4_0.index t = ![0, t.val % 24] ∧ win4_1.index t = ![0, t.val / 24]
    ∧ win4_2.index t = ![t.val % 24, t.val / 24] :=
  (by decide +kernel : ∀ t : Fin grid4.N, _)

theorem pay4_apply (x : FVec Ideal S8704x512 .bf16) (y : FVec Ideal S8704x512 .bf16) (r : Fin 512) (s : Fin 512) :
    k4_pay1 (F := Ideal) x y (ix2 r s) = ∑ k : Fin 8704, x (ix2 k r) * y (ix2 k s) := by
  pointwise [k4_pay1]

theorem final4 (c : Dev nD) :
    (dat4 V c).arrAt 2 cfg4.N = gradMain (V c main_arg4) (V c main_v3) := by
  refine (dat4 V c).arrAt_eq_of_covers 2 _ (by decide +kernel) fun t hf y => ?_
  blk_simp
  rw [after4_2]; frame_out
  rw [show (y : S512x512.Idx) = ix2 (y 0) (y 1) from eq_ix2 y]
  refine (pay4_apply _ _ _ _).trans ?_
  unfold gradMain
  refine Finset.sum_congr rfl fun k _ => Ideal.mul_congr ?_ ?_
  · blk_simp [iblk4]
    refine congrArg _ ?_
    blk_ext [(idx4 t).1, (idx4 t).2.2]
  · blk_simp [iblk4]
    refine congrArg _ ?_
    blk_ext [(idx4 t).2.1, (idx4 t).2.2]

/-- The same for the columns of the two small gates. -/
def gradAb (x : FVec Ideal S8704x128 .bf16) (y : FVec Ideal S8704x2048 .bf16) : FVec Ideal S128x2048 .bf16 :=
  fun i => ∑ k : Fin 8704, x (ix2 k (i 0)) * y (ix2 k (i 1))

theorem idx5 : ∀ t : Fin cfg5.N, win5_0.index t = ![0, 0] ∧ win5_1.index t = ![0, t.val]
    ∧ win5_2.index t = ![0, t.val] :=
  (by decide +kernel : ∀ t : Fin grid5.N, _)

theorem pay5_apply (x : FVec Ideal S8704x128 .bf16) (y : FVec Ideal S8704x512 .bf16) (r : Fin 128) (s : Fin 512) :
    k5_pay1 (F := Ideal) x y (ix2 r s) = ∑ k : Fin 8704, x (ix2 k r) * y (ix2 k s) := by
  pointwise [k5_pay1]

theorem final5 (c : Dev nD) :
    (dat5 V c).arrAt 2 cfg5.N = gradAb (V c main_arg5) (V c main_v3) := by
  refine (dat5 V c).arrAt_eq_of_covers 2 _ (by decide +kernel) fun t hf y => ?_
  blk_simp
  rw [after5_2]; frame_out
  rw [show (y : S128x512.Idx) = ix2 (y 0) (y 1) from eq_ix2 y]
  refine (pay5_apply _ _ _ _).trans ?_
  unfold gradAb
  refine Finset.sum_congr rfl fun k _ => Ideal.mul_congr ?_ ?_
  · blk_simp [iblk5]
    refine congrArg _ ?_
    blk_ext [(idx5 t).1, (idx5 t).2.2]
  · blk_simp [iblk5]
    refine congrArg _ ?_
    blk_ext [(idx5 t).2.1, (idx5 t).2.2]

/-- The gradient of the normalised input from the small gates: `ct wᵀ`. -/
def gradXab (x : FVec Ideal S8704x128 .bf16) (y : FVec Ideal S2048x128 .bf16) : FVec Ideal S8704x2048 .f32 :=
  fun i => ∑ k : Fin 128, x (ix2 (i 0) k) * y (ix2 (i 1) k)

theorem idx7 : ∀ t : Fin cfg7.N, win7_0.index t = ![t.val % 17, 0] ∧ win7_1.index t = ![t.val / 17, 0]
    ∧ win7_2.index t = ![t.val % 17, t.val / 17] :=
  (by decide +kernel : ∀ t : Fin grid7.N, _)

theorem pay7_apply (x : FVec Ideal S512x128 .bf16) (y : FVec Ideal S1024x128 .bf16) (r : Fin 512) (s : Fin 1024) :
    k7_pay1 (F := Ideal) x y (ix2 r s) = ∑ k : Fin 128, x (ix2 r k) * y (ix2 s k) := by
  pointwise [k7_pay1]

theorem final7 (c : Dev nD) :
    (dat7 V c).arrAt 2 cfg7.N = gradXab (V c main_arg5) (V c main_v0_1) := by
  refine (dat7 V c).arrAt_eq_of_covers 2 _ (by decide +kernel) fun t hf y => ?_
  blk_simp
  rw [after7_2]; frame_out
  rw [show (y : S512x1024.Idx) = ix2 (y 0) (y 1) from eq_ix2 y]
  refine (pay7_apply _ _ _ _).trans ?_
  unfold gradXab
  refine Finset.sum_congr rfl fun k _ => Ideal.mul_congr ?_ ?_
  · blk_simp [iblk7]
    refine congrArg _ ?_
    blk_ext [(idx7 t).1, (idx7 t).2.2]
  · blk_simp [iblk7]
    refine congrArg _ ?_
    blk_ext [(idx7 t).2.1, (idx7 t).2.2]

/-- The gradient of the normalised input from the other columns. -/
def gradX (x : FVec Ideal S8704x12288 .bf16) (y : FVec Ideal S2048x12288 .bf16) : FVec Ideal S8704x2048 .f32 :=
  fun i => ∑ k : Fin 12288, x (ix2 (i 0) k) * y (ix2 (i 1) k)

theorem idx8 : ∀ t : Fin cfg8.N, win8_0.index t = ![t.val / 8, 0] ∧ win8_1.index t = ![t.val % 8, 0]
    ∧ win8_2.index t = ![t.val / 8, t.val % 8] :=
  (by decide +kernel : ∀ t : Fin grid8.N, _)

theorem pay8_apply (x : FVec Ideal S512x12288 .bf16) (y : FVec Ideal S256x12288 .bf16) (r : Fin 512) (s : Fin 256) :
    k8_pay1 (F := Ideal) x y (ix2 r s) = ∑ k : Fin 12288, x (ix2 r k) * y (ix2 s k) := by
  pointwise [k8_pay1]

theorem final8 (c : Dev nD) :
    (dat8 V c).arrAt 2 cfg8.N = gradX (V c main_arg4) (V c main_v0_0) := by
  refine (dat8 V c).arrAt_eq_of_covers 2 _ (by decide +kernel) fun t hf y => ?_
  blk_simp
  rw [after8_2]; frame_out
  rw [show (y : S512x256.Idx) = ix2 (y 0) (y 1) from eq_ix2 y]
  refine (pay8_apply _ _ _ _).trans ?_
  unfold gradX
  refine Finset.sum_congr rfl fun k _ => Ideal.mul_congr ?_ ?_
  · blk_simp [iblk8]
    refine congrArg _ ?_
    blk_ext [(idx8 t).1, (idx8 t).2.2]
  · blk_simp [iblk8]
    refine congrArg _ ?_
    blk_ext [(idx8 t).2.1, (idx8 t).2.2]

end Cert.Kernel3Ideal.InProj

end
-- ==== Proof.In.Pack.lean ====
/- What the call that lays out the incoming weight leaves in its two result arrays. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.InProj

open Idealize.ShloMosaic Idealize.ShloMosaic.TcCoe Idealize.SL Idealize.SL.Sem
open Cert.Kernel3Ideal Cert.Kernel3Ideal.Gen

variable (V : (c : Dev nD) → (b : Ref sig .tc) → Buf (Elt Ideal) ((c : Thread nD τ).loc b))

/-- The column of the whole weight at which a column of the wide projection stands: the 16 columns of the two small gates
    lie between its first 8192 columns and the others. -/
def mcol (j : Fin 12288) : Fin 12304 := if h : j.val < 8192 then ⟨j.val, by omega⟩ else ⟨j.val + 16, by omega⟩

/-- The weight of the wide projection, from the eight shards of 1538 columns that the devices hold. -/
def wMain (g : FVec Ideal S8x2048x1538 .bf16) : FVec Ideal S2048x12288 .bf16 :=
  fun i => g (ix3 ⟨(mcol (i 1)).val / 1538, by have := (mcol (i 1)).isLt; omega⟩ (i 0) ⟨(mcol (i 1)).val % 1538, by omega⟩)

/-- The weight of the two small gates, 16 columns and then zeros. -/
def wAb (g : FVec Ideal S8x2048x1538 .bf16) : FVec Ideal S2048x128 .bf16 :=
  fun i => if h : (i 1).val < 16 then g (ix3 ⟨5, by omega⟩ (i 0) ⟨502 + (i 1).val, by omega⟩) else (0 : EReal)

theorem wMain_of (g : FVec Ideal S8x2048x1538 .bf16) (i : S8x2048x1538.Idx) (j : S2048x12288.Idx)
    (hk : (i 1).val = (j 0).val)
    (h : ((i 0).val * 1538 + (i 2).val = (j 1).val ∧ (j 1).val < 8192) ∨
      ((i 0).val * 1538 + (i 2).val = (j 1).val + 16 ∧ 8192 ≤ (j 1).val)) : g i = wMain g j := by
  have h2 : (i 2).val < 1538 := (i 2).isLt
  have e : (mcol (j 1)).val = (i 0).val * 1538 + (i 2).val := by
    unfold mcol; split <;> (show _ = _; dsimp only; omega)
  unfold wMain
  rw [show i = ix3 (i 0) (i 1) (i 2) from eq_ix3 i]
  have e0 : (i 0) = (⟨(mcol (j 1)).val / 1538, by have := (mcol (j 1)).isLt; omega⟩ : Fin 8) := Fin.ext (by dsimp only; omega)
  have e1 : (i 1) = (j 0) := Fin.ext hk
  have e2 : (i 2) = (⟨(mcol (j 1)).val % 1538, by omega⟩ : Fin 1538) := Fin.ext (by dsimp only; omega)
  exact congrArg g (congr (congrArg₂ (ix3 (n0 := 8) (n1 := 2048) (n2 := 1538)) e0 e1) e2)

theorem wAb_of (g : FVec Ideal S8x2048x1538 .bf16) (i : S8x2048x1538.Idx) (j : S2048x128.Idx)
    (h0 : (i 0).val = 5) (hk : (i 1).val = (j 0).val) (h : (i 2).val = 502 + (j 1).val) (hj : (j 1).val < 16) :
    g i = wAb g j := by
  unfold wAb
  refine Eq.trans ?_ (dif_pos hj).symm
  rw [show i = ix3 (i 0) (i 1) (i 2) from eq_ix3 i]
  have e0 : (i 0) = (⟨5, by omega⟩ : Fin 8) := Fin.ext h0
  have e1 : (i 1) = (j 0) := Fin.ext hk
  have e2 : (i 2) = (⟨502 + (j 1).val, by omega⟩ : Fin 1538) := Fin.ext h
  exact congrArg g (congr (congrArg₂ (ix3 (n0 := 8) (n1 := 2048) (n2 := 1538)) e0 e1) e2)

theorem narrow_emb (inb : ∀ a, (![0, 0] : Fin 2 → ℕ) a + (![256, 16] : Fin 2 → ℕ) a ≤ S256x128.size a) (y : S256x128.Idx) (hy : (y 1).val < 16) :
    (Rect.unit (s := S256x128) ![0, 0] ![256, 16] inb).emb (ix2 (n0 := 256) (n1 := 16) (y 0) ⟨(y 1).val, hy⟩) = y := by
  refine (eq_ix2 _).trans (Eq.trans ?_ (eq_ix2 y).symm)
  exact congrArg₂ (ix2 (n0 := 256) (n1 := 128)) (Fin.ext (by show 0 + 1 * (y 0).val = (y 0).val; omega))
    (Fin.ext (by show 0 + 1 * (y 1).val = (y 1).val; omega))

theorem narrow_off (inb : ∀ a, (![0, 0] : Fin 2 → ℕ) a + (![256, 16] : Fin 2 → ℕ) a ≤ S256x128.size a) (y : S256x128.Idx) (hy : ¬ (y 1).val < 16) :
    y ∉ (Rect.unit (s := S256x128) ![0, 0] ![256, 16] inb).set :=
  Rect.not_mem_set_of_axis _ y 1 0 16 rfl rfl rfl (by omega)

theorem idx0 : ∀ t : Fin cfg0.N, win0_0.index t = ![0, t.val, 0] ∧ win0_1.index t = ![t.val, 0] ∧ win0_2.index t = ![t.val, 0] :=
  (by decide +kernel : ∀ t : Fin grid0.N, _)

set_option maxHeartbeats 4000000 in
theorem final0_1 (c : Dev nD) :
    (dat0 V c).arrAt 1 cfg0.N = wMain (V c main_arg3) := by
  refine (dat0 V c).arrAt_eq_of_covers 1 _ (by decide +kernel) fun t hf y => ?_
  blk_simp
  rw [after0_1]; unfold outsAt0; frame_out
  canon_tiles x h using (View.cover_of_tiledBy _ ![256, 2] (by sl_kernel_rfl) y)
  all_goals
    pointwise [k0_pay1, k0_pay2, k0_pay3, k0_pay4, k0_pay5, k0_pay6, k0_pay7, k0_pay8, k0_pay9, k0_pay10, k0_pay11]
    blk_simp [iblk0]
    refine wMain_of _ _ _ ?_ ?_ <;> blk_simp [(idx0 t).1, (idx0 t).2.1] <;> (try dsimp only) <;>
      first | rfl | omega | (simp only [Fin.coe_ofNat_eq_mod, Nat.zero_mod]; omega) | skip

set_option maxHeartbeats 4000000 in
theorem final0_2 (c : Dev nD) :
    (dat0 V c).arrAt 2 cfg0.N = wAb (V c main_arg3) := by
  refine (dat0 V c).arrAt_eq_of_covers 2 _ (by decide +kernel) fun t hf y => ?_
  blk_simp
  rw [after0_2]; unfold outsAt0; frame_out
  by_cases hy : (y 1).val < 16
  · refine (congrArg (View.canon _) (narrow_emb (by decide) y hy).symm).trans ((View.canon_cons_emb _ _ _ _).trans ?_)
    pointwise [k0_pay1, k0_pay2, k0_pay3, k0_pay4, k0_pay5, k0_pay6, k0_pay7, k0_pay8, k0_pay9, k0_pay10, k0_pay11]
    blk_simp [iblk0]
    refine wAb_of _ _ _ ?_ ?_ ?_ ?_ <;> blk_simp [(idx0 t).1, (idx0 t).2.2] <;> (try dsimp only) <;> first | rfl | omega
  · refine (View.canon_cons_of_not_mem _ _ (narrow_off (by decide) y hy)).trans ?_
    rw [View.canon_cons_unit_lit' _ _ _ (by decide)]
    pointwise [k0_pay1, k0_pay2, k0_pay3, k0_pay4, k0_pay5, k0_pay6, k0_pay7, k0_pay8, k0_pay9, k0_pay10, k0_pay11]
    unfold wAb
    blk_simp
    refine Eq.trans ?_ (dif_neg (by blk_simp [(idx0 t).2.2]; omega)).symm
    rfl

end Cert.Kernel3Ideal.InProj

end
-- ==== Proof.In.Norm.lean ====
/- What the call that normalises the rows leaves in its result array. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.InProj

open Idealize.ShloMosaic Idealize.ShloMosaic.TcCoe Idealize.SL Idealize.SL.Sem
open Cert.Kernel3Ideal Cert.Kernel3Ideal.Gen

variable (V : (c : Dev nD) → (b : Ref sig .tc) → Buf (Elt Ideal) ((c : Thread nD τ).loc b))

/-- A row over the root of its mean square, times a weight. -/
def normRow (x : Fin 2048 → EReal) (w : EReal) (k : Fin 2048) : EReal :=
  x k * Ideal.rsqrt (Ideal.div (∑ j : Fin 2048, x j * x j) (Ideal.ofBits .f32 0x45000000#32) + Ideal.ofBits .f32 0x358637BD#32) * w

theorem pay1_pre (i : grid1.Coords) (h : Scalar.cmpi .slt (BitVec.ofNat 32 (i 0).val) 2#32 = 1#1)
    (a b : FVec Ideal S256x2048 .f32) (w : FVec Ideal S1x2048 .f32) (r : Fin 256) (s : Fin 2048) :
    k1_pay1 (F := Ideal) i a b w (ix2 r s) = normRow (fun k => a (ix2 r k)) (w (ix2 0 s)) s := by
  unfold normRow
  pointwise [k1_pay1, h]

theorem pay1_tok (i : grid1.Coords) (h : Scalar.cmpi .slt (BitVec.ofNat 32 (i 0).val) 2#32 = 0#1)
    (a b : FVec Ideal S256x2048 .f32) (w : FVec Ideal S1x2048 .f32) (r : Fin 256) (s : Fin 2048) :
    k1_pay1 (F := Ideal) i a b w (ix2 r s) = normRow (fun k => b (ix2 r k)) (w (ix2 0 s)) s := by
  unfold normRow
  pointwise [k1_pay1, h]

/-- The normalised rows: 512 rows before the tokens, then the tokens' 8192. -/
def xnOf (p : FVec Ideal S512x2048 .f32) (x : FVec Ideal S8192x2048 .f32) (w : FVec Ideal S1x2048 .f32) : FVec Ideal S8704x2048 .bf16 :=
  fun i => normRow (fun k => if h : (i 0).val < 512 then p (ix2 ⟨(i 0).val, h⟩ k)
      else x (ix2 ⟨(i 0).val - 512, by have h0 : (i 0).val < 8704 := (i 0).isLt; omega⟩ k)) (w (ix2 0 (i 1))) (i 1)

theorem normRow_congr {x y : Fin 2048 → EReal} (h : ∀ k, x k = y k) {v w : EReal} (hw : v = w) {s s' : Fin 2048} (hs : s = s') :
    normRow x v s = normRow y w s' := by
  rw [funext h, hw, hs]

theorem pre_or_tok : ∀ t : Fin grid1.N, (t.val < 2 ∧ Scalar.cmpi .slt (BitVec.ofNat 32 (grid1.coords t 0).val) 2#32 = 1#1)
    ∨ (2 ≤ t.val ∧ Scalar.cmpi .slt (BitVec.ofNat 32 (grid1.coords t 0).val) 2#32 = 0#1) := by
  decide +kernel

theorem idx1 : ∀ t : Fin cfg1.N, win1_0.index t = ![min t.val 1, 0] ∧ win1_1.index t = ![t.val - 2, 0]
    ∧ win1_2.index t = ![0, 0] ∧ win1_3.index t = ![t.val, 0] :=
  (by decide +kernel : ∀ t : Fin grid1.N, _)

theorem final1 (c : Dev nD) :
    (dat1 V c).arrAt 3 cfg1.N = xnOf (V c main_v2) (V c main_arg0) (V c main_arg2) := by
  refine (dat1 V c).arrAt_eq_of_covers 3 _ (by decide +kernel) fun t hf y => ?_
  blk_simp
  rw [after1_3]; frame_out
  rw [show (y : S256x2048.Idx) = ix2 (y 0) (y 1) from eq_ix2 y]
  unfold xnOf
  have hy : (y 0).val < 256 := (y 0).isLt
  rcases pre_or_tok t with ⟨ht, h⟩ | ⟨ht, h⟩
  · refine (pay1_pre (grid1.coords t) h _ _ _ _ _).trans (normRow_congr (fun k => ?_) ?_ ?_)
    · refine Eq.trans ?_ (dif_pos (by blk_simp [(idx1 t).2.2.2]; omega)).symm
      blk_simp [iblk1]
      refine congrArg _ ?_
      blk_ext [(idx1 t).1, (idx1 t).2.2.2]
    · blk_simp [iblk1]
      refine congrArg _ ?_
      blk_ext [(idx1 t).2.2.1, (idx1 t).2.2.2]
    · exact Fin.ext (by blk_simp [(idx1 t).2.2.2])
  · refine (pay1_tok (grid1.coords t) h _ _ _ _ _).trans (normRow_congr (fun k => ?_) ?_ ?_)
    · refine Eq.trans ?_ (dif_neg (by blk_simp [(idx1 t).2.2.2]; omega)).symm
      blk_simp [iblk1]
      refine congrArg _ ?_
      blk_ext [(idx1 t).2.1, (idx1 t).2.2.2]
    · blk_simp [iblk1]
      refine congrArg _ ?_
      blk_ext [(idx1 t).2.2.1, (idx1 t).2.2.2]
    · exact Fin.ext (by blk_simp [(idx1 t).2.2.2])

end Cert.Kernel3Ideal.InProj

end
-- ==== Proof.In.Unpack.lean ====
/- What the call that lays out the gradient of the incoming weight in shards leaves in its result array. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Kernel3Ideal.InProj

open Idealize.ShloMosaic Idealize.ShloMosaic.TcCoe Idealize.SL Idealize.SL.Sem
open Cert.Kernel3Ideal Cert.Kernel3Ideal.Gen

variable (V : (c : Dev nD) → (b : Ref sig .tc) → Buf (Elt Ideal) ((c : Thread nD τ).loc b))

/-- The gradient of the weight in eight shards of 1538 columns, from the gradients of the wide projection and of the two
    small gates, both transposed. -/
def shards (y : FVec Ideal S12288x2048 .bf16) (z : FVec Ideal S128x2048 .bf16) : FVec Ideal S8x1538x2048 .bf16 :=
  fun i =>
    have h0 : (i 0).val < 8 := (i 0).isLt
    have h1 : (i 1).val < 1538 := (i 1).isLt
    if h : (i 0).val * 1538 + (i 1).val < 8192 then y (ix2 ⟨(i 0).val * 1538 + (i 1).val, by omega⟩ (i 2))
    else if h' : (i 0).val * 1538 + (i 1).val < 8208 then z (ix2 ⟨(i 0).val * 1538 + (i 1).val - 8192, by omega⟩ (i 2))
    else y (ix2 ⟨(i 0).val * 1538 + (i 1).val - 16, by omega⟩ (i 2))

theorem shards_y (y : FVec Ideal S12288x2048 .bf16) (z : FVec Ideal S128x2048 .bf16) (i : S12288x2048.Idx) (j : S8x1538x2048.Idx)
    (hk : (i 1).val = (j 2).val)
    (h : ((j 0).val * 1538 + (j 1).val < 8192 ∧ (i 0).val = (j 0).val * 1538 + (j 1).val) ∨
      (8208 ≤ (j 0).val * 1538 + (j 1).val ∧ (i 0).val + 16 = (j 0).val * 1538 + (j 1).val)) :
    y i = shards y z j := by
  unfold shards
  rw [show i = ix2 (i 0) (i 1) from eq_ix2 i]
  rcases h with ⟨h, e⟩ | ⟨h, e⟩
  · refine Eq.trans ?_ (dif_pos h).symm
    exact congrArg y (congrArg₂ (ix2 (n0 := 12288) (n1 := 2048)) (Fin.ext e) (Fin.ext hk))
  · refine Eq.trans ?_ (dif_neg (by omega)).symm
    refine Eq.trans ?_ (dif_neg (by omega)).symm
    exact congrArg y (congrArg₂ (ix2 (n0 := 12288) (n1 := 2048)) (Fin.ext (by dsimp only; omega)) (Fin.ext hk))

theorem shards_z (y : FVec Ideal S12288x2048 .bf16) (z : FVec Ideal S128x2048 .bf16) (i : S128x2048.Idx) (j : S8x1538x2048.Idx)
    (hk : (i 1).val = (j 2).val) (h : (j 0).val * 1538 + (j 1).val < 8208)
    (e : (i 0).val + 8192 = (j 0).val * 1538 + (j 1).val) :
    z i = shards y z j := by
  unfold shards
  rw [show i = ix2 (i 0) (i 1) from eq_ix2 i]
  refine Eq.trans ?_ (dif_neg (by omega)).symm
  refine Eq.trans ?_ (dif_pos h).symm
  exact congrArg z (congrArg₂ (ix2 (n0 := 128) (n1 := 2048)) (Fin.ext (by dsimp only; omega)) (Fin.ext hk))

theorem idx6 : ∀ t : Fin cfg6.N, win6_0.index t = ![0, t.val] ∧ win6_1.index t = ![0, t.val] ∧ win6_2.index t = ![0, 0, t.val] :=
  (by decide +kernel : ∀ t : Fin grid6.N, _)

set_option maxHeartbeats 4000000 in
theorem final6 (c : Dev nD) :
    (dat6 V c).arrAt 2 cfg6.N = shards (V c main_v6) (V c main_v7) := by
  refine (dat6 V c).arrAt_eq_of_covers 2 _ (by decide +kernel) fun t hf y => ?_
  blk_simp
  rw [after6_2]; unfold outsAt6; frame_out
  canon_tiles x h using (View.cover_of_tiledBy _ ![1, 2, 256] (by sl_kernel_rfl) y)
  all_goals
    pointwise [k6_pay1, k6_pay2, k6_pay3, k6_pay4, k6_pay5, k6_pay6, k6_pay7, k6_pay8, k6_pay9, k6_pay10, k6_pay11]
    blk_simp [iblk6]
    first
      | (refine shards_y _ _ _ _ ?_ ?_ <;> blk_simp [(idx6 t).1, (idx6 t).2.2] <;> (try dsimp only) <;> first | rfl | omega)
      | (refine shards_z _ _ _ _ ?_ ?_ ?_ <;> blk_simp [(idx6 t).2.1, (idx6 t).2.2] <;> (try dsimp only) <;> first | rfl | omega)

end Cert.Kernel3Ideal.InProj

end
-- ==== Proof.In.Run.lean ====
/- The calls of the incoming projection one after another: where the five results stand at the end of the run, as functions of the arguments. -/
module

public import proofs.«01_k».proof.Proof.In.Products
public import proofs.«01_k».proof.Proof.In.Pack
public import proofs.«01_k».proof.Proof.In.Norm
public import proofs.«01_k».proof.Proof.In.Unpack
public import Idealize.ShloMosaic.Adequacy
public import Idealize.ShloMosaic.Init

@[expose] public section

set_option maxRecDepth 16384

noncomputable section

namespace Cert.Kernel3Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

section
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every execution of the calls ends, and every buffer that outlives them ends as the calls' write-backs leave it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  (θ_run defs _ _).mono (fun _ h => h)
  (Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c => h c))
end

variable (m : (ℓ : Loc nD τ sig) → Buf (Elt Ideal) ℓ) (ρ : Dev nD → PrngReg)

/-- The 496 rows of zeros and the 16 rows before the tokens. -/
def preRows (p : FVec Ideal S16x2048 .f32) : FVec Ideal S512x2048 .f32 :=
  concatenate S512x2048 0 [⟨S496x2048, broadcastInDim S496x2048 ![] bcast_S_S496x2048 (constant S_ .f32 0x00000000#32)⟩, ⟨S16x2048, p⟩] concatenates_S496x2048_S16x2048_S512x2048_d0

/-- The normalised rows. -/
abbrev xnI (c : Dev nD) : FVec Ideal S8704x2048 .bf16 :=
  xnOf (preRows (m ((c : Thread nD τ).loc main_arg1))) (m ((c : Thread nD τ).loc main_arg0)) (m ((c : Thread nD τ).loc main_arg2))
/-- The weight of the wide projection. -/
abbrev wI (c : Dev nD) : FVec Ideal S2048x12288 .bf16 := wMain (m ((c : Thread nD τ).loc main_arg3))
/-- The weight of the two small gates. -/
abbrev wabI (c : Dev nD) : FVec Ideal S2048x128 .bf16 := wAb (m ((c : Thread nD τ).loc main_arg3))

theorem w_at1 (c : Dev nD) : V1 m ρ c main_v0_0 = wI m c := (W1_arr m ρ c 1).trans (final0_1 (V0 m ρ) c)
theorem wab_at1 (c : Dev nD) : V1 m ρ c main_v0_1 = wabI m c := (W1_arr m ρ c 2).trans (final0_2 (V0 m ρ) c)
theorem w_at3 (c : Dev nD) : V3 m ρ c main_v0_0 = wI m c :=
  (W3_of m ρ c main_v0_0 (by decide +kernel)).trans ((W2_of m ρ c main_v0_0 (by decide)).trans (w_at1 m ρ c))
theorem wab_at4 (c : Dev nD) : V4 m ρ c main_v0_1 = wabI m c :=
  (W4_of m ρ c main_v0_1 (by decide +kernel)).trans ((W3_of m ρ c main_v0_1 (by decide +kernel)).trans
    ((W2_of m ρ c main_v0_1 (by decide)).trans (wab_at1 m ρ c)))
theorem wab_at8 (c : Dev nD) : V8 m ρ c main_v0_1 = wabI m c :=
  (W8_of m ρ c main_v0_1 (by decide +kernel)).trans ((W7_of m ρ c main_v0_1 (by decide +kernel)).trans
    ((W6_of m ρ c main_v0_1 (by decide +kernel)).trans ((W5_of m ρ c main_v0_1 (by decide +kernel)).trans (wab_at4 m ρ c))))
theorem w_at9 (c : Dev nD) : V9 m ρ c main_v0_0 = wI m c :=
  (W9_of m ρ c main_v0_0 (by decide +kernel)).trans ((W8_of m ρ c main_v0_0 (by decide +kernel)).trans ((W7_of m ρ c main_v0_0 (by decide +kernel)).trans
    ((W6_of m ρ c main_v0_0 (by decide +kernel)).trans ((W5_of m ρ c main_v0_0 (by decide +kernel)).trans
      ((W4_of m ρ c main_v0_0 (by decide +kernel)).trans (w_at3 m ρ c))))))

theorem pre_at2 (c : Dev nD) : V2 m ρ c main_v2 = preRows (m ((c : Thread nD τ).loc main_arg1)) := by
  have h : W1 m ρ c (Proc.devRef .tc main_arg1) = m ((c : Thread nD τ).loc main_arg1) := W1_args m ρ c main_arg1 (by decide)
  show StableHlo.after hostOps1 (W1 m ρ c) (Proc.devRef .tc main_v2) = _
  unfold preRows
  rw [← h]
  simp only [hostOps1]
  after_results_simp <;> rfl

theorem xn_at3 (c : Dev nD) : V3 m ρ c main_v3 = xnI m c :=
  (W3_arr m ρ c 3).trans ((final1 (V2 m ρ) c).trans (by
    rw [pre_at2, show V2 m ρ c main_arg0 = m ((c : Thread nD τ).loc main_arg0) from W2_args m ρ c main_arg0 (by decide),
      show V2 m ρ c main_arg2 = m ((c : Thread nD τ).loc main_arg2) from W2_args m ρ c main_arg2 (by decide)]))
theorem xn_at4 (c : Dev nD) : V4 m ρ c main_v3 = xnI m c := (W4_of m ρ c main_v3 (by decide +kernel)).trans (xn_at3 m ρ c)
theorem xn_at5 (c : Dev nD) : V5 m ρ c main_v3 = xnI m c := (W5_of m ρ c main_v3 (by decide +kernel)).trans (xn_at4 m ρ c)
theorem xn_at6 (c : Dev nD) : V6 m ρ c main_v3 = xnI m c := (W6_of m ρ c main_v3 (by decide +kernel)).trans (xn_at5 m ρ c)

theorem proj_at4 (c : Dev nD) : V4 m ρ c main_v4 = projMain (xnI m c) (wI m c) :=
  (W4_arr m ρ c 2).trans ((final2 (V3 m ρ) c).trans (by rw [xn_at3, w_at3]))
theorem ab_at5 (c : Dev nD) : V5 m ρ c main_v5 = projAb (xnI m c) (wabI m c) :=
  (W5_arr m ρ c 2).trans ((final3 (V4 m ρ) c).trans (by rw [xn_at4, wab_at4]))
theorem gm_at6 (c : Dev nD) : V6 m ρ c main_v6 = gradMain (m ((c : Thread nD τ).loc main_arg4)) (xnI m c) :=
  (W6_arr m ρ c 2).trans ((final4 (V5 m ρ) c).trans (by
    rw [xn_at5, show V5 m ρ c main_arg4 = m ((c : Thread nD τ).loc main_arg4) from W5_args m ρ c main_arg4 (by decide)]))
theorem ga_at7 (c : Dev nD) : V7 m ρ c main_v7 = gradAb (m ((c : Thread nD τ).loc main_arg5)) (xnI m c) :=
  (W7_arr m ρ c 2).trans ((final5 (V6 m ρ) c).trans (by
    rw [xn_at6, show V6 m ρ c main_arg5 = m ((c : Thread nD τ).loc main_arg5) from W6_args m ρ c main_arg5 (by decide)]))
theorem gm_at7 (c : Dev nD) : V7 m ρ c main_v6 = gradMain (m ((c : Thread nD τ).loc main_arg4)) (xnI m c) :=
  (W7_of m ρ c main_v6 (by decide +kernel)).trans (gm_at6 m ρ c)
theorem dw_at8 (c : Dev nD) : V8 m ρ c main_v8 = shards (gradMain (m ((c : Thread nD τ).loc main_arg4)) (xnI m c)) (gradAb (m ((c : Thread nD τ).loc main_arg5)) (xnI m c)) :=
  (W8_arr m ρ c 2).trans ((final6 (V7 m ρ) c).trans (by rw [gm_at7, ga_at7]))
theorem dxab_at9 (c : Dev nD) : V9 m ρ c main_v9 = gradXab (m ((c : Thread nD τ).loc main_arg5)) (wabI m c) :=
  (W9_arr m ρ c 2).trans ((final7 (V8 m ρ) c).trans (by
    rw [wab_at8, show V8 m ρ c main_arg5 = m ((c : Thread nD τ).loc main_arg5) from W8_args m ρ c main_arg5 (by decide)]))

/-- The wide projection at the end of the run. -/
theorem out0 (c : Dev nD) : W10 m ρ c (Proc.devRef .tc main_v4) = projMain (xnI m c) (wI m c) :=
  (W10_of m ρ c main_v4 (by decide +kernel)).trans ((W9_of m ρ c main_v4 (by decide +kernel)).trans ((W8_of m ρ c main_v4 (by decide +kernel)).trans
    ((W7_of m ρ c main_v4 (by decide +kernel)).trans ((W6_of m ρ c main_v4 (by decide +kernel)).trans
      ((W5_of m ρ c main_v4 (by decide +kernel)).trans (proj_at4 m ρ c))))))
/-- The projection to the two small gates at the end of the run. -/
theorem out1 (c : Dev nD) : W10 m ρ c (Proc.devRef .tc main_v5) = projAb (xnI m c) (wabI m c) :=
  (W10_of m ρ c main_v5 (by decide +kernel)).trans ((W9_of m ρ c main_v5 (by decide +kernel)).trans ((W8_of m ρ c main_v5 (by decide +kernel)).trans
    ((W7_of m ρ c main_v5 (by decide +kernel)).trans ((W6_of m ρ c main_v5 (by decide +kernel)).trans (ab_at5 m ρ c)))))
/-- The shards of the weight's gradient at the end of the run. -/
theorem out2 (c : Dev nD) : W10 m ρ c (Proc.devRef .tc main_v8) = shards (gradMain (m ((c : Thread nD τ).loc main_arg4)) (xnI m c)) (gradAb (m ((c : Thread nD τ).loc main_arg5)) (xnI m c)) :=
  (W10_of m ρ c main_v8 (by decide +kernel)).trans ((W9_of m ρ c main_v8 (by decide +kernel)).trans (dw_at8 m ρ c))
/-- The gradient of the normalised rows, from the wide projection, at the end of the run. -/
theorem out3 (c : Dev nD) : W10 m ρ c (Proc.devRef .tc main_v10) = gradX (m ((c : Thread nD τ).loc main_arg4)) (wI m c) :=
  (W10_arr m ρ c 2).trans ((final8 (V9 m ρ) c).trans (by
    rw [w_at9, show V9 m ρ c main_arg4 = m ((c : Thread nD τ).loc main_arg4) from W9_args m ρ c main_arg4 (by decide)]))
/-- … and from the two small gates. -/
theorem out4 (c : Dev nD) : W10 m ρ c (Proc.devRef .tc main_v9) = gradXab (m ((c : Thread nD τ).loc main_arg5)) (wabI m c) :=
  (W10_of m ρ c main_v9 (by decide +kernel)).trans (dxab_at9 m ρ c)

/-- The run with its results, the arguments as launched. -/
theorem run : θ_run defs (onTc (τ := τ) (main (F := Ideal))) ⟨m, fun _ => 0, ρ⟩ (fun r => ∀ c : Dev nD,
      r.2.mem ((c.tc : Thread nD τ).loc main_v4) = projMain (xnI m c) (wI m c)
      ∧ r.2.mem ((c.tc : Thread nD τ).loc main_v5) = projAb (xnI m c) (wabI m c)
      ∧ r.2.mem ((c.tc : Thread nD τ).loc main_v8) = shards (gradMain (m ((c : Thread nD τ).loc main_arg4)) (xnI m c)) (gradAb (m ((c : Thread nD τ).loc main_arg5)) (xnI m c))
      ∧ r.2.mem ((c.tc : Thread nD τ).loc main_v10) = gradX (m ((c : Thread nD τ).loc main_arg4)) (wI m c)
      ∧ r.2.mem ((c.tc : Thread nD τ).loc main_v9) = gradXab (m ((c : Thread nD τ).loc main_arg5)) (wabI m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v4 (by decide))).trans (out0 m ρ c),
     (h c _ (mem_uc main_v5 (by decide))).trans (out1 m ρ c),
     (h c _ (mem_uc main_v8 (by decide))).trans (out2 m ρ c),
     (h c _ (mem_uc main_v10 (by decide))).trans (out3 m ρ c),
     (h c _ (mem_uc main_v9 (by decide))).trans (out4 m ρ c),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c)⟩) (run_all m ρ)

end Cert.Kernel3Ideal.InProj

end
-- ==== Proof.In.Ref.lean ====
/- The incoming projection and its gradients as the plain program computes them, read at an index, against the calls' results. -/
module

public import proofs.«01_k».proof.Proof.In.Run
public import proofs.«01_k».proof.Proof.Gen.Reference3Ideal.Run

@[expose] public section

set_option maxRecDepth 16384

noncomputable section

namespace Cert.Reference3Ideal.InProj

open Idealize.ShloMosaic Idealize.ShloMosaic.TcCoe Idealize.SL.Sem
open Cert.Reference3Ideal Cert.Reference3Ideal.Gen
open Cert.Kernel3Ideal.InProj (normRow normRow_congr mcol)

variable (x : FVec Ideal S8192x2048 .f32) (p : FVec Ideal S16x2048 .f32) (w : FVec Ideal S1x2048 .f32) (g : FVec Ideal S8x2048x1538 .bf16)
  (ct : FVec Ideal S8704x12288 .bf16) (ctab : FVec Ideal S8704x128 .bf16)

/-- The rows before the tokens and the tokens. -/
def rowsR : FVec Ideal S8208x2048 .f32 :=
  concatenate S8208x2048 0 [⟨S16x2048, p⟩, ⟨S8192x2048, x⟩] concatenates_S16x2048_S8192x2048_S8208x2048_d0
/-- … normalised. -/
def normR : FVec Ideal S8208x2048 .f32 :=
  mulf (mulf (rowsR x p) (broadcastInDim S8208x2048 ![0, 1] bcast_S8208x1_S8208x2048_0_1 (Host.rsqrt (addf (Host.divf (broadcastInDim S8208x1 ![0] bcast_S8208_S8208x1_0 (Host.reduceAdd (mulf (rowsR x p) (rowsR x p)) (constant S_ .f32 0x00000000#32) reducesTo_S8208x2048_S8208_d1 h_S_)) (broadcastInDim S8208x1 ![] bcast_S_S8208x1 (constant S_ .f32 0x45000000#32))) (broadcastInDim S8208x1 ![] bcast_S_S8208x1 (constant S_ .f32 0x358637BD#32)))))) (broadcastInDim S8208x2048 ![0, 1] bcast_S1x2048_S8208x2048_0_1 w)
/-- … after 496 rows of zeros. -/
def xnR : FVec Ideal S8704x2048 .f32 :=
  pad S8704x2048 ![496, 0] ![0, 0] ![0, 0] (normR x p w) (sitofp .f32 (constantI S_ 32 0#32)) pads_S8208x2048_S8704x2048_49600_000 h_S_
/-- The whole weight. -/
def wR : FVec Ideal S2048x12304 .f32 :=
  extf .f32 (shapeCast _ (transpose S2048x8x1538 [1, 0, 2] g transposes_S8x2048x1538_S2048x8x1538_1_0_2) shapeCasts_S2048x8x1538_S2048x12304) bitsLt_bf16_f32
/-- Its columns but those of the two small gates. -/
def wMainR : FVec Ideal S2048x12288 .f32 :=
  concatenate S2048x12288 1 [⟨S2048x8192, (extractStridedSlice S2048x8192 ![0, 0] (wR g) slices_S2048x12304_S2048x8192_0_0)⟩, ⟨S2048x4096, (extractStridedSlice S2048x4096 ![0, 8208] (wR g) slices_S2048x12304_S2048x4096_0_8208)⟩] concatenates_S2048x8192_S2048x4096_S2048x12288_d1
/-- … and those. -/
def wAbR : FVec Ideal S2048x16 .f32 := extractStridedSlice S2048x16 ![0, 8192] (wR g) slices_S2048x12304_S2048x16_0_8192
/-- The 16 columns of the gradient to the two small gates. -/
def ctAbR : FVec Ideal S8704x16 .f32 := extractStridedSlice S8704x16 ![0, 0] (extf .f32 ctab bitsLt_bf16_f32) slices_S8704x128_S8704x16_0_0
def projR (X : FVec Ideal S8704x2048 .f32) (W : FVec Ideal S2048x12288 .f32) : FVec Ideal S8704x12288 .f32 :=
  Host.dotGeneral dot_S8704x2048_S2048x12288_S8704x12288_1_0_0_1_n_n none X W
def projAbR (X : FVec Ideal S8704x2048 .f32) (W : FVec Ideal S2048x16 .f32) : FVec Ideal S8704x128 .f32 :=
  pad S8704x128 ![0, 0] ![0, 112] ![0, 0] (Host.dotGeneral dot_S8704x2048_S2048x16_S8704x16_1_0_0_1_n_n none X W) (sitofp .f32 (constantI S_ 32 0#32)) pads_S8704x16_S8704x128_000_01120 h_S_
def gradMainR (X : FVec Ideal S8704x2048 .f32) : FVec Ideal S2048x12288 .f32 :=
  transpose S2048x12288 [1, 0] (Host.dotGeneral dot_S8704x12288_S8704x2048_S12288x2048_0_0_1_1_n_n none (extf .f32 ct bitsLt_bf16_f32) X) transposes_S12288x2048_S2048x12288_1_0
def gradAbR (X : FVec Ideal S8704x2048 .f32) : FVec Ideal S2048x16 .f32 :=
  transpose S2048x16 [1, 0] (Host.dotGeneral dot_S8704x16_S8704x2048_S16x2048_0_0_1_1_n_n none (ctAbR ctab) X) transposes_S16x2048_S2048x16_1_0
def gradR (Y : FVec Ideal S2048x12288 .f32) (Z : FVec Ideal S2048x16 .f32) : FVec Ideal S2048x12304 .f32 :=
  concatenate S2048x12304 1 [⟨S2048x8192, (extractStridedSlice S2048x8192 ![0, 0] Y slices_S2048x12288_S2048x8192_0_0)⟩, ⟨S2048x16, Z⟩, ⟨S2048x4096, (extractStridedSlice S2048x4096 ![0, 8192] Y slices_S2048x12288_S2048x4096_0_8192)⟩] concatenates_S2048x8192_S2048x16_S2048x4096_S2048x12304_d1
def shardsR (Y : FVec Ideal S2048x12304 .f32) : FVec Ideal S8x1538x2048 .bf16 :=
  truncf .bf16 (shapeCast _ (transpose S12304x2048 [1, 0] Y transposes_S2048x12304_S12304x2048_1_0) shapeCasts_S12304x2048_S8x1538x2048) bitsLt_bf16_f32
def dxR (W : FVec Ideal S2048x12288 .f32) : FVec Ideal S8704x2048 .f32 :=
  Host.dotGeneral dot_S8704x12288_S2048x12288_S8704x2048_1_1_0_0_n_n none (extf .f32 ct bitsLt_bf16_f32) W
def dxAbR (W : FVec Ideal S2048x16 .f32) : FVec Ideal S8704x2048 .f32 :=
  Host.dotGeneral dot_S8704x16_S2048x16_S8704x2048_1_1_0_0_n_n none (ctAbR ctab) W

theorem pad_zero : (FloatOps.sitofp .f32 (0#32 : BitVec 32) : Ideal .f32) = (0 : EReal) := by
  show ((((0#32 : BitVec 32).toInt : ℤ) : ℝ) : EReal) = 0
  simp
theorem rowsR_apply (l : Fin 8208) (k : Fin 2048) :
    rowsR x p (ix2 l k) = if h : l.val < 16 then p (ix2 ⟨l.val, h⟩ k) else x (ix2 ⟨l.val - 16, by omega⟩ k) := by
  pointwise [rowsR]
theorem normR_apply (l : Fin 8208) (k : Fin 2048) :
    normR x p w (ix2 l k) = normRow (fun j => rowsR x p (ix2 l j)) (w (ix2 0 k)) k := by
  unfold normRow
  pointwise [normR]
theorem xnR_apply (l : Fin 8704) (k : Fin 2048) :
    xnR x p w (ix2 l k) = if h : 496 ≤ l.val then normR x p w (ix2 ⟨l.val - 496, by omega⟩ k) else (0 : EReal) := by
  pointwise [xnR]
  by_cases h : 496 ≤ l.val
  · rw [dif_pos h, dif_pos ⟨h, by omega⟩]
  · rw [dif_neg h, dif_neg fun h' => h h'.1]
    exact pad_zero
theorem wR_apply (k : Fin 2048) (j : Fin 12304) :
    wR g (ix2 k j) = g (ix3 ⟨j.val / 1538, by omega⟩ k ⟨j.val % 1538, by omega⟩) := by
  pointwise [wR]
theorem wMainR_apply (k : Fin 2048) (j : Fin 12288) : wMainR g (ix2 k j) = wR g (ix2 k (mcol j)) := by
  unfold mcol
  pointwise [wMainR]
  by_cases h : j.val < 8192
  · rw [dif_pos h, dif_pos h]
  · rw [dif_neg h, dif_neg h]
    exact congrArg (fun o => wR g (ix2 k o)) (Fin.ext (by show 8208 + (j.val - 8192) = j.val + 16; omega))
theorem wAbR_apply (k : Fin 2048) (j : Fin 16) : wAbR g (ix2 k j) = wR g (ix2 k ⟨8192 + j.val, by omega⟩) := by
  pointwise [wAbR]
theorem ctAbR_apply (l : Fin 8704) (j : Fin 16) : ctAbR ctab (ix2 l j) = ctab (ix2 l ⟨j.val, by omega⟩) := by
  pointwise [ctAbR]
theorem projR_apply (X : FVec Ideal S8704x2048 .f32) (W : FVec Ideal S2048x12288 .f32) (l : Fin 8704) (j : Fin 12288) :
    projR X W (ix2 l j) = ∑ k : Fin 2048, X (ix2 l k) * W (ix2 k j) := by
  pointwise [projR]
theorem projAbR_apply (X : FVec Ideal S8704x2048 .f32) (W : FVec Ideal S2048x16 .f32) (l : Fin 8704) (j : Fin 128) :
    projAbR X W (ix2 l j) = if h : j.val < 16 then ∑ k : Fin 2048, X (ix2 l k) * W (ix2 k ⟨j.val, h⟩) else (0 : EReal) := by
  pointwise [projAbR]
  split
  · rfl
  · exact pad_zero
theorem gradMainR_apply (X : FVec Ideal S8704x2048 .f32) (k : Fin 2048) (j : Fin 12288) :
    gradMainR ct X (ix2 k j) = ∑ l : Fin 8704, ct (ix2 l j) * X (ix2 l k) := by
  pointwise [gradMainR]
theorem gradAbR_apply (X : FVec Ideal S8704x2048 .f32) (k : Fin 2048) (j : Fin 16) :
    gradAbR ctab X (ix2 k j) = ∑ l : Fin 8704, ctab (ix2 l ⟨j.val, by omega⟩) * X (ix2 l k) := by
  pointwise [gradAbR, ctAbR]
theorem shardsR_apply (Y : FVec Ideal S2048x12304 .f32) (d : Fin 8) (s : Fin 1538) (k : Fin 2048) :
    shardsR Y (ix3 d s k) = Y (ix2 k ⟨d.val * 1538 + s.val, by omega⟩) := by
  pointwise [shardsR]
theorem gradR_apply (Y : FVec Ideal S2048x12288 .f32) (Z : FVec Ideal S2048x16 .f32) (k : Fin 2048) (o : Fin 12304) :
    gradR Y Z (ix2 k o) = if h : o.val < 8192 then Y (ix2 k ⟨o.val, by omega⟩)
      else if h' : o.val < 8208 then Z (ix2 k ⟨o.val - 8192, by omega⟩) else Y (ix2 k ⟨o.val - 16, by omega⟩) := by
  pointwise [gradR]
  split
  · rfl
  · split
    · rw [dif_pos (by omega)]
    · rw [dif_neg (by omega)]
      exact congrArg (fun o => Y (ix2 k o)) (Fin.ext (by show 8192 + (o.val - 8192 - 16) = o.val - 16; omega))
theorem dxR_apply (W : FVec Ideal S2048x12288 .f32) (l : Fin 8704) (k : Fin 2048) :
    dxR ct W (ix2 l k) = ∑ j : Fin 12288, ct (ix2 l j) * W (ix2 k j) := by
  pointwise [dxR]
theorem dxAbR_apply (W : FVec Ideal S2048x16 .f32) (l : Fin 8704) (k : Fin 2048) :
    dxAbR ctab W (ix2 l k) = ∑ j : Fin 16, ctab (ix2 l ⟨j.val, by omega⟩) * W (ix2 k j) := by
  pointwise [dxAbR, ctAbR]

/-! ## The calls' results are these -/

open Cert.Kernel3Ideal.InProj (xnOf preRows wMain wAb projMain projAb gradMain gradAb gradX gradXab shards)

theorem preRows_apply (l : Fin 512) (k : Fin 2048) :
    preRows p (ix2 l k) = if h : l.val < 496 then (0 : EReal) else p (ix2 ⟨l.val - 496, by omega⟩ k) := by
  pointwise [preRows]

theorem xn_apply (l : Fin 8704) (k : Fin 2048) : xnOf (preRows p) x w (ix2 l k) = xnR x p w (ix2 l k) := by
  rw [xnR_apply]
  show normRow (fun j => if h : l.val < 512 then preRows p (ix2 ⟨l.val, h⟩ j) else x (ix2 ⟨l.val - 512, by omega⟩ j)) (w (ix2 0 k)) k = _
  by_cases h : 496 ≤ l.val
  · rw [dif_pos h, normR_apply]
    refine normRow_congr (fun j => ?_) rfl rfl
    rw [rowsR_apply]
    by_cases h1 : l.val < 512
    · rw [dif_pos h1, preRows_apply, dif_neg (by omega : ¬ l.val < 496), dif_pos (by omega : l.val - 496 < 16)]
    · rw [dif_neg h1, dif_neg (by omega : ¬ l.val - 496 < 16)]
      exact congrArg (fun o => x (ix2 o j)) (Fin.ext (by show l.val - 512 = l.val - 496 - 16; omega))
  · rw [dif_neg h]
    have e0 : (if h : l.val < 512 then preRows p (ix2 ⟨l.val, h⟩ k) else x (ix2 ⟨l.val - 512, by omega⟩ k)) = (0 : EReal) := by
      rw [dif_pos (by omega : l.val < 512), preRows_apply, dif_pos (by omega : l.val < 496)]
    unfold normRow
    exact (Ideal.mul_congr (Ideal.mul_congr e0 rfl) rfl).trans (by rw [zero_mul, zero_mul])

theorem wMain_apply (k : Fin 2048) (j : Fin 12288) : wMain g (ix2 k j) = wMainR g (ix2 k j) :=
  ((wMainR_apply g k j).trans (wR_apply g k (mcol j))).symm
theorem wAb_apply (k : Fin 2048) (j : Fin 16) : wAb g (ix2 k ⟨j.val, by omega⟩) = wAbR g (ix2 k j) := by
  rw [wAbR_apply, wR_apply]
  unfold wAb
  refine (dif_pos j.isLt).trans ?_
  exact congrArg₂ (fun a b => g (ix3 a k b)) (Fin.ext (by show 5 = (8192 + j.val) / 1538; omega))
    (Fin.ext (by show 502 + j.val = (8192 + j.val) % 1538; omega))
theorem wAb_zero (k : Fin 2048) (j : Fin 128) (h : ¬ j.val < 16) : wAb g (ix2 k j) = (0 : EReal) := dif_neg h

theorem proj_eq : projMain (xnOf (preRows p) x w) (wMain g) = projR (xnR x p w) (wMainR g) := by
  funext i
  obtain ⟨l, j, rfl⟩ : ∃ (l : Fin 8704) (j : Fin 12288), i = ix2 l j := ⟨i 0, i 1, eq_ix2 i⟩
  rw [projR_apply]
  exact Finset.sum_congr rfl fun k _ => Ideal.mul_congr (xn_apply x p w l k) (wMain_apply g k j)

theorem projAb_eq : projAb (xnOf (preRows p) x w) (wAb g) = projAbR (xnR x p w) (wAbR g) := by
  funext i
  obtain ⟨l, j, rfl⟩ : ∃ (l : Fin 8704) (j : Fin 128), i = ix2 l j := ⟨i 0, i 1, eq_ix2 i⟩
  rw [projAbR_apply]
  by_cases h : j.val < 16
  · rw [dif_pos h]
    exact Finset.sum_congr rfl fun k _ => Ideal.mul_congr (xn_apply x p w l k) (wAb_apply g k ⟨j.val, h⟩)
  · rw [dif_neg h]
    refine Finset.sum_eq_zero fun k _ => ?_
    exact (Ideal.mul_congr rfl (wAb_zero g k j h)).trans (mul_zero _)

theorem dx_eq : gradX ct (wMain g) = dxR ct (wMainR g) := by
  funext i
  obtain ⟨l, k, rfl⟩ : ∃ (l : Fin 8704) (k : Fin 2048), i = ix2 l k := ⟨i 0, i 1, eq_ix2 i⟩
  rw [dxR_apply]
  exact Finset.sum_congr rfl fun j _ => Ideal.mul_congr rfl (wMain_apply g k j)

theorem dxAb_eq : gradXab ctab (wAb g) = dxAbR ctab (wAbR g) := by
  funext i
  obtain ⟨l, k, rfl⟩ : ∃ (l : Fin 8704) (k : Fin 2048), i = ix2 l k := ⟨i 0, i 1, eq_ix2 i⟩
  rw [dxAbR_apply]
  refine (Fin.sum_univ_add (a := 16) (b := 112) fun j : Fin 128 => ctab (ix2 l j) * wAb g (ix2 k j)).trans ?_
  refine (congrArg₂ (· + ·) (Finset.sum_congr rfl fun j _ => Ideal.mul_congr rfl (wAb_apply g k j)) (Finset.sum_eq_zero fun j _ => ?_)).trans (add_zero _)
  exact (Ideal.mul_congr rfl (wAb_zero g k _ (by simp))).trans (mul_zero _)

theorem dw_eq : shards (gradMain ct (xnOf (preRows p) x w)) (gradAb ctab (xnOf (preRows p) x w))
    = shardsR (gradR (gradMainR ct (xnR x p w)) (gradAbR ctab (xnR x p w))) := by
  funext i
  obtain ⟨d, s, k, rfl⟩ : ∃ (d : Fin 8) (s : Fin 1538) (k : Fin 2048), i = ix3 d s k := ⟨i 0, i 1, i 2, eq_ix3 i⟩
  rw [shardsR_apply, gradR_apply]
  unfold shards
  refine dite_congr rfl (fun h => ?_) fun h => dite_congr rfl (fun h' => ?_) fun h' => ?_
  · rw [gradMainR_apply]
    exact Finset.sum_congr rfl fun l _ => Ideal.mul_congr rfl (xn_apply x p w l k)
  · rw [gradAbR_apply]
    exact Finset.sum_congr rfl fun l _ => Ideal.mul_congr rfl (xn_apply x p w l k)
  · rw [gradMainR_apply]
    exact Finset.sum_congr rfl fun l _ => Ideal.mul_congr rfl (xn_apply x p w l k)

end Cert.Reference3Ideal.InProj

end
-- ==== Proof.In.Claim.lean ====
/- The calls around the incoming projection give the results of the plain program. -/
module

public import proofs.«01_k».proof.Defs
public import proofs.«01_k».proof.Proof.In.Ref
public import Idealize.ShloMosaic.Adequacy
public import Idealize.ShloMosaic.Init

@[expose] public section

set_option maxRecDepth 16384

noncomputable section

namespace Cert.Reference3Ideal.InProj

open Idealize.ShloMosaic Idealize.SL.Sem

/-- The plain program declares no counter. -/
theorem no_counter : ∀ _ : SemLoc Cert.Reference3Ideal.sig, False := by decide

/-- The plain program ends with its arguments as launched, and it has no counter. -/
theorem quiescent : Cert.quiescent_Reference3Ideal (hReference3Ideal := Cert.Reference3Ideal.Gen.facts) :=
  fun m ρ _ => (θ_run _ _ _).mono (fun _ h => ⟨fun c => (h c).2.2.2.2.2, funext fun g => (no_counter g.2).elim⟩) (Cert.Reference3Ideal.Value.run m ρ)

set_option maxHeartbeats 8000000 in
/-- The calls and the plain program give the same results. -/
theorem algebraic : Cert.algebraic_Kernel3Ideal_Reference3Ideal (hKernel3Ideal := Cert.Kernel3Ideal.Gen.facts) (hReference3Ideal := Cert.Reference3Ideal.Gen.facts) := by
  intro m ρ m' ρ' _ hag
  refine ⟨_, _, _, _, _, Cert.Kernel3Ideal.InProj.run m ρ, (θ_run _ _ _).mono (fun r h c => ?_) (Cert.Reference3Ideal.Value.run m' ρ')⟩
  obtain ⟨h0, h1, h2, h3, h4, hargs⟩ := h c
  obtain ⟨a0, a1, a2, a3, a4, a5⟩ := hag c
  refine ⟨h0.trans ?_, h1.trans ?_, h2.trans ?_, h3.trans ?_, h4.trans ?_, hargs⟩
  · refine Eq.trans ?_ (proj_eq _ _ _ _).symm
    rw [a0, a1, a2, a3]; rfl
  · refine Eq.trans ?_ (projAb_eq _ _ _ _).symm
    rw [a0, a1, a2, a3]; rfl
  · refine Eq.trans ?_ (dw_eq _ _ _ _ _).symm
    unfold Cert.Reference3Ideal.Value.res_main_v38
    rw [a0, a1, a2, a4, a5]; rfl
  · refine Eq.trans ?_ (dx_eq _ _).symm
    rw [a3, a4]; rfl
  · refine Eq.trans ?_ (dxAb_eq _ _).symm
    rw [a3, a5]; rfl

end Cert.Reference3Ideal.InProj

end
-- ==== Proof.Nb.Rows.lean ====
/- A row over the root of its mean square, and the gradient of that. -/
module

public import Idealize.ShloMosaic.Lib.Pointwise

@[expose] public section

noncomputable section

namespace Cert.NormRows

open Idealize.ShloMosaic

/-- A row's mean square and the small constant. -/
def rowMs (x : Fin 2048 → EReal) : EReal :=
  Ideal.div (∑ k : Fin 2048, x k * x k) (Ideal.ofBits .f32 0x45000000#32) + Ideal.ofBits .f32 0x358637BD#32

/-- The factor that normalises the row. -/
def rowRs (x : Fin 2048 → EReal) : EReal := Ideal.rsqrt (rowMs x)

/-- The coefficient of the row in the gradient that reaches it through its mean square. -/
def rowLean (x u : Fin 2048 → EReal) : EReal :=
  Ideal.div ((∑ k : Fin 2048, x k * u k) * (Ideal.ofBits .f32 0xBF000000#32 * Ideal.div (rowRs x) (rowMs x))) (Ideal.ofBits .f32 0x45000000#32)

/-- The gradient of the row, `u` that of the normalised row. -/
def rowBack (x u : Fin 2048 → EReal) (k : Fin 2048) : EReal := u k * rowRs x + x k * rowLean x u + rowLean x u * x k

theorem rowBack_congr {x y u v : Fin 2048 → EReal} (hx : ∀ k, x k = y k) (hu : ∀ k, u k = v k) {k l : Fin 2048} (h : k = l) :
    rowBack x u k = rowBack y v l := by
  rw [funext hx, funext hu, h]

theorem rowRs_congr {x y : Fin 2048 → EReal} (hx : ∀ k, x k = y k) : rowRs x = rowRs y := by
  rw [funext hx]

end Cert.NormRows

end
-- ==== Proof.Ls.Head.lean ====
/- What the loss head leaves in its four result arrays. -/
module

public import proofs.«01_k».proof.Proof.Gen.Kernel4Ideal.Frame
public import proofs.«01_k».proof.Proof.Nb.Rows
public import Idealize.ShloMosaic.Lib.Pipeline.ValueKit
public import Idealize.ShloMosaic.Lib.Pointwise

@[expose] public section

set_option maxRecDepth 16384

noncomputable section

namespace Cert.Kernel4Ideal.Loss

open Idealize.ShloMosaic Idealize.ShloMosaic.TcCoe Idealize.SL Idealize.SL.Sem
open Cert.Kernel4Ideal Cert.Kernel4Ideal.Gen Cert.NormRows

variable (m : (ℓ : Loc nD τ sig) → Buf (Elt Ideal) ℓ) (ρ : Dev nD → PrngReg)

/-- A row's difference from its target. -/
def rowErr (x w t : Fin 2048 → EReal) (k : Fin 2048) : EReal := x k * rowRs x * w k - t k

/-- The mean square of it. -/
def rowLoss (x w t : Fin 2048 → EReal) : EReal :=
  Ideal.div (∑ k : Fin 2048, rowErr x w t k * rowErr x w t k) (Ideal.ofBits .f32 0x45000000#32)

/-- The constant that weighs a squared difference in the loss. -/
def weigh : EReal := Ideal.div (Ideal.ofBits .f32 0x3F000000#32 * Ideal.ofBits .f32 0x3F800000#32) (Ideal.ofBits .f32 0x45000000#32)

/-- The gradient at a difference. -/
def upErr (e : EReal) : EReal := e * weigh + weigh * e

theorem plus_congr {a b c d : EReal} (h : a = c) (h' : b = d) : a + b = c + d := by rw [h, h']

theorem rowErr_congr {x y w v t u : Fin 2048 → EReal} (hx : ∀ k, x k = y k) (hw : ∀ k, w k = v k) (ht : ∀ k, t k = u k) {k l : Fin 2048}
    (h : k = l) : rowErr x w t k = rowErr y v u l := by
  rw [funext hx, funext hw, funext ht, h]

theorem rowLoss_congr {x y w v t u : Fin 2048 → EReal} (hx : ∀ k, x k = y k) (hw : ∀ k, w k = v k) (ht : ∀ k, t k = u k) :
    rowLoss x w t = rowLoss y v u := by
  rw [funext hx, funext hw, funext ht]

section
variable (h f : FVec Ideal S256x2048 .f32) (w : FVec Ideal S1x2048 .f32) (t : FVec Ideal S256x2048 .f32)

theorem pay2_apply (r : Fin 256) (k : Fin 2048) : k0_pay2 (F := Ideal) h f (ix2 r k) = h (ix2 r k) + f (ix2 r k) := by
  pointwise [k0_pay2]
theorem pay3_apply (r : Fin 256) (o : Fin 1) : k0_pay3 (F := Ideal) h f (ix2 r o) = rowMs (fun k => h (ix2 r k) + f (ix2 r k)) := by
  unfold rowMs
  pointwise [k0_pay3, k0_pay2]
theorem pay4_apply (r : Fin 256) (o : Fin 1) : k0_pay4 (F := Ideal) h f (ix2 r o) = rowRs (fun k => h (ix2 r k) + f (ix2 r k)) := by
  unfold rowRs
  pointwise [k0_pay4, pay3_apply]
theorem pay5_apply (r : Fin 256) (o : Fin 1) : k0_pay5 (F := Ideal) h f (ix2 r o)
    = Ideal.ofBits .f32 0xBF000000#32 * Ideal.div (rowRs (fun k => h (ix2 r k) + f (ix2 r k))) (rowMs (fun k => h (ix2 r k) + f (ix2 r k))) := by
  pointwise [k0_pay5, pay3_apply, pay4_apply]
theorem pay6_apply (r : Fin 256) (k : Fin 2048) : k0_pay6 (F := Ideal) h f (ix2 r k)
    = (h (ix2 r k) + f (ix2 r k)) * rowRs (fun k => h (ix2 r k) + f (ix2 r k)) := by
  pointwise [k0_pay6, pay4_apply, pay2_apply]
theorem pay8_apply (r : Fin 256) (k : Fin 2048) : k0_pay8 (F := Ideal) h f w t (ix2 r k)
    = rowErr (fun k => h (ix2 r k) + f (ix2 r k)) (fun k => w (ix2 0 k)) (fun k => t (ix2 r k)) k := by
  unfold rowErr
  pointwise [k0_pay8, k0_pay7, k0_pay1, pay6_apply]
theorem pay9_apply (r : Fin 256) (k : Fin 2048) : k0_pay9 (F := Ideal) h f w t (ix2 r k)
    = rowErr (fun k => h (ix2 r k) + f (ix2 r k)) (fun k => w (ix2 0 k)) (fun k => t (ix2 r k)) k := by
  unfold rowErr
  pointwise [k0_pay9, k0_pay7, k0_pay1, pay6_apply]
theorem pay10_apply (o p : Fin 1) : k0_pay10 (F := Ideal) h f w t (ix2 o p)
    = Ideal.ofBits .f32 0x3F000000#32
      * ∑ r : Fin 256, rowLoss (fun k => h (ix2 r k) + f (ix2 r k)) (fun k => w (ix2 0 k)) (fun k => t (ix2 r k)) := by
  unfold rowLoss
  pointwise [k0_pay10, pay8_apply, pay9_apply]
theorem pay11_apply (o : Fin 1) : k0_pay11 (F := Ideal) (ix1 o) = Ideal.ofBits .f32 0x3F000000#32 * Ideal.ofBits .f32 0x3F800000#32 := by
  pointwise [k0_pay11]
  simp only [Fin.sum_univ_one]
theorem pay12_apply (a b : FVec Ideal S256x2048 .f32) (r : Fin 256) (k : Fin 2048) :
    k0_pay12 (F := Ideal) a b (k0_pay11 (F := Ideal)) (ix2 r k) = a (ix2 r k) * weigh + weigh * b (ix2 r k) := by
  unfold weigh
  pointwise [k0_pay12, pay11_apply]
  simp only [Fin.sum_univ_one]
theorem pay13_apply (x a b : FVec Ideal S256x2048 .f32) (o : Fin 1) (k : Fin 2048) :
    k0_pay13 (F := Ideal) x a b (k0_pay11 (F := Ideal)) (ix2 o k)
      = ∑ r : Fin 256, x (ix2 r k) * (a (ix2 r k) * weigh + weigh * b (ix2 r k)) := by
  pointwise [k0_pay13, pay12_apply]
theorem pay14_apply (v x : FVec Ideal S256x2048 .f32) (q : FVec Ideal S1x2048 .f32) (s c : FVec Ideal S256x1 .f32) (b : FVec Ideal S256x2048 .f32)
    (r : Fin 256) (k : Fin 2048) :
    k0_pay14 (F := Ideal) q x s c v b (k0_pay11 (F := Ideal)) (ix2 r k)
      = (v (ix2 r k) * weigh + weigh * b (ix2 r k)) * q (ix2 0 k) * s (ix2 r 0)
        + x (ix2 r k) * Ideal.div ((∑ j : Fin 2048, x (ix2 r j) * ((v (ix2 r j) * weigh + weigh * b (ix2 r j)) * q (ix2 0 j))) * c (ix2 r 0)) (Ideal.ofBits .f32 0x45000000#32)
        + Ideal.div ((∑ j : Fin 2048, x (ix2 r j) * ((v (ix2 r j) * weigh + weigh * b (ix2 r j)) * q (ix2 0 j))) * c (ix2 r 0)) (Ideal.ofBits .f32 0x45000000#32) * x (ix2 r k) := by
  pointwise [k0_pay14, pay12_apply]
  simp only [Fin.sum_univ_one]

/-- What a point adds to the weight's gradient, and what it leaves of the stream's. -/
abbrev dwPart : FVec Ideal S1x2048 .f32 :=
  k0_pay13 (k0_pay6 h f) (k0_pay8 h f w t) (k0_pay9 h f w t) (k0_pay11 (F := Ideal))
abbrev dhPart : FVec Ideal S256x2048 .f32 :=
  k0_pay14 (k0_pay1 w) (k0_pay2 h f) (k0_pay4 h f) (k0_pay5 h f) (k0_pay8 h f w t) (k0_pay9 h f w t) (k0_pay11 (F := Ideal))
abbrev dhbPart : FVec Ideal S256x2048 .bf16 :=
  k0_pay15 (k0_pay1 w) (k0_pay2 h f) (k0_pay4 h f) (k0_pay5 h f) (k0_pay8 h f w t) (k0_pay9 h f w t) (k0_pay11 (F := Ideal))

theorem dwPart_apply (o : Fin 1) (k : Fin 2048) : dwPart h f w t (ix2 o k)
    = ∑ r : Fin 256, (h (ix2 r k) + f (ix2 r k)) * rowRs (fun k => h (ix2 r k) + f (ix2 r k))
        * upErr (rowErr (fun k => h (ix2 r k) + f (ix2 r k)) (fun k => w (ix2 0 k)) (fun k => t (ix2 r k)) k) := by
  refine (pay13_apply _ _ _ _ _).trans (Finset.sum_congr rfl fun r _ => ?_)
  rw [pay6_apply, pay8_apply, pay9_apply]
  rfl
theorem pay1_apply (o : Fin 1) (k : Fin 2048) : k0_pay1 (F := Ideal) w (ix2 o k) = w (ix2 o k) := by
  pointwise [k0_pay1]
theorem dhPart_apply (r : Fin 256) (k : Fin 2048) : dhPart h f w t (ix2 r k)
    = rowBack (fun k => h (ix2 r k) + f (ix2 r k)) (fun k => upErr (rowErr (fun k => h (ix2 r k) + f (ix2 r k)) (fun k => w (ix2 0 k)) (fun k => t (ix2 r k)) k)
        * w (ix2 0 k)) k := by
  refine (pay14_apply _ _ _ _ _ _ _ _).trans ?_
  simp only [pay8_apply, pay9_apply, pay1_apply, pay2_apply, pay4_apply, pay5_apply]
  rfl
theorem dhbPart_apply (r : Fin 256) (k : Fin 2048) : dhbPart h f w t (ix2 r k)
    = rowBack (fun k => h (ix2 r k) + f (ix2 r k)) (fun k => upErr (rowErr (fun k => h (ix2 r k) + f (ix2 r k)) (fun k => w (ix2 0 k)) (fun k => t (ix2 r k)) k)
        * w (ix2 0 k)) k := by
  refine Eq.trans ?_ (dhPart_apply h f w t r k)
  pointwise [k0_pay15]
theorem pay16_apply (o : Fin 1) (j : Fin 128) : k0_pay16 (F := Ideal) (k0_pay10 h f w t) (ix2 o j)
    = Ideal.ofBits .f32 0x3F000000#32
      * ∑ r : Fin 256, rowLoss (fun k => h (ix2 r k) + f (ix2 r k)) (fun k => w (ix2 0 k)) (fun k => t (ix2 r k)) := by
  pointwise [k0_pay16, pay10_apply]
theorem pay17_apply (x a b : FVec Ideal S256x2048 .f32) (g : FVec Ideal S1 .f32) (o : FVec Ideal S1x2048 .f32) (j : S1x2048.Idx) :
    k0_pay17 (F := Ideal) x a b g o j = o j + k0_pay13 (F := Ideal) x a b g j := by
  pointwise [k0_pay17]
theorem pay18_apply (a : FVec Ideal S1x1 .f32) (o : FVec Ideal S1x128 .f32) (j : S1x128.Idx) :
    k0_pay18 (F := Ideal) a o j = o j + k0_pay16 (F := Ideal) a j := by
  pointwise [k0_pay18]
end

section
variable (h f : FVec Ideal S8192x2048 .f32) (w : FVec Ideal S1x2048 .f32) (t : FVec Ideal S8192x2048 .f32)

/-- The loss as the tiles of 256 rows add it up. -/
def lossSum : EReal :=
  ∑ s : Fin 32, Ideal.ofBits .f32 0x3F000000#32
    * ∑ r : Fin 256, rowLoss (fun k => h (ix2 ⟨s.val * 256 + r.val, by omega⟩ k) + f (ix2 ⟨s.val * 256 + r.val, by omega⟩ k))
        (fun k => w (ix2 0 k)) (fun k => t (ix2 ⟨s.val * 256 + r.val, by omega⟩ k))
def lossLanes : FVec Ideal S1x128 .f32 := fun _ => lossSum h f w t
/-- The gradient of the stream. -/
def dStream : FVec Ideal S8192x2048 .f32 := fun i =>
  rowBack (fun k => h (ix2 (i 0) k) + f (ix2 (i 0) k))
    (fun k => upErr (rowErr (fun k => h (ix2 (i 0) k) + f (ix2 (i 0) k)) (fun k => w (ix2 0 k)) (fun k => t (ix2 (i 0) k)) k) * w (ix2 0 k)) (i 1)
/-- The gradient of the norm's weight. -/
def dWeight : FVec Ideal S1x2048 .f32 := fun i =>
  ∑ l : Fin 8192, (h (ix2 l (i 1)) + f (ix2 l (i 1))) * rowRs (fun k => h (ix2 l k) + f (ix2 l k))
    * upErr (rowErr (fun k => h (ix2 l k) + f (ix2 l k)) (fun k => w (ix2 0 k)) (fun k => t (ix2 l k)) (i 1))
end

theorem idx0 : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] ∧ win0_7.index t = ![0, 0] :=
  (by decide +kernel : ∀ t : Fin grid0.N, _)

theorem lt32 (t : Fin cfg0.N) : t.val < 32 := lt_of_lt_of_eq t.isLt (show cfg0.N = 32 from N_0)

theorem at5 (c : Dev nD) (t : Fin cfg0.N) (y : S256x2048.Idx) :
    (outsAt0 m c t.val t.isLt).2.1 y = dhPart (iblk m c 0 t) (iblk m c 1 t) (iblk m c 2 t) (iblk m c 3 t) y := by
  have := lt32 t
  by_cases h0 : t.val % 32 = 0
  · rw [outsAt0_A m c t h0 (by omega)]; frame_out
  · rw [outsAt0_B m c t h0 (by omega)]; frame_out

theorem at6 (c : Dev nD) (t : Fin cfg0.N) (y : S256x2048.Idx) :
    (outsAt0 m c t.val t.isLt).2.2.1 y = dhbPart (iblk m c 0 t) (iblk m c 1 t) (iblk m c 2 t) (iblk m c 3 t) y := by
  have := lt32 t
  by_cases h0 : t.val % 32 = 0
  · rw [outsAt0_A m c t h0 (by omega)]; frame_out
  · rw [outsAt0_B m c t h0 (by omega)]; frame_out

/-- What the grid's points leave in the block of the loss. -/
theorem sum4 (c : Dev nD) (t : Fin cfg0.N) (ht : t.val % 32 = 31) (y : S1x128.Idx) :
    (outsAt0 m c t.val t.isLt).1 y
      = ∑ s : Fin 32, k0_pay16 (F := Ideal) (k0_pay10 (iblk m c 0 ⟨32 * (t.val / 32) + s.val, Pipeline.run_point_lt_of_flush t ht s⟩)
          (iblk m c 1 ⟨32 * (t.val / 32) + s.val, Pipeline.run_point_lt_of_flush t ht s⟩)
          (iblk m c 2 ⟨32 * (t.val / 32) + s.val, Pipeline.run_point_lt_of_flush t ht s⟩)
          (iblk m c 3 ⟨32 * (t.val / 32) + s.val, Pipeline.run_point_lt_of_flush t ht s⟩)) y := by
  refine (Pipeline.eq_sum_fin_of_reset_step_apply_of_flush (M := EReal) (fun n h => (outsAt0 m c n h).1) 32 (fun _ => 0)
    (fun p j => k0_pay16 (F := Ideal) (k0_pay10 (iblk m c 0 p) (iblk m c 1 p) (iblk m c 2 p) (iblk m c 3 p)) j)
    (fun p h j => ?_) (fun p h j => ?_) t ht y).trans (zero_add _)
  · have := lt32 p
    rw [outsAt0_A m c p h (by omega)]; frame_out; exact (zero_add _).symm
  · have := lt32 p
    rw [outsAt0_B m c p h (by omega)]; frame_out; exact pay18_apply _ _ j

/-- What the grid's points leave in the block of the weight's gradient. -/
theorem sum7 (c : Dev nD) (t : Fin cfg0.N) (ht : t.val % 32 = 31) (y : S1x2048.Idx) :
    (outsAt0 m c t.val t.isLt).2.2.2 y
      = ∑ s : Fin 32, dwPart (iblk m c 0 ⟨32 * (t.val / 32) + s.val, Pipeline.run_point_lt_of_flush t ht s⟩)
          (iblk m c 1 ⟨32 * (t.val / 32) + s.val, Pipeline.run_point_lt_of_flush t ht s⟩)
          (iblk m c 2 ⟨32 * (t.val / 32) + s.val, Pipeline.run_point_lt_of_flush t ht s⟩)
          (iblk m c 3 ⟨32 * (t.val / 32) + s.val, Pipeline.run_point_lt_of_flush t ht s⟩) y := by
  refine (Pipeline.eq_sum_fin_of_reset_step_apply_of_flush (M := EReal) (fun n h => (outsAt0 m c n h).2.2.2) 32 (fun _ => 0)
    (fun p j => dwPart (iblk m c 0 p) (iblk m c 1 p) (iblk m c 2 p) (iblk m c 3 p) j)
    (fun p h j => ?_) (fun p h j => ?_) t ht y).trans (zero_add _)
  · have := lt32 p
    rw [outsAt0_A m c p h (by omega)]; frame_out; exact (zero_add _).symm
  · have := lt32 p
    rw [outsAt0_B m c p h (by omega)]; frame_out; exact pay17_apply _ _ _ _ _ j

theorem final4 (c : Dev nD) :
    (dats m 0 c).arrAt 4 cfg0.N = lossLanes (V m c main_arg0) (V m c main_arg1) (V m c main_v0) (V m c main_arg3) := by
  refine (dats m 0 c).arrAt_eq_of_covers 4 _ (by decide +kernel) fun t hf y => ?_
  blk_simp
  rw [after0_4]
  have ht : t.val % 32 = 31 := (flush0_4 t).mp hf
  refine (sum4 m c t ht _).trans ?_
  have h32 := lt32 t
  rw [show (y : S1x128.Idx) = ix2 (y 0) (y 1) from eq_ix2 y]
  unfold lossLanes lossSum
  refine Fin.sum_fin_congr fun s => (pay16_apply _ _ _ _ _ _).trans ?_
  refine Ideal.mul_congr rfl (Fin.sum_fin_congr fun r => rowLoss_congr (fun k => plus_congr ?_ ?_) (fun k => ?_) (fun k => ?_))
  · blk_simp [iblk]; refine congrArg _ ?_; blk_ext [(idx0 ⟨_, Pipeline.run_point_lt_of_flush t ht s⟩).1]
  · blk_simp [iblk]; refine congrArg _ ?_; blk_ext [(idx0 ⟨_, Pipeline.run_point_lt_of_flush t ht s⟩).2.1]
  · blk_simp [iblk]; refine congrArg _ ?_; blk_ext [(idx0 ⟨_, Pipeline.run_point_lt_of_flush t ht s⟩).2.2.1]
  · blk_simp [iblk]; refine congrArg _ ?_; blk_ext [(idx0 ⟨_, Pipeline.run_point_lt_of_flush t ht s⟩).2.2.2.1]

theorem final5 (c : Dev nD) :
    (dats m 0 c).arrAt 5 cfg0.N = dStream (V m c main_arg0) (V m c main_arg1) (V m c main_v0) (V m c main_arg3) := by
  refine (dats m 0 c).arrAt_eq_of_covers 5 _ (by decide +kernel) fun t hf y => ?_
  blk_simp
  rw [after0_5]
  refine (at5 m c t _).trans ?_
  rw [show (y : S256x2048.Idx) = ix2 (y 0) (y 1) from eq_ix2 y]
  unfold dStream
  refine (dhPart_apply _ _ _ _ _ _).trans (rowBack_congr (fun k => plus_congr ?_ ?_)
    (fun k => Ideal.mul_congr (congrArg upErr (rowErr_congr (fun j => plus_congr ?_ ?_) (fun j => ?_) (fun j => ?_) rfl)) ?_) ?_)
  · blk_simp [iblk]; refine congrArg _ ?_; blk_ext [(idx0 t).1, (idx0 t).2.2.2.2.2.1]
  · blk_simp [iblk]; refine congrArg _ ?_; blk_ext [(idx0 t).2.1, (idx0 t).2.2.2.2.2.1]
  · blk_simp [iblk]; refine congrArg _ ?_; blk_ext [(idx0 t).1, (idx0 t).2.2.2.2.2.1]
  · blk_simp [iblk]; refine congrArg _ ?_; blk_ext [(idx0 t).2.1, (idx0 t).2.2.2.2.2.1]
  · blk_simp [iblk]; refine congrArg _ ?_; blk_ext [(idx0 t).2.2.1, (idx0 t).2.2.2.2.2.1]
  · blk_simp [iblk]; refine congrArg _ ?_; blk_ext [(idx0 t).2.2.2.1, (idx0 t).2.2.2.2.2.1]
  · blk_simp [iblk]; refine congrArg _ ?_; blk_ext [(idx0 t).2.2.1, (idx0 t).2.2.2.2.2.1]
  · exact Fin.ext (by blk_simp [(idx0 t).2.2.2.2.2.1])

theorem final6 (c : Dev nD) :
    (dats m 0 c).arrAt 6 cfg0.N = dStream (V m c main_arg0) (V m c main_arg1) (V m c main_v0) (V m c main_arg3) := by
  refine (dats m 0 c).arrAt_eq_of_covers 6 _ (by decide +kernel) fun t hf y => ?_
  blk_simp
  rw [after0_6]
  refine (at6 m c t _).trans ?_
  rw [show (y : S256x2048.Idx) = ix2 (y 0) (y 1) from eq_ix2 y]
  unfold dStream
  refine (dhbPart_apply _ _ _ _ _ _).trans (rowBack_congr (fun k => plus_congr ?_ ?_)
    (fun k => Ideal.mul_congr (congrArg upErr (rowErr_congr (fun j => plus_congr ?_ ?_) (fun j => ?_) (fun j => ?_) rfl)) ?_) ?_)
  · blk_simp [iblk]; refine congrArg _ ?_; blk_ext [(idx0 t).1, (idx0 t).2.2.2.2.2.2.1]
  · blk_simp [iblk]; refine congrArg _ ?_; blk_ext [(idx0 t).2.1, (idx0 t).2.2.2.2.2.2.1]
  · blk_simp [iblk]; refine congrArg _ ?_; blk_ext [(idx0 t).1, (idx0 t).2.2.2.2.2.2.1]
  · blk_simp [iblk]; refine congrArg _ ?_; blk_ext [(idx0 t).2.1, (idx0 t).2.2.2.2.2.2.1]
  · blk_simp [iblk]; refine congrArg _ ?_; blk_ext [(idx0 t).2.2.1, (idx0 t).2.2.2.2.2.2.1]
  · blk_simp [iblk]; refine congrArg _ ?_; blk_ext [(idx0 t).2.2.2.1, (idx0 t).2.2.2.2.2.2.1]
  · blk_simp [iblk]; refine congrArg _ ?_; blk_ext [(idx0 t).2.2.1, (idx0 t).2.2.2.2.2.2.1]
  · exact Fin.ext (by blk_simp [(idx0 t).2.2.2.2.2.2.1])

theorem final7 (c : Dev nD) :
    (dats m 0 c).arrAt 7 cfg0.N = dWeight (V m c main_arg0) (V m c main_arg1) (V m c main_v0) (V m c main_arg3) := by
  refine (dats m 0 c).arrAt_eq_of_covers 7 _ (by decide +kernel) fun t hf y => ?_
  blk_simp
  rw [after0_7]
  have ht : t.val % 32 = 31 := (flush0_7 t).mp hf
  refine (sum7 m c t ht _).trans ?_
  have h32 := lt32 t
  rw [show (y : S1x2048.Idx) = ix2 (y 0) (y 1) from eq_ix2 y]
  unfold dWeight
  refine (Fin.sum_fin_congr fun s => dwPart_apply _ _ _ _ _ _).trans ?_
  refine Fin.sum_mul_add_congr fun s k hl => ?_
  refine Ideal.mul_congr (Ideal.mul_congr (plus_congr ?_ ?_) (rowRs_congr fun j => plus_congr ?_ ?_))
    (congrArg upErr (rowErr_congr (fun j => plus_congr ?_ ?_) (fun j => ?_) (fun j => ?_) ?_))
  · blk_simp [iblk]; refine congrArg _ ?_; blk_ext [(idx0 ⟨_, Pipeline.run_point_lt_of_flush t ht s⟩).1, (idx0 t).2.2.2.2.2.2.2]
  · blk_simp [iblk]; refine congrArg _ ?_; blk_ext [(idx0 ⟨_, Pipeline.run_point_lt_of_flush t ht s⟩).2.1, (idx0 t).2.2.2.2.2.2.2]
  · blk_simp [iblk]; refine congrArg _ ?_; blk_ext [(idx0 ⟨_, Pipeline.run_point_lt_of_flush t ht s⟩).1, (idx0 t).2.2.2.2.2.2.2]
  · blk_simp [iblk]; refine congrArg _ ?_; blk_ext [(idx0 ⟨_, Pipeline.run_point_lt_of_flush t ht s⟩).2.1, (idx0 t).2.2.2.2.2.2.2]
  · blk_simp [iblk]; refine congrArg _ ?_; blk_ext [(idx0 ⟨_, Pipeline.run_point_lt_of_flush t ht s⟩).1, (idx0 t).2.2.2.2.2.2.2]
  · blk_simp [iblk]; refine congrArg _ ?_; blk_ext [(idx0 ⟨_, Pipeline.run_point_lt_of_flush t ht s⟩).2.1, (idx0 t).2.2.2.2.2.2.2]
  · blk_simp [iblk]; refine congrArg _ ?_; blk_ext [(idx0 ⟨_, Pipeline.run_point_lt_of_flush t ht s⟩).2.2.1, (idx0 t).2.2.2.2.2.2.2]
  · blk_simp [iblk]; refine congrArg _ ?_; blk_ext [(idx0 ⟨_, Pipeline.run_point_lt_of_flush t ht s⟩).2.2.2.1, (idx0 t).2.2.2.2.2.2.2]
  · exact Fin.ext (by blk_simp [(idx0 t).2.2.2.2.2.2.2])

/-- The norm's weight as one row. -/
abbrev wRow (c : Dev nD) : FVec Ideal S1x2048 .f32 := shapeCast S1x2048 (m ((c : Thread nD τ).loc main_arg2)) shapeCasts_S2048_S1x2048

theorem V_w (c : Dev nD) : V m c main_v0 = wRow m c := by
  show StableHlo.after hostOps0 _ (Proc.devRef .tc main_v0) = _
  simp only [hostOps0]
  after_results_simp <;> rfl

/-- The loss of the whole batch, at the end of the run. -/
theorem loss_at (c : Dev nD) :
    Pipeline.afterTail₀ cfgs (dats m) 0 (V0 m) [hostOps1] c main_v3
      = fun _ => lossSum (m ((c : Thread nD τ).loc main_arg0)) (m ((c : Thread nD τ).loc main_arg1)) (wRow m c) (m ((c : Thread nD τ).loc main_arg3)) := by
  have e : Pipeline.withArrays (cfgs 0).spec c (V0 m c) (fun w => (dats m 0 c).arrAt w (cfgs 0).N) (Proc.devRef .tc main_v1_0)
      = lossLanes (V m c main_arg0) (V m c main_arg1) (V m c main_v0) (V m c main_arg3) :=
    (Pipeline.withArrays_arr spec0 launch0.win.arr_inj c (V0 m c) (fun w => (dats m 0 c).arrAt w cfg0.N) 4).trans (final4 m c)
  show StableHlo.after hostOps1 _ (Proc.devRef .tc main_v3) = _
  refine Eq.trans (b := (shapeCast S_ (extractStridedSlice S1x1 ![0, 0] (lossLanes (V m c main_arg0) (V m c main_arg1) (V m c main_v0) (V m c main_arg3)) slices_S1x128_S1x1_0_0) shapeCasts_S1x1_S_ : FVec Ideal S_ .f32)) ?_ ?_
  · rw [← e]
    simp only [hostOps1]
    after_results_simp <;> rfl
  · funext i
    rw [← V_w m c]
    rfl

/-- The run with its results, the arguments as launched. -/
theorem run : θ_run defs (onTc (τ := τ) (main (F := Ideal))) ⟨m, fun _ => 0, ρ⟩ (fun r => ∀ c : Dev nD,
      r.2.mem ((c.tc : Thread nD τ).loc main_v3) = (fun _ => lossSum (m ((c : Thread nD τ).loc main_arg0)) (m ((c : Thread nD τ).loc main_arg1)) (wRow m c) (m ((c : Thread nD τ).loc main_arg3)))
      ∧ r.2.mem ((c.tc : Thread nD τ).loc main_v1_1) = dStream (m ((c : Thread nD τ).loc main_arg0)) (m ((c : Thread nD τ).loc main_arg1)) (wRow m c) (m ((c : Thread nD τ).loc main_arg3))
      ∧ r.2.mem ((c.tc : Thread nD τ).loc main_v1_2) = dStream (m ((c : Thread nD τ).loc main_arg0)) (m ((c : Thread nD τ).loc main_arg1)) (wRow m c) (m ((c : Thread nD τ).loc main_arg3))
      ∧ r.2.mem ((c.tc : Thread nD τ).loc main_v1_3) = dWeight (m ((c : Thread nD τ).loc main_arg0)) (m ((c : Thread nD τ).loc main_arg1)) (wRow m c) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans (loss_at m c),
     ((h c).1 5).trans ((final5 m c).trans (by rw [V_w, V_main_arg0, V_main_arg1, V_main_arg3])),
     ((h c).1 6).trans ((final6 m c).trans (by rw [V_w, V_main_arg0, V_main_arg1, V_main_arg3])),
     ((h c).1 7).trans ((final7 m c).trans (by rw [V_w, V_main_arg0, V_main_arg1, V_main_arg3])),
     ((h c).1 0).trans (((dats m 0 c).arrAt_in 0 rfl _).trans (V_main_arg0 m c)),
     ((h c).1 1).trans (((dats m 0 c).arrAt_in 1 rfl _).trans (V_main_arg1 m c)),
     ((h c).2 main_arg2 (Pipeline.mem_restRefs_of main_arg2 (by decide) (by decide))).trans (W_main_arg2 m (dats m) c),
     ((h c).1 3).trans (((dats m 0 c).arrAt_in 3 rfl _).trans (V_main_arg3 m c))⟩) (run_main m ρ)

end Cert.Kernel4Ideal.Loss

end
-- ==== Proof.Ls.Ref.lean ====
/- The loss head as the plain program computes it, read at an index, against the call's results. -/
module

public import proofs.«01_k».proof.Proof.Ls.Head
public import proofs.«01_k».proof.Proof.Gen.Reference4Ideal.Run

@[expose] public section

set_option maxRecDepth 16384

noncomputable section

namespace Cert.Reference4Ideal.Loss

open Idealize.ShloMosaic Idealize.ShloMosaic.TcCoe Idealize.SL.Sem
open Cert.Reference4Ideal Cert.Reference4Ideal.Gen Cert.NormRows
open Cert.Kernel4Ideal.Loss (dStream dWeight lossSum rowErr rowLoss weigh upErr)

/-- One half is a finite number above zero. -/
theorem half_eq : Ideal.ofBits .f32 0x3F000000#32 = ((1 / 2 : ℝ) : EReal) := by
  simp [Ideal.ofBits, Ideal.ieee, -EReal.coe_mul]; norm_num

theorem two_eq : Ideal.ofBits .f32 0x40000000#32 = 1 + 1 := by
  rw [show (1 + 1 : EReal) = ((2 : ℝ) : EReal) by norm_cast]
  simp [Ideal.ofBits, Ideal.ieee, -EReal.coe_mul]; norm_num

theorem weigh_eq : weigh = ((1 / 4096 : ℝ) : EReal) := by
  have h : Ideal.ofBits .f32 0x45000000#32 = ((2048 : ℝ) : EReal) := by
    simp [Ideal.ofBits, Ideal.ieee, -EReal.coe_mul]; norm_num
  unfold weigh
  rw [h, half_eq, Ideal.ofBits_one_f32, mul_one, Ideal.div_coe (by norm_num), ← EReal.coe_mul]
  norm_num

/-- A finite factor that is not negative goes through a sum. -/
theorem mul_sum_of_finite {ι : Type} [DecidableEq ι] (c : EReal) (h0 : 0 ≤ c) (h1 : c ≠ ⊤) (s : Finset ι) (g : ι → EReal) :
    c * ∑ i ∈ s, g i = ∑ i ∈ s, c * g i := by
  induction s using Finset.induction_on with
  | empty => simp
  | insert a s ha ih => rw [Finset.sum_insert ha, Finset.sum_insert ha, EReal.left_distrib_of_nonneg_of_ne_top h0 h1, ih]

theorem tiles_sum (g : Fin 8192 → EReal) :
    ∑ s : Fin 32, Ideal.ofBits .f32 0x3F000000#32 * ∑ r : Fin 256, g ⟨s.val * 256 + r.val, by omega⟩
      = Ideal.ofBits .f32 0x3F000000#32 * ∑ l : Fin 8192, g l := by
  rw [← mul_sum_of_finite (Ideal.ofBits .f32 0x3F000000#32) (by rw [half_eq]; exact_mod_cast (by norm_num : (0 : ℝ) ≤ 1 / 2))
    (by rw [half_eq]; exact EReal.coe_ne_top _) Finset.univ]
  refine congrArg _ ?_
  exact Fin.sum_mul_add_congr fun s r hl => rfl

theorem up_eq (e : EReal) : weigh * (Ideal.ofBits .f32 0x40000000#32 * e) = upErr e := by
  have h2 : (1 + 1 : EReal) * e = e + e := by
    rw [EReal.right_distrib_of_nonneg zero_le_one zero_le_one, one_mul]
  unfold upErr
  have hc : 0 ≤ weigh ∧ weigh ≠ ⊤ := by
    rw [weigh_eq]
    exact ⟨by exact_mod_cast (by norm_num : (0 : ℝ) ≤ 1 / 4096), EReal.coe_ne_top _⟩
  rw [two_eq, h2, EReal.left_distrib_of_nonneg_of_ne_top hc.1 hc.2, mul_comm e]

variable (h f : FVec Ideal S8192x2048 .f32) (w : FVec Ideal S2048 .f32) (t : FVec Ideal S8192x2048 .f32)

/-- The stream after the last layer. -/
def xR : FVec Ideal S8192x2048 .f32 := addf h f
/-- The norm's weight as one row. -/
def wR : FVec Ideal S1x2048 .f32 := broadcastInDim S1x2048 ![1] bcast_S2048_S1x2048_1 w
/-- The rows' mean squares and the small constant. -/
def msR : FVec Ideal S8192x1 .f32 :=
  addf (Host.divf (broadcastInDim S8192x1 ![0] bcast_S8192_S8192x1_0 (Host.reduceAdd (mulf (xR h f) (xR h f)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
def rsR : FVec Ideal S8192x2048 .f32 := broadcastInDim S8192x2048 ![0, 1] bcast_S8192x1_S8192x2048_0_1 (Host.rsqrt (msR h f))
def wbR : FVec Ideal S8192x2048 .f32 := broadcastInDim S8192x2048 ![0, 1] bcast_S1x2048_S8192x2048_0_1 (wR w)
/-- The normalised rows. -/
def xhR : FVec Ideal S8192x2048 .f32 := mulf (xR h f) (rsR h f)
/-- The differences from the targets. -/
def eR : FVec Ideal S8192x2048 .f32 := subf (mulf (xhR h f) (wbR w)) t
/-- The gradient at the differences. -/
def gR : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (eR h f w t))
def gwR : FVec Ideal S8192x2048 .f32 := mulf (gR h f w t) (wbR w)
/-- The rows' coefficients in the gradient that comes through the mean squares. -/
def leanR : FVec Ideal S8192x2048 .f32 :=
  broadcastInDim S8192x2048 ![0] bcast_S8192_S8192x2048_0 (Host.reduceAdd (Host.divf (mulf (shapeCast _ (Host.reduceAdd (mulf (xR h f) (gwR h f w t)) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (msR h f)) (msR h f)))) (broadcastInDim S8192x1 ![] bcast_S_S8192x1 (constant S_ .f32 0x45000000#32))) (constant S_ .f32 0x00000000#32) reducesTo_S8192x1_S8192_d1 h_S_)
/-- The loss. -/
def lossR : FVec Ideal S_ .f32 :=
  mulf (constant S_ .f32 0x3F000000#32) (Host.reduceAdd (Host.divf (Host.reduceAdd (mulf (eR h f w t) (eR h f w t)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)
/-- The gradient of the stream. -/
def dhR : FVec Ideal S8192x2048 .f32 :=
  addf (addf (mulf (gwR h f w t) (rsR h f)) (mulf (xR h f) (leanR h f w t))) (mulf (leanR h f w t) (xR h f))
/-- The gradient of the norm's weight. -/
def dwR : FVec Ideal S1x2048 .f32 :=
  shapeCast _ (Host.reduceAdd (shapeCast _ (Host.reduceAdd (mulf (xhR h f) (gR h f w t)) (constant S_ .f32 0x00000000#32) reducesTo_S8192x2048_S2048_d0 h_S_) shapeCasts_S2048_S1x2048) (constant S_ .f32 0x00000000#32) reducesTo_S1x2048_S2048_d0 h_S_) shapeCasts_S2048_S1x2048

/-- A row of the stream, and one of the targets. -/
abbrev row (l : Fin 8192) : Fin 2048 → EReal := fun k => h (ix2 l k) + f (ix2 l k)

theorem wR_apply (o : Fin 1) (k : Fin 2048) : wR w (ix2 o k) = w (ix1 k) := by
  pointwise [wR]
theorem wRow_apply (o : Fin 1) (k : Fin 2048) : shapeCast S1x2048 w shapeCasts_S2048_S1x2048 (ix2 o k) = w (ix1 k) := by
  pointwise []
theorem wRow_eq : shapeCast S1x2048 w shapeCasts_S2048_S1x2048 = wR w := by
  funext i
  obtain ⟨o, k, rfl⟩ : ∃ (o : Fin 1) (k : Fin 2048), i = ix2 o k := ⟨i 0, i 1, eq_ix2 i⟩
  rw [wR_apply, wRow_apply]
theorem xR_apply (l : Fin 8192) (k : Fin 2048) : xR h f (ix2 l k) = h (ix2 l k) + f (ix2 l k) := by
  pointwise [xR]
theorem msR_apply (l : Fin 8192) (o : Fin 1) : msR h f (ix2 l o) = rowMs (row h f l) := by
  unfold rowMs
  pointwise [msR, xR_apply]
theorem rsR_apply (l : Fin 8192) (k : Fin 2048) : rsR h f (ix2 l k) = rowRs (row h f l) := by
  unfold rowRs
  pointwise [rsR, msR_apply]
theorem wbR_apply (l : Fin 8192) (k : Fin 2048) : wbR w (ix2 l k) = wR w (ix2 0 k) := by
  pointwise [wbR]
theorem eR_apply (l : Fin 8192) (k : Fin 2048) :
    eR h f w t (ix2 l k) = rowErr (row h f l) (fun k => wR w (ix2 0 k)) (fun k => t (ix2 l k)) k := by
  unfold rowErr
  pointwise [eR, xhR, xR_apply, rsR_apply, wbR_apply]
theorem gR_apply (l : Fin 8192) (k : Fin 2048) :
    gR h f w t (ix2 l k) = upErr (rowErr (row h f l) (fun k => wR w (ix2 0 k)) (fun k => t (ix2 l k)) k) := by
  rw [← up_eq]
  unfold weigh
  pointwise [gR, eR_apply]
theorem gwR_apply (l : Fin 8192) (k : Fin 2048) :
    gwR h f w t (ix2 l k) = upErr (rowErr (row h f l) (fun k => wR w (ix2 0 k)) (fun k => t (ix2 l k)) k) * wR w (ix2 0 k) := by
  pointwise [gwR, gR_apply, wbR_apply]
theorem leanR_apply (l : Fin 8192) (k : Fin 2048) :
    leanR h f w t (ix2 l k) = rowLean (row h f l) (fun k => gwR h f w t (ix2 l k)) := by
  unfold rowLean rowRs
  pointwise [leanR, msR_apply, xR_apply]
  simp only [Fin.sum_univ_one]
theorem dhR_apply (l : Fin 8192) (k : Fin 2048) :
    dhR h f w t (ix2 l k) = rowBack (row h f l) (fun k => gwR h f w t (ix2 l k)) k := by
  unfold rowBack
  pointwise [dhR, rsR_apply, xR_apply, leanR_apply]
theorem dwR_apply (o : Fin 1) (k : Fin 2048) :
    dwR h f w t (ix2 o k) = ∑ l : Fin 8192, row h f l k * rowRs (row h f l) * gR h f w t (ix2 l k) := by
  pointwise [dwR, xhR, xR_apply, rsR_apply]
  simp only [Fin.sum_univ_one]
theorem lossR_apply (i : S_.Idx) :
    lossR h f w t i = Ideal.ofBits .f32 0x3F000000#32
      * ∑ l : Fin 8192, rowLoss (row h f l) (fun k => wR w (ix2 0 k)) (fun k => t (ix2 l k)) := by
  unfold rowLoss
  pointwise [lossR, eR_apply]

theorem loss_eq : (fun _ => lossSum h f (wR w) t : FVec Ideal S_ .f32) = lossR h f w t := by
  funext i
  rw [lossR_apply]
  exact tiles_sum fun l => rowLoss (row h f l) (fun k => wR w (ix2 0 k)) (fun k => t (ix2 l k))

theorem dh_eq : dStream h f (wR w) t = dhR h f w t := by
  funext i
  obtain ⟨l, k, rfl⟩ : ∃ (l : Fin 8192) (k : Fin 2048), i = ix2 l k := ⟨i 0, i 1, eq_ix2 i⟩
  rw [dhR_apply]
  exact rowBack_congr (fun _ => rfl) (fun k => (gwR_apply h f w t l k).symm) rfl

theorem dhb_eq : (dStream h f (wR w) t : FVec Ideal S8192x2048 .bf16) = truncf .bf16 (dhR h f w t) bitsLt_bf16_f32 := by
  funext i
  obtain ⟨l, k, rfl⟩ : ∃ (l : Fin 8192) (k : Fin 2048), i = ix2 l k := ⟨i 0, i 1, eq_ix2 i⟩
  refine (congrFun (dh_eq h f w t) _).trans ?_
  rfl

theorem dw_eq : dWeight h f (wR w) t = dwR h f w t := by
  funext i
  obtain ⟨o, k, rfl⟩ : ∃ (o : Fin 1) (k : Fin 2048), i = ix2 o k := ⟨i 0, i 1, eq_ix2 i⟩
  rw [dwR_apply]
  exact Finset.sum_congr rfl fun l _ => Ideal.mul_congr rfl (gR_apply h f w t l k).symm

/-- The same with the weight's row as the call prepares it. -/
theorem loss_row : (fun _ => lossSum h f (shapeCast S1x2048 w shapeCasts_S2048_S1x2048) t : FVec Ideal S_ .f32) = lossR h f w t := by
  rw [wRow_eq]; exact loss_eq h f w t
theorem dh_row : dStream h f (shapeCast S1x2048 w shapeCasts_S2048_S1x2048) t = dhR h f w t := by
  rw [wRow_eq]; exact dh_eq h f w t
theorem dhb_row : (dStream h f (shapeCast S1x2048 w shapeCasts_S2048_S1x2048) t : FVec Ideal S8192x2048 .bf16) = truncf .bf16 (dhR h f w t) bitsLt_bf16_f32 := by
  rw [wRow_eq]; exact dhb_eq h f w t
theorem dw_row : dWeight h f (shapeCast S1x2048 w shapeCasts_S2048_S1x2048) t = dwR h f w t := by
  rw [wRow_eq]; exact dw_eq h f w t

end Cert.Reference4Ideal.Loss

end
-- ==== Proof.Ls.Claim.lean ====
/- The loss head gives the results of the plain program. -/
module

public import proofs.«01_k».proof.Defs
public import proofs.«01_k».proof.Proof.Ls.Ref

@[expose] public section

set_option maxRecDepth 16384

noncomputable section

namespace Cert.Reference4Ideal.Loss

open Idealize.ShloMosaic Idealize.SL.Sem

/-- The plain program declares no counter. -/
theorem no_counter : ∀ _ : SemLoc Cert.Reference4Ideal.sig, False := by decide

/-- The plain program ends with its arguments as launched, and it has no counter. -/
theorem quiescent : Cert.quiescent_Reference4Ideal (hReference4Ideal := Cert.Reference4Ideal.Gen.facts) :=
  fun m ρ _ => (θ_run _ _ _).mono (fun _ h => ⟨fun c => (h c).2.2.2.2, funext fun g => (no_counter g.2).elim⟩) (Cert.Reference4Ideal.Value.run m ρ)

set_option maxHeartbeats 8000000 in
/-- The call and the plain program give the same results. -/
theorem algebraic : Cert.algebraic_Kernel4Ideal_Reference4Ideal (hKernel4Ideal := Cert.Kernel4Ideal.Gen.facts) (hReference4Ideal := Cert.Reference4Ideal.Gen.facts) := by
  intro m ρ m' ρ' _ hag
  refine ⟨_, _, _, _, Cert.Kernel4Ideal.Loss.run m ρ, (θ_run _ _ _).mono (fun r h c => ?_) (Cert.Reference4Ideal.Value.run m' ρ')⟩
  obtain ⟨h0, h1, h2, h3, hargs⟩ := h c
  obtain ⟨a0, a1, a2, a3⟩ := hag c
  refine ⟨h0.trans ?_, h1.trans ?_, h2.trans ?_, h3.trans ?_, hargs⟩
  · refine Eq.trans ?_ (loss_row _ _ _ _).symm
    rw [a0, a1, a2, a3]; rfl
  · refine Eq.trans ?_ (dh_row _ _ _ _).symm
    unfold Cert.Reference4Ideal.Value.res_main_v51
    rw [a0, a1, a2, a3]; rfl
  · refine Eq.trans ?_ (dhb_row _ _ _ _).symm
    unfold Cert.Reference4Ideal.Value.res_main_v52
    rw [a0, a1, a2, a3]; rfl
  · refine Eq.trans ?_ (dw_row _ _ _ _).symm
    rw [a0, a1, a2, a3]; rfl

end Cert.Reference4Ideal.Loss

end
-- ==== Proof.Nb.Back.lean ====
/- What the gradient of the second norm leaves in its three result arrays. -/
module

public import proofs.«01_k».proof.Proof.Gen.Kernel5Ideal.Frame
public import proofs.«01_k».proof.Proof.Nb.Rows
public import Idealize.ShloMosaic.Lib.Pipeline.ValueKit
public import Idealize.ShloMosaic.Lib.Pointwise

@[expose] public section

set_option maxRecDepth 16384

noncomputable section

namespace Cert.Kernel5Ideal.Norm2

open Idealize.ShloMosaic Idealize.ShloMosaic.TcCoe Idealize.SL Idealize.SL.Sem
open Cert.Kernel5Ideal Cert.Kernel5Ideal.Gen Cert.NormRows

variable (m : (ℓ : Loc nD τ sig) → Buf (Elt Ideal) ℓ) (ρ : Dev nD → PrngReg)

theorem pay5_apply (h : FVec Ideal S256x2048 .f32) (w : FVec Ideal S1x2048 .f32) (x d : FVec Ideal S256x2048 .f32) (r : Fin 256) (s : Fin 2048) :
    k0_pay5 (F := Ideal) h w x d (ix2 r s)
      = rowBack (fun k => h (ix2 r k)) (fun k => x (ix2 r k) * w (ix2 0 k)) s + d (ix2 r s) := by
  unfold rowBack rowLean rowRs rowMs
  pointwise [k0_pay5, k0_pay3, k0_pay2]
  simp only [Fin.sum_univ_one]

theorem pay6_apply (h : FVec Ideal S256x2048 .f32) (w : FVec Ideal S1x2048 .f32) (x d : FVec Ideal S256x2048 .f32) (r : Fin 256) (s : Fin 2048) :
    k0_pay6 (F := Ideal) h w x d (ix2 r s)
      = rowBack (fun k => h (ix2 r k)) (fun k => x (ix2 r k) * w (ix2 0 k)) s + d (ix2 r s) := by
  refine Eq.trans ?_ (pay5_apply h w x d r s)
  pointwise [k0_pay6]

theorem pay4_apply (h x : FVec Ideal S256x2048 .f32) (o : Fin 1) (s : Fin 2048) :
    k0_pay4 (F := Ideal) h x (ix2 o s) = ∑ r : Fin 256, h (ix2 r s) * rowRs (fun k => h (ix2 r k)) * x (ix2 r s) := by
  unfold rowRs rowMs
  pointwise [k0_pay4, k0_pay3, k0_pay2]

theorem pay1_apply (a b : FVec Ideal S1x2048 .f32) (j : S1x2048.Idx) : k0_pay1 (F := Ideal) a b j = b j + a j := by
  pointwise [k0_pay1]

/-- The gradient of the stream: through the norm, and past it. -/
def dStream (h : FVec Ideal S8192x2048 .f32) (w : FVec Ideal S1x2048 .f32) (x d : FVec Ideal S8192x2048 .f32) : FVec Ideal S8192x2048 .f32 :=
  fun i => rowBack (fun k => h (ix2 (i 0) k)) (fun k => x (ix2 (i 0) k) * w (ix2 0 k)) (i 1) + d (ix2 (i 0) (i 1))

/-- The gradient of the norm's weight. -/
def dWeight (h x : FVec Ideal S8192x2048 .f32) : FVec Ideal S1x2048 .f32 :=
  fun i => ∑ l : Fin 8192, h (ix2 l (i 1)) * rowRs (fun k => h (ix2 l k)) * x (ix2 l (i 1))

theorem idx0 : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem lt32 (t : Fin cfg0.N) : t.val < 32 := lt_of_lt_of_eq t.isLt (show cfg0.N = 32 from N_0)

theorem at4 (c : Dev nD) (t : Fin cfg0.N) (y : S256x2048.Idx) :
    (outsAt0 m c t.val t.isLt).1 y = k0_pay5 (F := Ideal) (iblk m c 0 t) (iblk m c 1 t) (iblk m c 2 t) (iblk m c 3 t) y := by
  have := lt32 t
  by_cases h0 : t.val % 32 = 0
  · rw [outsAt0_A m c t h0 (by omega)]; frame_out
  · rw [outsAt0_B m c t h0 (by omega)]; frame_out

theorem at5 (c : Dev nD) (t : Fin cfg0.N) (y : S256x2048.Idx) :
    (outsAt0 m c t.val t.isLt).2.1 y = k0_pay6 (F := Ideal) (iblk m c 0 t) (iblk m c 1 t) (iblk m c 2 t) (iblk m c 3 t) y := by
  have := lt32 t
  by_cases h0 : t.val % 32 = 0
  · rw [outsAt0_A m c t h0 (by omega)]; frame_out
  · rw [outsAt0_B m c t h0 (by omega)]; frame_out

theorem final4 (c : Dev nD) :
    (dats m 0 c).arrAt 4 cfg0.N = dStream (V m c main_arg0) (V m c main_arg1) (V m c main_arg2) (V m c main_arg3) := by
  refine (dats m 0 c).arrAt_eq_of_covers 4 _ (by decide +kernel) fun t hf y => ?_
  blk_simp
  rw [after0_4]
  refine (at4 m c t _).trans ?_
  rw [show (y : S256x2048.Idx) = ix2 (y 0) (y 1) from eq_ix2 y]
  unfold dStream
  refine (pay5_apply _ _ _ _ _ _).trans (congrArg₂ (· + ·) (rowBack_congr (fun k => ?_) (fun k => Ideal.mul_congr ?_ ?_) ?_) ?_)
  · blk_simp [iblk]; refine congrArg _ ?_; blk_ext [(idx0 t).1, (idx0 t).2.2.2.2.1]
  · blk_simp [iblk]; refine congrArg _ ?_; blk_ext [(idx0 t).2.2.1, (idx0 t).2.2.2.2.1]
  · blk_simp [iblk]; refine congrArg _ ?_; blk_ext [(idx0 t).2.1, (idx0 t).2.2.2.2.1]
  · exact Fin.ext (by blk_simp [(idx0 t).2.2.2.2.1])
  · blk_simp [iblk]; refine congrArg _ ?_; blk_ext [(idx0 t).2.2.2.1, (idx0 t).2.2.2.2.1]

theorem final5 (c : Dev nD) :
    (dats m 0 c).arrAt 5 cfg0.N = dStream (V m c main_arg0) (V m c main_arg1) (V m c main_arg2) (V m c main_arg3) := by
  refine (dats m 0 c).arrAt_eq_of_covers 5 _ (by decide +kernel) fun t hf y => ?_
  blk_simp
  rw [after0_5]
  refine (at5 m c t _).trans ?_
  rw [show (y : S256x2048.Idx) = ix2 (y 0) (y 1) from eq_ix2 y]
  unfold dStream
  refine (pay6_apply _ _ _ _ _ _).trans (congrArg₂ (· + ·) (rowBack_congr (fun k => ?_) (fun k => Ideal.mul_congr ?_ ?_) ?_) ?_)
  · blk_simp [iblk]; refine congrArg _ ?_; blk_ext [(idx0 t).1, (idx0 t).2.2.2.2.2.1]
  · blk_simp [iblk]; refine congrArg _ ?_; blk_ext [(idx0 t).2.2.1, (idx0 t).2.2.2.2.2.1]
  · blk_simp [iblk]; refine congrArg _ ?_; blk_ext [(idx0 t).2.1, (idx0 t).2.2.2.2.2.1]
  · exact Fin.ext (by blk_simp [(idx0 t).2.2.2.2.2.1])
  · blk_simp [iblk]; refine congrArg _ ?_; blk_ext [(idx0 t).2.2.2.1, (idx0 t).2.2.2.2.2.1]

/-- What the grid's points up to one leave in the block of the weight's gradient. -/
theorem sum6 (c : Dev nD) (t : Fin cfg0.N) (ht : t.val % 32 = 31) (y : S1x2048.Idx) :
    (outsAt0 m c t.val t.isLt).2.2 y
      = ∑ s : Fin 32, k0_pay4 (F := Ideal) (iblk m c 0 ⟨32 * (t.val / 32) + s.val, Pipeline.run_point_lt_of_flush t ht s⟩)
          (iblk m c 2 ⟨32 * (t.val / 32) + s.val, Pipeline.run_point_lt_of_flush t ht s⟩) y := by
  refine (Pipeline.eq_sum_fin_of_reset_step_apply_of_flush (M := EReal) (fun n h => (outsAt0 m c n h).2.2) 32 (fun _ => 0)
    (fun p j => k0_pay4 (F := Ideal) (iblk m c 0 p) (iblk m c 2 p) j) (fun p h j => ?_) (fun p h j => ?_) t ht y).trans (zero_add _)
  · have := lt32 p
    rw [outsAt0_A m c p h (by omega)]; frame_out; exact (zero_add _).symm
  · have := lt32 p
    rw [outsAt0_B m c p h (by omega)]; frame_out; exact pay1_apply _ _ j

theorem final6 (c : Dev nD) :
    (dats m 0 c).arrAt 6 cfg0.N = dWeight (V m c main_arg0) (V m c main_arg2) := by
  refine (dats m 0 c).arrAt_eq_of_covers 6 _ (by decide +kernel) fun t hf y => ?_
  blk_simp
  rw [after0_6]
  have ht : t.val % 32 = 31 := (flush0_6 t).mp hf
  refine (sum6 m c t ht _).trans ?_
  have h32 := lt32 t
  rw [show (y : S1x2048.Idx) = ix2 (y 0) (y 1) from eq_ix2 y]
  unfold dWeight
  refine (Fin.sum_fin_congr fun s => pay4_apply _ _ _ _).trans ?_
  refine Fin.sum_mul_add_congr fun s k hl => ?_
  refine Ideal.mul_congr (Ideal.mul_congr ?_ (rowRs_congr fun j => ?_)) ?_
  · blk_simp [iblk]; refine congrArg _ ?_; blk_ext [(idx0 ⟨_, Pipeline.run_point_lt_of_flush t ht s⟩).1, (idx0 t).2.2.2.2.2.2]
  · blk_simp [iblk]; refine congrArg _ ?_; blk_ext [(idx0 ⟨_, Pipeline.run_point_lt_of_flush t ht s⟩).1, (idx0 t).2.2.2.2.2.2]
  · blk_simp [iblk]; refine congrArg _ ?_; blk_ext [(idx0 ⟨_, Pipeline.run_point_lt_of_flush t ht s⟩).2.2.1, (idx0 t).2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = dStream (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = dStream (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = dWeight (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final4 m c), ((h c).1 5).trans (final5 m c), ((h c).1 6).trans (final6 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _)⟩) (run_main m ρ)

end Cert.Kernel5Ideal.Norm2

end
-- ==== Proof.Nb.Ref.lean ====
/- The gradient of the second norm as the plain program computes it, read at an index, against the call's results. -/
module

public import proofs.«01_k».proof.Proof.Nb.Back
public import proofs.«01_k».proof.Proof.Gen.Reference5Ideal.Run

@[expose] public section

set_option maxRecDepth 16384

noncomputable section

namespace Cert.Reference5Ideal.Norm2

open Idealize.ShloMosaic Idealize.ShloMosaic.TcCoe Idealize.SL.Sem
open Cert.Reference5Ideal Cert.Reference5Ideal.Gen Cert.NormRows
open Cert.Kernel5Ideal.Norm2 (dStream dWeight)

variable (h : FVec Ideal S8192x2048 .f32) (w : FVec Ideal S1x2048 .f32) (x d : FVec Ideal S8192x2048 .f32)

/-- The rows' mean squares and the small constant. -/
def msR : FVec Ideal S8192x1 .f32 :=
  addf (Host.divf (broadcastInDim S8192x1 ![0] bcast_S8192_S8192x1_0 (Host.reduceAdd (mulf h h) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
/-- The gradient at the normalised rows, before the norm's weight. -/
def upR : FVec Ideal S8192x2048 .f32 := mulf x (broadcastInDim S8192x2048 ![0, 1] bcast_S1x2048_S8192x2048_0_1 w)
/-- The rows' coefficients in the gradient that comes through the mean squares. -/
def leanR (u : FVec Ideal S8192x2048 .f32) : FVec Ideal S8192x2048 .f32 :=
  broadcastInDim S8192x2048 ![0] bcast_S8192_S8192x2048_0 (Host.reduceAdd (Host.divf (mulf (shapeCast _ (Host.reduceAdd (mulf h u) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (msR h)) (msR h)))) (broadcastInDim S8192x1 ![] bcast_S_S8192x1 (constant S_ .f32 0x45000000#32))) (constant S_ .f32 0x00000000#32) reducesTo_S8192x1_S8192_d1 h_S_)
/-- The gradient of the stream. -/
def dhR : FVec Ideal S8192x2048 .f32 :=
  addf (addf (addf d (mulf (upR w x) (broadcastInDim S8192x2048 ![0, 1] bcast_S8192x1_S8192x2048_0_1 (Host.rsqrt (msR h))))) (mulf h (leanR h (upR w x)))) (mulf (leanR h (upR w x)) h)
/-- The gradient of the norm's weight. -/
def dwR : FVec Ideal S1x2048 .f32 :=
  shapeCast _ (Host.reduceAdd (mulf (mulf h (broadcastInDim S8192x2048 ![0, 1] bcast_S8192x1_S8192x2048_0_1 (Host.rsqrt (msR h)))) x) (constant S_ .f32 0x00000000#32) reducesTo_S8192x2048_S2048_d0 h_S_) shapeCasts_S2048_S1x2048

theorem msR_apply (l : Fin 8192) (o : Fin 1) : msR h (ix2 l o) = rowMs (fun k => h (ix2 l k)) := by
  unfold rowMs
  pointwise [msR]
theorem upR_apply (l : Fin 8192) (k : Fin 2048) : upR w x (ix2 l k) = x (ix2 l k) * w (ix2 0 k) := by
  pointwise [upR]
theorem leanR_apply (u : FVec Ideal S8192x2048 .f32) (l : Fin 8192) (k : Fin 2048) :
    leanR h u (ix2 l k) = rowLean (fun k => h (ix2 l k)) (fun k => u (ix2 l k)) := by
  unfold rowLean rowRs
  pointwise [leanR, msR_apply]
  simp only [Fin.sum_univ_one]
theorem dhR_apply (l : Fin 8192) (k : Fin 2048) :
    dhR h w x d (ix2 l k) = d (ix2 l k) + upR w x (ix2 l k) * rowRs (fun k => h (ix2 l k))
      + h (ix2 l k) * leanR h (upR w x) (ix2 l k) + leanR h (upR w x) (ix2 l k) * h (ix2 l k) := by
  unfold rowRs
  pointwise [dhR, msR_apply]
theorem dwR_apply (o : Fin 1) (k : Fin 2048) :
    dwR h x (ix2 o k) = ∑ l : Fin 8192, h (ix2 l k) * rowRs (fun k => h (ix2 l k)) * x (ix2 l k) := by
  unfold rowRs
  pointwise [dwR, msR_apply]

theorem dh_eq : dStream h w x d = dhR h w x d := by
  funext i
  obtain ⟨l, k, rfl⟩ : ∃ (l : Fin 8192) (k : Fin 2048), i = ix2 l k := ⟨i 0, i 1, eq_ix2 i⟩
  rw [dhR_apply, leanR_apply]
  have e : (fun k => upR w x (ix2 l k)) = fun k => x (ix2 l k) * w (ix2 0 k) := funext fun k => upR_apply w x l k
  rw [e, upR_apply]
  show rowBack (fun k => h (ix2 l k)) (fun k => x (ix2 l k) * w (ix2 0 k)) k + d (ix2 l k) = _
  unfold rowBack
  rw [add_comm, ← add_assoc, ← add_assoc]

theorem dhb_eq : (dStream h w x d : FVec Ideal S8192x2048 .bf16) = truncf .bf16 (dhR h w x d) bitsLt_bf16_f32 := by
  funext i
  obtain ⟨l, k, rfl⟩ : ∃ (l : Fin 8192) (k : Fin 2048), i = ix2 l k := ⟨i 0, i 1, eq_ix2 i⟩
  refine (congrFun (dh_eq h w x d) _).trans ?_
  rfl

theorem dw_eq : dWeight h x = dwR h x := by
  funext i
  obtain ⟨o, k, rfl⟩ : ∃ (o : Fin 1) (k : Fin 2048), i = ix2 o k := ⟨i 0, i 1, eq_ix2 i⟩
  rw [dwR_apply]
  rfl

end Cert.Reference5Ideal.Norm2

end
-- ==== Proof.Nb.Claim.lean ====
/- The gradient of the second norm gives the results of the plain program. -/
module

public import proofs.«01_k».proof.Defs
public import proofs.«01_k».proof.Proof.Nb.Ref

@[expose] public section

set_option maxRecDepth 16384

noncomputable section

namespace Cert.Reference5Ideal.Norm2

open Idealize.ShloMosaic Idealize.SL.Sem

/-- The plain program declares no counter. -/
theorem no_counter : ∀ _ : SemLoc Cert.Reference5Ideal.sig, False := by decide

/-- The plain program ends with its arguments as launched, and it has no counter. -/
theorem quiescent : Cert.quiescent_Reference5Ideal (hReference5Ideal := Cert.Reference5Ideal.Gen.facts) :=
  fun m ρ _ => (θ_run _ _ _).mono (fun _ h => ⟨fun c => (h c).2.2.2, funext fun g => (no_counter g.2).elim⟩) (Cert.Reference5Ideal.Value.run m ρ)

set_option maxHeartbeats 8000000 in
/-- The call and the plain program give the same results. -/
theorem algebraic : Cert.algebraic_Kernel5Ideal_Reference5Ideal (hKernel5Ideal := Cert.Kernel5Ideal.Gen.facts) (hReference5Ideal := Cert.Reference5Ideal.Gen.facts) := by
  intro m ρ m' ρ' _ hag
  refine ⟨_, _, _, Cert.Kernel5Ideal.Norm2.run m ρ, (θ_run _ _ _).mono (fun r h c => ?_) (Cert.Reference5Ideal.Value.run m' ρ')⟩
  obtain ⟨h0, h1, h2, hargs⟩ := h c
  obtain ⟨a0, a1, a2, a3⟩ := hag c
  refine ⟨h0.trans ?_, h1.trans ?_, h2.trans ?_, hargs⟩
  · refine Eq.trans ?_ (dh_eq _ _ _ _).symm
    rw [a0, a1, a2, a3]; rfl
  · refine Eq.trans ?_ (dhb_eq _ _ _ _).symm
    rw [a0, a1, a2, a3]; rfl
  · refine Eq.trans ?_ (dw_eq _ _).symm
    rw [a0, a2]; rfl

end Cert.Reference5Ideal.Norm2

end
-- ==== Proof.Op.Rule.lean ====
/- One step of the optimiser at one entry of a weight. -/
module

public import Idealize.ShloMosaic.Lib.Pointwise

@[expose] public section

noncomputable section

namespace Cert.AdamRule

open Idealize.ShloMosaic

/-- The new first moment, from the gradient and the old one. -/
def stepM (g m : EReal) : EReal := Ideal.ofBits .f32 0x3F666666#32 * m + Ideal.ofBits .f32 0x3DCCCCCD#32 * g

/-- The new second moment. -/
def stepV (g v : EReal) : EReal := Ideal.ofBits .f32 0x3F7FBE77#32 * v + Ideal.ofBits .f32 0x3A83126F#32 * (g * g)

/-- The change of the weight. -/
def stepD (w g m v : EReal) : EReal :=
  Ideal.ofBits .f32 0xBA83126F#32
    * (Ideal.div (Ideal.div (stepM g m) (Ideal.ofBits .f32 0x3F26BD02#32))
        (Ideal.sqrt (Ideal.div (stepV g v) (Ideal.ofBits .f32 0x3C231ACC#32)) + Ideal.ofBits .f32 0x322BCC77#32)
      + Ideal.ofBits .f32 0x3C23D70A#32 * w)

/-- The gradient of the whole step: the device's own part and the three it was sent. -/
def sum4 (a b c d : EReal) : EReal := a + b + c + d

theorem stepM_congr {g h m n : EReal} (hg : g = h) (hm : m = n) : stepM g m = stepM h n := by rw [hg, hm]
theorem stepV_congr {g h v u : EReal} (hg : g = h) (hv : v = u) : stepV g v = stepV h u := by rw [hg, hv]
theorem stepD_congr {w x g h m n v u : EReal} (hw : w = x) (hg : g = h) (hm : m = n) (hv : v = u) :
    stepD w g m v = stepD x h n u := by rw [hw, hg, hm, hv]
theorem sum4_congr {a b c d e f g h : EReal} (h0 : a = e) (h1 : b = f) (h2 : c = g) (h3 : d = h) :
    sum4 a b c d = sum4 e f g h := by rw [h0, h1, h2, h3]

end Cert.AdamRule

end
-- ==== Proof.Sm.Pack.lean ====
/- The small weights laid one under another as rows of 128, and taken out of them again. -/
module

public import proofs.«01_k».proof.Defs
public import Idealize.ShloMosaic.Lib.Pipeline.ValueKit
public import Idealize.ShloMosaic.Lib.Pointwise
public import proofs.«01_k».proof.Proof.Op.Rule
public import proofs.«01_k».proof.Proof.Gen.Kernel6Ideal

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

/-- The value that fills up the rows. -/
def fill : FVec Ideal S_ .f32 := sitofp .f32 (constantI S_ 32 0#32)

def pk0 (x : FVec Ideal S2x1024 .f32) : FVec Ideal S16x128 .f32 := shapeCast S16x128 (pad S2048 ![0] ![0] ![0] (shapeCast S2048 x shapeCasts_S2x1024_S2048) fill pads_S2048_S2048_000 h_S_) shapeCasts_S2048_S16x128
def pk1 (x : FVec Ideal S1x2048 .f32) : FVec Ideal S16x128 .f32 := shapeCast S16x128 (pad S2048 ![0] ![0] ![0] (shapeCast S2048 x shapeCasts_S1x2048_S2048) fill pads_S2048_S2048_000 h_S_) shapeCasts_S2048_S16x128
def pk2 (x : FVec Ideal S1x128 .f32) : FVec Ideal S8x128 .f32 := shapeCast S8x128 (pad S1024 ![0] ![896] ![0] (shapeCast S128 x shapeCasts_S1x128_S128) fill pads_S128_S1024_08960 h_S_) shapeCasts_S1024_S8x128
def pk3 (x : FVec Ideal S1x8 .f32) : FVec Ideal S8x128 .f32 := shapeCast S8x128 (pad S1024 ![0] ![1016] ![0] (shapeCast S8 x shapeCasts_S1x8_S8) fill pads_S8_S1024_010160 h_S_) shapeCasts_S1024_S8x128
def pk4 (x : FVec Ideal S1x8 .f32) : FVec Ideal S8x128 .f32 := shapeCast S8x128 (pad S1024 ![0] ![1016] ![0] (shapeCast S8 x shapeCasts_S1x8_S8) fill pads_S8_S1024_010160 h_S_) shapeCasts_S1024_S8x128
def pk5 (x : FVec Ideal S1x128 .f32) : FVec Ideal S8x128 .f32 := shapeCast S8x128 (pad S1024 ![0] ![896] ![0] (shapeCast S128 x shapeCasts_S1x128_S128) fill pads_S128_S1024_08960 h_S_) shapeCasts_S1024_S8x128
def pk6 (x : FVec Ideal S1x2048 .f32) : FVec Ideal S16x128 .f32 := shapeCast S16x128 (pad S2048 ![0] ![0] ![0] (shapeCast S2048 x shapeCasts_S1x2048_S2048) fill pads_S2048_S2048_000 h_S_) shapeCasts_S2048_S16x128
def pk7 (x : FVec Ideal S2048 .f32) : FVec Ideal S16x128 .f32 := shapeCast S16x128 (pad S2048 ![0] ![0] ![0] x fill pads_S2048_S2048_000 h_S_) shapeCasts_S2048_S16x128
def pk8 (x : FVec Ideal S16x256 .f32) : FVec Ideal S32x128 .f32 := shapeCast S32x128 (pad S4096 ![0] ![0] ![0] (shapeCast S4096 x shapeCasts_S16x256_S4096) fill pads_S4096_S4096_000 h_S_) shapeCasts_S4096_S32x128
def pk9 (x : FVec Ideal S1x4x384 .f32) : FVec Ideal S16x128 .f32 := shapeCast S16x128 (pad S2048 ![0] ![512] ![0] (shapeCast S1536 x shapeCasts_S1x4x384_S1536) fill pads_S1536_S2048_05120 h_S_) shapeCasts_S2048_S16x128

/-- Ten groups of rows, one under another. -/
def rows (p0 : FVec Ideal S16x128 .f32) (p1 : FVec Ideal S16x128 .f32) (p2 : FVec Ideal S8x128 .f32) (p3 : FVec Ideal S8x128 .f32) (p4 : FVec Ideal S8x128 .f32) (p5 : FVec Ideal S8x128 .f32) (p6 : FVec Ideal S16x128 .f32) (p7 : FVec Ideal S16x128 .f32) (p8 : FVec Ideal S32x128 .f32) (p9 : FVec Ideal S16x128 .f32) : FVec Ideal S144x128 .f32 :=
  concatenate S144x128 0 [⟨S16x128, p0⟩, ⟨S16x128, p1⟩, ⟨S8x128, p2⟩, ⟨S8x128, p3⟩, ⟨S8x128, p4⟩, ⟨S8x128, p5⟩, ⟨S16x128, p6⟩, ⟨S16x128, p7⟩, ⟨S32x128, p8⟩, ⟨S16x128, p9⟩] concatenates_S16x128_S16x128_S8x128_S8x128_S8x128_S8x128_S16x128_S16x128_S32x128_S16x128_S144x128_d0

def un0 (y : FVec Ideal S144x128 .f32) : FVec Ideal S2x1024 .f32 :=
  shapeCast S2x1024 (shapeCast S2048 (extractStridedSlice S16x128 ![0, 0] y slices_S144x128_S16x128_0_0) shapeCasts_S16x128_S2048) shapeCasts_S2048_S2x1024
def un1 (y : FVec Ideal S144x128 .f32) : FVec Ideal S1x2048 .f32 :=
  shapeCast S1x2048 (shapeCast S2048 (extractStridedSlice S16x128 ![16, 0] y slices_S144x128_S16x128_16_0) shapeCasts_S16x128_S2048) shapeCasts_S2048_S1x2048
def un2 (y : FVec Ideal S144x128 .f32) : FVec Ideal S1x128 .f32 :=
  shapeCast S1x128 (extractStridedSlice S128 ![0] (shapeCast S1024 (extractStridedSlice S8x128 ![32, 0] y slices_S144x128_S8x128_32_0) shapeCasts_S8x128_S1024) slices_S1024_S128_0) shapeCasts_S128_S1x128
def un3 (y : FVec Ideal S144x128 .f32) : FVec Ideal S1x8 .f32 :=
  shapeCast S1x8 (extractStridedSlice S8 ![0] (shapeCast S1024 (extractStridedSlice S8x128 ![40, 0] y slices_S144x128_S8x128_40_0) shapeCasts_S8x128_S1024) slices_S1024_S8_0) shapeCasts_S8_S1x8
def un4 (y : FVec Ideal S144x128 .f32) : FVec Ideal S1x8 .f32 :=
  shapeCast S1x8 (extractStridedSlice S8 ![0] (shapeCast S1024 (extractStridedSlice S8x128 ![48, 0] y slices_S144x128_S8x128_48_0) shapeCasts_S8x128_S1024) slices_S1024_S8_0) shapeCasts_S8_S1x8
def un5 (y : FVec Ideal S144x128 .f32) : FVec Ideal S1x128 .f32 :=
  shapeCast S1x128 (extractStridedSlice S128 ![0] (shapeCast S1024 (extractStridedSlice S8x128 ![56, 0] y slices_S144x128_S8x128_56_0) shapeCasts_S8x128_S1024) slices_S1024_S128_0) shapeCasts_S128_S1x128
def un6 (y : FVec Ideal S144x128 .f32) : FVec Ideal S1x2048 .f32 :=
  shapeCast S1x2048 (shapeCast S2048 (extractStridedSlice S16x128 ![64, 0] y slices_S144x128_S16x128_64_0) shapeCasts_S16x128_S2048) shapeCasts_S2048_S1x2048
def un7 (y : FVec Ideal S144x128 .f32) : FVec Ideal S2048 .f32 :=
  shapeCast S2048 (extractStridedSlice S16x128 ![80, 0] y slices_S144x128_S16x128_80_0) shapeCasts_S16x128_S2048
def un8 (y : FVec Ideal S144x128 .f32) : FVec Ideal S16x256 .f32 :=
  shapeCast S16x256 (shapeCast S4096 (extractStridedSlice S32x128 ![96, 0] y slices_S144x128_S32x128_96_0) shapeCasts_S32x128_S4096) shapeCasts_S4096_S16x256
def un9 (y : FVec Ideal S144x128 .f32) : FVec Ideal S1x4x384 .f32 :=
  shapeCast S1x4x384 (extractStridedSlice S1536 ![0] (shapeCast S2048 (extractStridedSlice S16x128 ![128, 0] y slices_S144x128_S16x128_128_0) shapeCasts_S16x128_S2048) slices_S2048_S1536_0) shapeCasts_S1536_S1x4x384

section
variable (p0 : FVec Ideal S16x128 .f32) (p1 : FVec Ideal S16x128 .f32) (p2 : FVec Ideal S8x128 .f32) (p3 : FVec Ideal S8x128 .f32) (p4 : FVec Ideal S8x128 .f32) (p5 : FVec Ideal S8x128 .f32) (p6 : FVec Ideal S16x128 .f32) (p7 : FVec Ideal S16x128 .f32) (p8 : FVec Ideal S32x128 .f32) (p9 : FVec Ideal S16x128 .f32)
theorem rows_0 : extractStridedSlice S16x128 ![0, 0] (rows p0 p1 p2 p3 p4 p5 p6 p7 p8 p9) slices_S144x128_S16x128_0_0 = p0 := by
  funext y
  obtain ⟨r, k, rfl⟩ : ∃ (r : Fin 16) (k : Fin 128), y = ix2 r k := ⟨y 0, y 1, eq_ix2 y⟩
  have hr := r.isLt
  pointwise [rows]
  repeat rw [dif_neg (by omega)]
  try rw [dif_pos (by omega)]
theorem rows_1 : extractStridedSlice S16x128 ![16, 0] (rows p0 p1 p2 p3 p4 p5 p6 p7 p8 p9) slices_S144x128_S16x128_16_0 = p1 := by
  funext y
  obtain ⟨r, k, rfl⟩ : ∃ (r : Fin 16) (k : Fin 128), y = ix2 r k := ⟨y 0, y 1, eq_ix2 y⟩
  have hr := r.isLt
  pointwise [rows]
  repeat rw [dif_neg (by omega)]
  try rw [dif_pos (by omega)]
theorem rows_2 : extractStridedSlice S8x128 ![32, 0] (rows p0 p1 p2 p3 p4 p5 p6 p7 p8 p9) slices_S144x128_S8x128_32_0 = p2 := by
  funext y
  obtain ⟨r, k, rfl⟩ : ∃ (r : Fin 8) (k : Fin 128), y = ix2 r k := ⟨y 0, y 1, eq_ix2 y⟩
  have hr := r.isLt
  pointwise [rows]
  repeat rw [dif_neg (by omega)]
  try rw [dif_pos (by omega)]
  refine congrArg p2 (congrArg (ix2 · k) (Fin.ext ?_))
  simp only []; omega
theorem rows_3 : extractStridedSlice S8x128 ![40, 0] (rows p0 p1 p2 p3 p4 p5 p6 p7 p8 p9) slices_S144x128_S8x128_40_0 = p3 := by
  funext y
  obtain ⟨r, k, rfl⟩ : ∃ (r : Fin 8) (k : Fin 128), y = ix2 r k := ⟨y 0, y 1, eq_ix2 y⟩
  have hr := r.isLt
  pointwise [rows]
  repeat rw [dif_neg (by omega)]
  try rw [dif_pos (by omega)]
  refine congrArg p3 (congrArg (ix2 · k) (Fin.ext ?_))
  simp only []; omega
theorem rows_4 : extractStridedSlice S8x128 ![48, 0] (rows p0 p1 p2 p3 p4 p5 p6 p7 p8 p9) slices_S144x128_S8x128_48_0 = p4 := by
  funext y
  obtain ⟨r, k, rfl⟩ : ∃ (r : Fin 8) (k : Fin 128), y = ix2 r k := ⟨y 0, y 1, eq_ix2 y⟩
  have hr := r.isLt
  pointwise [rows]
  repeat rw [dif_neg (by omega)]
  try rw [dif_pos (by omega)]
  refine congrArg p4 (congrArg (ix2 · k) (Fin.ext ?_))
  simp only []; omega
theorem rows_5 : extractStridedSlice S8x128 ![56, 0] (rows p0 p1 p2 p3 p4 p5 p6 p7 p8 p9) slices_S144x128_S8x128_56_0 = p5 := by
  funext y
  obtain ⟨r, k, rfl⟩ : ∃ (r : Fin 8) (k : Fin 128), y = ix2 r k := ⟨y 0, y 1, eq_ix2 y⟩
  have hr := r.isLt
  pointwise [rows]
  repeat rw [dif_neg (by omega)]
  try rw [dif_pos (by omega)]
  refine congrArg p5 (congrArg (ix2 · k) (Fin.ext ?_))
  simp only []; omega
theorem rows_6 : extractStridedSlice S16x128 ![64, 0] (rows p0 p1 p2 p3 p4 p5 p6 p7 p8 p9) slices_S144x128_S16x128_64_0 = p6 := by
  funext y
  obtain ⟨r, k, rfl⟩ : ∃ (r : Fin 16) (k : Fin 128), y = ix2 r k := ⟨y 0, y 1, eq_ix2 y⟩
  have hr := r.isLt
  pointwise [rows]
  repeat rw [dif_neg (by omega)]
  try rw [dif_pos (by omega)]
  refine congrArg p6 (congrArg (ix2 · k) (Fin.ext ?_))
  simp only []; omega
theorem rows_7 : extractStridedSlice S16x128 ![80, 0] (rows p0 p1 p2 p3 p4 p5 p6 p7 p8 p9) slices_S144x128_S16x128_80_0 = p7 := by
  funext y
  obtain ⟨r, k, rfl⟩ : ∃ (r : Fin 16) (k : Fin 128), y = ix2 r k := ⟨y 0, y 1, eq_ix2 y⟩
  have hr := r.isLt
  pointwise [rows]
  repeat rw [dif_neg (by omega)]
  try rw [dif_pos (by omega)]
  refine congrArg p7 (congrArg (ix2 · k) (Fin.ext ?_))
  simp only []; omega
theorem rows_8 : extractStridedSlice S32x128 ![96, 0] (rows p0 p1 p2 p3 p4 p5 p6 p7 p8 p9) slices_S144x128_S32x128_96_0 = p8 := by
  funext y
  obtain ⟨r, k, rfl⟩ : ∃ (r : Fin 32) (k : Fin 128), y = ix2 r k := ⟨y 0, y 1, eq_ix2 y⟩
  have hr := r.isLt
  pointwise [rows]
  repeat rw [dif_neg (by omega)]
  try rw [dif_pos (by omega)]
  refine congrArg p8 (congrArg (ix2 · k) (Fin.ext ?_))
  simp only []; omega
theorem rows_9 : extractStridedSlice S16x128 ![128, 0] (rows p0 p1 p2 p3 p4 p5 p6 p7 p8 p9) slices_S144x128_S16x128_128_0 = p9 := by
  funext y
  obtain ⟨r, k, rfl⟩ : ∃ (r : Fin 16) (k : Fin 128), y = ix2 r k := ⟨y 0, y 1, eq_ix2 y⟩
  have hr := r.isLt
  pointwise [rows]
  repeat rw [dif_neg (by omega)]
  try rw [dif_pos (by omega)]
  refine congrArg p9 (congrArg (ix2 · k) (Fin.ext ?_))
  simp only []; omega
end

theorem fill_2048 (x : FVec Ideal S2048 .f32) : pad S2048 ![0] ![0] ![0] x fill pads_S2048_S2048_000 h_S_ = x := by
  funext y
  obtain ⟨k, rfl⟩ : ∃ k : Fin 2048, y = ix1 k := ⟨y 0, eq_ix1 y⟩
  have hk := k.isLt
  pointwise
theorem fill_128 (x : FVec Ideal S128 .f32) : extractStridedSlice S128 ![0] (pad S1024 ![0] ![896] ![0] x fill pads_S128_S1024_08960 h_S_) slices_S1024_S128_0 = x := by
  funext y
  obtain ⟨k, rfl⟩ : ∃ k : Fin 128, y = ix1 k := ⟨y 0, eq_ix1 y⟩
  have hk := k.isLt
  pointwise
theorem fill_8 (x : FVec Ideal S8 .f32) : extractStridedSlice S8 ![0] (pad S1024 ![0] ![1016] ![0] x fill pads_S8_S1024_010160 h_S_) slices_S1024_S8_0 = x := by
  funext y
  obtain ⟨k, rfl⟩ : ∃ k : Fin 8, y = ix1 k := ⟨y 0, eq_ix1 y⟩
  have hk := k.isLt
  pointwise
theorem fill_4096 (x : FVec Ideal S4096 .f32) : pad S4096 ![0] ![0] ![0] x fill pads_S4096_S4096_000 h_S_ = x := by
  funext y
  obtain ⟨k, rfl⟩ : ∃ k : Fin 4096, y = ix1 k := ⟨y 0, eq_ix1 y⟩
  have hk := k.isLt
  pointwise
theorem fill_1536 (x : FVec Ideal S1536 .f32) : extractStridedSlice S1536 ![0] (pad S2048 ![0] ![512] ![0] x fill pads_S1536_S2048_05120 h_S_) slices_S2048_S1536_0 = x := by
  funext y
  obtain ⟨k, rfl⟩ : ∃ k : Fin 1536, y = ix1 k := ⟨y 0, eq_ix1 y⟩
  have hk := k.isLt
  pointwise

/-- The ten weights, packed. -/
def packed (x0 : FVec Ideal S2x1024 .f32) (x1 : FVec Ideal S1x2048 .f32) (x2 : FVec Ideal S1x128 .f32) (x3 : FVec Ideal S1x8 .f32) (x4 : FVec Ideal S1x8 .f32) (x5 : FVec Ideal S1x128 .f32) (x6 : FVec Ideal S1x2048 .f32) (x7 : FVec Ideal S2048 .f32) (x8 : FVec Ideal S16x256 .f32) (x9 : FVec Ideal S1x4x384 .f32) : FVec Ideal S144x128 .f32 :=
  rows (pk0 x0) (pk1 x1) (pk2 x2) (pk3 x3) (pk4 x4) (pk5 x5) (pk6 x6) (pk7 x7) (pk8 x8) (pk9 x9)

section
variable (x0 : FVec Ideal S2x1024 .f32) (x1 : FVec Ideal S1x2048 .f32) (x2 : FVec Ideal S1x128 .f32) (x3 : FVec Ideal S1x8 .f32) (x4 : FVec Ideal S1x8 .f32) (x5 : FVec Ideal S1x128 .f32) (x6 : FVec Ideal S1x2048 .f32) (x7 : FVec Ideal S2048 .f32) (x8 : FVec Ideal S16x256 .f32) (x9 : FVec Ideal S1x4x384 .f32)
theorem un_packed0 : un0 (packed x0 x1 x2 x3 x4 x5 x6 x7 x8 x9) = x0 := by
  unfold un0 packed pk0
  rw [rows_0, shapeCast_shapeCast, fill_2048, shapeCast_shapeCast]
theorem un_packed1 : un1 (packed x0 x1 x2 x3 x4 x5 x6 x7 x8 x9) = x1 := by
  unfold un1 packed pk1
  rw [rows_1, shapeCast_shapeCast, fill_2048, shapeCast_shapeCast]
theorem un_packed2 : un2 (packed x0 x1 x2 x3 x4 x5 x6 x7 x8 x9) = x2 := by
  unfold un2 packed pk2
  rw [rows_2, shapeCast_shapeCast, fill_128, shapeCast_shapeCast]
theorem un_packed3 : un3 (packed x0 x1 x2 x3 x4 x5 x6 x7 x8 x9) = x3 := by
  unfold un3 packed pk3
  rw [rows_3, shapeCast_shapeCast, fill_8, shapeCast_shapeCast]
theorem un_packed4 : un4 (packed x0 x1 x2 x3 x4 x5 x6 x7 x8 x9) = x4 := by
  unfold un4 packed pk4
  rw [rows_4, shapeCast_shapeCast, fill_8, shapeCast_shapeCast]
theorem un_packed5 : un5 (packed x0 x1 x2 x3 x4 x5 x6 x7 x8 x9) = x5 := by
  unfold un5 packed pk5
  rw [rows_5, shapeCast_shapeCast, fill_128, shapeCast_shapeCast]
theorem un_packed6 : un6 (packed x0 x1 x2 x3 x4 x5 x6 x7 x8 x9) = x6 := by
  unfold un6 packed pk6
  rw [rows_6, shapeCast_shapeCast, fill_2048, shapeCast_shapeCast]
theorem un_packed7 : un7 (packed x0 x1 x2 x3 x4 x5 x6 x7 x8 x9) = x7 := by
  unfold un7 packed pk7
  rw [rows_7, shapeCast_shapeCast, fill_2048]
theorem un_packed8 : un8 (packed x0 x1 x2 x3 x4 x5 x6 x7 x8 x9) = x8 := by
  unfold un8 packed pk8
  rw [rows_8, shapeCast_shapeCast, fill_4096, shapeCast_shapeCast]
theorem un_packed9 : un9 (packed x0 x1 x2 x3 x4 x5 x6 x7 x8 x9) = x9 := by
  unfold un9 packed pk9
  rw [rows_9, shapeCast_shapeCast, fill_1536, shapeCast_shapeCast]
end

end Cert.Kernel6Ideal.Small

end
-- ==== Proof.Sm.Step.lean ====
/- What the call on the small weights leaves in its three result arrays. -/
module

public import proofs.«01_k».proof.Defs
public import Idealize.ShloMosaic.Lib.Pipeline.ValueKit
public import Idealize.ShloMosaic.Lib.Pointwise
public import proofs.«01_k».proof.Proof.Sm.Pack
public import proofs.«01_k».proof.Proof.Gen.Kernel6Ideal.Frame

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

/-- The two new moments and the change of a weight of any shape. -/
def newM {s : Shape} (g u : FVec Ideal s .f32) : FVec Ideal s .f32 := fun i => stepM (g i) (u i)
def newV {s : Shape} (g v : FVec Ideal s .f32) : FVec Ideal s .f32 := fun i => stepV (g i) (v i)
def delta {s : Shape} (w g u v : FVec Ideal s .f32) : FVec Ideal s .f32 := fun i => stepD (w i) (g i) (u i) (v i)

section
variable (w g u v : FVec Ideal S144x128 .f32)

theorem pay2_apply (r : Fin 144) (k : Fin 128) : k0_pay2 (F := Ideal) g u (ix2 r k) = stepM (g (ix2 r k)) (u (ix2 r k)) := by
  unfold stepM
  pointwise [k0_pay2, k0_pay1]
theorem pay3_apply (r : Fin 144) (k : Fin 128) : k0_pay3 (F := Ideal) g v (ix2 r k) = stepV (g (ix2 r k)) (v (ix2 r k)) := by
  unfold stepV
  pointwise [k0_pay3, k0_pay1]
theorem pay4_apply (r : Fin 144) (k : Fin 128) :
    k0_pay4 (F := Ideal) w g u v (ix2 r k) = stepD (w (ix2 r k)) (g (ix2 r k)) (u (ix2 r k)) (v (ix2 r k)) := by
  unfold stepD
  pointwise [k0_pay4, pay2_apply, pay3_apply]
theorem un0_newM : un0 (newM g u) = newM (un0 g) (un0 u) := rfl
theorem un0_newV : un0 (newV g v) = newV (un0 g) (un0 v) := rfl
theorem un0_delta : un0 (delta w g u v) = delta (un0 w) (un0 g) (un0 u) (un0 v) := rfl
theorem un1_newM : un1 (newM g u) = newM (un1 g) (un1 u) := rfl
theorem un1_newV : un1 (newV g v) = newV (un1 g) (un1 v) := rfl
theorem un1_delta : un1 (delta w g u v) = delta (un1 w) (un1 g) (un1 u) (un1 v) := rfl
theorem un2_newM : un2 (newM g u) = newM (un2 g) (un2 u) := rfl
theorem un2_newV : un2 (newV g v) = newV (un2 g) (un2 v) := rfl
theorem un2_delta : un2 (delta w g u v) = delta (un2 w) (un2 g) (un2 u) (un2 v) := rfl
theorem un3_newM : un3 (newM g u) = newM (un3 g) (un3 u) := rfl
theorem un3_newV : un3 (newV g v) = newV (un3 g) (un3 v) := rfl
theorem un3_delta : un3 (delta w g u v) = delta (un3 w) (un3 g) (un3 u) (un3 v) := rfl
theorem un4_newM : un4 (newM g u) = newM (un4 g) (un4 u) := rfl
theorem un4_newV : un4 (newV g v) = newV (un4 g) (un4 v) := rfl
theorem un4_delta : un4 (delta w g u v) = delta (un4 w) (un4 g) (un4 u) (un4 v) := rfl
theorem un5_newM : un5 (newM g u) = newM (un5 g) (un5 u) := rfl
theorem un5_newV : un5 (newV g v) = newV (un5 g) (un5 v) := rfl
theorem un5_delta : un5 (delta w g u v) = delta (un5 w) (un5 g) (un5 u) (un5 v) := rfl
theorem un6_newM : un6 (newM g u) = newM (un6 g) (un6 u) := rfl
theorem un6_newV : un6 (newV g v) = newV (un6 g) (un6 v) := rfl
theorem un6_delta : un6 (delta w g u v) = delta (un6 w) (un6 g) (un6 u) (un6 v) := rfl
theorem un7_newM : un7 (newM g u) = newM (un7 g) (un7 u) := rfl
theorem un7_newV : un7 (newV g v) = newV (un7 g) (un7 v) := rfl
theorem un7_delta : un7 (delta w g u v) = delta (un7 w) (un7 g) (un7 u) (un7 v) := rfl
theorem un8_newM : un8 (newM g u) = newM (un8 g) (un8 u) := rfl
theorem un8_newV : un8 (newV g v) = newV (un8 g) (un8 v) := rfl
theorem un8_delta : un8 (delta w g u v) = delta (un8 w) (un8 g) (un8 u) (un8 v) := rfl
theorem un9_newM : un9 (newM g u) = newM (un9 g) (un9 u) := rfl
theorem un9_newV : un9 (newV g v) = newV (un9 g) (un9 v) := rfl
theorem un9_delta : un9 (delta w g u v) = delta (un9 w) (un9 g) (un9 u) (un9 v) := rfl
end

variable (m : (ℓ : Loc nD τ sig) → Buf (Elt Ideal) ℓ)

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

set_option maxHeartbeats 4000000 in
theorem final4 (c : Dev nD) : (dats m 0 c).arrAt 4 cfg0.N = delta (V m c main_v58) (V m c main_v88) (V m c main_v118) (V m c main_v148) := by
  refine (dats m 0 c).arrAt_eq_of_covers 4 _ (by decide +kernel) fun t hf y => ?_
  blk_simp
  rw [after0_4]; frame_out
  rw [show (y : S144x128.Idx) = ix2 (y 0) (y 1) from eq_ix2 y]
  unfold delta
  refine (pay4_apply _ _ _ _ _ _).trans (stepD_congr ?_ ?_ ?_ ?_)
  · blk_simp [iblk]; refine congrArg _ ?_; blk_ext [(idx0 t).1, (idx0 t).2.2.2.2.1]
  · blk_simp [iblk]; refine congrArg _ ?_; blk_ext [(idx0 t).2.1, (idx0 t).2.2.2.2.1]
  · blk_simp [iblk]; refine congrArg _ ?_; blk_ext [(idx0 t).2.2.1, (idx0 t).2.2.2.2.1]
  · blk_simp [iblk]; refine congrArg _ ?_; blk_ext [(idx0 t).2.2.2.1, (idx0 t).2.2.2.2.1]
set_option maxHeartbeats 4000000 in
theorem final5 (c : Dev nD) : (dats m 0 c).arrAt 5 cfg0.N = newM (V m c main_v88) (V m c main_v118) := by
  refine (dats m 0 c).arrAt_eq_of_covers 5 _ (by decide +kernel) fun t hf y => ?_
  blk_simp
  rw [after0_5]; frame_out
  rw [show (y : S144x128.Idx) = ix2 (y 0) (y 1) from eq_ix2 y]
  unfold newM
  refine (pay2_apply _ _ _ _).trans (stepM_congr ?_ ?_)
  · blk_simp [iblk]; refine congrArg _ ?_; blk_ext [(idx0 t).2.1, (idx0 t).2.2.2.2.2.1]
  · blk_simp [iblk]; refine congrArg _ ?_; blk_ext [(idx0 t).2.2.1, (idx0 t).2.2.2.2.2.1]
set_option maxHeartbeats 4000000 in
theorem final6 (c : Dev nD) : (dats m 0 c).arrAt 6 cfg0.N = newV (V m c main_v88) (V m c main_v148) := by
  refine (dats m 0 c).arrAt_eq_of_covers 6 _ (by decide +kernel) fun t hf y => ?_
  blk_simp
  rw [after0_6]; frame_out
  rw [show (y : S144x128.Idx) = ix2 (y 0) (y 1) from eq_ix2 y]
  unfold newV
  refine (pay3_apply _ _ _ _).trans (stepV_congr ?_ ?_)
  · blk_simp [iblk]; refine congrArg _ ?_; blk_ext [(idx0 t).2.1, (idx0 t).2.2.2.2.2.2]
  · blk_simp [iblk]; refine congrArg _ ?_; blk_ext [(idx0 t).2.2.2.1, (idx0 t).2.2.2.2.2.2]

end Cert.Kernel6Ideal.Small

end
-- ==== Proof.Sm.HostW.lean ====
/- The weights as the call finds them. -/
module

public import proofs.«01_k».proof.Defs
public import Idealize.ShloMosaic.Lib.Pipeline.ValueKit
public import Idealize.ShloMosaic.Lib.Pointwise
public import proofs.«01_k».proof.Proof.Sm.Pack
public import proofs.«01_k».proof.Proof.Gen.Kernel6Ideal.Frame

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 20000000 in
theorem V_v58 (c : Dev nD) : V m c main_v58 = packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100]) _ (Proc.devRef .tc main_v58) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, List.flatten_cons, List.flatten_nil, List.append_nil, List.cons_append, List.nil_append]
  after_results_simp <;> rfl

end Cert.Kernel6Ideal.Small

end
-- ==== Proof.Sm.HostG.lean ====
/- The gradients as the call finds them. -/
module

public import proofs.«01_k».proof.Defs
public import Idealize.ShloMosaic.Lib.Pipeline.ValueKit
public import Idealize.ShloMosaic.Lib.Pointwise
public import proofs.«01_k».proof.Proof.Sm.Pack
public import proofs.«01_k».proof.Proof.Gen.Kernel6Ideal.Frame

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 20000000 in
theorem V_v88 (c : Dev nD) : V m c main_v88 = packed (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100]) _ (Proc.devRef .tc main_v88) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, List.flatten_cons, List.flatten_nil, List.append_nil, List.cons_append, List.nil_append]
  after_results_simp <;> rfl

end Cert.Kernel6Ideal.Small

end
-- ==== Proof.Sm.HostM.lean ====
/- The first moments as the call finds them. -/
module

public import proofs.«01_k».proof.Defs
public import Idealize.ShloMosaic.Lib.Pipeline.ValueKit
public import Idealize.ShloMosaic.Lib.Pointwise
public import proofs.«01_k».proof.Proof.Sm.Pack
public import proofs.«01_k».proof.Proof.Gen.Kernel6Ideal.Frame

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 20000000 in
theorem V_v118 (c : Dev nD) : V m c main_v118 = packed (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100]) _ (Proc.devRef .tc main_v118) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, List.flatten_cons, List.flatten_nil, List.append_nil, List.cons_append, List.nil_append]
  after_results_simp <;> rfl

end Cert.Kernel6Ideal.Small

end
-- ==== Proof.Sm.HostV.lean ====
/- The second moments as the call finds them. -/
module

public import proofs.«01_k».proof.Defs
public import Idealize.ShloMosaic.Lib.Pipeline.ValueKit
public import Idealize.ShloMosaic.Lib.Pointwise
public import proofs.«01_k».proof.Proof.Sm.Pack
public import proofs.«01_k».proof.Proof.Gen.Kernel6Ideal.Frame

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 20000000 in
theorem V_v148 (c : Dev nD) : V m c main_v148 = packed (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) (m ((c : Thread nD τ).loc main_arg37)) (m ((c : Thread nD τ).loc main_arg38)) (m ((c : Thread nD τ).loc main_arg39)) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100]) _ (Proc.devRef .tc main_v148) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, List.flatten_cons, List.flatten_nil, List.append_nil, List.cons_append, List.nil_append]
  after_results_simp <;> rfl

end Cert.Kernel6Ideal.Small

end
-- ==== Proof.Sm.TailD.lean ====
/- The changes of the small weights as the lines after the call leave them. -/
module

public import proofs.«01_k».proof.Defs
public import Idealize.ShloMosaic.Lib.Pipeline.ValueKit
public import Idealize.ShloMosaic.Lib.Pointwise
public import proofs.«01_k».proof.Proof.Sm.Step
public import proofs.«01_k».proof.Proof.Sm.HostW
public import proofs.«01_k».proof.Proof.Sm.HostG
public import proofs.«01_k».proof.Proof.Sm.HostM
public import proofs.«01_k».proof.Proof.Sm.HostV

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 4000000 in
theorem outD0 (c : Dev nD) : Pipeline.afterTail₀ cfgs (dats m) 0 (V0 m) [hostOps1] c main_v152 = delta (m ((c : Thread nD τ).loc main_arg0)) (m ((c : Thread nD τ).loc main_arg10)) (m ((c : Thread nD τ).loc main_arg20)) (m ((c : Thread nD τ).loc main_arg30)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v152 = un0 ((dats m 0 c).arrAt 4 cfg0.N) := by
    show StableHlo.after hostOps1 _ (Proc.devRef .tc main_v152) = _
    rw [← e]
    simp only [hostOps1]
    after_results_simp <;> rfl
  rw [h, final4, V_v58, V_v88, V_v118, V_v148, un0_delta, un_packed0, un_packed0, un_packed0, un_packed0]
set_option maxHeartbeats 4000000 in
theorem outD1 (c : Dev nD) : Pipeline.afterTail₀ cfgs (dats m) 0 (V0 m) [hostOps1] c main_v161 = delta (m ((c : Thread nD τ).loc main_arg1)) (m ((c : Thread nD τ).loc main_arg11)) (m ((c : Thread nD τ).loc main_arg21)) (m ((c : Thread nD τ).loc main_arg31)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v161 = un1 ((dats m 0 c).arrAt 4 cfg0.N) := by
    show StableHlo.after hostOps1 _ (Proc.devRef .tc main_v161) = _
    rw [← e]
    simp only [hostOps1]
    after_results_simp <;> rfl
  rw [h, final4, V_v58, V_v88, V_v118, V_v148, un1_delta, un_packed1, un_packed1, un_packed1, un_packed1]
set_option maxHeartbeats 4000000 in
theorem outD2 (c : Dev nD) : Pipeline.afterTail₀ cfgs (dats m) 0 (V0 m) [hostOps1] c main_v171 = delta (m ((c : Thread nD τ).loc main_arg2)) (m ((c : Thread nD τ).loc main_arg12)) (m ((c : Thread nD τ).loc main_arg22)) (m ((c : Thread nD τ).loc main_arg32)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v171 = un2 ((dats m 0 c).arrAt 4 cfg0.N) := by
    show StableHlo.after hostOps1 _ (Proc.devRef .tc main_v171) = _
    rw [← e]
    simp only [hostOps1]
    after_results_simp <;> rfl
  rw [h, final4, V_v58, V_v88, V_v118, V_v148, un2_delta, un_packed2, un_packed2, un_packed2, un_packed2]
set_option maxHeartbeats 4000000 in
theorem outD3 (c : Dev nD) : Pipeline.afterTail₀ cfgs (dats m) 0 (V0 m) [hostOps1] c main_v183 = delta (m ((c : Thread nD τ).loc main_arg3)) (m ((c : Thread nD τ).loc main_arg13)) (m ((c : Thread nD τ).loc main_arg23)) (m ((c : Thread nD τ).loc main_arg33)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v183 = un3 ((dats m 0 c).arrAt 4 cfg0.N) := by
    show StableHlo.after hostOps1 _ (Proc.devRef .tc main_v183) = _
    rw [← e]
    simp only [hostOps1]
    after_results_simp <;> rfl
  rw [h, final4, V_v58, V_v88, V_v118, V_v148, un3_delta, un_packed3, un_packed3, un_packed3, un_packed3]
set_option maxHeartbeats 4000000 in
theorem outD4 (c : Dev nD) : Pipeline.afterTail₀ cfgs (dats m) 0 (V0 m) [hostOps1] c main_v195 = delta (m ((c : Thread nD τ).loc main_arg4)) (m ((c : Thread nD τ).loc main_arg14)) (m ((c : Thread nD τ).loc main_arg24)) (m ((c : Thread nD τ).loc main_arg34)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v195 = un4 ((dats m 0 c).arrAt 4 cfg0.N) := by
    show StableHlo.after hostOps1 _ (Proc.devRef .tc main_v195) = _
    rw [← e]
    simp only [hostOps1]
    after_results_simp <;> rfl
  rw [h, final4, V_v58, V_v88, V_v118, V_v148, un4_delta, un_packed4, un_packed4, un_packed4, un_packed4]
set_option maxHeartbeats 4000000 in
theorem outD5 (c : Dev nD) : Pipeline.afterTail₀ cfgs (dats m) 0 (V0 m) [hostOps1] c main_v207 = delta (m ((c : Thread nD τ).loc main_arg5)) (m ((c : Thread nD τ).loc main_arg15)) (m ((c : Thread nD τ).loc main_arg25)) (m ((c : Thread nD τ).loc main_arg35)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v207 = un5 ((dats m 0 c).arrAt 4 cfg0.N) := by
    show StableHlo.after hostOps1 _ (Proc.devRef .tc main_v207) = _
    rw [← e]
    simp only [hostOps1]
    after_results_simp <;> rfl
  rw [h, final4, V_v58, V_v88, V_v118, V_v148, un5_delta, un_packed5, un_packed5, un_packed5, un_packed5]
set_option maxHeartbeats 4000000 in
theorem outD6 (c : Dev nD) : Pipeline.afterTail₀ cfgs (dats m) 0 (V0 m) [hostOps1] c main_v218 = delta (m ((c : Thread nD τ).loc main_arg6)) (m ((c : Thread nD τ).loc main_arg16)) (m ((c : Thread nD τ).loc main_arg26)) (m ((c : Thread nD τ).loc main_arg36)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v218 = un6 ((dats m 0 c).arrAt 4 cfg0.N) := by
    show StableHlo.after hostOps1 _ (Proc.devRef .tc main_v218) = _
    rw [← e]
    simp only [hostOps1]
    after_results_simp <;> rfl
  rw [h, final4, V_v58, V_v88, V_v118, V_v148, un6_delta, un_packed6, un_packed6, un_packed6, un_packed6]
set_option maxHeartbeats 4000000 in
theorem outD7 (c : Dev nD) : Pipeline.afterTail₀ cfgs (dats m) 0 (V0 m) [hostOps1] c main_v226 = delta (m ((c : Thread nD τ).loc main_arg7)) (m ((c : Thread nD τ).loc main_arg17)) (m ((c : Thread nD τ).loc main_arg27)) (m ((c : Thread nD τ).loc main_arg37)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v226 = un7 ((dats m 0 c).arrAt 4 cfg0.N) := by
    show StableHlo.after hostOps1 _ (Proc.devRef .tc main_v226) = _
    rw [← e]
    simp only [hostOps1]
    after_results_simp <;> rfl
  rw [h, final4, V_v58, V_v88, V_v118, V_v148, un7_delta, un_packed7, un_packed7, un_packed7, un_packed7]
set_option maxHeartbeats 4000000 in
theorem outD8 (c : Dev nD) : Pipeline.afterTail₀ cfgs (dats m) 0 (V0 m) [hostOps1] c main_v233 = delta (m ((c : Thread nD τ).loc main_arg8)) (m ((c : Thread nD τ).loc main_arg18)) (m ((c : Thread nD τ).loc main_arg28)) (m ((c : Thread nD τ).loc main_arg38)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v233 = un8 ((dats m 0 c).arrAt 4 cfg0.N) := by
    show StableHlo.after hostOps1 _ (Proc.devRef .tc main_v233) = _
    rw [← e]
    simp only [hostOps1]
    after_results_simp <;> rfl
  rw [h, final4, V_v58, V_v88, V_v118, V_v148, un8_delta, un_packed8, un_packed8, un_packed8, un_packed8]
set_option maxHeartbeats 4000000 in
theorem outD9 (c : Dev nD) : Pipeline.afterTail₀ cfgs (dats m) 0 (V0 m) [hostOps1] c main_v243 = delta (m ((c : Thread nD τ).loc main_arg9)) (m ((c : Thread nD τ).loc main_arg19)) (m ((c : Thread nD τ).loc main_arg29)) (m ((c : Thread nD τ).loc main_arg39)) := by
  have e : Pipeline.withArrays (cfgs 0).spec c (V0 m c) (fun w => (dats m 0 c).arrAt w (cfgs 0).N) (Proc.devRef .tc main_v149_0) = (dats m 0 c).arrAt 4 cfg0.N :=
    Pipeline.withArrays_arr spec0 launch0.win.arr_inj c (V0 m c) (fun w => (dats m 0 c).arrAt w cfg0.N) 4
  have h : Pipeline.afterTail₀ cfgs (dats m) 0 (V0 m) [hostOps1] c main_v243 = un9 ((dats m 0 c).arrAt 4 cfg0.N) := by
    show StableHlo.after hostOps1 _ (Proc.devRef .tc main_v243) = _
    rw [← e]
    simp only [hostOps1]
    after_results_simp <;> rfl
  rw [h, final4, V_v58, V_v88, V_v118, V_v148, un9_delta, un_packed9, un_packed9, un_packed9, un_packed9]

end Cert.Kernel6Ideal.Small

end
-- ==== Proof.Sm.TailM.lean ====
/- The new first moments as the lines after the call leave them. -/
module

public import proofs.«01_k».proof.Defs
public import Idealize.ShloMosaic.Lib.Pipeline.ValueKit
public import Idealize.ShloMosaic.Lib.Pointwise
public import proofs.«01_k».proof.Proof.Sm.Step
public import proofs.«01_k».proof.Proof.Sm.HostG
public import proofs.«01_k».proof.Proof.Sm.HostM

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 4000000 in
theorem outM0 (c : Dev nD) : Pipeline.afterTail₀ cfgs (dats m) 0 (V0 m) [hostOps1] c main_v155 = newM (m ((c : Thread nD τ).loc main_arg10)) (m ((c : Thread nD τ).loc main_arg20)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v155 = un0 ((dats m 0 c).arrAt 5 cfg0.N) := by
    show StableHlo.after hostOps1 _ (Proc.devRef .tc main_v155) = _
    rw [← e]
    simp only [hostOps1]
    after_results_simp <;> rfl
  rw [h, final5, V_v88, V_v118, un0_newM, un_packed0, un_packed0]
set_option maxHeartbeats 4000000 in
theorem outM1 (c : Dev nD) : Pipeline.afterTail₀ cfgs (dats m) 0 (V0 m) [hostOps1] c main_v164 = newM (m ((c : Thread nD τ).loc main_arg11)) (m ((c : Thread nD τ).loc main_arg21)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v164 = un1 ((dats m 0 c).arrAt 5 cfg0.N) := by
    show StableHlo.after hostOps1 _ (Proc.devRef .tc main_v164) = _
    rw [← e]
    simp only [hostOps1]
    after_results_simp <;> rfl
  rw [h, final5, V_v88, V_v118, un1_newM, un_packed1, un_packed1]
set_option maxHeartbeats 4000000 in
theorem outM2 (c : Dev nD) : Pipeline.afterTail₀ cfgs (dats m) 0 (V0 m) [hostOps1] c main_v175 = newM (m ((c : Thread nD τ).loc main_arg12)) (m ((c : Thread nD τ).loc main_arg22)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v175 = un2 ((dats m 0 c).arrAt 5 cfg0.N) := by
    show StableHlo.after hostOps1 _ (Proc.devRef .tc main_v175) = _
    rw [← e]
    simp only [hostOps1]
    after_results_simp <;> rfl
  rw [h, final5, V_v88, V_v118, un2_newM, un_packed2, un_packed2]
set_option maxHeartbeats 4000000 in
theorem outM3 (c : Dev nD) : Pipeline.afterTail₀ cfgs (dats m) 0 (V0 m) [hostOps1] c main_v187 = newM (m ((c : Thread nD τ).loc main_arg13)) (m ((c : Thread nD τ).loc main_arg23)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v187 = un3 ((dats m 0 c).arrAt 5 cfg0.N) := by
    show StableHlo.after hostOps1 _ (Proc.devRef .tc main_v187) = _
    rw [← e]
    simp only [hostOps1]
    after_results_simp <;> rfl
  rw [h, final5, V_v88, V_v118, un3_newM, un_packed3, un_packed3]
set_option maxHeartbeats 4000000 in
theorem outM4 (c : Dev nD) : Pipeline.afterTail₀ cfgs (dats m) 0 (V0 m) [hostOps1] c main_v199 = newM (m ((c : Thread nD τ).loc main_arg14)) (m ((c : Thread nD τ).loc main_arg24)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v199 = un4 ((dats m 0 c).arrAt 5 cfg0.N) := by
    show StableHlo.after hostOps1 _ (Proc.devRef .tc main_v199) = _
    rw [← e]
    simp only [hostOps1]
    after_results_simp <;> rfl
  rw [h, final5, V_v88, V_v118, un4_newM, un_packed4, un_packed4]
set_option maxHeartbeats 4000000 in
theorem outM5 (c : Dev nD) : Pipeline.afterTail₀ cfgs (dats m) 0 (V0 m) [hostOps1] c main_v211 = newM (m ((c : Thread nD τ).loc main_arg15)) (m ((c : Thread nD τ).loc main_arg25)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v211 = un5 ((dats m 0 c).arrAt 5 cfg0.N) := by
    show StableHlo.after hostOps1 _ (Proc.devRef .tc main_v211) = _
    rw [← e]
    simp only [hostOps1]
    after_results_simp <;> rfl
  rw [h, final5, V_v88, V_v118, un5_newM, un_packed5, un_packed5]
set_option maxHeartbeats 4000000 in
theorem outM6 (c : Dev nD) : Pipeline.afterTail₀ cfgs (dats m) 0 (V0 m) [hostOps1] c main_v221 = newM (m ((c : Thread nD τ).loc main_arg16)) (m ((c : Thread nD τ).loc main_arg26)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v221 = un6 ((dats m 0 c).arrAt 5 cfg0.N) := by
    show StableHlo.after hostOps1 _ (Proc.devRef .tc main_v221) = _
    rw [← e]
    simp only [hostOps1]
    after_results_simp <;> rfl
  rw [h, final5, V_v88, V_v118, un6_newM, un_packed6, un_packed6]
set_option maxHeartbeats 4000000 in
theorem outM7 (c : Dev nD) : Pipeline.afterTail₀ cfgs (dats m) 0 (V0 m) [hostOps1] c main_v228 = newM (m ((c : Thread nD τ).loc main_arg17)) (m ((c : Thread nD τ).loc main_arg27)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v228 = un7 ((dats m 0 c).arrAt 5 cfg0.N) := by
    show StableHlo.after hostOps1 _ (Proc.devRef .tc main_v228) = _
    rw [← e]
    simp only [hostOps1]
    after_results_simp <;> rfl
  rw [h, final5, V_v88, V_v118, un7_newM, un_packed7, un_packed7]
set_option maxHeartbeats 4000000 in
theorem outM8 (c : Dev nD) : Pipeline.afterTail₀ cfgs (dats m) 0 (V0 m) [hostOps1] c main_v236 = newM (m ((c : Thread nD τ).loc main_arg18)) (m ((c : Thread nD τ).loc main_arg28)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v236 = un8 ((dats m 0 c).arrAt 5 cfg0.N) := by
    show StableHlo.after hostOps1 _ (Proc.devRef .tc main_v236) = _
    rw [← e]
    simp only [hostOps1]
    after_results_simp <;> rfl
  rw [h, final5, V_v88, V_v118, un8_newM, un_packed8, un_packed8]
set_option maxHeartbeats 4000000 in
theorem outM9 (c : Dev nD) : Pipeline.afterTail₀ cfgs (dats m) 0 (V0 m) [hostOps1] c main_v247 = newM (m ((c : Thread nD τ).loc main_arg19)) (m ((c : Thread nD τ).loc main_arg29)) := by
  have e : Pipeline.withArrays (cfgs 0).spec c (V0 m c) (fun w => (dats m 0 c).arrAt w (cfgs 0).N) (Proc.devRef .tc main_v149_1) = (dats m 0 c).arrAt 5 cfg0.N :=
    Pipeline.withArrays_arr spec0 launch0.win.arr_inj c (V0 m c) (fun w => (dats m 0 c).arrAt w cfg0.N) 5
  have h : Pipeline.afterTail₀ cfgs (dats m) 0 (V0 m) [hostOps1] c main_v247 = un9 ((dats m 0 c).arrAt 5 cfg0.N) := by
    show StableHlo.after hostOps1 _ (Proc.devRef .tc main_v247) = _
    rw [← e]
    simp only [hostOps1]
    after_results_simp <;> rfl
  rw [h, final5, V_v88, V_v118, un9_newM, un_packed9, un_packed9]

end Cert.Kernel6Ideal.Small

end
-- ==== Proof.Sm.TailV.lean ====
/- The new second moments as the lines after the call leave them. -/
module

public import proofs.«01_k».proof.Defs
public import Idealize.ShloMosaic.Lib.Pipeline.ValueKit
public import Idealize.ShloMosaic.Lib.Pointwise
public import proofs.«01_k».proof.Proof.Sm.Step
public import proofs.«01_k».proof.Proof.Sm.HostG
public import proofs.«01_k».proof.Proof.Sm.HostV

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ)

set_option maxHeartbeats 4000000 in
theorem outV0 (c : Dev nD) : Pipeline.afterTail₀ cfgs (dats m) 0 (V0 m) [hostOps1] c main_v158 = newV (m ((c : Thread nD τ).loc main_arg10)) (m ((c : Thread nD τ).loc main_arg30)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v158 = un0 ((dats m 0 c).arrAt 6 cfg0.N) := by
    show StableHlo.after hostOps1 _ (Proc.devRef .tc main_v158) = _
    rw [← e]
    simp only [hostOps1]
    after_results_simp <;> rfl
  rw [h, final6, V_v88, V_v148, un0_newV, un_packed0, un_packed0]
set_option maxHeartbeats 4000000 in
theorem outV1 (c : Dev nD) : Pipeline.afterTail₀ cfgs (dats m) 0 (V0 m) [hostOps1] c main_v167 = newV (m ((c : Thread nD τ).loc main_arg11)) (m ((c : Thread nD τ).loc main_arg31)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v167 = un1 ((dats m 0 c).arrAt 6 cfg0.N) := by
    show StableHlo.after hostOps1 _ (Proc.devRef .tc main_v167) = _
    rw [← e]
    simp only [hostOps1]
    after_results_simp <;> rfl
  rw [h, final6, V_v88, V_v148, un1_newV, un_packed1, un_packed1]
set_option maxHeartbeats 4000000 in
theorem outV2 (c : Dev nD) : Pipeline.afterTail₀ cfgs (dats m) 0 (V0 m) [hostOps1] c main_v179 = newV (m ((c : Thread nD τ).loc main_arg12)) (m ((c : Thread nD τ).loc main_arg32)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v179 = un2 ((dats m 0 c).arrAt 6 cfg0.N) := by
    show StableHlo.after hostOps1 _ (Proc.devRef .tc main_v179) = _
    rw [← e]
    simp only [hostOps1]
    after_results_simp <;> rfl
  rw [h, final6, V_v88, V_v148, un2_newV, un_packed2, un_packed2]
set_option maxHeartbeats 4000000 in
theorem outV3 (c : Dev nD) : Pipeline.afterTail₀ cfgs (dats m) 0 (V0 m) [hostOps1] c main_v191 = newV (m ((c : Thread nD τ).loc main_arg13)) (m ((c : Thread nD τ).loc main_arg33)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v191 = un3 ((dats m 0 c).arrAt 6 cfg0.N) := by
    show StableHlo.after hostOps1 _ (Proc.devRef .tc main_v191) = _
    rw [← e]
    simp only [hostOps1]
    after_results_simp <;> rfl
  rw [h, final6, V_v88, V_v148, un3_newV, un_packed3, un_packed3]
set_option maxHeartbeats 4000000 in
theorem outV4 (c : Dev nD) : Pipeline.afterTail₀ cfgs (dats m) 0 (V0 m) [hostOps1] c main_v203 = newV (m ((c : Thread nD τ).loc main_arg14)) (m ((c : Thread nD τ).loc main_arg34)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v203 = un4 ((dats m 0 c).arrAt 6 cfg0.N) := by
    show StableHlo.after hostOps1 _ (Proc.devRef .tc main_v203) = _
    rw [← e]
    simp only [hostOps1]
    after_results_simp <;> rfl
  rw [h, final6, V_v88, V_v148, un4_newV, un_packed4, un_packed4]
set_option maxHeartbeats 4000000 in
theorem outV5 (c : Dev nD) : Pipeline.afterTail₀ cfgs (dats m) 0 (V0 m) [hostOps1] c main_v215 = newV (m ((c : Thread nD τ).loc main_arg15)) (m ((c : Thread nD τ).loc main_arg35)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v215 = un5 ((dats m 0 c).arrAt 6 cfg0.N) := by
    show StableHlo.after hostOps1 _ (Proc.devRef .tc main_v215) = _
    rw [← e]
    simp only [hostOps1]
    after_results_simp <;> rfl
  rw [h, final6, V_v88, V_v148, un5_newV, un_packed5, un_packed5]
set_option maxHeartbeats 4000000 in
theorem outV6 (c : Dev nD) : Pipeline.afterTail₀ cfgs (dats m) 0 (V0 m) [hostOps1] c main_v224 = newV (m ((c : Thread nD τ).loc main_arg16)) (m ((c : Thread nD τ).loc main_arg36)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v224 = un6 ((dats m 0 c).arrAt 6 cfg0.N) := by
    show StableHlo.after hostOps1 _ (Proc.devRef .tc main_v224) = _
    rw [← e]
    simp only [hostOps1]
    after_results_simp <;> rfl
  rw [h, final6, V_v88, V_v148, un6_newV, un_packed6, un_packed6]
set_option maxHeartbeats 4000000 in
theorem outV7 (c : Dev nD) : Pipeline.afterTail₀ cfgs (dats m) 0 (V0 m) [hostOps1] c main_v230 = newV (m ((c : Thread nD τ).loc main_arg17)) (m ((c : Thread nD τ).loc main_arg37)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v230 = un7 ((dats m 0 c).arrAt 6 cfg0.N) := by
    show StableHlo.after hostOps1 _ (Proc.devRef .tc main_v230) = _
    rw [← e]
    simp only [hostOps1]
    after_results_simp <;> rfl
  rw [h, final6, V_v88, V_v148, un7_newV, un_packed7, un_packed7]
set_option maxHeartbeats 4000000 in
theorem outV8 (c : Dev nD) : Pipeline.afterTail₀ cfgs (dats m) 0 (V0 m) [hostOps1] c main_v239 = newV (m ((c : Thread nD τ).loc main_arg18)) (m ((c : Thread nD τ).loc main_arg38)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v239 = un8 ((dats m 0 c).arrAt 6 cfg0.N) := by
    show StableHlo.after hostOps1 _ (Proc.devRef .tc main_v239) = _
    rw [← e]
    simp only [hostOps1]
    after_results_simp <;> rfl
  rw [h, final6, V_v88, V_v148, un8_newV, un_packed8, un_packed8]
set_option maxHeartbeats 4000000 in
theorem outV9 (c : Dev nD) : Pipeline.afterTail₀ cfgs (dats m) 0 (V0 m) [hostOps1] c main_v251 = newV (m ((c : Thread nD τ).loc main_arg19)) (m ((c : Thread nD τ).loc main_arg39)) := by
  have e : Pipeline.withArrays (cfgs 0).spec c (V0 m c) (fun w => (dats m 0 c).arrAt w (cfgs 0).N) (Proc.devRef .tc main_v149_2) = (dats m 0 c).arrAt 6 cfg0.N :=
    Pipeline.withArrays_arr spec0 launch0.win.arr_inj c (V0 m c) (fun w => (dats m 0 c).arrAt w cfg0.N) 6
  have h : Pipeline.afterTail₀ cfgs (dats m) 0 (V0 m) [hostOps1] c main_v251 = un9 ((dats m 0 c).arrAt 6 cfg0.N) := by
    show StableHlo.after hostOps1 _ (Proc.devRef .tc main_v251) = _
    rw [← e]
    simp only [hostOps1]
    after_results_simp <;> rfl
  rw [h, final6, V_v88, V_v148, un9_newV, un_packed9, un_packed9]

end Cert.Kernel6Ideal.Small

end
-- ==== Proof.Sm.Claim.lean ====
/- The call on the small weights against the plain program. -/
module

public import proofs.«01_k».proof.Defs
public import Idealize.ShloMosaic.Lib.Pipeline.ValueKit
public import Idealize.ShloMosaic.Lib.Pointwise
public import proofs.«01_k».proof.Proof.Sm.TailD
public import proofs.«01_k».proof.Proof.Sm.TailM
public import proofs.«01_k».proof.Proof.Sm.TailV
public import proofs.«01_k».proof.Proof.Gen.Reference6Ideal.Run

@[expose] public section

set_option maxRecDepth 16384

noncomputable section

namespace Cert.Kernel6Ideal.Small

open Idealize.ShloMosaic Idealize.ShloMosaic.TcCoe Idealize.SL Idealize.SL.Sem
open Cert.Kernel6Ideal Cert.Kernel6Ideal.Gen Cert.AdamRule

variable (m : (ℓ : Loc nD τ sig) → Buf (Elt Ideal) ℓ) (ρ : Dev nD → PrngReg)

set_option maxHeartbeats 8000000 in
/-- The run with its results, the arguments as launched. -/
theorem run : θ_run defs (onTc (τ := τ) (main (F := Ideal))) ⟨m, fun _ => 0, ρ⟩ (fun r => ∀ c : Dev nD,
      r.2.mem ((c.tc : Thread nD τ).loc main_v152) = delta (m ((c : Thread nD τ).loc main_arg0)) (m ((c : Thread nD τ).loc main_arg10)) (m ((c : Thread nD τ).loc main_arg20)) (m ((c : Thread nD τ).loc main_arg30))
      ∧ r.2.mem ((c.tc : Thread nD τ).loc main_v161) = delta (m ((c : Thread nD τ).loc main_arg1)) (m ((c : Thread nD τ).loc main_arg11)) (m ((c : Thread nD τ).loc main_arg21)) (m ((c : Thread nD τ).loc main_arg31))
      ∧ r.2.mem ((c.tc : Thread nD τ).loc main_v171) = delta (m ((c : Thread nD τ).loc main_arg2)) (m ((c : Thread nD τ).loc main_arg12)) (m ((c : Thread nD τ).loc main_arg22)) (m ((c : Thread nD τ).loc main_arg32))
      ∧ r.2.mem ((c.tc : Thread nD τ).loc main_v183) = delta (m ((c : Thread nD τ).loc main_arg3)) (m ((c : Thread nD τ).loc main_arg13)) (m ((c : Thread nD τ).loc main_arg23)) (m ((c : Thread nD τ).loc main_arg33))
      ∧ r.2.mem ((c.tc : Thread nD τ).loc main_v195) = delta (m ((c : Thread nD τ).loc main_arg4)) (m ((c : Thread nD τ).loc main_arg14)) (m ((c : Thread nD τ).loc main_arg24)) (m ((c : Thread nD τ).loc main_arg34))
      ∧ r.2.mem ((c.tc : Thread nD τ).loc main_v207) = delta (m ((c : Thread nD τ).loc main_arg5)) (m ((c : Thread nD τ).loc main_arg15)) (m ((c : Thread nD τ).loc main_arg25)) (m ((c : Thread nD τ).loc main_arg35))
      ∧ r.2.mem ((c.tc : Thread nD τ).loc main_v218) = delta (m ((c : Thread nD τ).loc main_arg6)) (m ((c : Thread nD τ).loc main_arg16)) (m ((c : Thread nD τ).loc main_arg26)) (m ((c : Thread nD τ).loc main_arg36))
      ∧ r.2.mem ((c.tc : Thread nD τ).loc main_v226) = delta (m ((c : Thread nD τ).loc main_arg7)) (m ((c : Thread nD τ).loc main_arg17)) (m ((c : Thread nD τ).loc main_arg27)) (m ((c : Thread nD τ).loc main_arg37))
      ∧ r.2.mem ((c.tc : Thread nD τ).loc main_v233) = delta (m ((c : Thread nD τ).loc main_arg8)) (m ((c : Thread nD τ).loc main_arg18)) (m ((c : Thread nD τ).loc main_arg28)) (m ((c : Thread nD τ).loc main_arg38))
      ∧ r.2.mem ((c.tc : Thread nD τ).loc main_v243) = delta (m ((c : Thread nD τ).loc main_arg9)) (m ((c : Thread nD τ).loc main_arg19)) (m ((c : Thread nD τ).loc main_arg29)) (m ((c : Thread nD τ).loc main_arg39))
      ∧ r.2.mem ((c.tc : Thread nD τ).loc main_v155) = newM (m ((c : Thread nD τ).loc main_arg10)) (m ((c : Thread nD τ).loc main_arg20))
      ∧ r.2.mem ((c.tc : Thread nD τ).loc main_v164) = newM (m ((c : Thread nD τ).loc main_arg11)) (m ((c : Thread nD τ).loc main_arg21))
      ∧ r.2.mem ((c.tc : Thread nD τ).loc main_v175) = newM (m ((c : Thread nD τ).loc main_arg12)) (m ((c : Thread nD τ).loc main_arg22))
      ∧ r.2.mem ((c.tc : Thread nD τ).loc main_v187) = newM (m ((c : Thread nD τ).loc main_arg13)) (m ((c : Thread nD τ).loc main_arg23))
      ∧ r.2.mem ((c.tc : Thread nD τ).loc main_v199) = newM (m ((c : Thread nD τ).loc main_arg14)) (m ((c : Thread nD τ).loc main_arg24))
      ∧ r.2.mem ((c.tc : Thread nD τ).loc main_v211) = newM (m ((c : Thread nD τ).loc main_arg15)) (m ((c : Thread nD τ).loc main_arg25))
      ∧ r.2.mem ((c.tc : Thread nD τ).loc main_v221) = newM (m ((c : Thread nD τ).loc main_arg16)) (m ((c : Thread nD τ).loc main_arg26))
      ∧ r.2.mem ((c.tc : Thread nD τ).loc main_v228) = newM (m ((c : Thread nD τ).loc main_arg17)) (m ((c : Thread nD τ).loc main_arg27))
      ∧ r.2.mem ((c.tc : Thread nD τ).loc main_v236) = newM (m ((c : Thread nD τ).loc main_arg18)) (m ((c : Thread nD τ).loc main_arg28))
      ∧ r.2.mem ((c.tc : Thread nD τ).loc main_v247) = newM (m ((c : Thread nD τ).loc main_arg19)) (m ((c : Thread nD τ).loc main_arg29))
      ∧ r.2.mem ((c.tc : Thread nD τ).loc main_v158) = newV (m ((c : Thread nD τ).loc main_arg10)) (m ((c : Thread nD τ).loc main_arg30))
      ∧ r.2.mem ((c.tc : Thread nD τ).loc main_v167) = newV (m ((c : Thread nD τ).loc main_arg11)) (m ((c : Thread nD τ).loc main_arg31))
      ∧ r.2.mem ((c.tc : Thread nD τ).loc main_v179) = newV (m ((c : Thread nD τ).loc main_arg12)) (m ((c : Thread nD τ).loc main_arg32))
      ∧ r.2.mem ((c.tc : Thread nD τ).loc main_v191) = newV (m ((c : Thread nD τ).loc main_arg13)) (m ((c : Thread nD τ).loc main_arg33))
      ∧ r.2.mem ((c.tc : Thread nD τ).loc main_v203) = newV (m ((c : Thread nD τ).loc main_arg14)) (m ((c : Thread nD τ).loc main_arg34))
      ∧ r.2.mem ((c.tc : Thread nD τ).loc main_v215) = newV (m ((c : Thread nD τ).loc main_arg15)) (m ((c : Thread nD τ).loc main_arg35))
      ∧ r.2.mem ((c.tc : Thread nD τ).loc main_v224) = newV (m ((c : Thread nD τ).loc main_arg16)) (m ((c : Thread nD τ).loc main_arg36))
      ∧ r.2.mem ((c.tc : Thread nD τ).loc main_v230) = newV (m ((c : Thread nD τ).loc main_arg17)) (m ((c : Thread nD τ).loc main_arg37))
      ∧ r.2.mem ((c.tc : Thread nD τ).loc main_v239) = newV (m ((c : Thread nD τ).loc main_arg18)) (m ((c : Thread nD τ).loc main_arg38))
      ∧ r.2.mem ((c.tc : Thread nD τ).loc main_v251) = newV (m ((c : Thread nD τ).loc main_arg19)) (m ((c : Thread nD τ).loc main_arg39))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)) :=
  (θ_run defs _ _).mono (fun _ h c =>
    ⟨((h c).2 main_v152 (Pipeline.mem_restRefs_of main_v152 (by decide) (by decide))).trans (outD0 m c),
     ((h c).2 main_v161 (Pipeline.mem_restRefs_of main_v161 (by decide) (by decide))).trans (outD1 m c),
     ((h c).2 main_v171 (Pipeline.mem_restRefs_of main_v171 (by decide) (by decide))).trans (outD2 m c),
     ((h c).2 main_v183 (Pipeline.mem_restRefs_of main_v183 (by decide) (by decide))).trans (outD3 m c),
     ((h c).2 main_v195 (Pipeline.mem_restRefs_of main_v195 (by decide) (by decide))).trans (outD4 m c),
     ((h c).2 main_v207 (Pipeline.mem_restRefs_of main_v207 (by decide) (by decide))).trans (outD5 m c),
     ((h c).2 main_v218 (Pipeline.mem_restRefs_of main_v218 (by decide) (by decide))).trans (outD6 m c),
     ((h c).2 main_v226 (Pipeline.mem_restRefs_of main_v226 (by decide) (by decide))).trans (outD7 m c),
     ((h c).2 main_v233 (Pipeline.mem_restRefs_of main_v233 (by decide) (by decide))).trans (outD8 m c),
     ((h c).2 main_v243 (Pipeline.mem_restRefs_of main_v243 (by decide) (by decide))).trans (outD9 m c),
     ((h c).2 main_v155 (Pipeline.mem_restRefs_of main_v155 (by decide) (by decide))).trans (outM0 m c),
     ((h c).2 main_v164 (Pipeline.mem_restRefs_of main_v164 (by decide) (by decide))).trans (outM1 m c),
     ((h c).2 main_v175 (Pipeline.mem_restRefs_of main_v175 (by decide) (by decide))).trans (outM2 m c),
     ((h c).2 main_v187 (Pipeline.mem_restRefs_of main_v187 (by decide) (by decide))).trans (outM3 m c),
     ((h c).2 main_v199 (Pipeline.mem_restRefs_of main_v199 (by decide) (by decide))).trans (outM4 m c),
     ((h c).2 main_v211 (Pipeline.mem_restRefs_of main_v211 (by decide) (by decide))).trans (outM5 m c),
     ((h c).2 main_v221 (Pipeline.mem_restRefs_of main_v221 (by decide) (by decide))).trans (outM6 m c),
     ((h c).2 main_v228 (Pipeline.mem_restRefs_of main_v228 (by decide) (by decide))).trans (outM7 m c),
     ((h c).2 main_v236 (Pipeline.mem_restRefs_of main_v236 (by decide) (by decide))).trans (outM8 m c),
     ((h c).2 main_v247 (Pipeline.mem_restRefs_of main_v247 (by decide) (by decide))).trans (outM9 m c),
     ((h c).2 main_v158 (Pipeline.mem_restRefs_of main_v158 (by decide) (by decide))).trans (outV0 m c),
     ((h c).2 main_v167 (Pipeline.mem_restRefs_of main_v167 (by decide) (by decide))).trans (outV1 m c),
     ((h c).2 main_v179 (Pipeline.mem_restRefs_of main_v179 (by decide) (by decide))).trans (outV2 m c),
     ((h c).2 main_v191 (Pipeline.mem_restRefs_of main_v191 (by decide) (by decide))).trans (outV3 m c),
     ((h c).2 main_v203 (Pipeline.mem_restRefs_of main_v203 (by decide) (by decide))).trans (outV4 m c),
     ((h c).2 main_v215 (Pipeline.mem_restRefs_of main_v215 (by decide) (by decide))).trans (outV5 m c),
     ((h c).2 main_v224 (Pipeline.mem_restRefs_of main_v224 (by decide) (by decide))).trans (outV6 m c),
     ((h c).2 main_v230 (Pipeline.mem_restRefs_of main_v230 (by decide) (by decide))).trans (outV7 m c),
     ((h c).2 main_v239 (Pipeline.mem_restRefs_of main_v239 (by decide) (by decide))).trans (outV8 m c),
     ((h c).2 main_v251 (Pipeline.mem_restRefs_of main_v251 (by decide) (by decide))).trans (outV9 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c),
     ((h c).2 main_arg14 (Pipeline.mem_restRefs_of main_arg14 (by decide) (by decide))).trans (W_main_arg14 m (dats m) c),
     ((h c).2 main_arg15 (Pipeline.mem_restRefs_of main_arg15 (by decide) (by decide))).trans (W_main_arg15 m (dats m) c),
     ((h c).2 main_arg16 (Pipeline.mem_restRefs_of main_arg16 (by decide) (by decide))).trans (W_main_arg16 m (dats m) c),
     ((h c).2 main_arg17 (Pipeline.mem_restRefs_of main_arg17 (by decide) (by decide))).trans (W_main_arg17 m (dats m) c),
     ((h c).2 main_arg18 (Pipeline.mem_restRefs_of main_arg18 (by decide) (by decide))).trans (W_main_arg18 m (dats m) c),
     ((h c).2 main_arg19 (Pipeline.mem_restRefs_of main_arg19 (by decide) (by decide))).trans (W_main_arg19 m (dats m) c),
     ((h c).2 main_arg20 (Pipeline.mem_restRefs_of main_arg20 (by decide) (by decide))).trans (W_main_arg20 m (dats m) c),
     ((h c).2 main_arg21 (Pipeline.mem_restRefs_of main_arg21 (by decide) (by decide))).trans (W_main_arg21 m (dats m) c),
     ((h c).2 main_arg22 (Pipeline.mem_restRefs_of main_arg22 (by decide) (by decide))).trans (W_main_arg22 m (dats m) c),
     ((h c).2 main_arg23 (Pipeline.mem_restRefs_of main_arg23 (by decide) (by decide))).trans (W_main_arg23 m (dats m) c),
     ((h c).2 main_arg24 (Pipeline.mem_restRefs_of main_arg24 (by decide) (by decide))).trans (W_main_arg24 m (dats m) c),
     ((h c).2 main_arg25 (Pipeline.mem_restRefs_of main_arg25 (by decide) (by decide))).trans (W_main_arg25 m (dats m) c),
     ((h c).2 main_arg26 (Pipeline.mem_restRefs_of main_arg26 (by decide) (by decide))).trans (W_main_arg26 m (dats m) c),
     ((h c).2 main_arg27 (Pipeline.mem_restRefs_of main_arg27 (by decide) (by decide))).trans (W_main_arg27 m (dats m) c),
     ((h c).2 main_arg28 (Pipeline.mem_restRefs_of main_arg28 (by decide) (by decide))).trans (W_main_arg28 m (dats m) c),
     ((h c).2 main_arg29 (Pipeline.mem_restRefs_of main_arg29 (by decide) (by decide))).trans (W_main_arg29 m (dats m) c),
     ((h c).2 main_arg30 (Pipeline.mem_restRefs_of main_arg30 (by decide) (by decide))).trans (W_main_arg30 m (dats m) c),
     ((h c).2 main_arg31 (Pipeline.mem_restRefs_of main_arg31 (by decide) (by decide))).trans (W_main_arg31 m (dats m) c),
     ((h c).2 main_arg32 (Pipeline.mem_restRefs_of main_arg32 (by decide) (by decide))).trans (W_main_arg32 m (dats m) c),
     ((h c).2 main_arg33 (Pipeline.mem_restRefs_of main_arg33 (by decide) (by decide))).trans (W_main_arg33 m (dats m) c),
     ((h c).2 main_arg34 (Pipeline.mem_restRefs_of main_arg34 (by decide) (by decide))).trans (W_main_arg34 m (dats m) c),
     ((h c).2 main_arg35 (Pipeline.mem_restRefs_of main_arg35 (by decide) (by decide))).trans (W_main_arg35 m (dats m) c),
     ((h c).2 main_arg36 (Pipeline.mem_restRefs_of main_arg36 (by decide) (by decide))).trans (W_main_arg36 m (dats m) c),
     ((h c).2 main_arg37 (Pipeline.mem_restRefs_of main_arg37 (by decide) (by decide))).trans (W_main_arg37 m (dats m) c),
     ((h c).2 main_arg38 (Pipeline.mem_restRefs_of main_arg38 (by decide) (by decide))).trans (W_main_arg38 m (dats m) c),
     ((h c).2 main_arg39 (Pipeline.mem_restRefs_of main_arg39 (by decide) (by decide))).trans (W_main_arg39 m (dats m) c)⟩) (run_main m ρ)

end Cert.Kernel6Ideal.Small

namespace Cert.Reference6Ideal.Small

open Idealize.ShloMosaic Idealize.ShloMosaic.TcCoe Idealize.SL.Sem
open Cert.Reference6Ideal Cert.Reference6Ideal.Gen Cert.AdamRule
open Cert.Kernel6Ideal.Small (newM newV delta)

section
variable {s : Shape} (b : S_.BroadcastsInDim s (![] : Fin 0 → Fin s.rank)) (w g u v : FVec Ideal s .f32)

/-- The plain program's new moments and change of a weight. -/
def mR : FVec Ideal s .f32 :=
  addf (mulf (broadcastInDim s ![] b (constant S_ .f32 0x3F666666#32)) u) (mulf (broadcastInDim s ![] b (constant S_ .f32 0x3DCCCCCD#32)) g)
def vR : FVec Ideal s .f32 :=
  addf (mulf (broadcastInDim s ![] b (constant S_ .f32 0x3F7FBE77#32)) v) (mulf (broadcastInDim s ![] b (constant S_ .f32 0x3A83126F#32)) (mulf g g))
def dR : FVec Ideal s .f32 :=
  mulf (broadcastInDim s ![] b (constant S_ .f32 0xBA83126F#32)) (addf (Host.divf (Host.divf (mR b g u) (broadcastInDim s ![] b (constant S_ .f32 0x3F26BD02#32))) (addf (Host.sqrt (Host.divf (vR b g v) (broadcastInDim s ![] b (constant S_ .f32 0x3C231ACC#32)))) (broadcastInDim s ![] b (constant S_ .f32 0x322BCC77#32)))) (mulf (broadcastInDim s ![] b (constant S_ .f32 0x3C23D70A#32)) w))

theorem m_eq : newM g u = mR b g u := rfl
theorem v_eq : newV g v = vR b g v := rfl
theorem d_eq : delta w g u v = dR b w g u v := rfl
end

/-- The plain program declares no counter. -/
theorem no_counter : ∀ _ : SemLoc Cert.Reference6Ideal.sig, False := by decide

/-- The plain program ends with its arguments as launched, and it has no counter. -/
theorem quiescent : Cert.quiescent_Reference6Ideal (hReference6Ideal := Cert.Reference6Ideal.Gen.facts) :=
  fun m ρ _ => (θ_run _ _ _).mono (fun _ h => ⟨fun c => (h c).2.2.2.2.2.2.2.2.2.2.2.2.2.2.2.2.2.2.2.2.2.2.2.2.2.2.2.2.2.2, funext fun g => (no_counter g.2).elim⟩) (Cert.Reference6Ideal.Value.run m ρ)

set_option maxHeartbeats 20000000 in
/-- The call and the plain program give the same results. -/
theorem algebraic : Cert.algebraic_Kernel6Ideal_Reference6Ideal (hKernel6Ideal := Cert.Kernel6Ideal.Gen.facts) (hReference6Ideal := Cert.Reference6Ideal.Gen.facts) := by
  intro m ρ m' ρ' _ hag
  refine ⟨_, _, _, _, _, _, _, _, _, _, _, _, _, _, _, _, _, _, _, _, _, _, _, _, _, _, _, _, _, _, Cert.Kernel6Ideal.Small.run m ρ, (θ_run _ _ _).mono (fun r h c => ?_) (Cert.Reference6Ideal.Value.run m' ρ')⟩
  obtain ⟨h0, h1, h2, h3, h4, h5, h6, h7, h8, h9, h10, h11, h12, h13, h14, h15, h16, h17, h18, h19, h20, h21, h22, h23, h24, h25, h26, h27, h28, h29, hargs⟩ := h c
  obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hag c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, hargs⟩
  · refine Eq.trans ?_ (d_eq bcast_S_S2x1024 _ _ _ _).symm
    rw [← a0, ← a10, ← a20, ← a30]; rfl
  · refine Eq.trans ?_ (d_eq bcast_S_S1x2048 _ _ _ _).symm
    rw [← a1, ← a11, ← a21, ← a31]; rfl
  · refine Eq.trans ?_ (d_eq bcast_S_S1x128 _ _ _ _).symm
    rw [← a2, ← a12, ← a22, ← a32]; rfl
  · refine Eq.trans ?_ (d_eq bcast_S_S1x8 _ _ _ _).symm
    rw [← a3, ← a13, ← a23, ← a33]; rfl
  · refine Eq.trans ?_ (d_eq bcast_S_S1x8 _ _ _ _).symm
    rw [← a4, ← a14, ← a24, ← a34]; rfl
  · refine Eq.trans ?_ (d_eq bcast_S_S1x128 _ _ _ _).symm
    rw [← a5, ← a15, ← a25, ← a35]; rfl
  · refine Eq.trans ?_ (d_eq bcast_S_S1x2048 _ _ _ _).symm
    rw [← a6, ← a16, ← a26, ← a36]; rfl
  · refine Eq.trans ?_ (d_eq bcast_S_S2048 _ _ _ _).symm
    rw [← a7, ← a17, ← a27, ← a37]; rfl
  · refine Eq.trans ?_ (d_eq bcast_S_S16x256 _ _ _ _).symm
    rw [← a8, ← a18, ← a28, ← a38]; rfl
  · refine Eq.trans ?_ (d_eq bcast_S_S1x4x384 _ _ _ _).symm
    rw [← a9, ← a19, ← a29, ← a39]; rfl
  · refine Eq.trans ?_ (m_eq bcast_S_S2x1024 _ _).symm
    rw [← a10, ← a20]; rfl
  · refine Eq.trans ?_ (m_eq bcast_S_S1x2048 _ _).symm
    rw [← a11, ← a21]; rfl
  · refine Eq.trans ?_ (m_eq bcast_S_S1x128 _ _).symm
    rw [← a12, ← a22]; rfl
  · refine Eq.trans ?_ (m_eq bcast_S_S1x8 _ _).symm
    rw [← a13, ← a23]; rfl
  · refine Eq.trans ?_ (m_eq bcast_S_S1x8 _ _).symm
    rw [← a14, ← a24]; rfl
  · refine Eq.trans ?_ (m_eq bcast_S_S1x128 _ _).symm
    rw [← a15, ← a25]; rfl
  · refine Eq.trans ?_ (m_eq bcast_S_S1x2048 _ _).symm
    rw [← a16, ← a26]; rfl
  · refine Eq.trans ?_ (m_eq bcast_S_S2048 _ _).symm
    rw [← a17, ← a27]; rfl
  · refine Eq.trans ?_ (m_eq bcast_S_S16x256 _ _).symm
    rw [← a18, ← a28]; rfl
  · refine Eq.trans ?_ (m_eq bcast_S_S1x4x384 _ _).symm
    rw [← a19, ← a29]; rfl
  · refine Eq.trans ?_ (v_eq bcast_S_S2x1024 _ _).symm
    rw [← a10, ← a30]; rfl
  · refine Eq.trans ?_ (v_eq bcast_S_S1x2048 _ _).symm
    rw [← a11, ← a31]; rfl
  · refine Eq.trans ?_ (v_eq bcast_S_S1x128 _ _).symm
    rw [← a12, ← a32]; rfl
  · refine Eq.trans ?_ (v_eq bcast_S_S1x8 _ _).symm
    rw [← a13, ← a33]; rfl
  · refine Eq.trans ?_ (v_eq bcast_S_S1x8 _ _).symm
    rw [← a14, ← a34]; rfl
  · refine Eq.trans ?_ (v_eq bcast_S_S1x128 _ _).symm
    rw [← a15, ← a35]; rfl
  · refine Eq.trans ?_ (v_eq bcast_S_S1x2048 _ _).symm
    rw [← a16, ← a36]; rfl
  · refine Eq.trans ?_ (v_eq bcast_S_S2048 _ _).symm
    rw [← a17, ← a37]; rfl
  · refine Eq.trans ?_ (v_eq bcast_S_S16x256 _ _).symm
    rw [← a18, ← a38]; rfl
  · refine Eq.trans ?_ (v_eq bcast_S_S1x4x384 _ _).symm
    rw [← a19, ← a39]; rfl

end Cert.Reference6Ideal.Small

end
-- ==== Proof.Op.WIn.lean ====
/- What the optimiser's step on `w_in` leaves in its four result arrays, and the same from the plain program. -/
module

public import proofs.«01_k».proof.Defs
public import proofs.«01_k».proof.Proof.Op.Rule
public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise

@[expose] public section

set_option maxRecDepth 16384

noncomputable section

namespace Cert.Kernel7Ideal.WIn

open Idealize.ShloMosaic Idealize.ShloMosaic.TcCoe Idealize.SL Idealize.SL.Sem
open Cert.Kernel7Ideal Cert.Kernel7Ideal.Gen Cert.AdamRule

variable (m : (ℓ : Loc nD τ sig) → Buf (Elt Ideal) ℓ) (ρ : Dev nD → PrngReg)

section
variable (a b c d : FVec Ideal S1x1538x256 .bf16) (w u v : FVec Ideal S1538x256 .f32)

theorem pay2_apply (r : Fin 1538) (k : Fin 256) : k0_pay2 (F := Ideal) a b c d (ix2 r k)
    = sum4 (a (ix3 0 r k)) (b (ix3 0 r k)) (c (ix3 0 r k)) (d (ix3 0 r k)) := by
  unfold sum4
  pointwise [k0_pay2]
theorem pay4_apply (r : Fin 1538) (k : Fin 256) : k0_pay4 (F := Ideal) a b c d u (ix2 r k)
    = stepM (sum4 (a (ix3 0 r k)) (b (ix3 0 r k)) (c (ix3 0 r k)) (d (ix3 0 r k))) (u (ix2 r k)) := by
  unfold stepM
  pointwise [k0_pay4, pay2_apply]
theorem pay5_apply (r : Fin 1538) (k : Fin 256) : k0_pay5 (F := Ideal) a b c d v (ix2 r k)
    = stepV (sum4 (a (ix3 0 r k)) (b (ix3 0 r k)) (c (ix3 0 r k)) (d (ix3 0 r k))) (v (ix2 r k)) := by
  unfold stepV
  pointwise [k0_pay5, pay2_apply]
theorem payD_apply (r : Fin 1538) (k : Fin 256) :
    k0_pay1 (F := Ideal) (k0_pay3 w) (k0_pay5 a b c d v) (k0_pay6 a b c d u) (Scalar.ofBits .f32 0x3C231ACC#32) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay3, k0_pay6, pay4_apply, pay5_apply]
end

section
variable (w u v : FVec Ideal S1538x2048 .f32) (s : FVec Ideal S4x1538x2048 .bf16) (q : FVec Ideal S3x1538x2048 .bf16)

/-- The gradient of the whole step. -/
def gradSum : FVec Ideal S1538x2048 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S1538x2048 .f32 := fun i => stepM (gradSum s q i) (u i)
def newV : FVec Ideal S1538x2048 .f32 := fun i => stepV (gradSum s q i) (v i)
def delta : FVec Ideal S1538x2048 .f32 := fun i => stepD (w i) (gradSum s q i) (u i) (v i)
end

theorem idx0 : ∀ t : Fin cfg0.N, win0_0.index t = ![0, t.val] ∧ win0_1.index t = ![0, t.val] ∧ win0_2.index t = ![0, t.val]
    ∧ win0_3.index t = ![0, 0, t.val] ∧ win0_4.index t = ![0, 0, t.val] ∧ win0_5.index t = ![1, 0, t.val] ∧ win0_6.index t = ![2, 0, t.val]
    ∧ win0_7.index t = ![0, t.val] ∧ win0_8.index t = ![0, t.val] ∧ win0_9.index t = ![0, t.val] ∧ win0_10.index t = ![0, t.val] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S1538x256.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_v0) (V m c main_v1) (V m c main_v2) (V m c main_arg3) (V m c main_arg4) := by
  refine (dats m 0 c).arrAt_eq_of_covers 8 _ (by decide +kernel) fun t hf y => ?_
  blk_simp
  rw [after0_8]; frame_out [k0_pay7]
  rw [show (y : S1538x256.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_v1) (V m c main_arg3) (V m c main_arg4) := by
  refine (dats m 0 c).arrAt_eq_of_covers 9 _ (by decide +kernel) fun t hf y => ?_
  blk_simp
  rw [after0_9]; frame_out
  rw [show (y : S1538x256.Idx) = ix2 (y 0) (y 1) from eq_ix2 y]
  unfold newM
  refine (pay4_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_v2) (V m c main_arg3) (V m c main_arg4) := by
  refine (dats m 0 c).arrAt_eq_of_covers 10 _ (by decide +kernel) fun t hf y => ?_
  blk_simp
  rw [after0_10]; frame_out [k0_pay7]
  rw [show (y : S1538x256.Idx) = ix2 (y 0) (y 1) from eq_ix2 y]
  unfold newV
  refine (pay5_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The weight and the moments are turned before the step and turned back after it. -/
def tI (x : FVec Ideal S2048x1538 .f32) : FVec Ideal S1538x2048 .f32 := transpose S1538x2048 [1, 0] x transposes_S2048x1538_S1538x2048_1_0
def tO (x : FVec Ideal S1538x2048 .f32) : FVec Ideal S2048x1538 .f32 := transpose S2048x1538 [1, 0] x transposes_S1538x2048_S2048x1538_1_0
theorem tI_apply (x : FVec Ideal S2048x1538 .f32) (r : Fin 1538) (k : Fin 2048) : tI x (ix2 r k) = x (ix2 k r) := by
  pointwise [tI]
theorem tO_apply (x : FVec Ideal S1538x2048 .f32) (r : Fin 1538) (k : Fin 2048) : tO x (ix2 k r) = x (ix2 r k) := by
  pointwise [tO]

/-- Only the three windows on the parts sent share an array, and they only read it. -/
theorem shared (c : Dev nD) : ∀ w w' : Fin 11, w ≠ w' → Pipeline.arrRef spec0 w = Pipeline.arrRef spec0 w' →
    (dats m 0 c).arrAt w cfg0.N = V0 m c (Proc.devRef .tc (Pipeline.arrRef spec0 w)) := by
  intro w w' hne he
  have h : ∀ w w' : Fin 11, w ≠ w' → Pipeline.arrRef spec0 w = Pipeline.arrRef spec0 w' → w = 4 ∨ w = 5 ∨ w = 6 := by decide
  rcases h w w' hne he with rfl | rfl | rfl
  · exact (dats m 0 c).arrAt_in 4 rfl _
  · exact (dats m 0 c).arrAt_in 5 rfl _
  · exact (dats m 0 c).arrAt_in 6 rfl _

theorem V_v0 (c : Dev nD) : V m c main_v0 = tI (m ((c : Thread nD τ).loc main_arg0)) := by
  show StableHlo.after hostOps0 _ (Proc.devRef .tc main_v0) = _
  simp only [hostOps0]
  after_results_simp <;> rfl
theorem V_v1 (c : Dev nD) : V m c main_v1 = tI (m ((c : Thread nD τ).loc main_arg1)) := by
  show StableHlo.after hostOps0 _ (Proc.devRef .tc main_v1) = _
  simp only [hostOps0]
  after_results_simp <;> rfl
theorem V_v2 (c : Dev nD) : V m c main_v2 = tI (m ((c : Thread nD τ).loc main_arg2)) := by
  show StableHlo.after hostOps0 _ (Proc.devRef .tc main_v2) = _
  simp only [hostOps0]
  after_results_simp <;> rfl
theorem at_v4 (c : Dev nD) :
    Pipeline.afterTail₀ cfgs (dats m) 0 (V0 m) [hostOps1] c main_v4 = tO (gradSum (m ((c : Thread nD τ).loc main_arg3)) (m ((c : Thread nD τ).loc main_arg4))) := by
  have e : Pipeline.withArrays (cfgs 0).spec c (V0 m c) (fun w => (dats m 0 c).arrAt w (cfgs 0).N) (Proc.devRef .tc main_v3_0) = gradSum (m ((c : Thread nD τ).loc main_arg3)) (m ((c : Thread nD τ).loc main_arg4)) :=
    (Pipeline.withArrays_arr_shared spec0 c (V0 m c) (fun w => (dats m 0 c).arrAt w cfg0.N) (shared m c) 7).trans
      ((final7 m c).trans (by rw [V_main_arg3, V_main_arg4]))
  show StableHlo.after hostOps1 _ (Proc.devRef .tc main_v4) = _
  rw [← e]
  simp only [hostOps1]
  after_results_simp <;> rfl
theorem at_v5 (c : Dev nD) :
    Pipeline.afterTail₀ cfgs (dats m) 0 (V0 m) [hostOps1] c main_v5 = tO (delta (tI (m ((c : Thread nD τ).loc main_arg0))) (tI (m ((c : Thread nD τ).loc main_arg1))) (tI (m ((c : Thread nD τ).loc main_arg2))) (m ((c : Thread nD τ).loc main_arg3)) (m ((c : Thread nD τ).loc main_arg4))) := by
  have e : Pipeline.withArrays (cfgs 0).spec c (V0 m c) (fun w => (dats m 0 c).arrAt w (cfgs 0).N) (Proc.devRef .tc main_v3_1) = delta (tI (m ((c : Thread nD τ).loc main_arg0))) (tI (m ((c : Thread nD τ).loc main_arg1))) (tI (m ((c : Thread nD τ).loc main_arg2))) (m ((c : Thread nD τ).loc main_arg3)) (m ((c : Thread nD τ).loc main_arg4)) :=
    (Pipeline.withArrays_arr_shared spec0 c (V0 m c) (fun w => (dats m 0 c).arrAt w cfg0.N) (shared m c) 8).trans
      ((final8 m c).trans (by rw [V_v0, V_v1, V_v2, V_main_arg3, V_main_arg4]))
  show StableHlo.after hostOps1 _ (Proc.devRef .tc main_v5) = _
  rw [← e]
  simp only [hostOps1]
  after_results_simp <;> rfl
theorem at_v6 (c : Dev nD) :
    Pipeline.afterTail₀ cfgs (dats m) 0 (V0 m) [hostOps1] c main_v6 = tO (newM (tI (m ((c : Thread nD τ).loc main_arg1))) (m ((c : Thread nD τ).loc main_arg3)) (m ((c : Thread nD τ).loc main_arg4))) := by
  have e : Pipeline.withArrays (cfgs 0).spec c (V0 m c) (fun w => (dats m 0 c).arrAt w (cfgs 0).N) (Proc.devRef .tc main_v3_2) = newM (tI (m ((c : Thread nD τ).loc main_arg1))) (m ((c : Thread nD τ).loc main_arg3)) (m ((c : Thread nD τ).loc main_arg4)) :=
    (Pipeline.withArrays_arr_shared spec0 c (V0 m c) (fun w => (dats m 0 c).arrAt w cfg0.N) (shared m c) 9).trans
      ((final9 m c).trans (by rw [V_v1, V_main_arg3, V_main_arg4]))
  show StableHlo.after hostOps1 _ (Proc.devRef .tc main_v6) = _
  rw [← e]
  simp only [hostOps1]
  after_results_simp <;> rfl
theorem at_v7 (c : Dev nD) :
    Pipeline.afterTail₀ cfgs (dats m) 0 (V0 m) [hostOps1] c main_v7 = tO (newV (tI (m ((c : Thread nD τ).loc main_arg2))) (m ((c : Thread nD τ).loc main_arg3)) (m ((c : Thread nD τ).loc main_arg4))) := by
  have e : Pipeline.withArrays (cfgs 0).spec c (V0 m c) (fun w => (dats m 0 c).arrAt w (cfgs 0).N) (Proc.devRef .tc main_v3_3) = newV (tI (m ((c : Thread nD τ).loc main_arg2))) (m ((c : Thread nD τ).loc main_arg3)) (m ((c : Thread nD τ).loc main_arg4)) :=
    (Pipeline.withArrays_arr_shared spec0 c (V0 m c) (fun w => (dats m 0 c).arrAt w cfg0.N) (shared m c) 10).trans
      ((final10 m c).trans (by rw [V_v2, V_main_arg3, V_main_arg4]))
  show StableHlo.after hostOps1 _ (Proc.devRef .tc main_v7) = _
  rw [← e]
  simp only [hostOps1]
  after_results_simp <;> rfl
/-- The run with its results, the arguments as launched. -/
theorem run : θ_run defs (onTc (τ := τ) (main (F := Ideal))) ⟨m, fun _ => 0, ρ⟩ (fun r => ∀ c : Dev nD,
      r.2.mem ((c.tc : Thread nD τ).loc main_v4) = tO (gradSum (m ((c : Thread nD τ).loc main_arg3)) (m ((c : Thread nD τ).loc main_arg4)))
      ∧ r.2.mem ((c.tc : Thread nD τ).loc main_v5) = tO (delta (tI (m ((c : Thread nD τ).loc main_arg0))) (tI (m ((c : Thread nD τ).loc main_arg1))) (tI (m ((c : Thread nD τ).loc main_arg2))) (m ((c : Thread nD τ).loc main_arg3)) (m ((c : Thread nD τ).loc main_arg4)))
      ∧ r.2.mem ((c.tc : Thread nD τ).loc main_v6) = tO (newM (tI (m ((c : Thread nD τ).loc main_arg1))) (m ((c : Thread nD τ).loc main_arg3)) (m ((c : Thread nD τ).loc main_arg4)))
      ∧ r.2.mem ((c.tc : Thread nD τ).loc main_v7) = tO (newV (tI (m ((c : Thread nD τ).loc main_arg2))) (m ((c : Thread nD τ).loc main_arg3)) (m ((c : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (at_v4 m c),
     ((h c).2 main_v5 (Pipeline.mem_restRefs_of main_v5 (by decide) (by decide))).trans (at_v5 m c),
     ((h c).2 main_v6 (Pipeline.mem_restRefs_of main_v6 (by decide) (by decide))).trans (at_v6 m c),
     ((h c).2 main_v7 (Pipeline.mem_restRefs_of main_v7 (by decide) (by decide))).trans (at_v7 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans (V_main_arg3 m c)),
     ((h c).1 4).trans (((dats m 0 c).arrAt_in 4 rfl _).trans (V_main_arg4 m c))⟩) (run_main m ρ)

end Cert.Kernel7Ideal.WIn

namespace Cert.Reference7Ideal.WIn

open Idealize.ShloMosaic Idealize.ShloMosaic.TcCoe Idealize.SL.Sem
open Cert.Reference7Ideal Cert.Reference7Ideal.Gen Cert.AdamRule
open Cert.Kernel7Ideal.WIn (gradSum newM newV delta tI tO tI_apply tO_apply)

variable (w u v : FVec Ideal S2048x1538 .f32) (s : FVec Ideal S4x1538x2048 .bf16) (q : FVec Ideal S3x1538x2048 .bf16)

/-- The plain program's gradient, new moments and change of the weight. -/
def gR : FVec Ideal S2048x1538 .f32 :=
  transpose S2048x1538 [1, 0] (addf (extf .f32 (shapeCast _ (extractStridedSlice S1x1538x2048 ![0, 0, 0] s slices_S4x1538x2048_S1x1538x2048_0_0_0) shapeCasts_S1x1538x2048_S1538x2048) bitsLt_bf16_f32) (Host.reduceAdd (extf .f32 q bitsLt_bf16_f32) (constant S_ .f32 0x00000000#32) reducesTo_S3x1538x2048_S1538x2048_d0 h_S_)) transposes_S1538x2048_S2048x1538_1_0
def mR (g : FVec Ideal S2048x1538 .f32) : FVec Ideal S2048x1538 .f32 :=
  addf (mulf (broadcastInDim S2048x1538 ![] bcast_S_S2048x1538 (constant S_ .f32 0x3F666666#32)) u) (mulf (broadcastInDim S2048x1538 ![] bcast_S_S2048x1538 (constant S_ .f32 0x3DCCCCCD#32)) g)
def vR (g : FVec Ideal S2048x1538 .f32) : FVec Ideal S2048x1538 .f32 :=
  addf (mulf (broadcastInDim S2048x1538 ![] bcast_S_S2048x1538 (constant S_ .f32 0x3F7FBE77#32)) v) (mulf (broadcastInDim S2048x1538 ![] bcast_S_S2048x1538 (constant S_ .f32 0x3A83126F#32)) (mulf g g))
def dR (g : FVec Ideal S2048x1538 .f32) : FVec Ideal S2048x1538 .f32 :=
  mulf (broadcastInDim S2048x1538 ![] bcast_S_S2048x1538 (constant S_ .f32 0xBA83126F#32)) (addf (Host.divf (Host.divf (mR u g) (broadcastInDim S2048x1538 ![] bcast_S_S2048x1538 (constant S_ .f32 0x3F26BD02#32))) (addf (Host.sqrt (Host.divf (vR v g) (broadcastInDim S2048x1538 ![] bcast_S_S2048x1538 (constant S_ .f32 0x3C231ACC#32)))) (broadcastInDim S2048x1538 ![] bcast_S_S2048x1538 (constant S_ .f32 0x322BCC77#32)))) (mulf (broadcastInDim S2048x1538 ![] bcast_S_S2048x1538 (constant S_ .f32 0x3C23D70A#32)) w))

theorem g_eq : tO (gradSum s q) = gR s q := by
  funext i
  obtain ⟨k, r, rfl⟩ : ∃ (k : Fin 2048) (r : Fin 1538), i = ix2 k r := ⟨i 0, i 1, eq_ix2 i⟩
  have e : gR s q (ix2 k r) = s (ix3 0 r k) + ∑ j : Fin 3, q (ix3 j r k) := by
    pointwise [gR]
  rw [e, Fin.sum_univ_three, ← add_assoc, ← add_assoc, tO_apply]
  rfl
theorem mR_apply (g : FVec Ideal S2048x1538 .f32) (k : Fin 2048) (r : Fin 1538) : mR u g (ix2 k r) = stepM (g (ix2 k r)) (u (ix2 k r)) := by
  unfold stepM
  pointwise [mR]
theorem vR_apply (g : FVec Ideal S2048x1538 .f32) (k : Fin 2048) (r : Fin 1538) : vR v g (ix2 k r) = stepV (g (ix2 k r)) (v (ix2 k r)) := by
  unfold stepV
  pointwise [vR]
theorem dR_apply (g : FVec Ideal S2048x1538 .f32) (k : Fin 2048) (r : Fin 1538) :
    dR w u v g (ix2 k r) = stepD (w (ix2 k r)) (g (ix2 k r)) (u (ix2 k r)) (v (ix2 k r)) := by
  unfold stepD
  pointwise [dR, mR_apply, vR_apply]
theorem m_eq : tO (newM (tI u) s q) = mR u (gR s q) := by
  funext i
  obtain ⟨k, r, rfl⟩ : ∃ (k : Fin 2048) (r : Fin 1538), i = ix2 k r := ⟨i 0, i 1, eq_ix2 i⟩
  rw [mR_apply, ← g_eq, tO_apply, tO_apply, ← tI_apply u]
  rfl
theorem v_eq : tO (newV (tI v) s q) = vR v (gR s q) := by
  funext i
  obtain ⟨k, r, rfl⟩ : ∃ (k : Fin 2048) (r : Fin 1538), i = ix2 k r := ⟨i 0, i 1, eq_ix2 i⟩
  rw [vR_apply, ← g_eq, tO_apply, tO_apply, ← tI_apply v]
  rfl
theorem d_eq : tO (delta (tI w) (tI u) (tI v) s q) = dR w u v (gR s q) := by
  funext i
  obtain ⟨k, r, rfl⟩ : ∃ (k : Fin 2048) (r : Fin 1538), i = ix2 k r := ⟨i 0, i 1, eq_ix2 i⟩
  rw [dR_apply, ← g_eq, tO_apply, tO_apply, ← tI_apply w, ← tI_apply u, ← tI_apply v]
  rfl

/-- The plain program declares no counter. -/
theorem no_counter : ∀ _ : SemLoc Cert.Reference7Ideal.sig, False := by decide

/-- The plain program ends with its arguments as launched, and it has no counter. -/
theorem quiescent : Cert.quiescent_Reference7Ideal (hReference7Ideal := Cert.Reference7Ideal.Gen.facts) :=
  fun m ρ _ => (θ_run _ _ _).mono (fun _ h => ⟨fun c => (h c).2.2.2.2, funext fun g => (no_counter g.2).elim⟩) (Cert.Reference7Ideal.Value.run m ρ)

set_option maxHeartbeats 8000000 in
/-- The call and the plain program give the same results. -/
theorem algebraic : Cert.algebraic_Kernel7Ideal_Reference7Ideal (hKernel7Ideal := Cert.Kernel7Ideal.Gen.facts) (hReference7Ideal := Cert.Reference7Ideal.Gen.facts) := by
  intro m ρ m' ρ' _ hag
  refine ⟨_, _, _, _, Cert.Kernel7Ideal.WIn.run m ρ, (θ_run _ _ _).mono (fun r h c => ?_) (Cert.Reference7Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference7Ideal.WIn

end
-- ==== Proof.Op.BranchA.lean ====
/- What the optimiser's step on `w_branch_a` leaves in its four result arrays, and the same from the plain program. -/
module

public import proofs.«01_k».proof.Defs
public import proofs.«01_k».proof.Proof.Op.Rule
public import proofs.«01_k».proof.Proof.Gen.Kernel8Ideal.Frame
public import proofs.«01_k».proof.Proof.Gen.Reference8Ideal.Run
public import Idealize.ShloMosaic.Lib.Pipeline.ValueKit
public import Idealize.ShloMosaic.Lib.Pointwise

@[expose] public section

set_option maxRecDepth 16384

noncomputable section

namespace Cert.Kernel8Ideal.BranchA

open Idealize.ShloMosaic Idealize.ShloMosaic.TcCoe Idealize.SL Idealize.SL.Sem
open Cert.Kernel8Ideal Cert.Kernel8Ideal.Gen Cert.AdamRule

variable (m : (ℓ : Loc nD τ sig) → Buf (Elt Ideal) ℓ) (ρ : Dev nD → PrngReg)

section
variable (a b c d : FVec Ideal S1x256x256 .bf16) (w u v : FVec Ideal S256x256 .f32)

theorem pay2_apply (r : Fin 256) (k : Fin 256) : k0_pay2 (F := Ideal) a b c d (ix2 r k)
    = sum4 (a (ix3 0 r k)) (b (ix3 0 r k)) (c (ix3 0 r k)) (d (ix3 0 r k)) := by
  unfold sum4
  pointwise [k0_pay2]
theorem pay3_apply (r : Fin 256) (k : Fin 256) : k0_pay3 (F := Ideal) a b c d u (ix2 r k)
    = stepM (sum4 (a (ix3 0 r k)) (b (ix3 0 r k)) (c (ix3 0 r k)) (d (ix3 0 r k))) (u (ix2 r k)) := by
  unfold stepM
  pointwise [k0_pay3, pay2_apply]
theorem pay4_apply (r : Fin 256) (k : Fin 256) : k0_pay4 (F := Ideal) a b c d v (ix2 r k)
    = stepV (sum4 (a (ix3 0 r k)) (b (ix3 0 r k)) (c (ix3 0 r k)) (d (ix3 0 r k))) (v (ix2 r k)) := by
  unfold stepV
  pointwise [k0_pay4, pay2_apply]
theorem payD_apply (r : Fin 256) (k : Fin 256) :
    k0_pay1 (F := Ideal) w (k0_pay5 a b c d u) (k0_pay6 a b c d v) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay5, k0_pay6, pay3_apply, pay4_apply]
end

section
variable (w u v : FVec Ideal S1024x256 .f32) (s : FVec Ideal S4x1024x256 .bf16) (q : FVec Ideal S3x1024x256 .bf16)

/-- The gradient of the whole step. -/
def gradSum : FVec Ideal S1024x256 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S1024x256 .f32 := fun i => stepM (gradSum s q i) (u i)
def newV : FVec Ideal S1024x256 .f32 := fun i => stepV (gradSum s q i) (v i)
def delta : FVec Ideal S1024x256 .f32 := fun i => stepD (w i) (gradSum s q i) (u i) (v i)
end

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S256x256.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_arg0) (V m c main_arg1) (V m c main_arg2) (V m c main_arg3) (V m c main_arg4) := by
  refine (dats m 0 c).arrAt_eq_of_covers 8 _ (by decide +kernel) fun t hf y => ?_
  blk_simp
  rw [after0_8]; frame_out
  rw [show (y : S256x256.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_arg1) (V m c main_arg3) (V m c main_arg4) := by
  refine (dats m 0 c).arrAt_eq_of_covers 9 _ (by decide +kernel) fun t hf y => ?_
  blk_simp
  rw [after0_9]; frame_out
  rw [show (y : S256x256.Idx) = ix2 (y 0) (y 1) from eq_ix2 y]
  unfold newM
  refine (pay3_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_arg2) (V m c main_arg3) (V m c main_arg4) := by
  refine (dats m 0 c).arrAt_eq_of_covers 10 _ (by decide +kernel) fun t hf y => ?_
  blk_simp
  rw [after0_10]; frame_out
  rw [show (y : S256x256.Idx) = ix2 (y 0) (y 1) from eq_ix2 y]
  unfold newV
  refine (pay4_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = gradSum (m ((c : Thread nD τ).loc main_arg3)) (m ((c : Thread nD τ).loc main_arg4))
      ∧ r.2.mem ((c.tc : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = newM (m ((c : Thread nD τ).loc main_arg1)) (m ((c : Thread nD τ).loc main_arg3)) (m ((c : Thread nD τ).loc main_arg4))
      ∧ r.2.mem ((c.tc : Thread nD τ).loc main_v0_3) = newV (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c), ((h c).1 8).trans (final8 m c), ((h c).1 9).trans (final9 m c), ((h c).1 10).trans (final10 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _),
     ((h c).1 4).trans ((dats m 0 c).arrAt_in 4 rfl _)⟩) (run_main m ρ)

end Cert.Kernel8Ideal.BranchA

namespace Cert.Reference8Ideal.BranchA

open Idealize.ShloMosaic Idealize.ShloMosaic.TcCoe Idealize.SL.Sem
open Cert.Reference8Ideal Cert.Reference8Ideal.Gen Cert.AdamRule
open Cert.Kernel8Ideal.BranchA (gradSum newM newV delta)

variable (w u v : FVec Ideal S1024x256 .f32) (s : FVec Ideal S4x1024x256 .bf16) (q : FVec Ideal S3x1024x256 .bf16)

/-- The plain program's gradient, new moments and change of the weight. -/
def gR : FVec Ideal S1024x256 .f32 :=
  addf (extf .f32 (shapeCast _ (extractStridedSlice S1x1024x256 ![0, 0, 0] s slices_S4x1024x256_S1x1024x256_0_0_0) shapeCasts_S1x1024x256_S1024x256) bitsLt_bf16_f32) (Host.reduceAdd (extf .f32 q bitsLt_bf16_f32) (constant S_ .f32 0x00000000#32) reducesTo_S3x1024x256_S1024x256_d0 h_S_)
def mR (g : FVec Ideal S1024x256 .f32) : FVec Ideal S1024x256 .f32 :=
  addf (mulf (broadcastInDim S1024x256 ![] bcast_S_S1024x256 (constant S_ .f32 0x3F666666#32)) u) (mulf (broadcastInDim S1024x256 ![] bcast_S_S1024x256 (constant S_ .f32 0x3DCCCCCD#32)) g)
def vR (g : FVec Ideal S1024x256 .f32) : FVec Ideal S1024x256 .f32 :=
  addf (mulf (broadcastInDim S1024x256 ![] bcast_S_S1024x256 (constant S_ .f32 0x3F7FBE77#32)) v) (mulf (broadcastInDim S1024x256 ![] bcast_S_S1024x256 (constant S_ .f32 0x3A83126F#32)) (mulf g g))
def dR (g : FVec Ideal S1024x256 .f32) : FVec Ideal S1024x256 .f32 :=
  mulf (broadcastInDim S1024x256 ![] bcast_S_S1024x256 (constant S_ .f32 0xBA83126F#32)) (addf (Host.divf (Host.divf (mR u g) (broadcastInDim S1024x256 ![] bcast_S_S1024x256 (constant S_ .f32 0x3F26BD02#32))) (addf (Host.sqrt (Host.divf (vR v g) (broadcastInDim S1024x256 ![] bcast_S_S1024x256 (constant S_ .f32 0x3C231ACC#32)))) (broadcastInDim S1024x256 ![] bcast_S_S1024x256 (constant S_ .f32 0x322BCC77#32)))) (mulf (broadcastInDim S1024x256 ![] bcast_S_S1024x256 (constant S_ .f32 0x3C23D70A#32)) w))

theorem g_eq : gradSum s q = gR s q := by
  funext i
  obtain ⟨r, k, rfl⟩ : ∃ (r : Fin 1024) (k : Fin 256), i = ix2 r k := ⟨i 0, i 1, eq_ix2 i⟩
  have e : gR s q (ix2 r k) = s (ix3 0 r k) + ∑ j : Fin 3, q (ix3 j r k) := by
    pointwise [gR]
  rw [e, Fin.sum_univ_three, ← add_assoc, ← add_assoc]
  rfl
theorem mR_apply (g : FVec Ideal S1024x256 .f32) (r : Fin 1024) (k : Fin 256) : mR u g (ix2 r k) = stepM (g (ix2 r k)) (u (ix2 r k)) := by
  unfold stepM
  pointwise [mR]
theorem vR_apply (g : FVec Ideal S1024x256 .f32) (r : Fin 1024) (k : Fin 256) : vR v g (ix2 r k) = stepV (g (ix2 r k)) (v (ix2 r k)) := by
  unfold stepV
  pointwise [vR]
theorem dR_apply (g : FVec Ideal S1024x256 .f32) (r : Fin 1024) (k : Fin 256) :
    dR w u v g (ix2 r k) = stepD (w (ix2 r k)) (g (ix2 r k)) (u (ix2 r k)) (v (ix2 r k)) := by
  unfold stepD
  pointwise [dR, mR_apply, vR_apply]
theorem m_eq : newM u s q = mR u (gR s q) := by
  funext i
  obtain ⟨r, k, rfl⟩ : ∃ (r : Fin 1024) (k : Fin 256), i = ix2 r k := ⟨i 0, i 1, eq_ix2 i⟩
  rw [mR_apply, ← g_eq]
  rfl
theorem v_eq : newV v s q = vR v (gR s q) := by
  funext i
  obtain ⟨r, k, rfl⟩ : ∃ (r : Fin 1024) (k : Fin 256), i = ix2 r k := ⟨i 0, i 1, eq_ix2 i⟩
  rw [vR_apply, ← g_eq]
  rfl
theorem d_eq : delta w u v s q = dR w u v (gR s q) := by
  funext i
  obtain ⟨r, k, rfl⟩ : ∃ (r : Fin 1024) (k : Fin 256), i = ix2 r k := ⟨i 0, i 1, eq_ix2 i⟩
  rw [dR_apply, ← g_eq]
  rfl

/-- The plain program declares no counter. -/
theorem no_counter : ∀ _ : SemLoc Cert.Reference8Ideal.sig, False := by decide

/-- The plain program ends with its arguments as launched, and it has no counter. -/
theorem quiescent : Cert.quiescent_Reference8Ideal (hReference8Ideal := Cert.Reference8Ideal.Gen.facts) :=
  fun m ρ _ => (θ_run _ _ _).mono (fun _ h => ⟨fun c => (h c).2.2.2.2, funext fun g => (no_counter g.2).elim⟩) (Cert.Reference8Ideal.Value.run m ρ)

set_option maxHeartbeats 8000000 in
/-- The call and the plain program give the same results. -/
theorem algebraic : Cert.algebraic_Kernel8Ideal_Reference8Ideal (hKernel8Ideal := Cert.Kernel8Ideal.Gen.facts) (hReference8Ideal := Cert.Reference8Ideal.Gen.facts) := by
  intro m ρ m' ρ' _ hag
  refine ⟨_, _, _, _, Cert.Kernel8Ideal.BranchA.run m ρ, (θ_run _ _ _).mono (fun r h c => ?_) (Cert.Reference8Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference8Ideal.BranchA

end
-- ==== Proof.Op.BranchB.lean ====
/- What the optimiser's step on `w_branch_b` leaves in its four result arrays, and the same from the plain program. -/
module

public import proofs.«01_k».proof.Defs
public import proofs.«01_k».proof.Proof.Op.Rule
public import proofs.«01_k».proof.Proof.Gen.Kernel9Ideal.Frame
public import proofs.«01_k».proof.Proof.Gen.Reference9Ideal.Run
public import Idealize.ShloMosaic.Lib.Pipeline.ValueKit
public import Idealize.ShloMosaic.Lib.Pointwise

@[expose] public section

set_option maxRecDepth 16384

noncomputable section

namespace Cert.Kernel9Ideal.BranchB

open Idealize.ShloMosaic Idealize.ShloMosaic.TcCoe Idealize.SL Idealize.SL.Sem
open Cert.Kernel9Ideal Cert.Kernel9Ideal.Gen Cert.AdamRule

variable (m : (ℓ : Loc nD τ sig) → Buf (Elt Ideal) ℓ) (ρ : Dev nD → PrngReg)

section
variable (a b c d : FVec Ideal S1x256x256 .bf16) (w u v : FVec Ideal S256x256 .f32)

theorem pay2_apply (r : Fin 256) (k : Fin 256) : k0_pay2 (F := Ideal) a b c d (ix2 r k)
    = sum4 (a (ix3 0 r k)) (b (ix3 0 r k)) (c (ix3 0 r k)) (d (ix3 0 r k)) := by
  unfold sum4
  pointwise [k0_pay2]
theorem pay3_apply (r : Fin 256) (k : Fin 256) : k0_pay3 (F := Ideal) a b c d u (ix2 r k)
    = stepM (sum4 (a (ix3 0 r k)) (b (ix3 0 r k)) (c (ix3 0 r k)) (d (ix3 0 r k))) (u (ix2 r k)) := by
  unfold stepM
  pointwise [k0_pay3, pay2_apply]
theorem pay4_apply (r : Fin 256) (k : Fin 256) : k0_pay4 (F := Ideal) a b c d v (ix2 r k)
    = stepV (sum4 (a (ix3 0 r k)) (b (ix3 0 r k)) (c (ix3 0 r k)) (d (ix3 0 r k))) (v (ix2 r k)) := by
  unfold stepV
  pointwise [k0_pay4, pay2_apply]
theorem payD_apply (r : Fin 256) (k : Fin 256) :
    k0_pay1 (F := Ideal) w (k0_pay5 a b c d u) (k0_pay6 a b c d v) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay5, k0_pay6, pay3_apply, pay4_apply]
end

section
variable (w u v : FVec Ideal S1024x256 .f32) (s : FVec Ideal S4x1024x256 .bf16) (q : FVec Ideal S3x1024x256 .bf16)

/-- The gradient of the whole step. -/
def gradSum : FVec Ideal S1024x256 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S1024x256 .f32 := fun i => stepM (gradSum s q i) (u i)
def newV : FVec Ideal S1024x256 .f32 := fun i => stepV (gradSum s q i) (v i)
def delta : FVec Ideal S1024x256 .f32 := fun i => stepD (w i) (gradSum s q i) (u i) (v i)
end

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S256x256.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_arg0) (V m c main_arg1) (V m c main_arg2) (V m c main_arg3) (V m c main_arg4) := by
  refine (dats m 0 c).arrAt_eq_of_covers 8 _ (by decide +kernel) fun t hf y => ?_
  blk_simp
  rw [after0_8]; frame_out
  rw [show (y : S256x256.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_arg1) (V m c main_arg3) (V m c main_arg4) := by
  refine (dats m 0 c).arrAt_eq_of_covers 9 _ (by decide +kernel) fun t hf y => ?_
  blk_simp
  rw [after0_9]; frame_out
  rw [show (y : S256x256.Idx) = ix2 (y 0) (y 1) from eq_ix2 y]
  unfold newM
  refine (pay3_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_arg2) (V m c main_arg3) (V m c main_arg4) := by
  refine (dats m 0 c).arrAt_eq_of_covers 10 _ (by decide +kernel) fun t hf y => ?_
  blk_simp
  rw [after0_10]; frame_out
  rw [show (y : S256x256.Idx) = ix2 (y 0) (y 1) from eq_ix2 y]
  unfold newV
  refine (pay4_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = gradSum (m ((c : Thread nD τ).loc main_arg3)) (m ((c : Thread nD τ).loc main_arg4))
      ∧ r.2.mem ((c.tc : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = newM (m ((c : Thread nD τ).loc main_arg1)) (m ((c : Thread nD τ).loc main_arg3)) (m ((c : Thread nD τ).loc main_arg4))
      ∧ r.2.mem ((c.tc : Thread nD τ).loc main_v0_3) = newV (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c), ((h c).1 8).trans (final8 m c), ((h c).1 9).trans (final9 m c), ((h c).1 10).trans (final10 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _),
     ((h c).1 4).trans ((dats m 0 c).arrAt_in 4 rfl _)⟩) (run_main m ρ)

end Cert.Kernel9Ideal.BranchB

namespace Cert.Reference9Ideal.BranchB

open Idealize.ShloMosaic Idealize.ShloMosaic.TcCoe Idealize.SL.Sem
open Cert.Reference9Ideal Cert.Reference9Ideal.Gen Cert.AdamRule
open Cert.Kernel9Ideal.BranchB (gradSum newM newV delta)

variable (w u v : FVec Ideal S1024x256 .f32) (s : FVec Ideal S4x1024x256 .bf16) (q : FVec Ideal S3x1024x256 .bf16)

/-- The plain program's gradient, new moments and change of the weight. -/
def gR : FVec Ideal S1024x256 .f32 :=
  addf (extf .f32 (shapeCast _ (extractStridedSlice S1x1024x256 ![0, 0, 0] s slices_S4x1024x256_S1x1024x256_0_0_0) shapeCasts_S1x1024x256_S1024x256) bitsLt_bf16_f32) (Host.reduceAdd (extf .f32 q bitsLt_bf16_f32) (constant S_ .f32 0x00000000#32) reducesTo_S3x1024x256_S1024x256_d0 h_S_)
def mR (g : FVec Ideal S1024x256 .f32) : FVec Ideal S1024x256 .f32 :=
  addf (mulf (broadcastInDim S1024x256 ![] bcast_S_S1024x256 (constant S_ .f32 0x3F666666#32)) u) (mulf (broadcastInDim S1024x256 ![] bcast_S_S1024x256 (constant S_ .f32 0x3DCCCCCD#32)) g)
def vR (g : FVec Ideal S1024x256 .f32) : FVec Ideal S1024x256 .f32 :=
  addf (mulf (broadcastInDim S1024x256 ![] bcast_S_S1024x256 (constant S_ .f32 0x3F7FBE77#32)) v) (mulf (broadcastInDim S1024x256 ![] bcast_S_S1024x256 (constant S_ .f32 0x3A83126F#32)) (mulf g g))
def dR (g : FVec Ideal S1024x256 .f32) : FVec Ideal S1024x256 .f32 :=
  mulf (broadcastInDim S1024x256 ![] bcast_S_S1024x256 (constant S_ .f32 0xBA83126F#32)) (addf (Host.divf (Host.divf (mR u g) (broadcastInDim S1024x256 ![] bcast_S_S1024x256 (constant S_ .f32 0x3F26BD02#32))) (addf (Host.sqrt (Host.divf (vR v g) (broadcastInDim S1024x256 ![] bcast_S_S1024x256 (constant S_ .f32 0x3C231ACC#32)))) (broadcastInDim S1024x256 ![] bcast_S_S1024x256 (constant S_ .f32 0x322BCC77#32)))) (mulf (broadcastInDim S1024x256 ![] bcast_S_S1024x256 (constant S_ .f32 0x3C23D70A#32)) w))

theorem g_eq : gradSum s q = gR s q := by
  funext i
  obtain ⟨r, k, rfl⟩ : ∃ (r : Fin 1024) (k : Fin 256), i = ix2 r k := ⟨i 0, i 1, eq_ix2 i⟩
  have e : gR s q (ix2 r k) = s (ix3 0 r k) + ∑ j : Fin 3, q (ix3 j r k) := by
    pointwise [gR]
  rw [e, Fin.sum_univ_three, ← add_assoc, ← add_assoc]
  rfl
theorem mR_apply (g : FVec Ideal S1024x256 .f32) (r : Fin 1024) (k : Fin 256) : mR u g (ix2 r k) = stepM (g (ix2 r k)) (u (ix2 r k)) := by
  unfold stepM
  pointwise [mR]
theorem vR_apply (g : FVec Ideal S1024x256 .f32) (r : Fin 1024) (k : Fin 256) : vR v g (ix2 r k) = stepV (g (ix2 r k)) (v (ix2 r k)) := by
  unfold stepV
  pointwise [vR]
theorem dR_apply (g : FVec Ideal S1024x256 .f32) (r : Fin 1024) (k : Fin 256) :
    dR w u v g (ix2 r k) = stepD (w (ix2 r k)) (g (ix2 r k)) (u (ix2 r k)) (v (ix2 r k)) := by
  unfold stepD
  pointwise [dR, mR_apply, vR_apply]
theorem m_eq : newM u s q = mR u (gR s q) := by
  funext i
  obtain ⟨r, k, rfl⟩ : ∃ (r : Fin 1024) (k : Fin 256), i = ix2 r k := ⟨i 0, i 1, eq_ix2 i⟩
  rw [mR_apply, ← g_eq]
  rfl
theorem v_eq : newV v s q = vR v (gR s q) := by
  funext i
  obtain ⟨r, k, rfl⟩ : ∃ (r : Fin 1024) (k : Fin 256), i = ix2 r k := ⟨i 0, i 1, eq_ix2 i⟩
  rw [vR_apply, ← g_eq]
  rfl
theorem d_eq : delta w u v s q = dR w u v (gR s q) := by
  funext i
  obtain ⟨r, k, rfl⟩ : ∃ (r : Fin 1024) (k : Fin 256), i = ix2 r k := ⟨i 0, i 1, eq_ix2 i⟩
  rw [dR_apply, ← g_eq]
  rfl

/-- The plain program declares no counter. -/
theorem no_counter : ∀ _ : SemLoc Cert.Reference9Ideal.sig, False := by decide

/-- The plain program ends with its arguments as launched, and it has no counter. -/
theorem quiescent : Cert.quiescent_Reference9Ideal (hReference9Ideal := Cert.Reference9Ideal.Gen.facts) :=
  fun m ρ _ => (θ_run _ _ _).mono (fun _ h => ⟨fun c => (h c).2.2.2.2, funext fun g => (no_counter g.2).elim⟩) (Cert.Reference9Ideal.Value.run m ρ)

set_option maxHeartbeats 8000000 in
/-- The call and the plain program give the same results. -/
theorem algebraic : Cert.algebraic_Kernel9Ideal_Reference9Ideal (hKernel9Ideal := Cert.Kernel9Ideal.Gen.facts) (hReference9Ideal := Cert.Reference9Ideal.Gen.facts) := by
  intro m ρ m' ρ' _ hag
  refine ⟨_, _, _, _, Cert.Kernel9Ideal.BranchB.run m ρ, (θ_run _ _ _).mono (fun r h c => ?_) (Cert.Reference9Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference9Ideal.BranchB

end
-- ==== Proof.Op.WOut.lean ====
/- What the optimiser's step on `w_out` leaves in its four result arrays, and the same from the plain program. -/
module

public import proofs.«01_k».proof.Defs
public import proofs.«01_k».proof.Proof.Op.Rule
public import proofs.«01_k».proof.Proof.Gen.Kernel10Ideal.Frame
public import proofs.«01_k».proof.Proof.Gen.Reference10Ideal.Run
public import Idealize.ShloMosaic.Lib.Pipeline.ValueKit
public import Idealize.ShloMosaic.Lib.Pointwise

@[expose] public section

set_option maxRecDepth 16384

noncomputable section

namespace Cert.Kernel10Ideal.WOut

open Idealize.ShloMosaic Idealize.ShloMosaic.TcCoe Idealize.SL Idealize.SL.Sem
open Cert.Kernel10Ideal Cert.Kernel10Ideal.Gen Cert.AdamRule

variable (m : (ℓ : Loc nD τ sig) → Buf (Elt Ideal) ℓ) (ρ : Dev nD → PrngReg)

section
variable (a b c d : FVec Ideal S1x64x2048 .bf16) (w u v : FVec Ideal S64x2048 .f32)

theorem pay2_apply (r : Fin 64) (k : Fin 2048) : k0_pay2 (F := Ideal) a b c d (ix2 r k)
    = sum4 (a (ix3 0 r k)) (b (ix3 0 r k)) (c (ix3 0 r k)) (d (ix3 0 r k)) := by
  unfold sum4
  pointwise [k0_pay2]
theorem pay3_apply (r : Fin 64) (k : Fin 2048) : k0_pay3 (F := Ideal) a b c d u (ix2 r k)
    = stepM (sum4 (a (ix3 0 r k)) (b (ix3 0 r k)) (c (ix3 0 r k)) (d (ix3 0 r k))) (u (ix2 r k)) := by
  unfold stepM
  pointwise [k0_pay3, pay2_apply]
theorem pay4_apply (r : Fin 64) (k : Fin 2048) : k0_pay4 (F := Ideal) a b c d v (ix2 r k)
    = stepV (sum4 (a (ix3 0 r k)) (b (ix3 0 r k)) (c (ix3 0 r k)) (d (ix3 0 r k))) (v (ix2 r k)) := by
  unfold stepV
  pointwise [k0_pay4, pay2_apply]
theorem payD_apply (r : Fin 64) (k : Fin 2048) :
    k0_pay1 (F := Ideal) w (k0_pay5 a b c d u) (k0_pay6 a b c d v) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay5, k0_pay6, pay3_apply, pay4_apply]
end

section
variable (w u v : FVec Ideal S256x2048 .f32) (s : FVec Ideal S4x256x2048 .bf16) (q : FVec Ideal S3x256x2048 .bf16)

/-- The gradient of the whole step. -/
def gradSum : FVec Ideal S256x2048 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S256x2048 .f32 := fun i => stepM (gradSum s q i) (u i)
def newV : FVec Ideal S256x2048 .f32 := fun i => stepV (gradSum s q i) (v i)
def delta : FVec Ideal S256x2048 .f32 := fun i => stepD (w i) (gradSum s q i) (u i) (v i)
end

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S64x2048.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_arg0) (V m c main_arg1) (V m c main_arg2) (V m c main_arg3) (V m c main_arg4) := by
  refine (dats m 0 c).arrAt_eq_of_covers 8 _ (by decide +kernel) fun t hf y => ?_
  blk_simp
  rw [after0_8]; frame_out
  rw [show (y : S64x2048.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_arg1) (V m c main_arg3) (V m c main_arg4) := by
  refine (dats m 0 c).arrAt_eq_of_covers 9 _ (by decide +kernel) fun t hf y => ?_
  blk_simp
  rw [after0_9]; frame_out
  rw [show (y : S64x2048.Idx) = ix2 (y 0) (y 1) from eq_ix2 y]
  unfold newM
  refine (pay3_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_arg2) (V m c main_arg3) (V m c main_arg4) := by
  refine (dats m 0 c).arrAt_eq_of_covers 10 _ (by decide +kernel) fun t hf y => ?_
  blk_simp
  rw [after0_10]; frame_out
  rw [show (y : S64x2048.Idx) = ix2 (y 0) (y 1) from eq_ix2 y]
  unfold newV
  refine (pay4_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = gradSum (m ((c : Thread nD τ).loc main_arg3)) (m ((c : Thread nD τ).loc main_arg4))
      ∧ r.2.mem ((c.tc : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = newM (m ((c : Thread nD τ).loc main_arg1)) (m ((c : Thread nD τ).loc main_arg3)) (m ((c : Thread nD τ).loc main_arg4))
      ∧ r.2.mem ((c.tc : Thread nD τ).loc main_v0_3) = newV (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c), ((h c).1 8).trans (final8 m c), ((h c).1 9).trans (final9 m c), ((h c).1 10).trans (final10 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _),
     ((h c).1 4).trans ((dats m 0 c).arrAt_in 4 rfl _)⟩) (run_main m ρ)

end Cert.Kernel10Ideal.WOut

namespace Cert.Reference10Ideal.WOut

open Idealize.ShloMosaic Idealize.ShloMosaic.TcCoe Idealize.SL.Sem
open Cert.Reference10Ideal Cert.Reference10Ideal.Gen Cert.AdamRule
open Cert.Kernel10Ideal.WOut (gradSum newM newV delta)

variable (w u v : FVec Ideal S256x2048 .f32) (s : FVec Ideal S4x256x2048 .bf16) (q : FVec Ideal S3x256x2048 .bf16)

/-- The plain program's gradient, new moments and change of the weight. -/
def gR : FVec Ideal S256x2048 .f32 :=
  addf (extf .f32 (shapeCast _ (extractStridedSlice S1x256x2048 ![0, 0, 0] s slices_S4x256x2048_S1x256x2048_0_0_0) shapeCasts_S1x256x2048_S256x2048) bitsLt_bf16_f32) (Host.reduceAdd (extf .f32 q bitsLt_bf16_f32) (constant S_ .f32 0x00000000#32) reducesTo_S3x256x2048_S256x2048_d0 h_S_)
def mR (g : FVec Ideal S256x2048 .f32) : FVec Ideal S256x2048 .f32 :=
  addf (mulf (broadcastInDim S256x2048 ![] bcast_S_S256x2048 (constant S_ .f32 0x3F666666#32)) u) (mulf (broadcastInDim S256x2048 ![] bcast_S_S256x2048 (constant S_ .f32 0x3DCCCCCD#32)) g)
def vR (g : FVec Ideal S256x2048 .f32) : FVec Ideal S256x2048 .f32 :=
  addf (mulf (broadcastInDim S256x2048 ![] bcast_S_S256x2048 (constant S_ .f32 0x3F7FBE77#32)) v) (mulf (broadcastInDim S256x2048 ![] bcast_S_S256x2048 (constant S_ .f32 0x3A83126F#32)) (mulf g g))
def dR (g : FVec Ideal S256x2048 .f32) : FVec Ideal S256x2048 .f32 :=
  mulf (broadcastInDim S256x2048 ![] bcast_S_S256x2048 (constant S_ .f32 0xBA83126F#32)) (addf (Host.divf (Host.divf (mR u g) (broadcastInDim S256x2048 ![] bcast_S_S256x2048 (constant S_ .f32 0x3F26BD02#32))) (addf (Host.sqrt (Host.divf (vR v g) (broadcastInDim S256x2048 ![] bcast_S_S256x2048 (constant S_ .f32 0x3C231ACC#32)))) (broadcastInDim S256x2048 ![] bcast_S_S256x2048 (constant S_ .f32 0x322BCC77#32)))) (mulf (broadcastInDim S256x2048 ![] bcast_S_S256x2048 (constant S_ .f32 0x3C23D70A#32)) w))

theorem g_eq : gradSum s q = gR s q := by
  funext i
  obtain ⟨r, k, rfl⟩ : ∃ (r : Fin 256) (k : Fin 2048), i = ix2 r k := ⟨i 0, i 1, eq_ix2 i⟩
  have e : gR s q (ix2 r k) = s (ix3 0 r k) + ∑ j : Fin 3, q (ix3 j r k) := by
    pointwise [gR]
  rw [e, Fin.sum_univ_three, ← add_assoc, ← add_assoc]
  rfl
theorem mR_apply (g : FVec Ideal S256x2048 .f32) (r : Fin 256) (k : Fin 2048) : mR u g (ix2 r k) = stepM (g (ix2 r k)) (u (ix2 r k)) := by
  unfold stepM
  pointwise [mR]
theorem vR_apply (g : FVec Ideal S256x2048 .f32) (r : Fin 256) (k : Fin 2048) : vR v g (ix2 r k) = stepV (g (ix2 r k)) (v (ix2 r k)) := by
  unfold stepV
  pointwise [vR]
theorem dR_apply (g : FVec Ideal S256x2048 .f32) (r : Fin 256) (k : Fin 2048) :
    dR w u v g (ix2 r k) = stepD (w (ix2 r k)) (g (ix2 r k)) (u (ix2 r k)) (v (ix2 r k)) := by
  unfold stepD
  pointwise [dR, mR_apply, vR_apply]
theorem m_eq : newM u s q = mR u (gR s q) := by
  funext i
  obtain ⟨r, k, rfl⟩ : ∃ (r : Fin 256) (k : Fin 2048), i = ix2 r k := ⟨i 0, i 1, eq_ix2 i⟩
  rw [mR_apply, ← g_eq]
  rfl
theorem v_eq : newV v s q = vR v (gR s q) := by
  funext i
  obtain ⟨r, k, rfl⟩ : ∃ (r : Fin 256) (k : Fin 2048), i = ix2 r k := ⟨i 0, i 1, eq_ix2 i⟩
  rw [vR_apply, ← g_eq]
  rfl
theorem d_eq : delta w u v s q = dR w u v (gR s q) := by
  funext i
  obtain ⟨r, k, rfl⟩ : ∃ (r : Fin 256) (k : Fin 2048), i = ix2 r k := ⟨i 0, i 1, eq_ix2 i⟩
  rw [dR_apply, ← g_eq]
  rfl

/-- The plain program declares no counter. -/
theorem no_counter : ∀ _ : SemLoc Cert.Reference10Ideal.sig, False := by decide

/-- The plain program ends with its arguments as launched, and it has no counter. -/
theorem quiescent : Cert.quiescent_Reference10Ideal (hReference10Ideal := Cert.Reference10Ideal.Gen.facts) :=
  fun m ρ _ => (θ_run _ _ _).mono (fun _ h => ⟨fun c => (h c).2.2.2.2, funext fun g => (no_counter g.2).elim⟩) (Cert.Reference10Ideal.Value.run m ρ)

set_option maxHeartbeats 8000000 in
/-- The call and the plain program give the same results. -/
theorem algebraic : Cert.algebraic_Kernel10Ideal_Reference10Ideal (hKernel10Ideal := Cert.Kernel10Ideal.Gen.facts) (hReference10Ideal := Cert.Reference10Ideal.Gen.facts) := by
  intro m ρ m' ρ' _ hag
  refine ⟨_, _, _, _, Cert.Kernel10Ideal.WOut.run m ρ, (θ_run _ _ _).mono (fun r h c => ?_) (Cert.Reference10Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference10Ideal.WOut

end
-- ==== Proof.Op.FfnIn.lean ====
/- What the optimiser's step on `w_ffn_in` leaves in its four result arrays, and the same from the plain program. -/
module

public import proofs.«01_k».proof.Defs
public import proofs.«01_k».proof.Proof.Op.Rule
public import proofs.«01_k».proof.Proof.Gen.Kernel11Ideal.Frame
public import proofs.«01_k».proof.Proof.Gen.Reference11Ideal.Run
public import Idealize.ShloMosaic.Lib.Pipeline.ValueKit
public import Idealize.ShloMosaic.Lib.Pointwise

@[expose] public section

set_option maxRecDepth 16384

noncomputable section

namespace Cert.Kernel11Ideal.FfnIn

open Idealize.ShloMosaic Idealize.ShloMosaic.TcCoe Idealize.SL Idealize.SL.Sem
open Cert.Kernel11Ideal Cert.Kernel11Ideal.Gen Cert.AdamRule

variable (m : (ℓ : Loc nD τ sig) → Buf (Elt Ideal) ℓ) (ρ : Dev nD → PrngReg)

section
variable (a b c d : FVec Ideal S1x256x1408 .bf16) (w u v : FVec Ideal S256x1408 .f32)

theorem pay2_apply (r : Fin 256) (k : Fin 1408) : k0_pay2 (F := Ideal) a b c d (ix2 r k)
    = sum4 (a (ix3 0 r k)) (b (ix3 0 r k)) (c (ix3 0 r k)) (d (ix3 0 r k)) := by
  unfold sum4
  pointwise [k0_pay2]
theorem pay3_apply (r : Fin 256) (k : Fin 1408) : k0_pay3 (F := Ideal) a b c d u (ix2 r k)
    = stepM (sum4 (a (ix3 0 r k)) (b (ix3 0 r k)) (c (ix3 0 r k)) (d (ix3 0 r k))) (u (ix2 r k)) := by
  unfold stepM
  pointwise [k0_pay3, pay2_apply]
theorem pay4_apply (r : Fin 256) (k : Fin 1408) : k0_pay4 (F := Ideal) a b c d v (ix2 r k)
    = stepV (sum4 (a (ix3 0 r k)) (b (ix3 0 r k)) (c (ix3 0 r k)) (d (ix3 0 r k))) (v (ix2 r k)) := by
  unfold stepV
  pointwise [k0_pay4, pay2_apply]
theorem payD_apply (r : Fin 256) (k : Fin 1408) :
    k0_pay1 (F := Ideal) w (k0_pay5 a b c d u) (k0_pay6 a b c d v) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay5, k0_pay6, pay3_apply, pay4_apply]
end

section
variable (w u v : FVec Ideal S2048x1408 .f32) (s : FVec Ideal S4x2048x1408 .bf16) (q : FVec Ideal S3x2048x1408 .bf16)

/-- The gradient of the whole step. -/
def gradSum : FVec Ideal S2048x1408 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S2048x1408 .f32 := fun i => stepM (gradSum s q i) (u i)
def newV : FVec Ideal S2048x1408 .f32 := fun i => stepV (gradSum s q i) (v i)
def delta : FVec Ideal S2048x1408 .f32 := fun i => stepD (w i) (gradSum s q i) (u i) (v i)
end

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S256x1408.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_arg0) (V m c main_arg1) (V m c main_arg2) (V m c main_arg3) (V m c main_arg4) := by
  refine (dats m 0 c).arrAt_eq_of_covers 8 _ (by decide +kernel) fun t hf y => ?_
  blk_simp
  rw [after0_8]; frame_out
  rw [show (y : S256x1408.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_arg1) (V m c main_arg3) (V m c main_arg4) := by
  refine (dats m 0 c).arrAt_eq_of_covers 9 _ (by decide +kernel) fun t hf y => ?_
  blk_simp
  rw [after0_9]; frame_out
  rw [show (y : S256x1408.Idx) = ix2 (y 0) (y 1) from eq_ix2 y]
  unfold newM
  refine (pay3_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_arg2) (V m c main_arg3) (V m c main_arg4) := by
  refine (dats m 0 c).arrAt_eq_of_covers 10 _ (by decide +kernel) fun t hf y => ?_
  blk_simp
  rw [after0_10]; frame_out
  rw [show (y : S256x1408.Idx) = ix2 (y 0) (y 1) from eq_ix2 y]
  unfold newV
  refine (pay4_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = gradSum (m ((c : Thread nD τ).loc main_arg3)) (m ((c : Thread nD τ).loc main_arg4))
      ∧ r.2.mem ((c.tc : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = newM (m ((c : Thread nD τ).loc main_arg1)) (m ((c : Thread nD τ).loc main_arg3)) (m ((c : Thread nD τ).loc main_arg4))
      ∧ r.2.mem ((c.tc : Thread nD τ).loc main_v0_3) = newV (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c), ((h c).1 8).trans (final8 m c), ((h c).1 9).trans (final9 m c), ((h c).1 10).trans (final10 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _),
     ((h c).1 4).trans ((dats m 0 c).arrAt_in 4 rfl _)⟩) (run_main m ρ)

end Cert.Kernel11Ideal.FfnIn

namespace Cert.Reference11Ideal.FfnIn

open Idealize.ShloMosaic Idealize.ShloMosaic.TcCoe Idealize.SL.Sem
open Cert.Reference11Ideal Cert.Reference11Ideal.Gen Cert.AdamRule
open Cert.Kernel11Ideal.FfnIn (gradSum newM newV delta)

variable (w u v : FVec Ideal S2048x1408 .f32) (s : FVec Ideal S4x2048x1408 .bf16) (q : FVec Ideal S3x2048x1408 .bf16)

/-- The plain program's gradient, new moments and change of the weight. -/
def gR : FVec Ideal S2048x1408 .f32 :=
  addf (extf .f32 (shapeCast _ (extractStridedSlice S1x2048x1408 ![0, 0, 0] s slices_S4x2048x1408_S1x2048x1408_0_0_0) shapeCasts_S1x2048x1408_S2048x1408) bitsLt_bf16_f32) (Host.reduceAdd (extf .f32 q bitsLt_bf16_f32) (constant S_ .f32 0x00000000#32) reducesTo_S3x2048x1408_S2048x1408_d0 h_S_)
def mR (g : FVec Ideal S2048x1408 .f32) : FVec Ideal S2048x1408 .f32 :=
  addf (mulf (broadcastInDim S2048x1408 ![] bcast_S_S2048x1408 (constant S_ .f32 0x3F666666#32)) u) (mulf (broadcastInDim S2048x1408 ![] bcast_S_S2048x1408 (constant S_ .f32 0x3DCCCCCD#32)) g)
def vR (g : FVec Ideal S2048x1408 .f32) : FVec Ideal S2048x1408 .f32 :=
  addf (mulf (broadcastInDim S2048x1408 ![] bcast_S_S2048x1408 (constant S_ .f32 0x3F7FBE77#32)) v) (mulf (broadcastInDim S2048x1408 ![] bcast_S_S2048x1408 (constant S_ .f32 0x3A83126F#32)) (mulf g g))
def dR (g : FVec Ideal S2048x1408 .f32) : FVec Ideal S2048x1408 .f32 :=
  mulf (broadcastInDim S2048x1408 ![] bcast_S_S2048x1408 (constant S_ .f32 0xBA83126F#32)) (addf (Host.divf (Host.divf (mR u g) (broadcastInDim S2048x1408 ![] bcast_S_S2048x1408 (constant S_ .f32 0x3F26BD02#32))) (addf (Host.sqrt (Host.divf (vR v g) (broadcastInDim S2048x1408 ![] bcast_S_S2048x1408 (constant S_ .f32 0x3C231ACC#32)))) (broadcastInDim S2048x1408 ![] bcast_S_S2048x1408 (constant S_ .f32 0x322BCC77#32)))) (mulf (broadcastInDim S2048x1408 ![] bcast_S_S2048x1408 (constant S_ .f32 0x3C23D70A#32)) w))

theorem g_eq : gradSum s q = gR s q := by
  funext i
  obtain ⟨r, k, rfl⟩ : ∃ (r : Fin 2048) (k : Fin 1408), i = ix2 r k := ⟨i 0, i 1, eq_ix2 i⟩
  have e : gR s q (ix2 r k) = s (ix3 0 r k) + ∑ j : Fin 3, q (ix3 j r k) := by
    pointwise [gR]
  rw [e, Fin.sum_univ_three, ← add_assoc, ← add_assoc]
  rfl
theorem mR_apply (g : FVec Ideal S2048x1408 .f32) (r : Fin 2048) (k : Fin 1408) : mR u g (ix2 r k) = stepM (g (ix2 r k)) (u (ix2 r k)) := by
  unfold stepM
  pointwise [mR]
theorem vR_apply (g : FVec Ideal S2048x1408 .f32) (r : Fin 2048) (k : Fin 1408) : vR v g (ix2 r k) = stepV (g (ix2 r k)) (v (ix2 r k)) := by
  unfold stepV
  pointwise [vR]
theorem dR_apply (g : FVec Ideal S2048x1408 .f32) (r : Fin 2048) (k : Fin 1408) :
    dR w u v g (ix2 r k) = stepD (w (ix2 r k)) (g (ix2 r k)) (u (ix2 r k)) (v (ix2 r k)) := by
  unfold stepD
  pointwise [dR, mR_apply, vR_apply]
theorem m_eq : newM u s q = mR u (gR s q) := by
  funext i
  obtain ⟨r, k, rfl⟩ : ∃ (r : Fin 2048) (k : Fin 1408), i = ix2 r k := ⟨i 0, i 1, eq_ix2 i⟩
  rw [mR_apply, ← g_eq]
  rfl
theorem v_eq : newV v s q = vR v (gR s q) := by
  funext i
  obtain ⟨r, k, rfl⟩ : ∃ (r : Fin 2048) (k : Fin 1408), i = ix2 r k := ⟨i 0, i 1, eq_ix2 i⟩
  rw [vR_apply, ← g_eq]
  rfl
theorem d_eq : delta w u v s q = dR w u v (gR s q) := by
  funext i
  obtain ⟨r, k, rfl⟩ : ∃ (r : Fin 2048) (k : Fin 1408), i = ix2 r k := ⟨i 0, i 1, eq_ix2 i⟩
  rw [dR_apply, ← g_eq]
  rfl

/-- The plain program declares no counter. -/
theorem no_counter : ∀ _ : SemLoc Cert.Reference11Ideal.sig, False := by decide

/-- The plain program ends with its arguments as launched, and it has no counter. -/
theorem quiescent : Cert.quiescent_Reference11Ideal (hReference11Ideal := Cert.Reference11Ideal.Gen.facts) :=
  fun m ρ _ => (θ_run _ _ _).mono (fun _ h => ⟨fun c => (h c).2.2.2.2, funext fun g => (no_counter g.2).elim⟩) (Cert.Reference11Ideal.Value.run m ρ)

set_option maxHeartbeats 8000000 in
/-- The call and the plain program give the same results. -/
theorem algebraic : Cert.algebraic_Kernel11Ideal_Reference11Ideal (hKernel11Ideal := Cert.Kernel11Ideal.Gen.facts) (hReference11Ideal := Cert.Reference11Ideal.Gen.facts) := by
  intro m ρ m' ρ' _ hag
  refine ⟨_, _, _, _, Cert.Kernel11Ideal.FfnIn.run m ρ, (θ_run _ _ _).mono (fun r h c => ?_) (Cert.Reference11Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference11Ideal.FfnIn

end
-- ==== Proof.Op.FfnOut.lean ====
/- What the optimiser's step on `w_ffn_out` leaves in its four result arrays, and the same from the plain program. -/
module

public import proofs.«01_k».proof.Defs
public import proofs.«01_k».proof.Proof.Op.Rule
public import proofs.«01_k».proof.Proof.Gen.Kernel12Ideal.Frame
public import proofs.«01_k».proof.Proof.Gen.Reference12Ideal.Run
public import Idealize.ShloMosaic.Lib.Pipeline.ValueKit
public import Idealize.ShloMosaic.Lib.Pointwise

@[expose] public section

set_option maxRecDepth 16384

noncomputable section

namespace Cert.Kernel12Ideal.FfnOut

open Idealize.ShloMosaic Idealize.ShloMosaic.TcCoe Idealize.SL Idealize.SL.Sem
open Cert.Kernel12Ideal Cert.Kernel12Ideal.Gen Cert.AdamRule

variable (m : (ℓ : Loc nD τ sig) → Buf (Elt Ideal) ℓ) (ρ : Dev nD → PrngReg)

section
variable (a b c d : FVec Ideal S1x176x2048 .bf16) (w u v : FVec Ideal S176x2048 .f32)

theorem pay2_apply (r : Fin 176) (k : Fin 2048) : k0_pay2 (F := Ideal) a b c d (ix2 r k)
    = sum4 (a (ix3 0 r k)) (b (ix3 0 r k)) (c (ix3 0 r k)) (d (ix3 0 r k)) := by
  unfold sum4
  pointwise [k0_pay2]
theorem pay3_apply (r : Fin 176) (k : Fin 2048) : k0_pay3 (F := Ideal) a b c d u (ix2 r k)
    = stepM (sum4 (a (ix3 0 r k)) (b (ix3 0 r k)) (c (ix3 0 r k)) (d (ix3 0 r k))) (u (ix2 r k)) := by
  unfold stepM
  pointwise [k0_pay3, pay2_apply]
theorem pay4_apply (r : Fin 176) (k : Fin 2048) : k0_pay4 (F := Ideal) a b c d v (ix2 r k)
    = stepV (sum4 (a (ix3 0 r k)) (b (ix3 0 r k)) (c (ix3 0 r k)) (d (ix3 0 r k))) (v (ix2 r k)) := by
  unfold stepV
  pointwise [k0_pay4, pay2_apply]
theorem payD_apply (r : Fin 176) (k : Fin 2048) :
    k0_pay1 (F := Ideal) w (k0_pay5 a b c d u) (k0_pay6 a b c d v) (ix2 r k)
    = stepD (w (ix2 r k)) (sum4 (a (ix3 0 r k)) (b (ix3 0 r k)) (c (ix3 0 r k)) (d (ix3 0 r k))) (u (ix2 r k)) (v (ix2 r k)) := by
  unfold stepD
  pointwise [k0_pay1, k0_pay5, k0_pay6, pay3_apply, pay4_apply]
end

section
variable (w u v : FVec Ideal S704x2048 .f32) (s : FVec Ideal S4x704x2048 .bf16) (q : FVec Ideal S3x704x2048 .bf16)

/-- The gradient of the whole step. -/
def gradSum : FVec Ideal S704x2048 .f32 := fun i =>
  sum4 (s (ix3 0 (i 0) (i 1))) (q (ix3 0 (i 0) (i 1))) (q (ix3 1 (i 0) (i 1))) (q (ix3 2 (i 0) (i 1)))
/-- The two new moments and the change of the weight. -/
def newM : FVec Ideal S704x2048 .f32 := fun i => stepM (gradSum s q i) (u i)
def newV : FVec Ideal S704x2048 .f32 := fun i => stepV (gradSum s q i) (v i)
def delta : FVec Ideal S704x2048 .f32 := fun i => stepD (w i) (gradSum s q i) (u i) (v i)
end

theorem idx0 : ∀ t : Fin cfg0.N, win0_0.index t = ![t.val, 0] ∧ win0_1.index t = ![t.val, 0] ∧ win0_2.index t = ![t.val, 0]
    ∧ win0_3.index t = ![0, t.val, 0] ∧ win0_4.index t = ![0, t.val, 0] ∧ win0_5.index t = ![1, t.val, 0] ∧ win0_6.index t = ![2, t.val, 0]
    ∧ win0_7.index t = ![t.val, 0] ∧ win0_8.index t = ![t.val, 0] ∧ win0_9.index t = ![t.val, 0] ∧ win0_10.index t = ![t.val, 0] :=
  (by decide +kernel : ∀ t : Fin grid0.N, _)

theorem final7 (c : Dev nD) : (dats m 0 c).arrAt 7 cfg0.N = gradSum (V m c main_arg3) (V m c main_arg4) := by
  refine (dats m 0 c).arrAt_eq_of_covers 7 _ (by decide +kernel) fun t hf y => ?_
  blk_simp
  rw [after0_7]; frame_out
  rw [show (y : S176x2048.Idx) = ix2 (y 0) (y 1) from eq_ix2 y]
  unfold gradSum
  refine (pay2_apply _ _ _ _ _ _).trans (sum4_congr ?_ ?_ ?_ ?_)
  · blk_simp [iblk]; refine congrArg _ ?_; blk_ext [(idx0 t).2.2.2.1, (idx0 t).2.2.2.2.2.2.2.1]
  · blk_simp [iblk]; refine congrArg _ ?_; blk_ext [(idx0 t).2.2.2.2.1, (idx0 t).2.2.2.2.2.2.2.1]
  · blk_simp [iblk]; refine congrArg _ ?_; blk_ext [(idx0 t).2.2.2.2.2.1, (idx0 t).2.2.2.2.2.2.2.1]
  · blk_simp [iblk]; refine congrArg _ ?_; blk_ext [(idx0 t).2.2.2.2.2.2.1, (idx0 t).2.2.2.2.2.2.2.1]

theorem final8 (c : Dev nD) : (dats m 0 c).arrAt 8 cfg0.N = delta (V m c main_arg0) (V m c main_arg1) (V m c main_arg2) (V m c main_arg3) (V m c main_arg4) := by
  refine (dats m 0 c).arrAt_eq_of_covers 8 _ (by decide +kernel) fun t hf y => ?_
  blk_simp
  rw [after0_8]; frame_out
  rw [show (y : S176x2048.Idx) = ix2 (y 0) (y 1) from eq_ix2 y]
  unfold delta
  refine (payD_apply _ _ _ _ _ _ _ _ _).trans (stepD_congr ?_ (sum4_congr ?_ ?_ ?_ ?_) ?_ ?_)
  · blk_simp [iblk]; refine congrArg _ ?_; blk_ext [(idx0 t).1, (idx0 t).2.2.2.2.2.2.2.2.1]
  · blk_simp [iblk]; refine congrArg _ ?_; blk_ext [(idx0 t).2.2.2.1, (idx0 t).2.2.2.2.2.2.2.2.1]
  · blk_simp [iblk]; refine congrArg _ ?_; blk_ext [(idx0 t).2.2.2.2.1, (idx0 t).2.2.2.2.2.2.2.2.1]
  · blk_simp [iblk]; refine congrArg _ ?_; blk_ext [(idx0 t).2.2.2.2.2.1, (idx0 t).2.2.2.2.2.2.2.2.1]
  · blk_simp [iblk]; refine congrArg _ ?_; blk_ext [(idx0 t).2.2.2.2.2.2.1, (idx0 t).2.2.2.2.2.2.2.2.1]
  · blk_simp [iblk]; refine congrArg _ ?_; blk_ext [(idx0 t).2.1, (idx0 t).2.2.2.2.2.2.2.2.1]
  · blk_simp [iblk]; refine congrArg _ ?_; blk_ext [(idx0 t).2.2.1, (idx0 t).2.2.2.2.2.2.2.2.1]

theorem final9 (c : Dev nD) : (dats m 0 c).arrAt 9 cfg0.N = newM (V m c main_arg1) (V m c main_arg3) (V m c main_arg4) := by
  refine (dats m 0 c).arrAt_eq_of_covers 9 _ (by decide +kernel) fun t hf y => ?_
  blk_simp
  rw [after0_9]; frame_out
  rw [show (y : S176x2048.Idx) = ix2 (y 0) (y 1) from eq_ix2 y]
  unfold newM
  refine (pay3_apply _ _ _ _ _ _ _).trans (stepM_congr (sum4_congr ?_ ?_ ?_ ?_) ?_)
  · blk_simp [iblk]; refine congrArg _ ?_; blk_ext [(idx0 t).2.2.2.1, (idx0 t).2.2.2.2.2.2.2.2.2.1]
  · blk_simp [iblk]; refine congrArg _ ?_; blk_ext [(idx0 t).2.2.2.2.1, (idx0 t).2.2.2.2.2.2.2.2.2.1]
  · blk_simp [iblk]; refine congrArg _ ?_; blk_ext [(idx0 t).2.2.2.2.2.1, (idx0 t).2.2.2.2.2.2.2.2.2.1]
  · blk_simp [iblk]; refine congrArg _ ?_; blk_ext [(idx0 t).2.2.2.2.2.2.1, (idx0 t).2.2.2.2.2.2.2.2.2.1]
  · blk_simp [iblk]; refine congrArg _ ?_; blk_ext [(idx0 t).2.1, (idx0 t).2.2.2.2.2.2.2.2.2.1]

theorem final10 (c : Dev nD) : (dats m 0 c).arrAt 10 cfg0.N = newV (V m c main_arg2) (V m c main_arg3) (V m c main_arg4) := by
  refine (dats m 0 c).arrAt_eq_of_covers 10 _ (by decide +kernel) fun t hf y => ?_
  blk_simp
  rw [after0_10]; frame_out
  rw [show (y : S176x2048.Idx) = ix2 (y 0) (y 1) from eq_ix2 y]
  unfold newV
  refine (pay4_apply _ _ _ _ _ _ _).trans (stepV_congr (sum4_congr ?_ ?_ ?_ ?_) ?_)
  · blk_simp [iblk]; refine congrArg _ ?_; blk_ext [(idx0 t).2.2.2.1, (idx0 t).2.2.2.2.2.2.2.2.2.2]
  · blk_simp [iblk]; refine congrArg _ ?_; blk_ext [(idx0 t).2.2.2.2.1, (idx0 t).2.2.2.2.2.2.2.2.2.2]
  · blk_simp [iblk]; refine congrArg _ ?_; blk_ext [(idx0 t).2.2.2.2.2.1, (idx0 t).2.2.2.2.2.2.2.2.2.2]
  · blk_simp [iblk]; refine congrArg _ ?_; blk_ext [(idx0 t).2.2.2.2.2.2.1, (idx0 t).2.2.2.2.2.2.2.2.2.2]
  · blk_simp [iblk]; refine congrArg _ ?_; blk_ext [(idx0 t).2.2.1, (idx0 t).2.2.2.2.2.2.2.2.2.2]

/-- The run with its results, the arguments as launched. -/
theorem run : θ_run defs (onTc (τ := τ) (main (F := Ideal))) ⟨m, fun _ => 0, ρ⟩ (fun r => ∀ c : Dev nD,
      r.2.mem ((c.tc : Thread nD τ).loc main_v0_0) = gradSum (m ((c : Thread nD τ).loc main_arg3)) (m ((c : Thread nD τ).loc main_arg4))
      ∧ r.2.mem ((c.tc : Thread nD τ).loc main_v0_1) = delta (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v0_2) = newM (m ((c : Thread nD τ).loc main_arg1)) (m ((c : Thread nD τ).loc main_arg3)) (m ((c : Thread nD τ).loc main_arg4))
      ∧ r.2.mem ((c.tc : Thread nD τ).loc main_v0_3) = newV (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 7).trans (final7 m c), ((h c).1 8).trans (final8 m c), ((h c).1 9).trans (final9 m c), ((h c).1 10).trans (final10 m c),
     ((h c).1 0).trans ((dats m 0 c).arrAt_in 0 rfl _), ((h c).1 1).trans ((dats m 0 c).arrAt_in 1 rfl _),
     ((h c).1 2).trans ((dats m 0 c).arrAt_in 2 rfl _), ((h c).1 3).trans ((dats m 0 c).arrAt_in 3 rfl _),
     ((h c).1 4).trans ((dats m 0 c).arrAt_in 4 rfl _)⟩) (run_main m ρ)

end Cert.Kernel12Ideal.FfnOut

namespace Cert.Reference12Ideal.FfnOut

open Idealize.ShloMosaic Idealize.ShloMosaic.TcCoe Idealize.SL.Sem
open Cert.Reference12Ideal Cert.Reference12Ideal.Gen Cert.AdamRule
open Cert.Kernel12Ideal.FfnOut (gradSum newM newV delta)

variable (w u v : FVec Ideal S704x2048 .f32) (s : FVec Ideal S4x704x2048 .bf16) (q : FVec Ideal S3x704x2048 .bf16)

/-- The plain program's gradient, new moments and change of the weight. -/
def gR : FVec Ideal S704x2048 .f32 :=
  addf (extf .f32 (shapeCast _ (extractStridedSlice S1x704x2048 ![0, 0, 0] s slices_S4x704x2048_S1x704x2048_0_0_0) shapeCasts_S1x704x2048_S704x2048) bitsLt_bf16_f32) (Host.reduceAdd (extf .f32 q bitsLt_bf16_f32) (constant S_ .f32 0x00000000#32) reducesTo_S3x704x2048_S704x2048_d0 h_S_)
def mR (g : FVec Ideal S704x2048 .f32) : FVec Ideal S704x2048 .f32 :=
  addf (mulf (broadcastInDim S704x2048 ![] bcast_S_S704x2048 (constant S_ .f32 0x3F666666#32)) u) (mulf (broadcastInDim S704x2048 ![] bcast_S_S704x2048 (constant S_ .f32 0x3DCCCCCD#32)) g)
def vR (g : FVec Ideal S704x2048 .f32) : FVec Ideal S704x2048 .f32 :=
  addf (mulf (broadcastInDim S704x2048 ![] bcast_S_S704x2048 (constant S_ .f32 0x3F7FBE77#32)) v) (mulf (broadcastInDim S704x2048 ![] bcast_S_S704x2048 (constant S_ .f32 0x3A83126F#32)) (mulf g g))
def dR (g : FVec Ideal S704x2048 .f32) : FVec Ideal S704x2048 .f32 :=
  mulf (broadcastInDim S704x2048 ![] bcast_S_S704x2048 (constant S_ .f32 0xBA83126F#32)) (addf (Host.divf (Host.divf (mR u g) (broadcastInDim S704x2048 ![] bcast_S_S704x2048 (constant S_ .f32 0x3F26BD02#32))) (addf (Host.sqrt (Host.divf (vR v g) (broadcastInDim S704x2048 ![] bcast_S_S704x2048 (constant S_ .f32 0x3C231ACC#32)))) (broadcastInDim S704x2048 ![] bcast_S_S704x2048 (constant S_ .f32 0x322BCC77#32)))) (mulf (broadcastInDim S704x2048 ![] bcast_S_S704x2048 (constant S_ .f32 0x3C23D70A#32)) w))

theorem g_eq : gradSum s q = gR s q := by
  funext i
  obtain ⟨r, k, rfl⟩ : ∃ (r : Fin 704) (k : Fin 2048), i = ix2 r k := ⟨i 0, i 1, eq_ix2 i⟩
  have e : gR s q (ix2 r k) = s (ix3 0 r k) + ∑ j : Fin 3, q (ix3 j r k) := by
    pointwise [gR]
  rw [e, Fin.sum_univ_three, ← add_assoc, ← add_assoc]
  rfl
theorem mR_apply (g : FVec Ideal S704x2048 .f32) (r : Fin 704) (k : Fin 2048) : mR u g (ix2 r k) = stepM (g (ix2 r k)) (u (ix2 r k)) := by
  unfold stepM
  pointwise [mR]
theorem vR_apply (g : FVec Ideal S704x2048 .f32) (r : Fin 704) (k : Fin 2048) : vR v g (ix2 r k) = stepV (g (ix2 r k)) (v (ix2 r k)) := by
  unfold stepV
  pointwise [vR]
theorem dR_apply (g : FVec Ideal S704x2048 .f32) (r : Fin 704) (k : Fin 2048) :
    dR w u v g (ix2 r k) = stepD (w (ix2 r k)) (g (ix2 r k)) (u (ix2 r k)) (v (ix2 r k)) := by
  unfold stepD
  pointwise [dR, mR_apply, vR_apply]
theorem m_eq : newM u s q = mR u (gR s q) := by
  funext i
  obtain ⟨r, k, rfl⟩ : ∃ (r : Fin 704) (k : Fin 2048), i = ix2 r k := ⟨i 0, i 1, eq_ix2 i⟩
  rw [mR_apply, ← g_eq]
  rfl
theorem v_eq : newV v s q = vR v (gR s q) := by
  funext i
  obtain ⟨r, k, rfl⟩ : ∃ (r : Fin 704) (k : Fin 2048), i = ix2 r k := ⟨i 0, i 1, eq_ix2 i⟩
  rw [vR_apply, ← g_eq]
  rfl
theorem d_eq : delta w u v s q = dR w u v (gR s q) := by
  funext i
  obtain ⟨r, k, rfl⟩ : ∃ (r : Fin 704) (k : Fin 2048), i = ix2 r k := ⟨i 0, i 1, eq_ix2 i⟩
  rw [dR_apply, ← g_eq]
  rfl

/-- The plain program declares no counter. -/
theorem no_counter : ∀ _ : SemLoc Cert.Reference12Ideal.sig, False := by decide

/-- The plain program ends with its arguments as launched, and it has no counter. -/
theorem quiescent : Cert.quiescent_Reference12Ideal (hReference12Ideal := Cert.Reference12Ideal.Gen.facts) :=
  fun m ρ _ => (θ_run _ _ _).mono (fun _ h => ⟨fun c => (h c).2.2.2.2, funext fun g => (no_counter g.2).elim⟩) (Cert.Reference12Ideal.Value.run m ρ)

set_option maxHeartbeats 8000000 in
/-- The call and the plain program give the same results. -/
theorem algebraic : Cert.algebraic_Kernel12Ideal_Reference12Ideal (hKernel12Ideal := Cert.Kernel12Ideal.Gen.facts) (hReference12Ideal := Cert.Reference12Ideal.Gen.facts) := by
  intro m ρ m' ρ' _ hag
  refine ⟨_, _, _, _, Cert.Kernel12Ideal.FfnOut.run m ρ, (θ_run _ _ _).mono (fun r h c => ?_) (Cert.Reference12Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine Eq.trans ?_ (g_eq _ _).symm
    rw [a3, a4]; rfl
  · refine Eq.trans ?_ (d_eq _ _ _ _ _).symm
    rw [a0, a1, a2, a3, a4]; rfl
  · refine Eq.trans ?_ (m_eq _ _ _).symm
    rw [a1, a3, a4]; rfl
  · refine Eq.trans ?_ (v_eq _ _ _).symm
    rw [a2, a3, a4]; rfl

end Cert.Reference12Ideal.FfnOut

end
-- ==== Proof.lean ====
/- The claim: every printed program ends with its arguments as launched and every counter at zero, and at ideal values each
   group of calls gives the results of its plain program. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Mg.Claim
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.In.Claim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Ls.Claim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Nb.Claim
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Sm.Claim
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Op.WIn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Op.BranchA
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Op.BranchB
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Op.WOut
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Op.FfnIn
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Op.FfnOut
public import Idealize.ShloMosaic.Adequacy
public import Idealize.ShloMosaic.Init

@[expose] public section

noncomputable section

namespace Cert.Proof

open Idealize.ShloMosaic Idealize.SL.Sem

/-- The plain program declares no counter. -/
theorem no_counter : ∀ _ : SemLoc Cert.ReferenceIdeal.sig, False := by decide

/-- The plain program ends with its arguments as launched, and it has no counter. -/
theorem reference_quiescent : Cert.quiescent_ReferenceIdeal (hReferenceIdeal := Cert.ReferenceIdeal.Gen.facts) :=
  fun m ρ _ => (θ_run _ _ _).mono (fun _ h => ⟨fun c => (h c).2.2.2, funext fun g => (no_counter g.2).elim⟩) (Cert.ReferenceIdeal.Value.run m ρ)

/-- The seven calls and the plain program give the same three gradients. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨_, _, _, Cert.KernelIdeal.FFN.run m ρ, (θ_run _ _ _).mono (fun r h c => ?_) (Cert.ReferenceIdeal.Value.run m' ρ')⟩
  obtain ⟨h0, h1, h2, hargs⟩ := h c
  obtain ⟨a0, a1, a2, a3⟩ := hag c
  refine ⟨h0.trans ?_, h1.trans ?_, h2.trans ?_, hargs⟩
  · refine Eq.trans ?_ (Cert.ReferenceIdeal.FFN.dx_eq _ _ _ _).symm
    unfold Cert.ReferenceIdeal.Value.res_main_v21
    rw [a0, a1, a2, a3]; rfl
  · refine Eq.trans ?_ (Cert.ReferenceIdeal.FFN.dwin_eq _ _ _ _).symm
    unfold Cert.ReferenceIdeal.Value.res_main_v24
    rw [a0, a1, a2, a3]; rfl
  · refine Eq.trans ?_ (Cert.ReferenceIdeal.FFN.dwout_eq _ _ _).symm
    rw [a0, a1, a3]; rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
   fun m ρ _ => Cert.Kernel.Gen.frame m ρ, fun m ρ _ => Cert.KernelIdeal.Gen.frame m ρ, reference_quiescent,
   fun m ρ _ => Cert.Kernel2.Gen.frame m ρ, fun m ρ _ => Cert.Kernel2Ideal.Gen.frame m ρ, Cert.Reference2Ideal.Merge.quiescent,
   fun m ρ _ => Cert.Kernel3.Gen.frame m ρ, fun m ρ _ => Cert.Kernel3Ideal.Gen.frame m ρ, Cert.Reference3Ideal.InProj.quiescent,
   fun m ρ _ => Cert.Kernel4.Gen.frame m ρ, fun m ρ _ => Cert.Kernel4Ideal.Gen.frame m ρ, Cert.Reference4Ideal.Loss.quiescent,
   fun m ρ _ => Cert.Kernel5.Gen.frame m ρ, fun m ρ _ => Cert.Kernel5Ideal.Gen.frame m ρ, Cert.Reference5Ideal.Norm2.quiescent,
   fun m ρ _ => Cert.Kernel6.Gen.frame m ρ, fun m ρ _ => Cert.Kernel6Ideal.Gen.frame m ρ, Cert.Reference6Ideal.Small.quiescent,
   fun m ρ _ => Cert.Kernel7.Gen.frame m ρ, fun m ρ _ => Cert.Kernel7Ideal.Gen.frame m ρ, Cert.Reference7Ideal.WIn.quiescent,
   fun m ρ _ => Cert.Kernel8.Gen.frame m ρ, fun m ρ _ => Cert.Kernel8Ideal.Gen.frame m ρ, Cert.Reference8Ideal.BranchA.quiescent,
   fun m ρ _ => Cert.Kernel9.Gen.frame m ρ, fun m ρ _ => Cert.Kernel9Ideal.Gen.frame m ρ, Cert.Reference9Ideal.BranchB.quiescent,
   fun m ρ _ => Cert.Kernel10.Gen.frame m ρ, fun m ρ _ => Cert.Kernel10Ideal.Gen.frame m ρ, Cert.Reference10Ideal.WOut.quiescent,
   fun m ρ _ => Cert.Kernel11.Gen.frame m ρ, fun m ρ _ => Cert.Kernel11Ideal.Gen.frame m ρ, Cert.Reference11Ideal.FfnIn.quiescent,
   fun m ρ _ => Cert.Kernel12.Gen.frame m ρ, fun m ρ _ => Cert.Kernel12Ideal.Gen.frame m ρ, Cert.Reference12Ideal.FfnOut.quiescent,
   trivial, algebraic, trivial, Cert.Reference2Ideal.Merge.algebraic, trivial, Cert.Reference3Ideal.InProj.algebraic, trivial, Cert.Reference4Ideal.Loss.algebraic, trivial, Cert.Reference5Ideal.Norm2.algebraic, trivial, Cert.Reference6Ideal.Small.algebraic, trivial, Cert.Reference7Ideal.WIn.algebraic, trivial, Cert.Reference8Ideal.BranchA.algebraic, trivial, Cert.Reference9Ideal.BranchB.algebraic, trivial, Cert.Reference10Ideal.WOut.algebraic, trivial, Cert.Reference11Ideal.FfnIn.algebraic, trivial, Cert.Reference12Ideal.FfnOut.algebraic⟩

end Cert.Proof

end
